-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_named_KernelIdeal [hPre_finite_and_named_KernelIdeal : Cert.Pre_finite_and_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_named_ReferenceIdeal [hPre_finite_and_named_ReferenceIdeal : Cert.Pre_finite_and_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_named_KernelIdeal [hKernelIdeal : Cert.KernelIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_named_ReferenceIdeal [hReferenceIdeal : Cert.ReferenceIdeal.Facts] [hPre_finite_and_named_ReferenceIdeal : Cert.Pre_finite_and_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_named_KernelIdeal [hKernelIdeal : Cert.KernelIdeal.Facts] [hReferenceIdeal : Cert.ReferenceIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_named_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![4096, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_named_KernelIdeal : Cert.Pre_finite_and_named_KernelIdeal.Facts) (hPre_finite_and_named_ReferenceIdeal : Cert.Pre_finite_and_named_ReferenceIdeal.Facts),
    quiescent_Kernel (hKernel := hKernel)
    ∧ quiescent_KernelIdeal (hKernelIdeal := hKernelIdeal)
    ∧ quiescent_KernelIdeal_pre_finite_and_named_KernelIdeal (hKernelIdeal := hKernelIdeal) (hPre_finite_and_named_KernelIdeal := hPre_finite_and_named_KernelIdeal)
    ∧ quiescent_ReferenceIdeal (hReferenceIdeal := hReferenceIdeal)
    ∧ quiescent_ReferenceIdeal_pre_finite_and_named_ReferenceIdeal (hReferenceIdeal := hReferenceIdeal) (hPre_finite_and_named_ReferenceIdeal := hPre_finite_and_named_ReferenceIdeal)
    ∧ preserves_Kernel_KernelIdeal
    ∧ algebraic_KernelIdeal_ReferenceIdeal_pre_finite_and_named_KernelIdeal (hKernelIdeal := hKernelIdeal) (hReferenceIdeal := hReferenceIdeal) (hPre_finite_and_named_KernelIdeal := hPre_finite_and_named_KernelIdeal)
-- ==== Pre_finite_and_named_KernelIdeal.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_v5 : IVec S_ 1) (main_v11 : IVec S_ 1) (main_v13 : IVec S1024x2 1) (main_v15 : IVec S1024x2 1) : IVec S_ 1 :=
  let main_v16 : IVec S1024x2 1 := andi main_v13 main_v15
  let main_c_6 : IVec S_ 1 := constantI S_ 1 1#1
  let main_v17 : IVec S_ 1 := (fun x v => Host.reduce IntOp.andi x v reducesTo_S1024x2_S_d0_1 h_S_) main_v16 main_c_6
  let main_v18 : IVec S_ 1 := andi main_v5 main_v11
  let main_v19 : IVec S_ 1 := andi main_v18 main_v17
  main_v19

def fn {F : FTy → Type} [FloatOps F] (main_arg0 : FVec F S1024x512 .bf16) (main_arg1 : FVec F S512x16 .bf16) (main_arg2 : IVec S1024x2 32) (main_arg3 : FVec F S4x512x1024 .bf16) : IVec S_ 1 :=
  let main_cst : FVec F S_ .bf16 := constant S_ .bf16 0xFF80#16
  let main_v0 : FVec F S1024x512 .bf16 := broadcastInDim S1024x512 ![] bcast_S_S1024x512 main_cst
  let main_v1 : IVec S1024x512 1 := cmpf .ogt main_arg0 main_v0
  let main_cst_0 : FVec F S_ .bf16 := constant S_ .bf16 0x7F80#16
  let main_v2 : FVec F S1024x512 .bf16 := broadcastInDim S1024x512 ![] bcast_S_S1024x512 main_cst_0
  let main_v3 : IVec S1024x512 1 := cmpf .olt main_arg0 main_v2
  let main_v4 : IVec S1024x512 1 := andi main_v1 main_v3
  let main_c : IVec S_ 1 := constantI S_ 1 1#1
  let main_v5 : IVec S_ 1 := (fun x v => Host.reduce IntOp.andi x v reducesTo_S1024x512_S_d0_1 h_S_) main_v4 main_c
  let main_cst_1 : FVec F S_ .bf16 := constant S_ .bf16 0xFF80#16
  let main_v6 : FVec F S512x16 .bf16 := broadcastInDim S512x16 ![] bcast_S_S512x16 main_cst_1
  let main_v7 : IVec S512x16 1 := cmpf .ogt main_arg1 main_v6
  let main_cst_2 : FVec F S_ .bf16 := constant S_ .bf16 0x7F80#16
  let main_v8 : FVec F S512x16 .bf16 := broadcastInDim S512x16 ![] bcast_S_S512x16 main_cst_2
  let main_v9 : IVec S512x16 1 := cmpf .olt main_arg1 main_v8
  let main_v10 : IVec S512x16 1 := andi main_v7 main_v9
  let main_c_3 : IVec S_ 1 := constantI S_ 1 1#1
  let main_v11 : IVec S_ 1 := (fun x v => Host.reduce IntOp.andi x v reducesTo_S512x16_S_d0_1 h_S_) main_v10 main_c_3
  let main_c_4 : IVec S_ 32 := constantI S_ 32 0#32
  let main_v12 : IVec S1024x2 32 := broadcastInDim S1024x2 ![] bcast_S_S1024x2 main_c_4
  let main_v13 : IVec S1024x2 1 := cmpi .sge main_arg2 main_v12
  let main_c_5 : IVec S_ 32 := constantI S_ 32 16#32
  let main_v14 : IVec S1024x2 32 := broadcastInDim S1024x2 ![] bcast_S_S1024x2 main_c_5
  let main_v15 : IVec S1024x2 1 := cmpi .slt main_arg2 main_v14
  fn_part1 (F := F) main_v5 main_v11 main_v13 main_v15
-- ==== Pre_finite_and_named_ReferenceIdeal.lean ====
abbrev S4096x512 : Shape := ⟨2, ![4096, 512]⟩
abbrev S512x16 : Shape := ⟨2, ![512, 16]⟩
abbrev S4096x2 : Shape := ⟨2, ![4096, 2]⟩
abbrev S16x512x1024 : Shape := ⟨3, ![16, 512, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_v5 : IVec S_ 1) (main_v11 : IVec S_ 1) (main_v13 : IVec S4096x2 1) (main_v15 : IVec S4096x2 1) : IVec S_ 1 :=
  let main_v16 : IVec S4096x2 1 := andi main_v13 main_v15
  let main_c_6 : IVec S_ 1 := constantI S_ 1 1#1
  let main_v17 : IVec S_ 1 := (fun x v => Host.reduce IntOp.andi x v reducesTo_S4096x2_S_d0_1 h_S_) main_v16 main_c_6
  let main_v18 : IVec S_ 1 := andi main_v5 main_v11
  let main_v19 : IVec S_ 1 := andi main_v18 main_v17
  main_v19

def fn {F : FTy → Type} [FloatOps F] (main_arg0 : FVec F S4096x512 .bf16) (main_arg1 : FVec F S512x16 .bf16) (main_arg2 : IVec S4096x2 32) (main_arg3 : FVec F S16x512x1024 .bf16) : IVec S_ 1 :=
  let main_cst : FVec F S_ .bf16 := constant S_ .bf16 0xFF80#16
  let main_v0 : FVec F S4096x512 .bf16 := broadcastInDim S4096x512 ![] bcast_S_S4096x512 main_cst
  let main_v1 : IVec S4096x512 1 := cmpf .ogt main_arg0 main_v0
  let main_cst_0 : FVec F S_ .bf16 := constant S_ .bf16 0x7F80#16
  let main_v2 : FVec F S4096x512 .bf16 := broadcastInDim S4096x512 ![] bcast_S_S4096x512 main_cst_0
  let main_v3 : IVec S4096x512 1 := cmpf .olt main_arg0 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .bf16 := constant S_ .bf16 0xFF80#16
  let main_v6 : FVec F S512x16 .bf16 := broadcastInDim S512x16 ![] bcast_S_S512x16 main_cst_1
  let main_v7 : IVec S512x16 1 := cmpf .ogt main_arg1 main_v6
  let main_cst_2 : FVec F S_ .bf16 := constant S_ .bf16 0x7F80#16
  let main_v8 : FVec F S512x16 .bf16 := broadcastInDim S512x16 ![] bcast_S_S512x16 main_cst_2
  let main_v9 : IVec S512x16 1 := cmpf .olt main_arg1 main_v8
  let main_v10 : IVec S512x16 1 := andi main_v7 main_v9
  let main_c_3 : IVec S_ 1 := constantI S_ 1 1#1
  let main_v11 : IVec S_ 1 := (fun x v => Host.reduce IntOp.andi x v reducesTo_S512x16_S_d0_1 h_S_) main_v10 main_c_3
  let main_c_4 : IVec S_ 32 := constantI S_ 32 0#32
  let main_v12 : IVec S4096x2 32 := broadcastInDim S4096x2 ![] bcast_S_S4096x2 main_c_4
  let main_v13 : IVec S4096x2 1 := cmpi .sge main_arg2 main_v12
  let main_c_5 : IVec S_ 32 := constantI S_ 32 16#32
  let main_v14 : IVec S4096x2 32 := broadcastInDim S4096x2 ![] bcast_S_S4096x2 main_c_5
  let main_v15 : IVec S4096x2 1 := cmpi .slt main_arg2 main_v14
  fn_part1 (F := F) main_v5 main_v11 main_v13 main_v15
-- ==== Kernel.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S2048x1024 : Shape := ⟨2, ![2048, 1024]⟩
abbrev S512x512 : Shape := ⟨2, ![512, 512]⟩
abbrev S1024x1024 : Shape := ⟨2, ![1024, 1024]⟩
abbrev S3x512x512 : Shape := ⟨3, ![3, 512, 512]⟩
abbrev S3x512x16 : Shape := ⟨3, ![3, 512, 16]⟩
abbrev S512x1024 : Shape := ⟨2, ![512, 1024]⟩
abbrev S3x512x1024 : Shape := ⟨3, ![3, 512, 1024]⟩
abbrev S3x3 : Shape := ⟨2, ![3, 3]⟩
abbrev S3x2 : Shape := ⟨2, ![3, 2]⟩
abbrev S512x2048 : Shape := ⟨2, ![512, 2048]⟩
abbrev S1024x2048 : Shape := ⟨2, ![1024, 2048]⟩
abbrev S_ : Shape := ⟨0, ![]⟩
abbrev S1x1 : Shape := ⟨2, ![1, 1]⟩
abbrev S1x512x512 : Shape := ⟨3, ![1, 512, 512]⟩
abbrev S1024x16 : Shape := ⟨2, ![1024, 16]⟩
abbrev S1024 : Shape := ⟨1, ![1024]⟩
abbrev S1024x1 : Shape := ⟨2, ![1024, 1]⟩
abbrev S1x512x16 : Shape := ⟨3, ![1, 512, 16]⟩
abbrev S16x4 : Shape := ⟨2, ![16, 4]⟩
abbrev S1024x4 : Shape := ⟨2, ![1024, 4]⟩
abbrev S512x4 : Shape := ⟨2, ![512, 4]⟩
abbrev S512x1 : Shape := ⟨2, ![512, 1]⟩

abbrev nBuf : Space → Nat
  | .hbm => 8
  | .vmem => 22
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x2, .i32⟩
  | .hbm, ⟨3, _⟩ => ⟨S4x512x1024, .bf16⟩
  | .hbm, ⟨4, _⟩ => ⟨S2048x1024, .bf16⟩
  | .hbm, ⟨5, _⟩ => ⟨S512x512, .bf16⟩
  | .hbm, ⟨6, _⟩ => ⟨S512x512, .bf16⟩
  | .hbm, ⟨7, _⟩ => ⟨S1024x1024, .f32⟩
  | .local _ .vmem, ⟨0, _⟩ => ⟨S1024x512, .bf16⟩
  | .local _ .vmem, ⟨1, _⟩ => ⟨S512x16, .bf16⟩
  | .local _ .vmem, ⟨2, _⟩ => ⟨S1024x2, .i32⟩
  | .local _ .vmem, ⟨3, _⟩ => ⟨S2048x1024, .bf16⟩
  | .local _ .vmem, ⟨4, _⟩ => ⟨S512x512, .bf16⟩
  | .local _ .vmem, ⟨5, _⟩ => ⟨S512x512, .bf16⟩
  | .local _ .vmem, ⟨6, _⟩ => ⟨S1024x1024, .f32⟩
  | .local _ .vmem, ⟨7, _⟩ => ⟨S3x512x512, .bf16⟩
  | .local _ .vmem, ⟨8, _⟩ => ⟨S3x512x512, .bf16⟩
  | .local _ .vmem, ⟨9, _⟩ => ⟨S3x512x16, .bf16⟩
  | .local _ .vmem, ⟨10, _⟩ => ⟨S3x512x16, .bf16⟩
  | .local _ .vmem, ⟨11, _⟩ => ⟨S512x16, .bf16⟩
  | .local _ .vmem, ⟨12, _⟩ => ⟨S512x16, .bf16⟩
  | .local _ .vmem, ⟨13, _⟩ => ⟨S512x1024, .bf16⟩
  | .local _ .vmem, ⟨14, _⟩ => ⟨S512x1024, .bf16⟩
  | .local _ .vmem, ⟨15, _⟩ => ⟨S3x512x1024, .bf16⟩
  | .local _ .vmem, ⟨16, _⟩ => ⟨S3x512x1024, .bf16⟩
  | .local _ .vmem, ⟨17, _⟩ => ⟨S512x1024, .f32⟩
  | .local _ .vmem, ⟨18, _⟩ => ⟨S512x1024, .f32⟩
  | .local _ .vmem, ⟨19, _⟩ => ⟨S512x2048, .bf16⟩
  | .local _ .vmem, ⟨20, _⟩ => ⟨S512x2048, .bf16⟩
  | .local _ .vmem, ⟨21, _⟩ => ⟨S1024x2048, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch20 : Ref sig .tc := ⟨.vmem, 19, rfl⟩
abbrev cc0_scratch21 : Ref sig .tc := ⟨.vmem, 20, rfl⟩
abbrev cc0_scratch22 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_24 : BitVec 32 := 1#32
  let v21 : BitVec 32 := Scalar.muli v5 c1_i32_24
  let v22 : BitVec 32 := Scalar.addi c0_i32_25 v21
  v22.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_51 : BitVec 32 := 1#32
  let v82 : BitVec 32 := Scalar.muli v7 c1_i32_51
  let v83 : BitVec 32 := Scalar.addi c0_i32_52 v82
  v83.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_60 : BitVec 32 := 1#32
  let v90 : BitVec 32 := Scalar.muli v5 c1_i32_60
  let v91 : BitVec 32 := Scalar.addi c0_i32_61 v90
  v91.toNat
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_83 : BitVec 32 := 1#32
  let v144 : BitVec 32 := Scalar.muli v5 c1_i32_83
  let v145 : BitVec 32 := Scalar.addi c0_i32_84 v144
  v145.toNat
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_92 : BitVec 32 := 1#32
  let v152 : BitVec 32 := Scalar.muli v7 c1_i32_92
  let v153 : BitVec 32 := Scalar.addi c0_i32_93 v152
  v153.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_101 : BitVec 32 := 1#32
  let v160 : BitVec 32 := Scalar.muli v5 c1_i32_101
  let v161 : BitVec 32 := Scalar.addi c0_i32_102 v160
  v161.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_110 : BitVec 32 := 1#32
  let v168 : BitVec 32 := Scalar.muli v7 c1_i32_110
  let v169 : BitVec 32 := Scalar.addi c0_i32_111 v168
  v169.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_138 : BitVec 32 := 1#32
  let v188 : BitVec 32 := Scalar.muli v7 c1_i32_138
  let v189 : BitVec 32 := Scalar.addi c0_i32_139 v188
  v189.toNat
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_150 : BitVec 32 := 1#32
  let v198 : BitVec 32 := Scalar.muli v7 c1_i32_150
  let v199 : BitVec 32 := Scalar.addi c0_i32_151 v198
  v199.toNat
def k0_dev13 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_180 : BitVec 32 := 1#32
  let v220 : BitVec 32 := Scalar.muli v5 c1_i32_180
  let v221 : BitVec 32 := Scalar.addi c0_i32_181 v220
  v221.toNat
def k0_dev14 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_192 : BitVec 32 := 1#32
  let v230 : BitVec 32 := Scalar.muli v5 c1_i32_192
  let v231 : BitVec 32 := Scalar.addi c0_i32_193 v230
  v231.toNat
def k0_dev15 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_230 : BitVec 32 := 1#32
  let v298 : BitVec 32 := Scalar.muli v7 c1_i32_230
  let v299 : BitVec 32 := Scalar.addi c0_i32_231 v298
  v299.toNat
def k0_dev16 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_245 : BitVec 32 := 1#32
  let v312 : BitVec 32 := Scalar.muli v7 c1_i32_245
  let v313 : BitVec 32 := Scalar.addi c0_i32_246 v312
  v313.toNat
def k0_dev17 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_282 : BitVec 32 := 1#32
  let v379 : BitVec 32 := Scalar.muli v5 c1_i32_282
  let v380 : BitVec 32 := Scalar.addi c0_i32_283 v379
  v380.toNat
def k0_dev18 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_297 : BitVec 32 := 1#32
  let v393 : BitVec 32 := Scalar.muli v5 c1_i32_297
  let v394 : BitVec 32 := Scalar.addi c0_i32_298 v393
  v394.toNat
def k0_dev19 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_399 : BitVec 32 := 1#32
  let v503 : BitVec 32 := Scalar.muli v7 c1_i32_399
  let v504 : BitVec 32 := Scalar.addi c0_i32_400 v503
  v504.toNat
def k0_dev20 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_430 : BitVec 32 := 1#32
  let v529 : BitVec 32 := Scalar.muli v7 c1_i32_430
  let v530 : BitVec 32 := Scalar.addi c0_i32_431 v529
  v530.toNat
def k0_dev21 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_484 : BitVec 32 := 1#32
  let v608 : BitVec 32 := Scalar.muli v5 c1_i32_484
  let v609 : BitVec 32 := Scalar.addi c0_i32_485 v608
  v609.toNat
def k0_dev22 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_515 : BitVec 32 := 1#32
  let v634 : BitVec 32 := Scalar.muli v5 c1_i32_515
  let v635 : BitVec 32 := Scalar.addi c0_i32_516 v634
  v635.toNat
def k0_dev23 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_605 : BitVec 32 := 1#32
  let v738 : BitVec 32 := Scalar.muli v7 c1_i32_605
  let v739 : BitVec 32 := Scalar.addi c0_i32_606 v738
  v739.toNat
def k0_dev24 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_637 : BitVec 32 := 1#32
  let v765 : BitVec 32 := Scalar.muli v7 c1_i32_637
  let v766 : BitVec 32 := Scalar.addi c0_i32_638 v765
  v766.toNat
def k0_dev25 (d0 : Dev nD) : Nat :=
  let c0_i32_693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_692 : BitVec 32 := 1#32
  let v845 : BitVec 32 := Scalar.muli v5 c1_i32_692
  let v846 : BitVec 32 := Scalar.addi c0_i32_693 v845
  v846.toNat
def k0_dev26 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_724 : BitVec 32 := 1#32
  let v872 : BitVec 32 := Scalar.muli v5 c1_i32_724
  let v873 : BitVec 32 := Scalar.addi c0_i32_725 v872
  v873.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x512 : Shape := ⟨2, ![4096, 512]⟩
abbrev S512x16 : Shape := ⟨2, ![512, 16]⟩
abbrev S4096x2 : Shape := ⟨2, ![4096, 2]⟩
abbrev S16x512x1024 : Shape := ⟨3, ![16, 512, 1024]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S4096x16x1024 : Shape := ⟨3, ![4096, 16, 1024]⟩
abbrev S4096x2x1024 : Shape := ⟨3, ![4096, 2, 1024]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x16, .bf16⟩
  | .hbm, ⟨2, _⟩ => ⟨S4096x2, .i32⟩
  | .hbm, ⟨3, _⟩ => ⟨S16x512x1024, .bf16⟩
  | .hbm, ⟨4, _⟩ => ⟨S4096x512, .f32⟩
  | .hbm, ⟨5, _⟩ => ⟨S512x16, .f32⟩
  | .hbm, ⟨6, _⟩ => ⟨S4096x16, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x16, .f32⟩
  | .hbm, ⟨17, _⟩ => ⟨S4096x16, .f32⟩
  | .hbm, ⟨18, _⟩ => ⟨S_, .i32⟩
  | .hbm, ⟨19, _⟩ => ⟨S4096x2, .i32⟩
  | .hbm, ⟨20, _⟩ => ⟨S4096x2, .i1⟩
  | .hbm, ⟨21, _⟩ => ⟨S_, .i32⟩
  | .hbm, ⟨22, _⟩ => ⟨S4096x2, .i32⟩
  | .hbm, ⟨23, _⟩ => ⟨S4096x2, .i32⟩
  | .hbm, ⟨24, _⟩ => ⟨S4096x2, .i32⟩
  | .hbm, ⟨25, _⟩ => ⟨S4096x2x1, .i32⟩
  | .hbm, ⟨26, _⟩ => ⟨S4096x2, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x2, .f32⟩
  | .hbm, ⟨31, _⟩ => ⟨S4096x2, .f32⟩
  | .hbm, ⟨32, _⟩ => ⟨S16x512x1024, .f32⟩
  | .hbm, ⟨33, _⟩ => ⟨S4096x16x1024, .f32⟩
  | .hbm, ⟨34, _⟩ => ⟨S4096x2x1, .i32⟩
  | .hbm, ⟨35, _⟩ => ⟨S_, .i32⟩
  | .hbm, ⟨36, _⟩ => ⟨S4096x2x1, .i32⟩
  | .hbm, ⟨37, _⟩ => ⟨S4096x2x1, .i1⟩
  | .hbm, ⟨38, _⟩ => ⟨S_, .i32⟩
  | .hbm, ⟨39, _⟩ => ⟨S4096x2x1, .i32⟩
  | .hbm, ⟨40, _⟩ => ⟨S4096x2x1, .i32⟩
  | .hbm, ⟨41, _⟩ => ⟨S4096x2x1, .i32⟩
  | .hbm, ⟨42, _⟩ => ⟨S4096x2x1024, .f32⟩
  | .hbm, ⟨43, _⟩ => ⟨S4096x2x1, .f32⟩
  | .hbm, ⟨44, _⟩ => ⟨S4096x2x1024, .f32⟩
  | .hbm, ⟨45, _⟩ => ⟨S4096x2x1024, .f32⟩
  | .hbm, ⟨46, _⟩ => ⟨S_, .f32⟩
  | .hbm, ⟨47, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Proof.Values.lean ====
/-
  What every buffer of the mixture-of-experts kernel holds, as plain functions of the devices' inputs.

  Four devices sit on a ring. Each device owns 1024 tokens and four experts. The first 512 tokens of a device travel
  clockwise, the last 512 counter-clockwise, each with its table of gates; wherever a half arrives, the device computes
  what its own four experts add to these tokens, and the partial sums travel home along the other three devices.
-/
module

public import proofs.«01_k».proof.Proof.Gen.KernelIdeal.Skeleton

@[expose] public section

set_option maxRecDepth 16384

noncomputable section

namespace Cert.KernelIdeal.Moe

open Idealize.ShloMosaic Idealize.SL.Sem
open Cert.KernelIdeal.Gen

variable {F : FTy → Type} [FloatOps F]

/-! ## The ring and the names of the copies -/

/-- The next device clockwise. -/
def nxt (c : Dev nD) : Dev nD := c + 1
/-- The previous device. -/
def prv (c : Dev nD) : Dev nD := c - 1

theorem prv_nxt (c : Dev nD) : prv (nxt c) = c := by revert c; decide
theorem nxt_prv (c : Dev nD) : nxt (prv c) = c := by revert c; decide

/-- The two directions around the ring. -/
inductive Dir | cw | ccw deriving DecidableEq
/-- The three steps of a journey. -/
inductive Hop | h0 | h1 | h2 deriving DecidableEq
/-- The two column halves of a partial sum. -/
inductive Half | q0 | q1 deriving DecidableEq

instance : Fintype Dir := ⟨{.cw, .ccw}, fun d => by cases d <;> decide⟩
instance : Fintype Hop := ⟨{.h0, .h1, .h2}, fun d => by cases d <;> decide⟩
instance : Fintype Half := ⟨{.q0, .q1}, fun d => by cases d <;> decide⟩

/-- The neighbour in a direction. -/
def Dir.step : Dir → Dev nD → Dev nD
  | .cw => nxt
  | .ccw => prv
/-- The other direction. -/
def Dir.flip : Dir → Dir
  | .cw => .ccw
  | .ccw => .cw

theorem step_flip (d : Dir) (c : Dev nD) : d.step (d.flip.step c) = c := by cases d; exacts [nxt_prv c, prv_nxt c]
theorem flip_step (d : Dir) (c : Dev nD) : d.flip.step (d.step c) = c := by cases d; exacts [prv_nxt c, nxt_prv c]

/-- The way the token copy of a journey's step goes: the first two steps onwards, the third backwards (it is the first half's owner
    sending to the device behind it). -/
def way : Dir → Hop → Dir
  | d, .h0 => d
  | d, .h1 => d
  | d, .h2 => d.flip

/-! ## Pieces of arrays -/

/-- The part of an array in a rectangle. -/
def sub {s : Shape} (r : Rect s) {α : Type} (v : s.Idx → α) : r.shape.Idx → α := fun i => v (r.emb i)

/-- An array with a rectangle overwritten. -/
def put {s : Shape} (r : Rect s) {α : Type} (v : s.Idx → α) (w : r.shape.Idx → α) : s.Idx → α := Function.extend r.emb w v

theorem put_emb {s : Shape} (r : Rect s) {α : Type} (v : s.Idx → α) (w : r.shape.Idx → α) (i : r.shape.Idx) :
    put r v w (r.emb i) = w i := r.emb.injective.extend_apply w v i

theorem put_miss {s : Shape} (r : Rect s) {α : Type} (v : s.Idx → α) (w : r.shape.Idx → α) (j : s.Idx) (h : j ∉ r.set) :
    put r v w j = v j :=
  Function.extend_apply' w v j fun ⟨i, hi⟩ => h (hi ▸ by rw [← r.map_emb_univ]; exact Finset.mem_map_of_mem _ (Finset.mem_univ i))

/-- Overwriting a rectangle leaves every disjoint rectangle's part. -/
theorem sub_put {s : Shape} (r r' : Rect s) {α : Type} (v : s.Idx → α) (w : r'.shape.Idx → α) (h : ∀ i, r.emb i ∉ r'.set) :
    sub r (put r' v w) = sub r v := funext fun i => put_miss r' v w _ (h i)

/-- A matrix read as a stack of one. -/
def unsq {a b : Nat} {α : Type} (v : (⟨2, ![a, b]⟩ : Shape).Idx → α) : (⟨3, ![1, a, b]⟩ : Shape).Idx → α :=
  fun i => v (Shape.reshapeEquiv (by simp [Shape.numel, Fin.prod_univ_succ]) i)
/-- A stack of one matrix read as the matrix. -/
def sqz {a b : Nat} {α : Type} (v : (⟨3, ![1, a, b]⟩ : Shape).Idx → α) : (⟨2, ![a, b]⟩ : Shape).Idx → α :=
  fun i => v (Shape.reshapeEquiv (by simp [Shape.numel, Fin.prod_univ_succ]) i)

/-- Four matrices of 512 columns side by side. -/
def cat4 {n : Nat} {α : Type} (w0 w1 w2 w3 : (⟨2, ![n, 512]⟩ : Shape).Idx → α) : (⟨2, ![n, 2048]⟩ : Shape).Idx → α := fun j =>
  let i : (⟨2, ![n, 512]⟩ : Shape).Idx := Shape.pair (d := ![n, 512]) (j 0) ⟨(j 1).val % 512, Nat.mod_lt _ (by decide)⟩
  if (j 1).val < 512 then w0 i else if (j 1).val < 1024 then w1 i else if (j 1).val < 1536 then w2 i else w3 i

/-! ## The inputs of the devices' kernels -/

/-- The arrays each device's kernel reads: its tokens, the router's weights, the chosen experts, its own experts' weights, and the
    two halves of its tokens. -/
structure Inputs (F : FTy → Type) where
  x : Dev nD → Vec F S1024x512 .bf16
  rw : Dev nD → Vec F S512x16 .bf16
  ri : Dev nD → Vec F S1024x2 .i32
  ew : Dev nD → Vec F S2048x1024 .bf16
  xa : Dev nD → Vec F S512x512 .bf16
  xb : Dev nD → Vec F S512x512 .bf16

variable (I : Inputs F)

/-- The device's number as the kernel computes it. -/
abbrev wd (c : Dev nD) : BitVec 32 := Scalar.remsi (Scalar.divsi (Dev.word c) 1#32) 4#32

/-- The first choice of every token. -/
def col0 (c : Dev nD) : Vec F S1024x1 .i32 :=
  sub (Rect.unit (s := S1024x2) ![0, 0] S1024x1.size inb_S1024x2_S1024x1_0_0) (I.ri c)
/-- The second choice of every token. -/
def col1 (c : Dev nD) : Vec F S1024x1 .i32 :=
  sub (Rect.unit (s := S1024x2) ![0, 1] S1024x1.size inb_S1024x2_S1024x1_0_1) (I.ri c)

/-- The table of gates of the device's tokens. -/
def gate (c : Dev nD) : FVec F S1024x16 .f32 :=
  k0_pay10 (k0_pay3 (col0 I c)) (k0_pay4 (col1 I c)) (k0_pay6 (I.x c) (I.rw c) (col1 I c))
    (k0_pay7 (I.x c) (I.rw c) (col0 I c) (col1 I c)) (k0_pay8 (I.x c) (I.rw c) (col0 I c) (col1 I c)) k0_pay9
/-- The gates a direction carries, rounded. -/
def gsrc : Dir → Dev nD → Vec F S512x16 .bf16
  | .cw, c => k0_pay11 (k0_pay3 (col0 I c)) (k0_pay4 (col1 I c)) (k0_pay6 (I.x c) (I.rw c) (col1 I c))
    (k0_pay7 (I.x c) (I.rw c) (col0 I c) (col1 I c)) (k0_pay8 (I.x c) (I.rw c) (col0 I c) (col1 I c)) k0_pay9
  | .ccw, c => k0_pay12 (k0_pay3 (col0 I c)) (k0_pay4 (col1 I c)) (k0_pay6 (I.x c) (I.rw c) (col1 I c))
    (k0_pay7 (I.x c) (I.rw c) (col0 I c) (col1 I c)) (k0_pay8 (I.x c) (I.rw c) (col0 I c) (col1 I c)) k0_pay9

/-- The device's own tokens, scaled by the gates of its own four experts. -/
def xgl (c : Dev nD) : Vec F S1024x2048 .bf16 :=
  cat4 (k0_pay14 (wd c) (k0_pay1 (I.x c)) (gate I c)) (k0_pay15 (wd c) (k0_pay1 (I.x c)) (gate I c))
    (k0_pay16 (wd c) (k0_pay1 (I.x c)) (gate I c)) (k0_pay17 (wd c) (k0_pay1 (I.x c)) (gate I c))
/-- What the device's own experts give its own tokens. -/
def loc (c : Dev nD) : Vec F S1024x1024 .f32 := k0_pay18 (xgl I c) (I.ew c)

/-! ## What travels -/

/-- The half of its own tokens a device sends in a direction. -/
def xh : Dir → Dev nD → Vec F S512x512 .bf16
  | .cw => I.xa
  | .ccw => I.xb

/-- The tokens sent at a step, by the sender. -/
def xs : Dir → Hop → Dev nD → Vec F S512x512 .bf16
  | d, .h0, c => xh I d c
  | d, .h1, c => xh I d (d.flip.step c)
  | d, .h2, c => xh I d c
/-- The gates sent at a step, by the sender. -/
def gs : Dir → Hop → Dev nD → Vec F S512x16 .bf16
  | d, .h0, c => gsrc I d c
  | d, .h1, c => gsrc I d (d.flip.step c)
  | d, .h2, c => gsrc I d c
/-- The tokens received at a step. -/
def xv (d : Dir) (h : Hop) (c : Dev nD) : Vec F S512x512 .bf16 := xs I d h ((way d h).flip.step c)
/-- The gates received at a step. -/
def gv (d : Dir) (h : Hop) (c : Dev nD) : Vec F S512x16 .bf16 := gs I d h ((way d h).flip.step c)

/-- The received tokens, scaled by the gates of the device's own four experts. -/
def xgc (d : Dir) (h : Hop) (c : Dev nD) : Vec F S512x2048 .bf16 :=
  cat4 (k0_pay21 (wd c) (unsq (xv I d h c)) (unsq (gv I d h c))) (k0_pay22 (wd c) (unsq (xv I d h c)) (unsq (gv I d h c)))
    (k0_pay23 (wd c) (unsq (xv I d h c)) (unsq (gv I d h c))) (k0_pay25 (k0_pay24 (wd c) (unsq (xv I d h c)) (unsq (gv I d h c))))
/-- What the device's own experts give the tokens received at a step. -/
def pc (d : Dir) (h : Hop) (c : Dev nD) : Vec F S512x1024 .f32 := k0_pay26 (xgc I d h c) (I.ew c)
/-- One column half of it. -/
def pch (d : Dir) (h : Hop) : Half → Dev nD → Vec F S512x512 .f32
  | .q0, c => sub (Rect.unit (s := S512x1024) ![0, 0] S512x512.size inb_S512x1024_S512x512_0_0) (pc I d h c)
  | .q1, c => sub (Rect.unit (s := S512x1024) ![0, 512] S512x512.size inb_S512x1024_S512x512_0_512) (pc I d h c)

/-- The partial sum sent at the first step home. -/
def r0 (d : Dir) (q : Half) (c : Dev nD) : Vec F S512x512 .bf16 := k0_pay27 (pch I d .h0 q c)
/-- The partial sum sent at the second: the received one plus the device's own share. -/
def r1 (d : Dir) (q : Half) (c : Dev nD) : Vec F S512x512 .bf16 := sqz (k0_pay57 (unsq (r0 I d q (d.flip.step c))) (pch I d .h1 q c))
/-- The partial sum sent at the third. -/
def r2 (d : Dir) (q : Half) (c : Dev nD) : Vec F S512x512 .bf16 := sqz (k0_pay57 (unsq (r1 I d q (d.flip.step c))) (pch I d .h2 q c))
/-- The partial sum sent at a step. -/
def rs : Dir → Hop → Half → Dev nD → Vec F S512x512 .bf16
  | d, .h0, q, c => r0 I d q c
  | d, .h1, q, c => r1 I d q c
  | d, .h2, q, c => r2 I d q c
/-- The partial sum received at a step. -/
def rv (d : Dir) (h : Hop) (q : Half) (c : Dev nD) : Vec F S512x512 .bf16 := rs I d h q (d.flip.step c)

/-! ## The result -/

/-- The four quarters of the result's rows and columns. -/
abbrev rc00 : Rect S1024x1024 := Rect.unit (s := S1024x1024) ![0, 0] S512x512.size inb_S1024x1024_S512x512_0_0
abbrev rc10 : Rect S1024x1024 := Rect.unit (s := S1024x1024) ![512, 0] S512x512.size inb_S1024x1024_S512x512_512_0
abbrev rc01 : Rect S1024x1024 := Rect.unit (s := S1024x1024) ![0, 512] S512x512.size inb_S1024x1024_S512x512_0_512
abbrev rc11 : Rect S1024x1024 := Rect.unit (s := S1024x1024) ![512, 512] S512x512.size inb_S1024x1024_S512x512_512_512

/-- The result after each of the four final additions. -/
def out1 (c : Dev nD) : Vec F S1024x1024 .f32 := put rc00 (loc I c) (k0_pay77 (sub rc00 (loc I c)) (unsq (rv I .cw .h2 .q0 c)))
def out2 (c : Dev nD) : Vec F S1024x1024 .f32 := put rc10 (out1 I c) (k0_pay77 (sub rc10 (out1 I c)) (unsq (rv I .ccw .h2 .q0 c)))
def out3 (c : Dev nD) : Vec F S1024x1024 .f32 := put rc01 (out2 I c) (k0_pay77 (sub rc01 (out2 I c)) (unsq (rv I .cw .h2 .q1 c)))
def out (c : Dev nD) : Vec F S1024x1024 .f32 := put rc11 (out3 I c) (k0_pay77 (sub rc11 (out3 I c)) (unsq (rv I .ccw .h2 .q1 c)))

end Cert.KernelIdeal.Moe
-- ==== Proof.Protocol.lean ====
/-
  Who sends what to whom, on which semaphores, and what each arrival hands over.

  Every device signals both neighbours' barriers once and waits for both of its own signals: a signal hands over the slots the
  neighbour is to write. Then each device starts 24 copies, each into a slot and onto two semaphores of its own, all used once:
  twelve carry tokens and gates away, twelve carry partial sums home. An arrival hands the receiver its slot back, holding
  the sent values; a departure hands the sender the share of the source it lent.
-/
module

public import proofs.«01_k».proof.Proof.Values
public import proofs.«01_k».proof.Proof.Gen.KernelIdeal.Launch
public import proofs.«01_k».proof.Proof.Gen.KernelIdeal.Frame
public import Idealize.ShloMosaic.Lib.Rounds
public import Idealize.ShloMosaic.Lib.Tactic
public import Idealize.ShloMosaic.Lib.Pipeline.RegionTalk

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The copies -/

/-- The 24 copies a device starts: tokens, gates, and halves of partial sums. -/
inductive Cp | kx (d : Dir) (h : Hop) | kg (d : Dir) (h : Hop) | rs (d : Dir) (h : Hop) (q : Half) deriving DecidableEq

/-- The copies, in the order in which a device starts them. -/
def allCp : List Cp :=
  [.kx .cw .h0, .kx .ccw .h0, .kg .cw .h0, .kg .ccw .h0, .kx .cw .h2, .kx .ccw .h2, .kg .cw .h2, .kg .ccw .h2,
   .kx .cw .h1, .kg .cw .h1, .kx .ccw .h1, .kg .ccw .h1,
   .rs .cw .h0 .q0, .rs .cw .h0 .q1, .rs .ccw .h0 .q0, .rs .ccw .h0 .q1,
   .rs .cw .h1 .q0, .rs .cw .h1 .q1, .rs .ccw .h1 .q0, .rs .ccw .h1 .q1,
   .rs .cw .h2 .q0, .rs .cw .h2 .q1, .rs .ccw .h2 .q0, .rs .ccw .h2 .q1]

theorem mem_allCp (k : Cp) : k ∈ allCp := by
  rcases k with ⟨d, h⟩ | ⟨d, h⟩ | ⟨d, h, q⟩ <;> cases d <;> cases h <;> first | decide | (cases q <;> decide)

instance : Fintype Cp := ⟨allCp.toFinset, fun k => List.mem_toFinset.mpr (mem_allCp k)⟩

/-- What a semaphore is paid: the barrier by the neighbour from which the device's copies going one way return nothing but their
    slots, the others by one copy each. -/
inductive Duty | bar (d : Dir) | snd (k : Cp) | rcv (k : Cp) deriving DecidableEq

def allDuty : List Duty := [.bar .cw, .bar .ccw] ++ allCp.map .snd ++ allCp.map .rcv

instance : Fintype Duty := ⟨allDuty.toFinset, fun d => by
  rcases d with d | k | k
  · cases d <;> decide
  · simp [allDuty, mem_allCp]
  · simp [allDuty, mem_allCp]⟩

abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR
abbrev 𝒱₀ : Variants := Variants.none

/-- The direction in which a copy goes. -/
def Cp.to : Cp → Dir
  | .kx d h => way d h
  | .kg d h => way d h
  | .rs d _ _ => d
/-- The device a copy goes to. -/
def peer (k : Cp) (c : Dev nD) : Dev nD := k.to.step c
/-- The device a copy comes from. -/
def frm (k : Cp) (c : Dev nD) : Dev nD := k.to.flip.step c

/-- The semaphore on which the sender learns that a copy has left. -/
def sendNo : Cp → Fin 67
  | .kx .cw .h0 => 7 | .kx .cw .h1 => 8 | .kx .cw .h2 => 9
  | .kg .cw .h0 => 10 | .kg .cw .h1 => 11 | .kg .cw .h2 => 12
  | .kx .ccw .h0 => 25 | .kx .ccw .h1 => 26 | .kx .ccw .h2 => 27
  | .kg .ccw .h0 => 28 | .kg .ccw .h1 => 29 | .kg .ccw .h2 => 30
  | .rs .cw .h0 .q0 => 43 | .rs .cw .h0 .q1 => 44 | .rs .cw .h1 .q0 => 45 | .rs .cw .h1 .q1 => 46 | .rs .cw .h2 .q0 => 47 | .rs .cw .h2 .q1 => 48
  | .rs .ccw .h0 .q0 => 55 | .rs .ccw .h0 .q1 => 56 | .rs .ccw .h1 .q0 => 57 | .rs .ccw .h1 .q1 => 58 | .rs .ccw .h2 .q0 => 59 | .rs .ccw .h2 .q1 => 60
/-- The semaphore on which the receiver learns that a copy has arrived. -/
def recvNo : Cp → Fin 67
  | .kx .cw .h0 => 16 | .kx .cw .h1 => 17 | .kx .cw .h2 => 18
  | .kg .cw .h0 => 19 | .kg .cw .h1 => 20 | .kg .cw .h2 => 21
  | .kx .ccw .h0 => 34 | .kx .ccw .h1 => 35 | .kx .ccw .h2 => 36
  | .kg .ccw .h0 => 37 | .kg .ccw .h1 => 38 | .kg .ccw .h2 => 39
  | .rs .cw .h0 .q0 => 49 | .rs .cw .h0 .q1 => 50 | .rs .cw .h1 .q0 => 51 | .rs .cw .h1 .q1 => 52 | .rs .cw .h2 .q0 => 53 | .rs .cw .h2 .q1 => 54
  | .rs .ccw .h0 .q0 => 61 | .rs .ccw .h0 .q1 => 62 | .rs .ccw .h1 .q0 => 63 | .rs .ccw .h1 .q1 => 64 | .rs .ccw .h2 .q0 => 65 | .rs .ccw .h2 .q1 => 66
/-- The order in which waits may happen: an arrival may be waited for while later ones are still owed. -/
def lev : Cp → ℕ
  | .kx _ .h0 => 2 | .kg _ .h0 => 2
  | .kx _ _ => 3 | .kg _ _ => 3
  | .rs _ .h0 _ => 4 | .rs _ .h1 _ => 5 | .rs _ .h2 _ => 6

abbrev sendSem (k : Cp) : DmaSem sig := sendNo k
abbrev recvSem (k : Cp) : DmaSem sig := recvNo k
abbrev barS : Sem sig := 0

abbrev barCell (c : Dev nD) : GSem nD τ sig := ((c : Thread nD τ), .reg barS)
abbrev sendCell (k : Cp) (c : Dev nD) : GSem nD τ sig := ((c : Thread nD τ), .dma (sendSem k))
abbrev recvCell (k : Cp) (c : Dev nD) : GSem nD τ sig := ((c : Thread nD τ), .dma (recvSem k))

/-! ## The slots -/

/-- Where a step's tokens arrive. -/
def xdst : Dir → Hop → Memref sig .tc .vmem S512x512 .bf16
  | .cw, .h0 => ((Memref.whole cc0_scratch0).slice (Rect.unit (s := S3x512x512) ![0, 0, 0] S1x512x512.size inb_S3x512x512_S1x512x512_0_0_0) (fun _ => rfl)).squeeze S512x512 squeezes_S1x512x512_S512x512
  | .cw, .h1 => ((Memref.whole cc0_scratch0).slice (Rect.unit (s := S3x512x512) ![1, 0, 0] S1x512x512.size inb_S3x512x512_S1x512x512_1_0_0) (fun _ => rfl)).squeeze S512x512 squeezes_S1x512x512_S512x512
  | .cw, .h2 => ((Memref.whole cc0_scratch0).slice (Rect.unit (s := S3x512x512) ![2, 0, 0] S1x512x512.size inb_S3x512x512_S1x512x512_2_0_0) (fun _ => rfl)).squeeze S512x512 squeezes_S1x512x512_S512x512
  | .ccw, .h0 => ((Memref.whole cc0_scratch1).slice (Rect.unit (s := S3x512x512) ![0, 0, 0] S1x512x512.size inb_S3x512x512_S1x512x512_0_0_0) (fun _ => rfl)).squeeze S512x512 squeezes_S1x512x512_S512x512
  | .ccw, .h1 => ((Memref.whole cc0_scratch1).slice (Rect.unit (s := S3x512x512) ![1, 0, 0] S1x512x512.size inb_S3x512x512_S1x512x512_1_0_0) (fun _ => rfl)).squeeze S512x512 squeezes_S1x512x512_S512x512
  | .ccw, .h2 => ((Memref.whole cc0_scratch1).slice (Rect.unit (s := S3x512x512) ![2, 0, 0] S1x512x512.size inb_S3x512x512_S1x512x512_2_0_0) (fun _ => rfl)).squeeze S512x512 squeezes_S1x512x512_S512x512
/-- Where a step's gates arrive. -/
def gdst : Dir → Hop → Memref sig .tc .vmem S512x16 .bf16
  | .cw, .h0 => ((Memref.whole cc0_scratch2).slice (Rect.unit (s := S3x512x16) ![0, 0, 0] S1x512x16.size inb_S3x512x16_S1x512x16_0_0_0) (fun _ => rfl)).squeeze S512x16 squeezes_S1x512x16_S512x16
  | .cw, .h1 => ((Memref.whole cc0_scratch2).slice (Rect.unit (s := S3x512x16) ![1, 0, 0] S1x512x16.size inb_S3x512x16_S1x512x16_1_0_0) (fun _ => rfl)).squeeze S512x16 squeezes_S1x512x16_S512x16
  | .cw, .h2 => ((Memref.whole cc0_scratch2).slice (Rect.unit (s := S3x512x16) ![2, 0, 0] S1x512x16.size inb_S3x512x16_S1x512x16_2_0_0) (fun _ => rfl)).squeeze S512x16 squeezes_S1x512x16_S512x16
  | .ccw, .h0 => ((Memref.whole cc0_scratch3).slice (Rect.unit (s := S3x512x16) ![0, 0, 0] S1x512x16.size inb_S3x512x16_S1x512x16_0_0_0) (fun _ => rfl)).squeeze S512x16 squeezes_S1x512x16_S512x16
  | .ccw, .h1 => ((Memref.whole cc0_scratch3).slice (Rect.unit (s := S3x512x16) ![1, 0, 0] S1x512x16.size inb_S3x512x16_S1x512x16_1_0_0) (fun _ => rfl)).squeeze S512x16 squeezes_S1x512x16_S512x16
  | .ccw, .h2 => ((Memref.whole cc0_scratch3).slice (Rect.unit (s := S3x512x16) ![2, 0, 0] S1x512x16.size inb_S3x512x16_S1x512x16_2_0_0) (fun _ => rfl)).squeeze S512x16 squeezes_S1x512x16_S512x16
/-- Where a half of a partial sum arrives. -/
def rdst : Dir → Hop → Half → Memref sig .tc .vmem S512x512 .bf16
  | .cw, .h0, .q0 => ((Memref.whole cc0_scratch8).slice (Rect.unit (s := S3x512x1024) ![0, 0, 0] S1x512x512.size inb_S3x512x1024_S1x512x512_0_0_0) (fun _ => rfl)).squeeze S512x512 squeezes_S1x512x512_S512x512
  | .cw, .h0, .q1 => ((Memref.whole cc0_scratch8).slice (Rect.unit (s := S3x512x1024) ![0, 0, 512] S1x512x512.size inb_S3x512x1024_S1x512x512_0_0_512) (fun _ => rfl)).squeeze S512x512 squeezes_S1x512x512_S512x512
  | .cw, .h1, .q0 => ((Memref.whole cc0_scratch8).slice (Rect.unit (s := S3x512x1024) ![1, 0, 0] S1x512x512.size inb_S3x512x1024_S1x512x512_1_0_0) (fun _ => rfl)).squeeze S512x512 squeezes_S1x512x512_S512x512
  | .cw, .h1, .q1 => ((Memref.whole cc0_scratch8).slice (Rect.unit (s := S3x512x1024) ![1, 0, 512] S1x512x512.size inb_S3x512x1024_S1x512x512_1_0_512) (fun _ => rfl)).squeeze S512x512 squeezes_S1x512x512_S512x512
  | .cw, .h2, .q0 => ((Memref.whole cc0_scratch8).slice (Rect.unit (s := S3x512x1024) ![2, 0, 0] S1x512x512.size inb_S3x512x1024_S1x512x512_2_0_0) (fun _ => rfl)).squeeze S512x512 squeezes_S1x512x512_S512x512
  | .cw, .h2, .q1 => ((Memref.whole cc0_scratch8).slice (Rect.unit (s := S3x512x1024) ![2, 0, 512] S1x512x512.size inb_S3x512x1024_S1x512x512_2_0_512) (fun _ => rfl)).squeeze S512x512 squeezes_S1x512x512_S512x512
  | .ccw, .h0, .q0 => ((Memref.whole cc0_scratch9).slice (Rect.unit (s := S3x512x1024) ![0, 0, 0] S1x512x512.size inb_S3x512x1024_S1x512x512_0_0_0) (fun _ => rfl)).squeeze S512x512 squeezes_S1x512x512_S512x512
  | .ccw, .h0, .q1 => ((Memref.whole cc0_scratch9).slice (Rect.unit (s := S3x512x1024) ![0, 0, 512] S1x512x512.size inb_S3x512x1024_S1x512x512_0_0_512) (fun _ => rfl)).squeeze S512x512 squeezes_S1x512x512_S512x512
  | .ccw, .h1, .q0 => ((Memref.whole cc0_scratch9).slice (Rect.unit (s := S3x512x1024) ![1, 0, 0] S1x512x512.size inb_S3x512x1024_S1x512x512_1_0_0) (fun _ => rfl)).squeeze S512x512 squeezes_S1x512x512_S512x512
  | .ccw, .h1, .q1 => ((Memref.whole cc0_scratch9).slice (Rect.unit (s := S3x512x1024) ![1, 0, 512] S1x512x512.size inb_S3x512x1024_S1x512x512_1_0_512) (fun _ => rfl)).squeeze S512x512 squeezes_S1x512x512_S512x512
  | .ccw, .h2, .q0 => ((Memref.whole cc0_scratch9).slice (Rect.unit (s := S3x512x1024) ![2, 0, 0] S1x512x512.size inb_S3x512x1024_S1x512x512_2_0_0) (fun _ => rfl)).squeeze S512x512 squeezes_S1x512x512_S512x512
  | .ccw, .h2, .q1 => ((Memref.whole cc0_scratch9).slice (Rect.unit (s := S3x512x1024) ![2, 0, 512] S1x512x512.size inb_S3x512x1024_S1x512x512_2_0_512) (fun _ => rfl)).squeeze S512x512 squeezes_S1x512x512_S512x512
/-- Where a half of the first partial sum is written before it leaves. -/
def rstart : Dir → Half → Memref sig .tc .vmem S512x512 .bf16
  | .cw, .q0 => (Memref.whole cc0_scratch6).slice (Rect.unit (s := S512x1024) ![0, 0] S512x512.size inb_S512x1024_S512x512_0_0) (fun _ => rfl)
  | .cw, .q1 => (Memref.whole cc0_scratch6).slice (Rect.unit (s := S512x1024) ![0, 512] S512x512.size inb_S512x1024_S512x512_0_512) (fun _ => rfl)
  | .ccw, .q0 => (Memref.whole cc0_scratch7).slice (Rect.unit (s := S512x1024) ![0, 0] S512x512.size inb_S512x1024_S512x512_0_0) (fun _ => rfl)
  | .ccw, .q1 => (Memref.whole cc0_scratch7).slice (Rect.unit (s := S512x1024) ![0, 512] S512x512.size inb_S512x1024_S512x512_0_512) (fun _ => rfl)
/-- The halves of the device's own tokens. -/
def xown : Dir → Memref sig .tc .vmem S512x512 .bf16
  | .cw => Memref.whole cc0_stg4_0
  | .ccw => Memref.whole cc0_stg5_0
/-- The halves of the device's own gates. -/
def gown : Dir → Memref sig .tc .vmem S512x16 .bf16
  | .cw => Memref.whole cc0_scratch4
  | .ccw => Memref.whole cc0_scratch5
/-- The sources of the copies. -/
def xfrom : Dir → Hop → Memref sig .tc .vmem S512x512 .bf16
  | d, .h0 => xown d
  | d, .h1 => xdst d .h0
  | d, .h2 => xown d
def gfrom : Dir → Hop → Memref sig .tc .vmem S512x16 .bf16
  | d, .h0 => gown d
  | d, .h1 => gdst d .h0
  | d, .h2 => gown d
def rfrom : Dir → Hop → Half → Memref sig .tc .vmem S512x512 .bf16
  | d, .h0, q => rstart d q
  | d, .h1, q => rdst d .h0 q
  | d, .h2, q => rdst d .h1 q
/-- The share of the source a copy of tokens or gates borrows. -/
def shr : Hop → PosShare TreeShare
  | .h0 => fullShare.left
  | .h1 => fullShare.right
  | .h2 => fullShare.right

/-- How much a copy's semaphores count. -/
def amt : Cp → ℕ
  | .kx _ _ => (xdst .cw .h0).view.dmaCredit
  | .kg _ _ => (gdst .cw .h0).view.dmaCredit
  | .rs _ _ _ => (rdst .cw .h0 .q0).view.dmaCredit

theorem xdst_credit (d : Dir) (h : Hop) : (xdst d h).view.dmaCredit = (xdst .cw .h0).view.dmaCredit := by cases d <;> cases h <;> rfl
theorem gdst_credit (d : Dir) (h : Hop) : (gdst d h).view.dmaCredit = (gdst .cw .h0).view.dmaCredit := by cases d <;> cases h <;> rfl
theorem rdst_credit (d : Dir) (h : Hop) (q : Half) : (rdst d h q).view.dmaCredit = (rdst .cw .h0 .q0).view.dmaCredit := by
  cases d <;> cases h <;> cases q <;> rfl
theorem xfrom_credit (d : Dir) (h : Hop) : (xfrom d h).view.dmaCredit = (xdst .cw .h0).view.dmaCredit := by cases d <;> cases h <;> rfl
theorem gfrom_credit (d : Dir) (h : Hop) : (gfrom d h).view.dmaCredit = (gdst .cw .h0).view.dmaCredit := by cases d <;> cases h <;> rfl
theorem rfrom_credit (d : Dir) (h : Hop) (q : Half) : (rfrom d h q).view.dmaCredit = (rdst .cw .h0 .q0).view.dmaCredit := by
  cases d <;> cases h <;> cases q <;> rfl
theorem amt_pos (k : Cp) : 0 < amt k := by
  cases k <;> exact View.dmaCredit_pos _ (by decide)

/-! ## What arrivals and departures hand over -/

/-- A slot before the copy into it: any contents, and word that its arrival semaphore is in use. -/
def slot (k : Cp) (c : Dev nD) : sProp 𝕄 :=
  iprop((match k with
    | .kx d h => iprop(∃ v, owns (c : Thread nD τ) (xdst d h) fullShare v)
    | .kg d h => iprop(∃ v, owns (c : Thread nD τ) (gdst d h) fullShare v)
    | .rs d h q => iprop(∃ v, owns (c : Thread nD τ) (rdst d h q) fullShare v)) ∗ reached ER (recvCell k c) 0)

/-- The slots of a device that copies going one way write. -/
def slots (d : Dir) (c : Dev nD) : sProp 𝕄 := bigSep (Finset.univ.filter fun k => k.to = d) fun k => slot (F := F) k c

variable (I : Inputs F)

/-- An arrival gives the receiver its slot, holding what was sent. -/
def recvPay (k : Cp) (c : Dev nD) : sProp 𝕄 :=
  match k with
  | .kx d h => owns (c : Thread nD τ) (xdst d h) fullShare (xv I d h c)
  | .kg d h => owns (c : Thread nD τ) (gdst d h) fullShare (gv I d h c)
  | .rs d h q => owns (c : Thread nD τ) (rdst d h q) fullShare (rv I d h q c)
/-- A departure gives the sender the lent share of the source. -/
def sendPay (k : Cp) (c : Dev nD) : sProp 𝕄 :=
  match k with
  | .kx d h => owns (c : Thread nD τ) (xfrom d h) (shr h) (xs I d h c)
  | .kg d h => owns (c : Thread nD τ) (gfrom d h) (shr h) (gs I d h c)
  | .rs d h q => owns (c : Thread nD τ) (rfrom d h q) fullShare (rs I d h q c)

/-- The semaphore a duty is paid to. -/
def Duty.sem : Duty → SemLoc sig
  | .bar _ => .reg barS
  | .snd k => .dma (sendSem k)
  | .rcv k => .dma (recvSem k)

/-- The schedule: one round, in which every duty of a core's semaphore is paid once. -/
def Rd : Rounds.Schedule (GSem nD τ sig) Duty 𝕄 where
  duties g r := if r = 0 ∧ g.1.2 = .tc then Finset.univ.filter (fun d => d.sem = g.2) else ∅
  unitless _ := False
  amount _ _ d := match d with
    | .bar _ => 1
    | .snd k => amt k
    | .rcv k => amt k
  payload g _ d := match d with
    | .bar d => slots d (d.step g.1.1)
    | .snd k => sendPay I k g.1.1
    | .rcv k => recvPay I k g.1.1
  amount_pos _ _ d _ := by
    cases d
    · exact Nat.one_pos
    · exact amt_pos _
    · exact amt_pos _

instance Rd_storable (g : GSem nD τ sig) (r : ℕ) (d : Duty) : BI.Storable (upEmb : UEmb _ 𝕄) ((Rd I).payload g r d) := by
  rcases d with d | k | k
  · show BI.Storable upEmb (slots d (d.step g.1.1))
    unfold slots
    have : ∀ k : Cp, BI.Storable (upEmb : UEmb _ 𝕄) (slot k (d.step g.1.1)) := fun k => by
      unfold slot; cases k <;> infer_instance
    infer_instance
  · show BI.Storable upEmb (sendPay I k g.1.1)
    unfold sendPay; cases k <;> infer_instance
  · show BI.Storable upEmb (recvPay I k g.1.1)
    unfold recvPay; cases k <;> infer_instance

theorem sendNo_inj : ∀ k k' : Cp, sendNo k = sendNo k' → k = k' := by decide
theorem recvNo_inj : ∀ k k' : Cp, recvNo k = recvNo k' → k = k' := by decide
theorem send_ne_recv : ∀ k k' : Cp, sendNo k ≠ recvNo k' := by decide

theorem sem_snd (d : Duty) (k : Cp) : d.sem = .dma (sendSem k) ↔ d = .snd k := by
  rcases d with d | k' | k'
  · exact ⟨fun h => by simp [Duty.sem] at h, fun h => by simp at h⟩
  · exact ⟨fun h => by rw [sendNo_inj k' k (SemLoc.dma.inj h)], fun h => by rw [Duty.snd.inj h]; rfl⟩
  · exact ⟨fun h => absurd (SemLoc.dma.inj h).symm (send_ne_recv k k'), fun h => by simp at h⟩
theorem sem_rcv (d : Duty) (k : Cp) : d.sem = .dma (recvSem k) ↔ d = .rcv k := by
  rcases d with d | k' | k'
  · exact ⟨fun h => by simp [Duty.sem] at h, fun h => by simp at h⟩
  · exact ⟨fun h => absurd (SemLoc.dma.inj h) (send_ne_recv k' k), fun h => by simp at h⟩
  · exact ⟨fun h => by rw [recvNo_inj k' k (SemLoc.dma.inj h)], fun h => by rw [Duty.rcv.inj h]; rfl⟩
theorem sem_bar (d : Duty) : d.sem = .reg barS ↔ d = .bar .cw ∨ d = .bar .ccw := by
  rcases d with d | k' | k'
  · cases d <;> simp [Duty.sem]
  · simp [Duty.sem]
  · simp [Duty.sem]

theorem duties_bar (c : Dev nD) : (Rd I).duties (barCell c) 0 = {Duty.bar Dir.cw, Duty.bar Dir.ccw} := by
  dsimp only [Rd]; rw [if_pos ⟨rfl, rfl⟩]
  ext d; rw [Finset.mem_filter, Finset.mem_insert, Finset.mem_singleton, sem_bar]
  exact ⟨fun h => h.2, fun h => ⟨Finset.mem_univ _, h⟩⟩
theorem duties_send (k : Cp) (c : Dev nD) : (Rd I).duties (sendCell k c) 0 = {Duty.snd k} := by
  dsimp only [Rd]; rw [if_pos ⟨rfl, rfl⟩]
  ext d; rw [Finset.mem_filter, Finset.mem_singleton, sem_snd]
  exact ⟨fun h => h.2, fun h => ⟨Finset.mem_univ _, h⟩⟩
theorem duties_recv (k : Cp) (c : Dev nD) : (Rd I).duties (recvCell k c) 0 = {Duty.rcv k} := by
  dsimp only [Rd]; rw [if_pos ⟨rfl, rfl⟩]
  ext d; rw [Finset.mem_filter, Finset.mem_singleton, sem_rcv]
  exact ⟨fun h => h.2, fun h => ⟨Finset.mem_univ _, h⟩⟩
theorem duties_later (g : GSem nD τ sig) (r : ℕ) (hr : 1 ≤ r) : (Rd I).duties g r = ∅ := by
  dsimp only [Rd]; rw [if_neg (fun h => by omega)]

theorem expect_bar (c : Dev nD) : (Rd I).expect (barCell c) 0 = 2 := by
  unfold Schedule.expect Schedule.amountOf; rw [duties_bar, Finset.sum_pair (by decide)]; rfl
theorem expect_send (k : Cp) (c : Dev nD) : (Rd I).expect (sendCell k c) 0 = amt k := by
  unfold Schedule.expect Schedule.amountOf; rw [duties_send, Finset.sum_singleton]; rfl
theorem expect_recv (k : Cp) (c : Dev nD) : (Rd I).expect (recvCell k c) 0 = amt k := by
  unfold Schedule.expect Schedule.amountOf; rw [duties_recv, Finset.sum_singleton]; rfl

theorem rest_bar (c : Dev nD) : bigSep ((Rd I).duties (barCell c) 0 \ ∅) (fun u => (Rd I).payload (barCell c) 0 u)
    = iprop(slots .cw (nxt c) ∗ slots .ccw (prv c)) := by
  rw [Finset.sdiff_empty, duties_bar, bigSep_insert (by decide), bigSep_singleton]; rfl
theorem rest_send (k : Cp) (c : Dev nD) : bigSep ((Rd I).duties (sendCell k c) 0 \ ∅) (fun u => (Rd I).payload (sendCell k c) 0 u)
    = sendPay I k c := by
  rw [Finset.sdiff_empty, duties_send, bigSep_singleton]; rfl
theorem rest_recv (k : Cp) (c : Dev nD) : bigSep ((Rd I).duties (recvCell k c) 0 \ ∅) (fun u => (Rd I).payload (recvCell k c) 0 u)
    = recvPay I k c := by
  rw [Finset.sdiff_empty, duties_recv, bigSep_singleton]; rfl

/-! ## What is owed, and in which order it may be waited for -/

/-- The arrivals a device still owes its neighbours. -/
def owedL (l : List Cp) (c : Dev nD) : CellTallies nD τ sig Unit :=
  match l with
  | [] => 0
  | k :: l => owedL l c + tallyAt (recvCell k (peer k c)) () (amt k)

/-- All a device owes at the start. -/
def O₀ (c : Dev nD) : CellTallies nD τ sig Unit :=
  owedL allCp c + tallyAt (barCell (nxt c)) () 1 + tallyAt (barCell (prv c)) () 1

def L (g : GSem nD τ sig) : Finset Unit := if g.1.2 = .tc then {()} else ∅

/-- The level of an arrival semaphore, by its number. -/
def levN (n : ℕ) : ℕ :=
  if n ∈ [16, 19, 34, 37] then 2 else if n ∈ [17, 18, 20, 21, 35, 36, 38, 39] then 3
  else if n ∈ [49, 50, 61, 62] then 4 else if n ∈ [51, 52, 63, 64] then 5 else if n ∈ [53, 54, 65, 66] then 6 else 0

theorem levN_recv : ∀ k : Cp, levN (recvNo k).val = lev k := by decide

def lv (g : GSem nD τ sig) (_ : Unit) : ℕ :=
  match g.2 with
  | .reg _ => 1
  | .dma s => levN s.val

theorem L_of_ne (g : GSem nD τ sig) (h : g.1.2 ≠ .tc) : L g = ∅ := if_neg h
theorem L_tc (c : Dev nD) (sm : SemLoc sig) : L ((c : Thread nD τ), sm) = {()} := if_pos rfl

theorem owedL_pos (l : List Cp) (c : Dev nD) (g : GSem nD τ sig) (u : Unit) (h : 0 < owedL l c g u) :
    ∃ k ∈ l, g = recvCell k (peer k c) := by
  induction l with
  | nil => exact absurd h (Nat.lt_irrefl 0)
  | cons k l ih =>
    have h' : 0 < owedL l c g u + tallyAt (recvCell k (peer k c)) () (amt k) g u := h
    rw [tallyAt_apply] at h'
    by_cases hg : g = recvCell k (peer k c) ∧ u = ()
    · exact ⟨k, List.mem_cons_self, hg.1⟩
    · rw [if_neg hg, Nat.add_zero] at h'
      obtain ⟨k', hk', e⟩ := ih h'
      exact ⟨k', List.mem_cons_of_mem _ hk', e⟩

/-- A wait is allowed while everything still owed is above it. -/
theorem mayWait (l : List Cp) (c : Dev nD) (sm : SemLoc sig) (n : ℕ) (hn : lv ((c : Thread nD τ), sm) () ≤ n)
    (h : ∀ k ∈ l, n < lev k) : (levAts L lv : sProp 𝕄) ⊢ MayWait (c : Thread nD τ) sm () (owedL l c) :=
  MayOwe.of_cut (L := L) (lev := lv) n (fun p hp => by rw [Finset.mem_singleton.mp hp, L_tc]; exact Finset.mem_singleton_self _)
    (fun g u hg => by obtain ⟨k, -, rfl⟩ := owedL_pos l c g u hg; rw [L_tc]; exact Finset.mem_singleton_self _)
    (fun p hp => by rw [Finset.mem_singleton.mp hp]; exact hn)
    (fun g u hg => by
      obtain ⟨k, hk, rfl⟩ := owedL_pos l c g u hg
      show n < levN (recvNo k).val
      rw [levN_recv]; exact h k hk)

/-! ## The pieces of state a device carries -/

/-- The names of all semaphores' invariants. -/
def records (N : GSem nD τ sig → ℕ) : sProp 𝕄 :=
  iprop((bigSep Finset.univ fun c => cellInv ER (Rd I) (N (barCell c)) (barCell c))
    ∗ (bigSep Finset.univ fun p : Cp × Dev nD => cellInv ER (Rd I) (N (sendCell p.1 p.2)) (sendCell p.1 p.2))
    ∗ (bigSep Finset.univ fun p : Cp × Dev nD => cellInv ER (Rd I) (N (recvCell p.1 p.2)) (recvCell p.1 p.2)) ∗ levAts L lv)

instance records_persistent (N : GSem nD τ sig → ℕ) : BI.Persistent (records I N) := by unfold records; infer_instance

/-- Still owed, whatever has been recorded. -/
def ow (l : List Cp) (c : Dev nD) : sProp 𝕄 := iprop(∃ W, owes (c : Thread nD τ) (owedL l c) W)

/-- A copy not yet started. -/
def ready (k : Cp) (c : Dev nD) : sProp 𝕄 :=
  iprop(dutyTok ER (sendCell k c) 0 (.snd k) ∗ reached ER (sendCell k c) 0 ∗ dutyTok ER (recvCell k (peer k c)) 0 (.rcv k) ∗ atPos ER (sendCell k c) 0 ∅ 0)
/-- A copy started, its departure not yet waited for. -/
def sent (k : Cp) (c : Dev nD) : sProp 𝕄 :=
  iprop(atPos ER (sendCell k c) 0 ∅ 0 ∗ cred (tallyAt (sendCell k c) () (amt k)))
/-- An arrival not yet waited for. -/
def await (k : Cp) (c : Dev nD) : sProp 𝕄 :=
  iprop(atPos ER (recvCell k c) 0 ∅ 0 ∗ cred (tallyAt (recvCell k c) () (amt k)))

end Cert.KernelIdeal.Moe
-- ==== Proof.Steps.lean ====
/-
  One rule per kind of operation the kernel performs: reading and writing a piece of a buffer, starting a copy, waiting for an
  arrival or a departure, and the barrier.
-/
module

public import proofs.«01_k».proof.Proof.Protocol

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A run of a piece of the kernel on a device. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {α : Type} {Q : α → sProp (MT nD τ sig Unit (Elt F) ℕ UU ℕ)}

theorem lift_bind {β : Type} (op : TpuEff nD τ sig (Elt F) Λ₀ .tc β) (K : β → Prog (TpuEff nD τ sig (Elt F) Λ₀ .tc) α) :
    (Prog.lift op >>= K) = Prog.op op K := rfl

/-- Learning the device's number. -/
theorem step_dev {K : Dev nD → Prog (TpuEff nD τ sig (Elt F) Λ₀ .tc) α} : Run c (K c) Q ⊢ Run c (Prog.lift .deviceId >>= K) Q := by
  rw [lift_bind]
  show _ ⊢ wp frame (wpE (defs₀ (F := F)) 𝒱₀ (c : Thread nD τ) none) Set.univ _ Q
  rw [wp_deviceId]

/-- A run that is over. -/
theorem run_pure {a : α} : Q a ⊢ Run c (pure a) Q := by
  show Q a ⊢ wp frame (wpE (defs₀ (F := F)) 𝒱₀ (c : Thread nD τ) none) Set.univ (.ret a) Q
  rw [wp_ret]
  exact fupd_intro

/-- A part of the kernel followed by the rest. -/
theorem seq {β : Type} {A B : sProp (MT nD τ sig Unit (Elt F) ℕ UU ℕ)} {p : Prog (TpuEff nD τ sig (Elt F) Λ₀ .tc) β} {a : β}
    {K : β → Prog (TpuEff nD τ sig (Elt F) Λ₀ .tc) α}
    (h : ∀ Q' : β → sProp (MT nD τ sig Unit (Elt F) ℕ UU ℕ), A ⊢ iprop((B -∗ Q' a) -∗ Run c p Q')) :
    A ⊢ iprop((B -∗ Run c (K a) Q) -∗ Run c (p >>= K) Q) := by
  have := h fun b => Run c (K b) Q
  show A ⊢ iprop((B -∗ Run c (K a) Q) -∗ wp frame (wpE (defs₀ (F := F)) 𝒱₀ (c : Thread nD τ) none) Set.univ (p >>= K) Q)
  rw [wp_bind]
  exact this

/-! ## Reading and writing -/

section Memory

variable {cs : CoreSpace} {s s' : Shape} {e : EltTy} {m : Memref sig .tc cs s e} {r : Rect s} {q : PosShare TreeShare}

/-- Reading a piece of an owned buffer. -/
theorem load_sub {hl : m.view.LoadsAt r} {K : (r.shape.Idx → Elt F e) → Prog (TpuEff nD τ sig (Elt F) Λ₀ .tc) α} {X : s.Idx → Elt F e} {v : r.shape.Idx → Elt F e} (hv : sub r X = v) :
    (owns (c : Thread nD τ) m q X : sProp 𝕄)
      ⊢ iprop((owns (c : Thread nD τ) m q X -∗ Run c (K v) Q) -∗ Run c (Prog.lift (.load m r hl) >>= K) Q) := by
  rw [lift_bind]
  unfold owns
  iintro ⟨%f, %hf, H⟩ Hk
  iapply (wp_load_rect 𝒱₀ (c : Thread nD τ) none Set.univ (m := m) (r := r) (f := f) (m.view.set_slice_subset r)) $$ [H]
  · iexact H
  iintro H
  rw [show (m.access r).read (Elt F) f = v from by subst hv; subst hf; rfl]
  iapply Hk; iexists f; isplitr; · ipureintro; exact hf
  iexact H

/-- Reading all of an owned buffer. -/
theorem load_all {off : Fin s.rank → Nat} {inb} {hl : m.view.LoadsAt (Rect.unit off s.size inb)} {K : (s.Idx → Elt F e) → Prog (TpuEff nD τ sig (Elt F) Λ₀ .tc) α}
    {X : s.Idx → Elt F e} (h0 : ∀ a, off a = 0) :
    (owns (c : Thread nD τ) m q X : sProp 𝕄)
      ⊢ iprop((owns (c : Thread nD τ) m q X -∗ Run c (K X) Q) -∗ Run c (Prog.lift (.load m (Rect.unit off s.size inb).toLoadRect hl) >>= K) Q) := by
  have e : sub (Rect.unit off s.size inb) X = X := funext fun i => congrArg X (funext fun a => Fin.ext (by
    show off a + 1 * (i a).val = (i a).val
    rw [h0]; omega))
  have h := load_sub (c := c) (Q := Q) (m := m) (r := Rect.unit off s.size inb) (q := q) (hl := hl) (K := K) (X := X) e
  exact h

/-- Reading a piece owned by itself. -/
theorem load_tile {hst : ∀ a, r.stride a = 1} {hl : m.view.LoadsAt r} {K : (r.shape.Idx → Elt F e) → Prog (TpuEff nD τ sig (Elt F) Λ₀ .tc) α} {X : r.shape.Idx → Elt F e} :
    (owns (c : Thread nD τ) (m.slice r hst) q X : sProp 𝕄)
      ⊢ iprop((owns (c : Thread nD τ) (m.slice r hst) q X -∗ Run c (K X) Q) -∗ Run c (Prog.lift (.load m r hl) >>= K) Q) := by
  rw [lift_bind]
  unfold owns
  iintro ⟨%f, %hf, H⟩ Hk
  iapply (wp_load_rect 𝒱₀ (c : Thread nD τ) none Set.univ (m := m) (r := r) (f := f) (S := (m.view.slice r).set) (Finset.Subset.refl _)) $$ [H]
  · iexact H
  iintro H
  rw [show (m.access r).read (Elt F) f = X from hf]
  iapply Hk; iexists f; isplitr; · ipureintro; exact hf
  iexact H

/-- Reading a slot: a piece owned by itself, as a matrix. -/
theorem load_slot {hst : ∀ a, r.stride a = 1} {hsq : r.shape.Squeezes s'} {hl : m.view.LoadsAt r} {K : (r.shape.Idx → Elt F e) → Prog (TpuEff nD τ sig (Elt F) Λ₀ .tc) α}
    {X : s'.Idx → Elt F e} {v : r.shape.Idx → Elt F e} (h : r.shape.numel = s'.numel) (hv : (fun i => X (Shape.reshapeEquiv h i)) = v) :
    (owns (c : Thread nD τ) ((m.slice r hst).squeeze s' hsq) q X : sProp 𝕄)
      ⊢ iprop((owns (c : Thread nD τ) ((m.slice r hst).squeeze s' hsq) q X -∗ Run c (K v) Q)
        -∗ Run c (Prog.lift (.load m r hl) >>= K) Q) := by
  rw [lift_bind]
  have hs : ((m.slice r hst).squeeze s' hsq).view.set = (m.view.slice r).set := View.set_reshape _ _
  unfold owns
  rw [hs]
  iintro ⟨%f, %hf, H⟩ Hk
  iapply (wp_load_rect 𝒱₀ (c : Thread nD τ) none Set.univ (m := m) (r := r) (f := f) (S := (m.view.slice r).set) (Finset.Subset.refl _)) $$ [H]
  · iexact H
  iintro H
  rw [show (m.access r).read (Elt F) f = v from by
    rw [← hv]
    subst hf
    funext i
    have : Shape.reshapeEquiv hsq.numel_eq (Shape.reshapeEquiv h i) = i := by
      rw [Shape.reshapeEquiv_reshapeEquiv, Shape.reshapeEquiv_self]
    show _ = (m.view.slice r).read (Elt F) f (Shape.reshapeEquiv hsq.numel_eq (Shape.reshapeEquiv h i))
    rw [this]]
  iapply Hk; iexists f; isplitr; · ipureintro; exact hf
  iexact H

/-- Writing a piece of an owned buffer. -/
theorem store_sub {w : r.shape.Idx → Elt F e} {hx : (m.access r).Stores Finset.univ} {hm} {K : PUnit → Prog (TpuEff nD τ sig (Elt F) Λ₀ .tc) α} {X : s.Idx → Elt F e} :
    (owns (c : Thread nD τ) m fullShare X : sProp 𝕄)
      ⊢ iprop((owns (c : Thread nD τ) m fullShare (put r X w) -∗ Run c (K ⟨⟩) Q) -∗ Run c (Prog.lift (.store m r w Finset.univ hx hm) >>= K) Q) := by
  show _ ⊢ iprop(_ -∗ Run c (.op (.store m r w Finset.univ hx hm) K) Q)
  unfold owns
  iintro ⟨%f, %hf, H⟩ Hk
  iapply (wp_store 𝒱₀ (c : Thread nD τ) none Set.univ (m := m) (r := r) (f := f) (m.view.set_slice_subset r)) $$ [H]
  · iexact H
  iintro H
  iapply Hk; iexists _; isplitr
  rotate_left
  · iexact H
  · ipureintro
    subst hf
    funext j
    by_cases hj : j ∈ r.set
    · obtain ⟨x, rfl⟩ : ∃ x, r.emb x = j := r.exists_idx_of_mem hj
      rw [put_emb]
      exact m.view.read_slice_write_emb r f w (Finset.mem_univ x)
    · rw [put_miss _ _ _ _ hj]
      exact m.view.read_slice_write_of_not_mem r f w Finset.univ (by rwa [Rect.map_emb_univ])

/-- Writing all of an owned buffer. -/
theorem store_all {off : Fin s.rank → Nat} {inb} {w : s.Idx → Elt F e} {hx : (m.access (Rect.unit off s.size inb)).Stores Finset.univ} {hm}
    {K : PUnit → Prog (TpuEff nD τ sig (Elt F) Λ₀ .tc) α} {X : s.Idx → Elt F e} (h0 : ∀ a, off a = 0) :
    (owns (c : Thread nD τ) m fullShare X : sProp 𝕄)
      ⊢ iprop((owns (c : Thread nD τ) m fullShare w -∗ Run c (K ⟨⟩) Q)
        -∗ Run c (Prog.lift (.store m (Rect.unit off s.size inb) w Finset.univ hx hm) >>= K) Q) := by
  have e : put (Rect.unit off s.size inb) X w = w := funext fun i => by
    have : (Rect.unit off s.size inb).emb i = i := funext fun a => Fin.ext (by
      show off a + 1 * (i a).val = (i a).val
      rw [h0]; omega)
    exact (congrArg (put (Rect.unit off s.size inb) X w) this).symm.trans (put_emb (Rect.unit off s.size inb) X w i)
  have h := store_sub (c := c) (Q := Q) (m := m) (r := Rect.unit off s.size inb) (w := w) (hx := hx) (hm := hm) (K := K) (X := X)
  rw [e] at h
  exact h

/-- Writing a piece owned by itself. -/
theorem store_tile {hst : ∀ a, r.stride a = 1} {w : r.shape.Idx → Elt F e} {hx : (m.access r).Stores Finset.univ} {hm} {K : PUnit → Prog (TpuEff nD τ sig (Elt F) Λ₀ .tc) α}
    {X : r.shape.Idx → Elt F e} :
    (owns (c : Thread nD τ) (m.slice r hst) fullShare X : sProp 𝕄)
      ⊢ iprop((owns (c : Thread nD τ) (m.slice r hst) fullShare w -∗ Run c (K ⟨⟩) Q)
        -∗ Run c (Prog.lift (.store m r w Finset.univ hx hm) >>= K) Q) := by
  show _ ⊢ iprop(_ -∗ Run c (.op (.store m r w Finset.univ hx hm) K) Q)
  unfold owns
  iintro ⟨%f, %hf, H⟩ Hk
  iapply (wp_store 𝒱₀ (c : Thread nD τ) none Set.univ (m := m) (r := r) (f := f) (S := (m.view.slice r).set) (Finset.Subset.refl _)) $$ [H]
  · iexact H
  iintro H
  iapply Hk; iexists _; isplitr
  rotate_left
  · iexact H
  · ipureintro
    exact View.read_write_univ _ _

/-- Writing a slot. -/
theorem store_slot {hst : ∀ a, r.stride a = 1} {hsq : r.shape.Squeezes s'} {w : r.shape.Idx → Elt F e} {hx : (m.access r).Stores Finset.univ} {hm}
    {K : PUnit → Prog (TpuEff nD τ sig (Elt F) Λ₀ .tc) α} {X : s'.Idx → Elt F e} :
    (owns (c : Thread nD τ) ((m.slice r hst).squeeze s' hsq) fullShare X : sProp 𝕄)
      ⊢ iprop((owns (c : Thread nD τ) ((m.slice r hst).squeeze s' hsq) fullShare (fun i => w (Shape.reshapeEquiv hsq.numel_eq i)) -∗ Run c (K ⟨⟩) Q)
        -∗ Run c (Prog.lift (.store m r w Finset.univ hx hm) >>= K) Q) := by
  show _ ⊢ iprop(_ -∗ Run c (.op (.store m r w Finset.univ hx hm) K) Q)
  have hs : ((m.slice r hst).squeeze s' hsq).view.set = (m.view.slice r).set := View.set_reshape _ _
  unfold owns
  rw [hs]
  iintro ⟨%f, %hf, H⟩ Hk
  iapply (wp_store 𝒱₀ (c : Thread nD τ) none Set.univ (m := m) (r := r) (f := f) (S := (m.view.slice r).set) (Finset.Subset.refl _)) $$ [H]
  · iexact H
  iintro H
  iapply Hk; iexists _; isplitr
  rotate_left
  · iexact H
  · ipureintro
    funext i
    exact View.read_write_of_mem (v := m.access r) f w (Finset.mem_univ (Shape.reshapeEquiv hsq.numel_eq i))

end Memory

/-! ## The barrier -/

variable (I : Inputs F) {N : GSem nD τ sig → ℕ}

theorem records_bar (c : Dev nD) : records I N ⊢ cellInv ER (Rd I) (N (barCell c)) (barCell c) := by
  unfold records
  exact sep_elim_left.trans (bigSep_elim (Finset.mem_univ c))
theorem records_send (k : Cp) (c : Dev nD) : records I N ⊢ cellInv ER (Rd I) (N (sendCell k c)) (sendCell k c) := by
  unfold records
  exact sep_elim_right.trans (sep_elim_left.trans (bigSep_elim (i := (k, c)) (Finset.mem_univ (k, c))))
theorem records_recv (k : Cp) (c : Dev nD) : records I N ⊢ cellInv ER (Rd I) (N (recvCell k c)) (recvCell k c) := by
  unfold records
  exact sep_elim_right.trans (sep_elim_right.trans (sep_elim_left.trans (bigSep_elim (i := (k, c)) (Finset.mem_univ (k, c)))))
theorem records_lev : records I N ⊢ (levAts L lv : sProp 𝕄) := by
  unfold records
  exact sep_elim_right.trans (sep_elim_right.trans sep_elim_right)

theorem close_cell (g : GSem nD τ sig) : iprop(cellInv ER (Rd I) (N g) g ∗ atPos ER g (0 + 1) ∅ 0) ⊢ (|={Set.univ}=> semVal g 0 : sProp 𝕄) :=
  Rounds.cell_close ER (Rd I) (Set.mem_univ (N g)) id (fun r hr => duties_later I g r hr)

/-- Signalling the neighbour the device's copies going one way come from hands over the slots these copies are to write. -/
theorem step_signal (d : Dir) (p : Dev nD) (hp : p = d.flip.step c) (O : CellTallies nD τ sig Unit) {W : Waits sig Unit}
    {K : PUnit → Prog (TpuEff nD τ sig (Elt F) Λ₀ .tc) α} :
    iprop(records I N ∗ owes (c : Thread nD τ) (O + tallyAt (barCell p) () 1) W ∗ dutyTok ER (barCell p) 0 (Duty.bar d) ∗ slots d c ∗ reached ER (barCell p) 0)
      ⊢ iprop((owes (c : Thread nD τ) O W -∗ Run c (K ⟨⟩) Q)
        -∗ Run c (semSignalWord p barS 1#32 >>= K) Q) := by
  show _ ⊢ iprop(_ -∗ Run c (.op (.semSignal (Dev.tc p) barS ((1 : ℕ) : Int)) K) Q)
  subst hp
  iintro ⟨#HR, HO, Ht, Hs, #Hr⟩
  iapply (Rounds.wp_signal 𝒱₀ ER (Rd I) (c : Thread nD τ) none (dst := (d.flip.step c : Thread nD τ)) (sem := barS) (r := 0) (d := Duty.bar d) (k' := 1)
      (κ := N (barCell (d.flip.step c))) (by rw [duties_bar]; cases d <;> decide) rfl () O rfl)
  isplitr; · iapply (records_bar I (N := N) (d.flip.step c)); iexact HR
  isplitl [HO]; · iexact HO
  isplitl [Ht]; · iexact Ht
  isplitl [Hs]
  · iapply (Entails.of_eq (show slots d c = (Rd I).payload (barCell (d.flip.step c)) 0 (Duty.bar d) from by
      show slots d c = slots d (d.step (d.flip.step c)); rw [step_flip])); iexact Hs
  iexact Hr

/-- Waiting for both neighbours' signals, all arrivals still owed. -/
theorem step_barrier {W : Waits sig Unit} {K : PUnit → Prog (TpuEff nD τ sig (Elt F) Λ₀ .tc) α} :
    iprop(records I N ∗ owes (c : Thread nD τ) (owedL allCp c) W ∗ atPos ER (barCell c) 0 ∅ 0 ∗ cred (tallyAt (barCell c) () 2))
      ⊢ iprop(((ow allCp c ∗ semVal (barCell c) 0 ∗ slots .cw (nxt c) ∗ slots .ccw (prv c)) -∗ Run c (K ⟨⟩) Q)
        -∗ Run c (semWaitWord barS 2#32 >>= K) Q) := by
  show _ ⊢ iprop(_ -∗ Run c (.op (.semWait barS 2) K) Q)
  iintro ⟨#HR, HO, Ha, Hc⟩ Hk
  iapply (Rounds.wp_wait_rest_token 𝒱₀ ER (Rd I) (c : Thread nD τ) none (κ := N (barCell c))
      (wpE_semWait_eq 𝒱₀ (c : Thread nD τ) none Set.univ) (Set.mem_univ _) () (O := owedL allCp c) (W := W) (R := 0) (m := 0) (T := ∅)
      ((Nat.zero_add 2).trans (expect_bar I c).symm)) $$ [Hc HO Ha]
  · isplitr; · iapply (records_bar I (N := N) c); iexact HR
    isplitl [Hc]; · iexact Hc
    isplitl [HO]; · iexact HO
    isplitr
    · iapply (mayWait allCp c (.reg barS) 1 (Nat.le_refl _) (by decide)); iapply (records_lev I (N := N)); iexact HR
    iexact Ha
  iintro ⟨HO, Ha, -, Hp⟩
  ihave Hp := (Entails.of_eq (rest_bar I c)) $$ Hp
  icases Hp with ⟨Hp1, Hp2⟩
  imod (close_cell I (N := N) (barCell c)) $$ [Ha] with Hv
  · isplitr; · iapply (records_bar I (N := N) c); iexact HR
    iexact Ha
  iapply Hk
  isplitl [HO]; · unfold ow; iexists _; iexact HO
  isplitl [Hv]; · iexact Hv
  isplitl [Hp1]; · iexact Hp1
  iexact Hp2

/-! ## Copies -/

/-- Waiting for an arrival hands over the slot. -/
theorem step_recv (k : Cp) (l : List Cp) (hl : ∀ j ∈ l, lev k < lev j) {sem : DmaSem sig} (hsem : sem = recvSem k)
    {sp sp' : Space} {s s' : Shape} {e e' : EltTy} {src : Memref sig .tc sp' s' e'} {dst : Memref sig .tc sp s e}
    {h1 : src.view.WordExact} {h2 : dst.view.WordExact} (ha : dst.view.dmaCredit = amt k) {K : PUnit → Prog (TpuEff nD τ sig (Elt F) Λ₀ .tc) α} :
    iprop(records I N ∗ await k c ∗ ow l c)
      ⊢ iprop(((semVal (recvCell k c) 0 ∗ recvPay I k c ∗ ow l c) -∗ Run c (K ⟨⟩) Q)
        -∗ Run c (Prog.lift (.waitDma2 sem src dst h1 h2) >>= K) Q) := by
  show _ ⊢ iprop(_ -∗ Run c (.op (.waitDma2 sem src dst h1 h2) K) Q)
  subst hsem
  unfold await ow
  iintro ⟨#HR, ⟨Ha, Hc⟩, ⟨%W, HO⟩⟩ Hk
  iapply (Rounds.wp_wait_rest_token 𝒱₀ ER (Rd I) (c : Thread nD τ) none (κ := N (recvCell k c)) (k' := dst.view.dmaCredit)
      (wpE_waitDma2_eq 𝒱₀ (c : Thread nD τ) none Set.univ) (Set.mem_univ _) () (O := owedL l c) (W := W) (R := 0) (m := 0) (T := ∅)
      ((Nat.zero_add _).trans (ha.trans (expect_recv I k c).symm))) $$ [Hc HO Ha]
  · isplitr; · iapply (records_recv I (N := N) k c); iexact HR
    isplitl [Hc]; · rw [ha]; iexact Hc
    isplitl [HO]; · iexact HO
    isplitr
    · iapply (mayWait l c (.dma (recvSem k)) (lev k) (Nat.le_of_eq (levN_recv k)) hl); iapply (records_lev I (N := N)); iexact HR
    iexact Ha
  iintro ⟨HO, Ha, -, Hp⟩
  ihave Hp := (Entails.of_eq (rest_recv I k c)) $$ Hp
  imod (close_cell I (N := N) (recvCell k c)) $$ [Ha] with Hv
  · isplitr; · iapply (records_recv I (N := N) k c); iexact HR
    iexact Ha
  iapply Hk
  isplitl [Hv]; · iexact Hv
  isplitl [Hp]; · iexact Hp
  iexists _; iexact HO

/-- Waiting for a departure, nothing owed, hands back the lent share of the source. -/
theorem step_drain (k : Cp) {sem : DmaSem sig} (hsem : sem = sendSem k)
    {sp sp' : Space} {s s' : Shape} {e e' : EltTy} {src : Memref sig .tc sp' s' e'} {dst : Memref sig .tc sp s e}
    {h1 : src.view.WordExact} {h2 : dst.view.WordExact} (ha : dst.view.dmaCredit = amt k) {K : PUnit → Prog (TpuEff nD τ sig (Elt F) Λ₀ .tc) α} :
    iprop(records I N ∗ sent k c ∗ ow [] c)
      ⊢ iprop(((semVal (sendCell k c) 0 ∗ sendPay I k c ∗ ow [] c) -∗ Run c (K ⟨⟩) Q)
        -∗ Run c (Prog.lift (.waitDma2 sem src dst h1 h2) >>= K) Q) := by
  show _ ⊢ iprop(_ -∗ Run c (.op (.waitDma2 sem src dst h1 h2) K) Q)
  subst hsem
  unfold sent ow
  iintro ⟨#HR, ⟨Ha, Hc⟩, ⟨%W, HO⟩⟩ Hk
  iapply (Rounds.wp_wait_rest_token 𝒱₀ ER (Rd I) (c : Thread nD τ) none (κ := N (sendCell k c)) (k' := dst.view.dmaCredit)
      (wpE_waitDma2_eq 𝒱₀ (c : Thread nD τ) none Set.univ) (Set.mem_univ _) () (O := owedL [] c) (W := W) (R := 0) (m := 0) (T := ∅)
      ((Nat.zero_add _).trans (ha.trans (expect_send I k c).symm))) $$ [Hc HO Ha]
  · isplitr; · iapply (records_send I (N := N) k c); iexact HR
    isplitl [Hc]; · rw [ha]; iexact Hc
    isplitl [HO]; · iexact HO
    isplitr
    · rw [show owedL [] c = 0 from rfl, MayWait_zero]; iempintro
    iexact Ha
  iintro ⟨HO, Ha, -, Hp⟩
  ihave Hp := (Entails.of_eq (rest_send I k c)) $$ Hp
  imod (close_cell I (N := N) (sendCell k c)) $$ [Ha] with Hv
  · isplitr; · iapply (records_send I (N := N) k c); iexact HR
    iexact Ha
  iapply Hk
  isplitl [Hv]; · iexact Hv
  isplitl [Hp]; · iexact Hp
  iexists _; iexact HO

/-- Starting a copy: the share of the source goes, the right to wait for its return comes. -/
theorem step_send (k : Cp) (l : List Cp) {p : Dev nD} (hp : p = peer k c) {sS sem : DmaSem sig} (hs : sS = sendSem k) (hr : sem = recvSem k)
    {sp sp' : Space} {s : Shape} {e : EltTy} {src : Memref sig .tc sp s e} {dst : Memref sig .tc sp' s e}
    {h1 : src.view.WordExact} {h2 : dst.view.WordExact} {hsc : dst.view.ref.isScScratch = false} {h3 : DmaTarget.Typed (nD := nD) (τ := τ) sp (.dma sem) (.remote (Dev.tc p) dst (.dma sS) hsc)}
    (ha : dst.view.dmaCredit = amt k) {q : PosShare TreeShare} {X : s.Idx → Elt F e}
    (hslot : slot k (peer k c) ⊢ iprop((∃ v : s.Idx → Elt F e, owns (peer k c : Thread nD τ) dst fullShare v) ∗ reached ER (recvCell k (peer k c)) 0))
    (hsrc : owns (c : Thread nD τ) src q X ⊢ sendPay I k c) (hdst : owns (peer k c : Thread nD τ) dst fullShare X ⊢ recvPay I k (peer k c))
    {K : PUnit → Prog (TpuEff nD τ sig (Elt F) Λ₀ .tc) α} :
    iprop(records I N ∗ ready k c ∗ slot k (peer k c) ∗ owns (c : Thread nD τ) src q X ∗ ow (k :: l) c)
      ⊢ iprop(((sent k c ∗ ow l c) -∗ Run c (K ⟨⟩) Q)
        -∗ Run c (Prog.lift (.enqueueDma src (.remote (Dev.tc p) dst (.dma sS) hsc) (.dma sem) h1 h2 h3) >>= K) Q) := by
  show _ ⊢ iprop(_ -∗ Run c (.op (.enqueueDma src (.remote (Dev.tc p) dst (.dma sS) hsc) (.dma sem) h1 h2 h3) K) Q)
  subst hs; subst hr
  unfold ready ow
  subst hp
  iintro ⟨#HR, ⟨HtS, #HrS, HtR, Ha⟩, Hslot, Hsrc, ⟨%W, HO⟩⟩ Hk
  ihave Hslot := hslot $$ Hslot
  unfold owns
  icases Hslot with ⟨⟨%v, ⟨%fd, -, Hd⟩⟩, #HrR⟩
  icases Hsrc with ⟨%fs, %hX, Hs⟩
  iapply (Rounds.wp_send_pointsTo 𝒱₀ ER (Rd I) (c : Thread nD τ) none (c' := (peer k c : Thread nD τ)) (src := src) (dst := dst)
      (sS := .dma (sendSem k)) (sem := .dma (recvSem k)) (q := q) (fs := fs) (κ₁ := N (sendCell k c)) (κ₂ := N (recvCell k (peer k c)))
      (r₁ := 0) (r₂ := 0) (d₁ := Duty.snd k) (d₂ := Duty.rcv k) (fd := fd)
      (by rw [duties_send]; exact Finset.mem_singleton_self _) (by rw [duties_recv]; exact Finset.mem_singleton_self _)
      () () (amt k) ha rfl rfl (owedL l c) rfl (W := W)
      (by
        refine BIBase.Entails.trans ?_ hsrc
        unfold owns; iintro H; iexists fs; isplitr; · ipureintro; exact hX
        iexact H)
      (by
        refine BIBase.Entails.trans ?_ hdst
        unfold owns; iintro H; iexists _; isplitr
        rotate_left
        · iexact H
        · ipureintro; rw [View.read_write_univ, hX])) $$ [HtS HtR Hs Hd HO]
  · isplitr; · iapply (records_send I (N := N) k c); iexact HR
    isplitr; · iapply (records_recv I (N := N) k (peer k c)); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Ha Hc]
  · unfold sent; isplitl [Ha]; · iexact Ha
    iexact Hc
  iexists W; iexact HO

/-- What a copy brings is, at its receiver, what the receiver's table of arrivals says. -/
theorem arrive_x (d : Dir) (h : Hop) : owns (peer (.kx d h) c : Thread nD τ) (xdst d h) fullShare (xs I d h c) ⊢ recvPay I (.kx d h) (peer (.kx d h) c) := by
  show _ ⊢ owns (peer (.kx d h) c : Thread nD τ) (xdst d h) fullShare (xs I d h ((way d h).flip.step ((way d h).step c)))
  rw [flip_step]
theorem arrive_g (d : Dir) (h : Hop) : owns (peer (.kg d h) c : Thread nD τ) (gdst d h) fullShare (gs I d h c) ⊢ recvPay I (.kg d h) (peer (.kg d h) c) := by
  show _ ⊢ owns (peer (.kg d h) c : Thread nD τ) (gdst d h) fullShare (gs I d h ((way d h).flip.step ((way d h).step c)))
  rw [flip_step]
theorem arrive_r (d : Dir) (h : Hop) (q : Half) : owns (peer (.rs d h q) c : Thread nD τ) (rdst d h q) fullShare (rs I d h q c) ⊢ recvPay I (.rs d h q) (peer (.rs d h q) c) := by
  show _ ⊢ owns (peer (.rs d h q) c : Thread nD τ) (rdst d h q) fullShare (rs I d h q (d.flip.step (d.step c)))
  rw [flip_step]

/-- The arrivals a device still owes after its first so many copies. -/
abbrev rest (n : ℕ) : List Cp := allCp.drop n

/-! ## Arrays written piece by piece -/

abbrev ra0 : Rect S1024x2048 := Rect.unit (s := S1024x2048) ![0, 0] S1024x512.size inb_S1024x2048_S1024x512_0_0
abbrev ra1 : Rect S1024x2048 := Rect.unit (s := S1024x2048) ![0, 512] S1024x512.size inb_S1024x2048_S1024x512_0_512
abbrev ra2 : Rect S1024x2048 := Rect.unit (s := S1024x2048) ![0, 1024] S1024x512.size inb_S1024x2048_S1024x512_0_1024
abbrev ra3 : Rect S1024x2048 := Rect.unit (s := S1024x2048) ![0, 1536] S1024x512.size inb_S1024x2048_S1024x512_0_1536
abbrev rb0 : Rect S512x2048 := Rect.unit (s := S512x2048) ![0, 0] S512x512.size inb_S512x2048_S512x512_0_0
abbrev rb1 : Rect S512x2048 := Rect.unit (s := S512x2048) ![0, 512] S512x512.size inb_S512x2048_S512x512_0_512
abbrev rb2 : Rect S512x2048 := Rect.unit (s := S512x2048) ![0, 1024] S512x512.size inb_S512x2048_S512x512_0_1024
abbrev rb3 : Rect S512x2048 := Rect.unit (s := S512x2048) ![0, 1536] S512x512.size inb_S512x2048_S512x512_0_1536

/-- A block of columns overwritten, at an index inside or outside of it. -/
theorem put_cols {n o : Nat} {α : Type} {inb : ∀ a, (![0, o] : Fin 2 → Nat) a + (⟨2, ![n, 512]⟩ : Shape).size a ≤ (⟨2, ![n, 2048]⟩ : Shape).size a}
    (v : (⟨2, ![n, 2048]⟩ : Shape).Idx → α) (w : (⟨2, ![n, 512]⟩ : Shape).Idx → α) (j : (⟨2, ![n, 2048]⟩ : Shape).Idx) (ho : o % 512 = 0) :
    put (Rect.unit (s := ⟨2, ![n, 2048]⟩) ![0, o] (⟨2, ![n, 512]⟩ : Shape).size inb) v w j
      = if o ≤ (j 1).val ∧ (j 1).val < o + 512 then w (Shape.pair (d := ![n, 512]) (j 0) ⟨(j 1).val % 512, Nat.mod_lt _ (by decide)⟩) else v j := by
  split
  case isTrue h =>
    have e : (Rect.unit (s := ⟨2, ![n, 2048]⟩) ![0, o] (⟨2, ![n, 512]⟩ : Shape).size inb).emb
        (Shape.pair (d := ![n, 512]) (j 0) ⟨(j 1).val % 512, Nat.mod_lt _ (by decide)⟩) = j := by
      funext a
      refine Fin.ext ?_
      match a with
      | ⟨0, _⟩ => show 0 + 1 * (j 0).val = (j 0).val; omega
      | ⟨1, _⟩ => show o + 1 * ((j 1).val % 512) = (j 1).val; omega
    have := put_emb (Rect.unit (s := ⟨2, ![n, 2048]⟩) ![0, o] (⟨2, ![n, 512]⟩ : Shape).size inb) v w (Shape.pair (d := ![n, 512]) (j 0) ⟨(j 1).val % 512, Nat.mod_lt _ (by decide)⟩)
    rw [e] at this
    exact this
  case isFalse h =>
    refine put_miss _ _ _ _ fun hj => h ?_
    have := (Rect.mem_set_unit.1 hj) 1
    exact this

theorem four_puts {n : Nat} {α : Type} {i0 i1 i2 i3} (v : (⟨2, ![n, 2048]⟩ : Shape).Idx → α) (w0 w1 w2 w3 : (⟨2, ![n, 512]⟩ : Shape).Idx → α) :
    put (Rect.unit (s := ⟨2, ![n, 2048]⟩) ![0, 1536] (⟨2, ![n, 512]⟩ : Shape).size i3)
      (put (Rect.unit (s := ⟨2, ![n, 2048]⟩) ![0, 1024] (⟨2, ![n, 512]⟩ : Shape).size i2)
        (put (Rect.unit (s := ⟨2, ![n, 2048]⟩) ![0, 512] (⟨2, ![n, 512]⟩ : Shape).size i1)
          (put (Rect.unit (s := ⟨2, ![n, 2048]⟩) ![0, 0] (⟨2, ![n, 512]⟩ : Shape).size i0) v w0) w1) w2) w3
      = cat4 w0 w1 w2 w3 := by
  funext j
  have hj : (j 1).val < 2048 := (j 1).isLt
  rw [put_cols _ _ _ (by decide), put_cols _ _ _ (by decide), put_cols _ _ _ (by decide), put_cols _ _ _ (by decide)]
  unfold cat4
  split_ifs <;> first | rfl | omega

end Cert.KernelIdeal.Moe
-- ==== Proof.Buffers.lean ====
/-
  The kernel's parts applied to the buffers of the launch.
-/
module

public import proofs.«01_k».proof.Proof.Steps
public import Idealize.ShloMosaic.Lib.MemrefSat

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Something that depends on the kernel's buffers. -/
abbrev Args (α : Type 1) : Type 1 := ∀ (arg0 : Memref sig .tc .vmem S1024x512 .bf16) (harg0 : arg0.IsWhole) (arg1 : Memref sig .tc .vmem S512x16 .bf16) (harg1 : arg1.IsWhole) (arg2 : Memref sig .tc .vmem S1024x2 .i32) (harg2 : arg2.IsWhole) (arg3 : Memref sig .tc .vmem S2048x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1024x1024 .f32) (harg6 : arg6.IsWhole) (arg7 : Memref sig .tc .vmem S3x512x512 .bf16) (harg7 : arg7.IsWhole) (arg8 : Memref sig .tc .vmem S3x512x512 .bf16) (harg8 : arg8.IsWhole) (arg9 : Memref sig .tc .vmem S3x512x16 .bf16) (harg9 : arg9.IsWhole) (arg10 : Memref sig .tc .vmem S3x512x16 .bf16) (harg10 : arg10.IsWhole) (arg11 : Memref sig .tc .vmem S512x16 .bf16) (harg11 : arg11.IsWhole) (arg12 : Memref sig .tc .vmem S512x16 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S3x512x1024 .bf16) (harg15 : arg15.IsWhole) (arg16 : Memref sig .tc .vmem S3x512x1024 .bf16) (harg16 : arg16.IsWhole) (arg17 : Memref sig .tc .vmem S512x1024 .f32) (harg17 : arg17.IsWhole) (arg18 : Memref sig .tc .vmem S512x1024 .f32) (harg18 : arg18.IsWhole) (arg19 : DmaSems sig S3x3) (arg20 : DmaSems sig S3x3) (arg21 : DmaSems sig S3x3) (arg22 : DmaSems sig S3x3) (arg23 : DmaSems sig S3x2) (arg24 : DmaSems sig S3x2) (arg25 : DmaSems sig S3x2) (arg26 : DmaSems sig S3x2) (arg27 : Memref sig .tc .vmem S512x2048 .bf16) (harg27 : arg27.IsWhole) (arg28 : Memref sig .tc .vmem S512x2048 .bf16) (harg28 : arg28.IsWhole) (arg29 : Memref sig .tc .vmem S1024x2048 .bf16) (harg29 : arg29.IsWhole), α

/-- It, at the buffers of the launch. -/
abbrev onBufs {α : Type 1} (p : Args α) : α :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)
    cc0_scratch12 cc0_scratch13 cc0_scratch14 cc0_scratch15 cc0_scratch16 cc0_scratch17 cc0_scratch18 cc0_scratch19
    (Memref.whole cc0_scratch20) (Memref.isWhole_whole _) (Memref.whole cc0_scratch21) (Memref.isWhole_whole _) (Memref.whole cc0_scratch22) (Memref.isWhole_whole _)

/-! ## Which devices the copies go to -/

theorem dev3 (c : Dev nD) : (⟨k0_dev3 c, k0_dev3_lt c⟩ : Dev nD) = peer (.kx .cw .h0) c := by revert c; decide
theorem dev4 (c : Dev nD) : (⟨k0_dev4 c, k0_dev4_lt c⟩ : Dev nD) = peer (.kx .ccw .h0) c := by revert c; decide
theorem dev5 (c : Dev nD) : (⟨k0_dev5 c, k0_dev5_lt c⟩ : Dev nD) = peer (.kg .cw .h0) c := by revert c; decide
theorem dev6 (c : Dev nD) : (⟨k0_dev6 c, k0_dev6_lt c⟩ : Dev nD) = peer (.kg .ccw .h0) c := by revert c; decide
theorem dev7 (c : Dev nD) : (⟨k0_dev7 c, k0_dev7_lt c⟩ : Dev nD) = peer (.kx .cw .h2) c := by revert c; decide
theorem dev8 (c : Dev nD) : (⟨k0_dev8 c, k0_dev8_lt c⟩ : Dev nD) = peer (.kx .ccw .h2) c := by revert c; decide
theorem dev9 (c : Dev nD) : (⟨k0_dev9 c, k0_dev9_lt c⟩ : Dev nD) = peer (.kg .cw .h2) c := by revert c; decide
theorem dev10 (c : Dev nD) : (⟨k0_dev10 c, k0_dev10_lt c⟩ : Dev nD) = peer (.kg .ccw .h2) c := by revert c; decide
theorem dev11 (c : Dev nD) : (⟨k0_dev11 c, k0_dev11_lt c⟩ : Dev nD) = peer (.kx .cw .h1) c := by revert c; decide
theorem dev12 (c : Dev nD) : (⟨k0_dev12 c, k0_dev12_lt c⟩ : Dev nD) = peer (.kg .cw .h1) c := by revert c; decide
theorem dev13 (c : Dev nD) : (⟨k0_dev13 c, k0_dev13_lt c⟩ : Dev nD) = peer (.kx .ccw .h1) c := by revert c; decide
theorem dev14 (c : Dev nD) : (⟨k0_dev14 c, k0_dev14_lt c⟩ : Dev nD) = peer (.kg .ccw .h1) c := by revert c; decide
theorem dev15 (c : Dev nD) : (⟨k0_dev15 c, k0_dev15_lt c⟩ : Dev nD) = peer (.rs .cw .h0 .q0) c := by revert c; decide
theorem dev16 (c : Dev nD) : (⟨k0_dev16 c, k0_dev16_lt c⟩ : Dev nD) = peer (.rs .cw .h0 .q1) c := by revert c; decide
theorem dev17 (c : Dev nD) : (⟨k0_dev17 c, k0_dev17_lt c⟩ : Dev nD) = peer (.rs .ccw .h0 .q0) c := by revert c; decide
theorem dev18 (c : Dev nD) : (⟨k0_dev18 c, k0_dev18_lt c⟩ : Dev nD) = peer (.rs .ccw .h0 .q1) c := by revert c; decide
theorem dev19 (c : Dev nD) : (⟨k0_dev19 c, k0_dev19_lt c⟩ : Dev nD) = peer (.rs .cw .h1 .q0) c := by revert c; decide
theorem dev20 (c : Dev nD) : (⟨k0_dev20 c, k0_dev20_lt c⟩ : Dev nD) = peer (.rs .cw .h1 .q1) c := by revert c; decide
theorem dev21 (c : Dev nD) : (⟨k0_dev21 c, k0_dev21_lt c⟩ : Dev nD) = peer (.rs .ccw .h1 .q0) c := by revert c; decide
theorem dev22 (c : Dev nD) : (⟨k0_dev22 c, k0_dev22_lt c⟩ : Dev nD) = peer (.rs .ccw .h1 .q1) c := by revert c; decide
theorem dev23 (c : Dev nD) : (⟨k0_dev23 c, k0_dev23_lt c⟩ : Dev nD) = peer (.rs .cw .h2 .q0) c := by revert c; decide
theorem dev24 (c : Dev nD) : (⟨k0_dev24 c, k0_dev24_lt c⟩ : Dev nD) = peer (.rs .cw .h2 .q1) c := by revert c; decide
theorem dev25 (c : Dev nD) : (⟨k0_dev25 c, k0_dev25_lt c⟩ : Dev nD) = peer (.rs .ccw .h2 .q0) c := by revert c; decide
theorem dev26 (c : Dev nD) : (⟨k0_dev26 c, k0_dev26_lt c⟩ : Dev nD) = peer (.rs .ccw .h2 .q1) c := by revert c; decide
theorem dev1 (c : Dev nD) : (⟨k0_dev1 c, k0_dev1_lt c⟩ : Dev nD) = prv c := by revert c; decide
theorem dev2 (c : Dev nD) : (⟨k0_dev2 c, k0_dev2_lt c⟩ : Dev nD) = nxt c := by revert c; decide

/-! ## Pieces -/

variable {c : Dev nD} (I : Inputs F)

/-- The neighbour's slots for the copies going one way, one by one. -/
theorem open_cw : slots (F := F) .cw (nxt c) ⊢ iprop(slot (.kx .cw .h0) (peer (.kx .cw .h0) c) ∗ slot (.kg .cw .h0) (peer (.kg .cw .h0) c) ∗ slot (.kx .ccw .h2) (peer (.kx .ccw .h2) c) ∗ slot (.kg .ccw .h2) (peer (.kg .ccw .h2) c) ∗ slot (.kx .cw .h1) (peer (.kx .cw .h1) c) ∗ slot (.kg .cw .h1) (peer (.kg .cw .h1) c) ∗ slot (.rs .cw .h0 .q0) (peer (.rs .cw .h0 .q0) c) ∗ slot (.rs .cw .h0 .q1) (peer (.rs .cw .h0 .q1) c) ∗ slot (.rs .cw .h1 .q0) (peer (.rs .cw .h1 .q0) c) ∗ slot (.rs .cw .h1 .q1) (peer (.rs .cw .h1 .q1) c) ∗ slot (.rs .cw .h2 .q0) (peer (.rs .cw .h2 .q0) c) ∗ slot (.rs .cw .h2 .q1) (peer (.rs .cw .h2 .q1) c)) := by
  unfold slots
  rw [bigSep_eq_bigSepL_of_eq [.kx .cw .h0, .kg .cw .h0, .kx .ccw .h2, .kg .ccw .h2, .kx .cw .h1, .kg .cw .h1, .rs .cw .h0 .q0, .rs .cw .h0 .q1, .rs .cw .h1 .q0, .rs .cw .h1 .q1, .rs .cw .h2 .q0, .rs .cw .h2 .q1] (by decide) (by decide)]
  simp only [bigSepL]
  exact BIBase.Entails.rfl
theorem open_ccw : slots (F := F) .ccw (prv c) ⊢ iprop(slot (.kx .ccw .h0) (peer (.kx .ccw .h0) c) ∗ slot (.kg .ccw .h0) (peer (.kg .ccw .h0) c) ∗ slot (.kx .cw .h2) (peer (.kx .cw .h2) c) ∗ slot (.kg .cw .h2) (peer (.kg .cw .h2) c) ∗ slot (.kx .ccw .h1) (peer (.kx .ccw .h1) c) ∗ slot (.kg .ccw .h1) (peer (.kg .ccw .h1) c) ∗ slot (.rs .ccw .h0 .q0) (peer (.rs .ccw .h0 .q0) c) ∗ slot (.rs .ccw .h0 .q1) (peer (.rs .ccw .h0 .q1) c) ∗ slot (.rs .ccw .h1 .q0) (peer (.rs .ccw .h1 .q0) c) ∗ slot (.rs .ccw .h1 .q1) (peer (.rs .ccw .h1 .q1) c) ∗ slot (.rs .ccw .h2 .q0) (peer (.rs .ccw .h2 .q0) c) ∗ slot (.rs .ccw .h2 .q1) (peer (.rs .ccw .h2 .q1) c)) := by
  unfold slots
  rw [bigSep_eq_bigSepL_of_eq [.kx .ccw .h0, .kg .ccw .h0, .kx .cw .h2, .kg .cw .h2, .kx .ccw .h1, .kg .ccw .h1, .rs .ccw .h0 .q0, .rs .ccw .h0 .q1, .rs .ccw .h1 .q0, .rs .ccw .h1 .q1, .rs .ccw .h2 .q0, .rs .ccw .h2 .q1] (by decide) (by decide)]
  simp only [bigSepL]
  exact BIBase.Entails.rfl

theorem O₀_order (c : Dev nD) : O₀ c = owedL allCp c + tallyAt (barCell (nxt c)) () 1 + tallyAt (barCell (prv c)) () 1 := rfl

theorem halves_xo (d : Dir) : (owns (c : Thread nD τ) (xown d) fullShare (xh I d c) : sProp 𝕄)
    ⊢ iprop(owns (c : Thread nD τ) (xown d) fullShare.left (xh I d c) ∗ owns (c : Thread nD τ) (xown d) fullShare.right (xh I d c)) := (owns_halves _ _ _ _).1
theorem halves_go (d : Dir) : (owns (c : Thread nD τ) (gown d) fullShare (gsrc I d c) : sProp 𝕄)
    ⊢ iprop(owns (c : Thread nD τ) (gown d) fullShare.left (gsrc I d c) ∗ owns (c : Thread nD τ) (gown d) fullShare.right (gsrc I d c)) := (owns_halves _ _ _ _).1
theorem halves_kx (d : Dir) : recvPay I (.kx d .h0) c
    ⊢ iprop(owns (c : Thread nD τ) (xdst d .h0) fullShare.left (xv I d .h0 c) ∗ owns (c : Thread nD τ) (xdst d .h0) fullShare.right (xv I d .h0 c)) := (owns_halves _ _ _ _).1
theorem halves_kg (d : Dir) : recvPay I (.kg d .h0) c
    ⊢ iprop(owns (c : Thread nD τ) (gdst d .h0) fullShare.left (gv I d .h0 c) ∗ owns (c : Thread nD τ) (gdst d .h0) fullShare.right (gv I d .h0 c)) := (owns_halves _ _ _ _).1

end Cert.KernelIdeal.Moe
-- ==== Proof.PartsA.lean ====
/-
  The barrier, the gates, the local product and the first copies.
-/
module

public import proofs.«01_k».proof.Proof.Buffers

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

theorem part1_run {Q : _ → sProp (MT nD τ sig Unit (Elt F) ℕ UU ℕ)}  :
    iprop(records I N ∗ iprop(∃ W, owes (c : Thread nD τ) (O₀ c) W) ∗ dutyTok ER (barCell (prv c)) 0 (Duty.bar .cw) ∗ slots (F := F) .cw c ∗ reached ER (barCell (prv c)) 0 ∗ dutyTok ER (barCell (nxt c)) 0 (Duty.bar .ccw) ∗ slots (F := F) .ccw c ∗ reached ER (barCell (nxt c)) 0 ∗ atPos ER (barCell c) 0 ∅ 0 ∗ cred (tallyAt (barCell c) () 2) ∗ ready (.kx .cw .h0) c ∗ owns (c : Thread nD τ) (xown .cw) fullShare.left (xh I .cw c))
      ⊢ iprop(((ow (rest 1) c ∗ sent (.kx .cw .h0) c ∗ semVal (barCell c) 0 ∗ slot (.kg .cw .h0) (peer (.kg .cw .h0) c) ∗ slot (.kx .ccw .h2) (peer (.kx .ccw .h2) c) ∗ slot (.kg .ccw .h2) (peer (.kg .ccw .h2) c) ∗ slot (.kx .cw .h1) (peer (.kx .cw .h1) c) ∗ slot (.kg .cw .h1) (peer (.kg .cw .h1) c) ∗ slot (.rs .cw .h0 .q0) (peer (.rs .cw .h0 .q0) c) ∗ slot (.rs .cw .h0 .q1) (peer (.rs .cw .h0 .q1) c) ∗ slot (.rs .cw .h1 .q0) (peer (.rs .cw .h1 .q0) c) ∗ slot (.rs .cw .h1 .q1) (peer (.rs .cw .h1 .q1) c) ∗ slot (.rs .cw .h2 .q0) (peer (.rs .cw .h2 .q0) c) ∗ slot (.rs .cw .h2 .q1) (peer (.rs .cw .h2 .q1) c) ∗ slot (.kx .ccw .h0) (peer (.kx .ccw .h0) c) ∗ slot (.kg .ccw .h0) (peer (.kg .ccw .h0) c) ∗ slot (.kx .cw .h2) (peer (.kx .cw .h2) c) ∗ slot (.kg .cw .h2) (peer (.kg .cw .h2) c) ∗ slot (.kx .ccw .h1) (peer (.kx .ccw .h1) c) ∗ slot (.kg .ccw .h1) (peer (.kg .ccw .h1) c) ∗ slot (.rs .ccw .h0 .q0) (peer (.rs .ccw .h0 .q0) c) ∗ slot (.rs .ccw .h0 .q1) (peer (.rs .ccw .h0 .q1) c) ∗ slot (.rs .ccw .h1 .q0) (peer (.rs .ccw .h1 .q0) c) ∗ slot (.rs .ccw .h1 .q1) (peer (.rs .ccw .h1 .q1) c) ∗ slot (.rs .ccw .h2 .q0) (peer (.rs .ccw .h2 .q0) c) ∗ slot (.rs .ccw .h2 .q1) (peer (.rs .ccw .h2 .q1) c)) -∗ Q ⟨c, (wd c), (Scalar.remsi (Scalar.addi (Scalar.subi (wd c) 1#32) 4#32) 4#32), (Scalar.remsi (Scalar.addi (wd c) 1#32) 4#32)⟩) -∗ Run c (onBufs (k0_part1 (F := F))) Q) := by
  rw [k0_part1_eq_skeleton]
  dsimp only [onBufs, k0_part1_skel]
  iintro ⟨#HR, HowI, HtokL, HownL, HrchL, HtokR, HownR, HrchR, HbarA, HbarC, Hrd_kxcwh0, HxoLcw⟩ Hk
  icases HowI with ⟨%W, HowI⟩
  iapply step_dev
  rw [dev1 c, dev2 c]
  iapply (step_signal I (N := N) .cw (prv c) rfl (owedL allCp c + tallyAt (barCell (nxt c)) () 1) (W := W)) $$ [HowI HtokL HownL HrchL]
  · isplitr; · iexact HR
    isplitl [HowI]; · iapply (Entails.of_eq (congrArg (fun O => owes (c : Thread nD τ) O W) (O₀_order c))); iexact HowI
    isplitl [HtokL]; · iexact HtokL
    isplitl [HownL]; · iexact HownL
    iexact HrchL
  iintro HowI
  iapply (step_signal I (N := N) .ccw (nxt c) rfl (owedL allCp c) (W := W)) $$ [HowI HtokR HownR HrchR]
  · isplitr; · iexact HR
    isplitl [HowI]; · iexact HowI
    isplitl [HtokR]; · iexact HtokR
    isplitl [HownR]; · iexact HownR
    iexact HrchR
  iintro HowI
  iapply (step_barrier I (N := N) (W := W)) $$ [HowI HbarA HbarC]
  · isplitr; · iexact HR
    isplitl [HowI]; · iexact HowI
    isplitl [HbarA]; · iexact HbarA
    iexact HbarC
  iintro ⟨How, Hbarv, HslC, HslW⟩
  ihave HslC := open_cw (c := c) $$ HslC
  ihave HslW := open_ccw (c := c) $$ HslW
  icases HslC with ⟨Hsl_kxcwh0, Hsl_kgcwh0, Hsl_kxccwh2, Hsl_kgccwh2, Hsl_kxcwh1, Hsl_kgcwh1, Hsl_rscwh0q0, Hsl_rscwh0q1, Hsl_rscwh1q0, Hsl_rscwh1q1, Hsl_rscwh2q0, Hsl_rscwh2q1⟩
  icases HslW with ⟨Hsl_kxccwh0, Hsl_kgccwh0, Hsl_kxcwh2, Hsl_kgcwh2, Hsl_kxccwh1, Hsl_kgccwh1, Hsl_rsccwh0q0, Hsl_rsccwh0q1, Hsl_rsccwh1q0, Hsl_rsccwh1q1, Hsl_rsccwh2q0, Hsl_rsccwh2q1⟩
  iapply (step_send I (N := N) (.kx .cw .h0) (rest 1) (dev3 c) rfl rfl (xdst_credit .cw .h0) (q := (shr .h0)) (X := xs I .cw .h0 c) BIBase.Entails.rfl BIBase.Entails.rfl (arrive_x I .cw .h0)) $$ [Hrd_kxcwh0 Hsl_kxcwh0 HxoLcw How]
  · isplitr; · iexact HR
    isplitl [Hrd_kxcwh0]; · iexact Hrd_kxcwh0
    isplitl [Hsl_kxcwh0]; · iexact Hsl_kxcwh0
    isplitl [HxoLcw]; · iexact HxoLcw
    iexact How
  iintro ⟨Hse_kxcwh0, How⟩
  ihave Hq := Hk $$ [How Hse_kxcwh0 Hbarv Hsl_kgcwh0 Hsl_kxccwh2 Hsl_kgccwh2 Hsl_kxcwh1 Hsl_kgcwh1 Hsl_rscwh0q0 Hsl_rscwh0q1 Hsl_rscwh1q0 Hsl_rscwh1q1 Hsl_rscwh2q0 Hsl_rscwh2q1 Hsl_kxccwh0 Hsl_kgccwh0 Hsl_kxcwh2 Hsl_kgcwh2 Hsl_kxccwh1 Hsl_kgccwh1 Hsl_rsccwh0q0 Hsl_rsccwh0q1 Hsl_rsccwh1q0 Hsl_rsccwh1q1 Hsl_rsccwh2q0 Hsl_rsccwh2q1]
  · isplitl [How]; · iexact How
    isplitl [Hse_kxcwh0]; · iexact Hse_kxcwh0
    isplitl [Hbarv]; · iexact Hbarv
    isplitl [Hsl_kgcwh0]; · iexact Hsl_kgcwh0
    isplitl [Hsl_kxccwh2]; · iexact Hsl_kxccwh2
    isplitl [Hsl_kgccwh2]; · iexact Hsl_kgccwh2
    isplitl [Hsl_kxcwh1]; · iexact Hsl_kxcwh1
    isplitl [Hsl_kgcwh1]; · iexact Hsl_kgcwh1
    isplitl [Hsl_rscwh0q0]; · iexact Hsl_rscwh0q0
    isplitl [Hsl_rscwh0q1]; · iexact Hsl_rscwh0q1
    isplitl [Hsl_rscwh1q0]; · iexact Hsl_rscwh1q0
    isplitl [Hsl_rscwh1q1]; · iexact Hsl_rscwh1q1
    isplitl [Hsl_rscwh2q0]; · iexact Hsl_rscwh2q0
    isplitl [Hsl_rscwh2q1]; · iexact Hsl_rscwh2q1
    isplitl [Hsl_kxccwh0]; · iexact Hsl_kxccwh0
    isplitl [Hsl_kgccwh0]; · iexact Hsl_kgccwh0
    isplitl [Hsl_kxcwh2]; · iexact Hsl_kxcwh2
    isplitl [Hsl_kgcwh2]; · iexact Hsl_kgcwh2
    isplitl [Hsl_kxccwh1]; · iexact Hsl_kxccwh1
    isplitl [Hsl_kgccwh1]; · iexact Hsl_kgccwh1
    isplitl [Hsl_rsccwh0q0]; · iexact Hsl_rsccwh0q0
    isplitl [Hsl_rsccwh0q1]; · iexact Hsl_rsccwh0q1
    isplitl [Hsl_rsccwh1q0]; · iexact Hsl_rsccwh1q0
    isplitl [Hsl_rsccwh1q1]; · iexact Hsl_rsccwh1q1
    isplitl [Hsl_rsccwh2q0]; · iexact Hsl_rsccwh2q0
    iexact Hsl_rsccwh2q1
  iapply run_pure; iexact Hq

theorem part2_run {Q : _ → sProp (MT nD τ sig Unit (Elt F) ℕ UU ℕ)}  :
    iprop(records I N ∗ ow (rest 1) c ∗ ready (.kx .ccw .h0) c ∗ slot (.kx .ccw .h0) (peer (.kx .ccw .h0) c) ∗ owns (c : Thread nD τ) (xown .ccw) fullShare.left (xh I .ccw c) ∗ owns (c : Thread nD τ) (Memref.whole cc0_stg0_0) fullShare (I.x c) ∗ owns (c : Thread nD τ) (Memref.whole cc0_stg1_0) fullShare (I.rw c) ∗ owns (c : Thread nD τ) (Memref.whole cc0_stg2_0) fullShare (I.ri c))
      ⊢ iprop(((ow (rest 2) c ∗ sent (.kx .ccw .h0) c ∗ owns (c : Thread nD τ) (Memref.whole cc0_stg0_0) fullShare (I.x c) ∗ owns (c : Thread nD τ) (Memref.whole cc0_stg1_0) fullShare (I.rw c) ∗ owns (c : Thread nD τ) (Memref.whole cc0_stg2_0) fullShare (I.ri c)) -∗ Q ⟨k0_pay1 (I.x c), k0_pay3 (col0 I c), k0_pay4 (col1 I c), k0_pay6 (I.x c) (I.rw c) (col1 I c), k0_pay7 (I.x c) (I.rw c) (col0 I c) (col1 I c), k0_pay8 (I.x c) (I.rw c) (col0 I c) (col1 I c), k0_pay9 (F := F)⟩) -∗ Run c (onBufs (k0_part2 (F := F)) c) Q) := by
  rw [k0_part2_eq_skeleton]
  dsimp only [onBufs, k0_part2_skel]
  iintro ⟨#HR, How, Hrd_kxccwh0, Hsl_kxccwh0, HxoLccw, Hb0, Hb1, Hb2⟩ Hk
  iapply (step_send I (N := N) (.kx .ccw .h0) (rest 2) (dev4 c) rfl rfl (xdst_credit .ccw .h0) (q := (shr .h0)) (X := xs I .ccw .h0 c) BIBase.Entails.rfl BIBase.Entails.rfl (arrive_x I .ccw .h0)) $$ [Hrd_kxccwh0 Hsl_kxccwh0 HxoLccw How]
  · isplitr; · iexact HR
    isplitl [Hrd_kxccwh0]; · iexact Hrd_kxccwh0
    isplitl [Hsl_kxccwh0]; · iexact Hsl_kxccwh0
    isplitl [HxoLccw]; · iexact HxoLccw
    iexact How
  iintro ⟨Hse_kxccwh0, How⟩
  iapply (load_all (X := I.x c) (by decide)) $$ [Hb0]
  · iexact Hb0
  iintro Hb0
  iapply (load_all (X := I.rw c) (by decide)) $$ [Hb1]
  · iexact Hb1
  iintro Hb1
  iapply (load_sub (X := I.ri c) (v := col0 I c) rfl) $$ [Hb2]
  · iexact Hb2
  iintro Hb2
  iapply (load_sub (X := I.ri c) (v := col1 I c) rfl) $$ [Hb2]
  · iexact Hb2
  iintro Hb2
  ihave Hq := Hk $$ [How Hse_kxccwh0 Hb0 Hb1 Hb2]
  · isplitl [How]; · iexact How
    isplitl [Hse_kxccwh0]; · iexact Hse_kxccwh0
    isplitl [Hb0]; · iexact Hb0
    isplitl [Hb1]; · iexact Hb1
    iexact Hb2
  iapply run_pure; iexact Hq

theorem part3_run {Q : _ → sProp (MT nD τ sig Unit (Elt F) ℕ UU ℕ)} (u11 : Vec F S512x16 .bf16) (u12 : Vec F S512x16 .bf16) (v5 : BitVec 32) (v7 : BitVec 32) :
    iprop(records I N ∗ owns (c : Thread nD τ) (Memref.whole cc0_scratch4) fullShare (u11) ∗ owns (c : Thread nD τ) (Memref.whole cc0_scratch5) fullShare (u12) ∗ ow (rest 2) c ∗ ready (.kg .cw .h0) c ∗ slot (.kg .cw .h0) (peer (.kg .cw .h0) c) ∗ ready (.kg .ccw .h0) c ∗ slot (.kg .ccw .h0) (peer (.kg .ccw .h0) c))
      ⊢ iprop(((owns (c : Thread nD τ) (gown .cw) fullShare.right (gsrc I .cw c) ∗ owns (c : Thread nD τ) (gown .ccw) fullShare.right (gsrc I .ccw c) ∗ ow (rest 4) c ∗ sent (.kg .cw .h0) c ∗ sent (.kg .ccw .h0) c) -∗ Q (k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))) -∗ Run c (onBufs (k0_part3 (F := F)) c v5 v7 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F))) Q) := by
  rw [k0_part3_eq_skeleton]
  dsimp only [onBufs, k0_part3_skel]
  iintro ⟨#HR, Hb11, Hb12, How, Hrd_kgcwh0, Hsl_kgcwh0, Hrd_kgccwh0, Hsl_kgccwh0⟩ Hk
  iapply (load_all (X := u11) (by decide)) $$ [Hb11]
  · iexact Hb11
  iintro Hb11
  iapply (store_all (by decide)) $$ [Hb11]
  · iexact Hb11
  iintro Hb11
  ihave Hb11 := (BIBase.Entails.trans (Entails.of_eq (show owns (c : Thread nD τ) (Memref.whole cc0_scratch4) fullShare ((k0_pay11 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))) = owns (c : Thread nD τ) (gown .cw) fullShare (gsrc I .cw c) from rfl)) (halves_go I .cw)) $$ Hb11
  icases Hb11 with ⟨HgoLcw, HgoRcw⟩
  iapply (load_all (X := u12) (by decide)) $$ [Hb12]
  · iexact Hb12
  iintro Hb12
  iapply (store_all (by decide)) $$ [Hb12]
  · iexact Hb12
  iintro Hb12
  ihave Hb12 := (BIBase.Entails.trans (Entails.of_eq (show owns (c : Thread nD τ) (Memref.whole cc0_scratch5) fullShare ((k0_pay12 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))) = owns (c : Thread nD τ) (gown .ccw) fullShare (gsrc I .ccw c) from rfl)) (halves_go I .ccw)) $$ Hb12
  icases Hb12 with ⟨HgoLccw, HgoRccw⟩
  iapply (step_send I (N := N) (.kg .cw .h0) (rest 3) (dev5 c) rfl rfl (gdst_credit .cw .h0) (q := (shr .h0)) (X := gs I .cw .h0 c) BIBase.Entails.rfl BIBase.Entails.rfl (arrive_g I .cw .h0)) $$ [Hrd_kgcwh0 Hsl_kgcwh0 HgoLcw How]
  · isplitr; · iexact HR
    isplitl [Hrd_kgcwh0]; · iexact Hrd_kgcwh0
    isplitl [Hsl_kgcwh0]; · iexact Hsl_kgcwh0
    isplitl [HgoLcw]; · iexact HgoLcw
    iexact How
  iintro ⟨Hse_kgcwh0, How⟩
  iapply (step_send I (N := N) (.kg .ccw .h0) (rest 4) (dev6 c) rfl rfl (gdst_credit .ccw .h0) (q := (shr .h0)) (X := gs I .ccw .h0 c) BIBase.Entails.rfl BIBase.Entails.rfl (arrive_g I .ccw .h0)) $$ [Hrd_kgccwh0 Hsl_kgccwh0 HgoLccw How]
  · isplitr; · iexact HR
    isplitl [Hrd_kgccwh0]; · iexact Hrd_kgccwh0
    isplitl [Hsl_kgccwh0]; · iexact Hsl_kgccwh0
    isplitl [HgoLccw]; · iexact HgoLccw
    iexact How
  iintro ⟨Hse_kgccwh0, How⟩
  ihave Hq := Hk $$ [HgoRcw HgoRccw How Hse_kgcwh0 Hse_kgccwh0]
  · isplitl [HgoRcw]; · iexact HgoRcw
    isplitl [HgoRccw]; · iexact HgoRccw
    isplitl [How]; · iexact How
    isplitl [Hse_kgcwh0]; · iexact Hse_kgcwh0
    iexact Hse_kgccwh0
  iapply run_pure; iexact Hq

theorem part4_run {Q : _ → sProp (MT nD τ sig Unit (Elt F) ℕ UU ℕ)} (u29 : Vec F S1024x2048 .bf16) :
    iprop(records I N ∗ owns (c : Thread nD τ) (Memref.whole cc0_scratch22) fullShare (u29))
      ⊢ iprop(((owns (c : Thread nD τ) (Memref.whole cc0_scratch22) fullShare (xgl I c)) -∗ Q (xgl I c)) -∗ Run c (onBufs (k0_part4 (F := F)) (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F))))) Q) := by
  rw [k0_part4_eq_skeleton]
  dsimp only [onBufs, k0_part4_skel]
  iintro ⟨#HR, Hb29⟩ Hk
  iapply (load_sub (X := u29) (v := sub ra0 (u29)) rfl) $$ [Hb29]
  · iexact Hb29
  iintro Hb29
  iapply store_sub $$ [Hb29]
  · iexact Hb29
  iintro Hb29
  iapply (load_sub (X := put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (v := sub ra1 (put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F))))))) rfl) $$ [Hb29]
  · iexact Hb29
  iintro Hb29
  iapply store_sub $$ [Hb29]
  · iexact Hb29
  iintro Hb29
  iapply (load_sub (X := put ra1 (put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay15 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (v := sub ra2 (put ra1 (put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay15 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F))))))) rfl) $$ [Hb29]
  · iexact Hb29
  iintro Hb29
  iapply store_sub $$ [Hb29]
  · iexact Hb29
  iintro Hb29
  iapply (load_sub (X := put ra2 (put ra1 (put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay15 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay16 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (v := sub ra3 (put ra2 (put ra1 (put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay15 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay16 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F))))))) rfl) $$ [Hb29]
  · iexact Hb29
  iintro Hb29
  iapply store_sub $$ [Hb29]
  · iexact Hb29
  iintro Hb29
  ihave Hb29 := (Entails.of_eq (show owns (c : Thread nD τ) (Memref.whole cc0_scratch22) fullShare (put ra3 (put ra2 (put ra1 (put ra0 (u29) (k0_pay14 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay15 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay16 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) (k0_pay17 (wd c) (k0_pay1 (I.x c)) ((k0_pay10 (k0_pay3 (col0 I c)) (k0_pay4 (col1 I c)) (k0_pay6 (I.x c) (I.rw c) (col1 I c)) (k0_pay7 (I.x c) (I.rw c) (col0 I c) (col1 I c)) (k0_pay8 (I.x c) (I.rw c) (col0 I c) (col1 I c)) (k0_pay9 (F := F)))))) = owns (c : Thread nD τ) (Memref.whole cc0_scratch22) fullShare (xgl I c) from congrArg _ (four_puts _ _ _ _ _))) $$ Hb29
  iapply (load_all (X := xgl I c) (by decide)) $$ [Hb29]
  · iexact Hb29
  iintro Hb29
  ihave Hq := Hk $$ [Hb29]
  · iexact Hb29
  iapply run_pure; iexact Hq

theorem part5_run {Q : _ → sProp (MT nD τ sig Unit (Elt F) ℕ UU ℕ)} (u6 : Vec F S1024x1024 .f32) (v5 : BitVec 32) (v7 : BitVec 32) :
    iprop(records I N ∗ owns (c : Thread nD τ) (Memref.whole cc0_stg3_0) fullShare (I.ew c) ∗ owns (c : Thread nD τ) (Memref.whole cc0_stg6_0) fullShare (u6) ∗ ow (rest 4) c ∗ ready (.kx .cw .h2) c ∗ slot (.kx .cw .h2) (peer (.kx .cw .h2) c) ∗ owns (c : Thread nD τ) (xown .cw) fullShare.right (xh I .cw c) ∗ ready (.kx .ccw .h2) c ∗ slot (.kx .ccw .h2) (peer (.kx .ccw .h2) c) ∗ owns (c : Thread nD τ) (xown .ccw) fullShare.right (xh I .ccw c))
      ⊢ iprop(((owns (c : Thread nD τ) (Memref.whole cc0_stg3_0) fullShare (I.ew c) ∗ owns (c : Thread nD τ) (Memref.whole cc0_stg6_0) fullShare (loc I c) ∗ ow (rest 6) c ∗ sent (.kx .cw .h2) c ∗ sent (.kx .ccw .h2) c) -∗ Q ⟨⟩) -∗ Run c (onBufs (k0_part5 (F := F)) c v5 v7 ((xgl I c))) Q) := by
  rw [k0_part5_eq_skeleton]
  dsimp only [onBufs, k0_part5_skel]
  iintro ⟨#HR, Hb3, Hb6, How, Hrd_kxcwh2, Hsl_kxcwh2, HxoRcw, Hrd_kxccwh2, Hsl_kxccwh2, HxoRccw⟩ Hk
  iapply (load_all (X := I.ew c) (by decide)) $$ [Hb3]
  · iexact Hb3
  iintro Hb3
  iapply (load_all (X := u6) (by decide)) $$ [Hb6]
  · iexact Hb6
  iintro Hb6
  iapply (store_all (by decide)) $$ [Hb6]
  · iexact Hb6
  iintro Hb6
  iapply (step_send I (N := N) (.kx .cw .h2) (rest 5) (dev7 c) rfl rfl (xdst_credit .cw .h2) (q := (shr .h2)) (X := xs I .cw .h2 c) BIBase.Entails.rfl BIBase.Entails.rfl (arrive_x I .cw .h2)) $$ [Hrd_kxcwh2 Hsl_kxcwh2 HxoRcw How]
  · isplitr; · iexact HR
    isplitl [Hrd_kxcwh2]; · iexact Hrd_kxcwh2
    isplitl [Hsl_kxcwh2]; · iexact Hsl_kxcwh2
    isplitl [HxoRcw]; · iexact HxoRcw
    iexact How
  iintro ⟨Hse_kxcwh2, How⟩
  iapply (step_send I (N := N) (.kx .ccw .h2) (rest 6) (dev8 c) rfl rfl (xdst_credit .ccw .h2) (q := (shr .h2)) (X := xs I .ccw .h2 c) BIBase.Entails.rfl BIBase.Entails.rfl (arrive_x I .ccw .h2)) $$ [Hrd_kxccwh2 Hsl_kxccwh2 HxoRccw How]
  · isplitr; · iexact HR
    isplitl [Hrd_kxccwh2]; · iexact Hrd_kxccwh2
    isplitl [Hsl_kxccwh2]; · iexact Hsl_kxccwh2
    isplitl [HxoRccw]; · iexact HxoRccw
    iexact How
  iintro ⟨Hse_kxccwh2, How⟩
  ihave Hq := Hk $$ [Hb3 Hb6 How Hse_kxcwh2 Hse_kxccwh2]
  · isplitl [Hb3]; · iexact Hb3
    isplitl [Hb6]; · iexact Hb6
    isplitl [How]; · iexact How
    isplitl [Hse_kxcwh2]; · iexact Hse_kxcwh2
    iexact Hse_kxccwh2
  iapply run_pure; iexact Hq

theorem part6_run {Q : _ → sProp (MT nD τ sig Unit (Elt F) ℕ UU ℕ)} (v7 : BitVec 32) :
    iprop(records I N ∗ ow (rest 6) c ∗ ready (.kg .cw .h2) c ∗ slot (.kg .cw .h2) (peer (.kg .cw .h2) c) ∗ owns (c : Thread nD τ) (gown .cw) fullShare.right (gsrc I .cw c) ∗ ready (.kg .ccw .h2) c ∗ slot (.kg .ccw .h2) (peer (.kg .ccw .h2) c) ∗ owns (c : Thread nD τ) (gown .ccw) fullShare.right (gsrc I .ccw c) ∗ await (.kx .cw .h0) c ∗ await (.kg .cw .h0) c)
      ⊢ iprop(((ow (rest 8) c ∗ sent (.kg .cw .h2) c ∗ sent (.kg .ccw .h2) c ∗ semVal (recvCell (.kx .cw .h0) c) 0 ∗ owns (c : Thread nD τ) (xdst .cw .h0) fullShare.left (xv I .cw .h0 c) ∗ owns (c : Thread nD τ) (xdst .cw .h0) fullShare.right (xv I .cw .h0 c) ∗ semVal (recvCell (.kg .cw .h0) c) 0 ∗ owns (c : Thread nD τ) (gdst .cw .h0) fullShare.left (gv I .cw .h0 c) ∗ owns (c : Thread nD τ) (gdst .cw .h0) fullShare.right (gv I .cw .h0 c)) -∗ Q (Scalar.muli v7 1#32)) -∗ Run c (onBufs (k0_part6 (F := F)) c v7) Q) := by
  rw [k0_part6_eq_skeleton]
  dsimp only [onBufs, k0_part6_skel]
  iintro ⟨#HR, How, Hrd_kgcwh2, Hsl_kgcwh2, HgoRcw, Hrd_kgccwh2, Hsl_kgccwh2, HgoRccw, Haw_kxcwh0, Haw_kgcwh0⟩ Hk
  iapply (step_send I (N := N) (.kg .cw .h2) (rest 7) (dev9 c) rfl rfl (gdst_credit .cw .h2) (q := (shr .h2)) (X := gs I .cw .h2 c) BIBase.Entails.rfl BIBase.Entails.rfl (arrive_g I .cw .h2)) $$ [Hrd_kgcwh2 Hsl_kgcwh2 HgoRcw How]
  · isplitr; · iexact HR
    isplitl [Hrd_kgcwh2]; · iexact Hrd_kgcwh2
    isplitl [Hsl_kgcwh2]; · iexact Hsl_kgcwh2
    isplitl [HgoRcw]; · iexact HgoRcw
    iexact How
  iintro ⟨Hse_kgcwh2, How⟩
  iapply (step_send I (N := N) (.kg .ccw .h2) (rest 8) (dev10 c) rfl rfl (gdst_credit .ccw .h2) (q := (shr .h2)) (X := gs I .ccw .h2 c) BIBase.Entails.rfl BIBase.Entails.rfl (arrive_g I .ccw .h2)) $$ [Hrd_kgccwh2 Hsl_kgccwh2 HgoRccw How]
  · isplitr; · iexact HR
    isplitl [Hrd_kgccwh2]; · iexact Hrd_kgccwh2
    isplitl [Hsl_kgccwh2]; · iexact Hsl_kgccwh2
    isplitl [HgoRccw]; · iexact HgoRccw
    iexact How
  iintro ⟨Hse_kgccwh2, How⟩
  iapply (step_recv I (N := N) (.kx .cw .h0) (rest 8) (by decide) rfl (xdst_credit .cw .h0)) $$ [Haw_kxcwh0 How]
  · isplitr; · iexact HR
    isplitl [Haw_kxcwh0]; · iexact Haw_kxcwh0
    iexact How
  iintro ⟨Hvr_kxcwh0, Hsr_kxcwh0, How⟩
  ihave Hsr_kxcwh0 := (halves_kx I .cw) $$ Hsr_kxcwh0
  icases Hsr_kxcwh0 with ⟨Hsr_kxcwh0L, Hsr_kxcwh0R⟩
  iapply (step_recv I (N := N) (.kg .cw .h0) (rest 8) (by decide) rfl (gdst_credit .cw .h0)) $$ [Haw_kgcwh0 How]
  · isplitr; · iexact HR
    isplitl [Haw_kgcwh0]; · iexact Haw_kgcwh0
    iexact How
  iintro ⟨Hvr_kgcwh0, Hsr_kgcwh0, How⟩
  ihave Hsr_kgcwh0 := (halves_kg I .cw) $$ Hsr_kgcwh0
  icases Hsr_kgcwh0 with ⟨Hsr_kgcwh0L, Hsr_kgcwh0R⟩
  ihave Hq := Hk $$ [How Hse_kgcwh2 Hse_kgccwh2 Hvr_kxcwh0 Hsr_kxcwh0L Hsr_kxcwh0R Hvr_kgcwh0 Hsr_kgcwh0L Hsr_kgcwh0R]
  · isplitl [How]; · iexact How
    isplitl [Hse_kgcwh2]; · iexact Hse_kgcwh2
    isplitl [Hse_kgccwh2]; · iexact Hse_kgccwh2
    isplitl [Hvr_kxcwh0]; · iexact Hvr_kxcwh0
    isplitl [Hsr_kxcwh0L]; · iexact Hsr_kxcwh0L
    isplitl [Hsr_kxcwh0R]; · iexact Hsr_kxcwh0R
    isplitl [Hvr_kgcwh0]; · iexact Hvr_kgcwh0
    isplitl [Hsr_kgcwh0L]; · iexact Hsr_kgcwh0L
    iexact Hsr_kgcwh0R
  iapply run_pure; iexact Hq

theorem part7_run {Q : _ → sProp (MT nD τ sig Unit (Elt F) ℕ UU ℕ)} (v5 : BitVec 32) (v7 : BitVec 32) (v188 : BitVec 32) :
    iprop(records I N ∗ ow (rest 8) c ∗ ready (.kx .cw .h1) c ∗ slot (.kx .cw .h1) (peer (.kx .cw .h1) c) ∗ owns (c : Thread nD τ) (xdst .cw .h0) fullShare.right (xv I .cw .h0 c) ∗ ready (.kg .cw .h1) c ∗ slot (.kg .cw .h1) (peer (.kg .cw .h1) c) ∗ owns (c : Thread nD τ) (gdst .cw .h0) fullShare.right (gv I .cw .h0 c) ∗ await (.kx .ccw .h0) c)
      ⊢ iprop(((ow (rest 10) c ∗ sent (.kx .cw .h1) c ∗ sent (.kg .cw .h1) c ∗ semVal (recvCell (.kx .ccw .h0) c) 0 ∗ owns (c : Thread nD τ) (xdst .ccw .h0) fullShare.left (xv I .ccw .h0 c) ∗ owns (c : Thread nD τ) (xdst .ccw .h0) fullShare.right (xv I .ccw .h0 c)) -∗ Q 1#32) -∗ Run c (onBufs (k0_part7 (F := F)) c v5 v7 v188) Q) := by
  rw [k0_part7_eq_skeleton]
  dsimp only [onBufs, k0_part7_skel]
  iintro ⟨#HR, How, Hrd_kxcwh1, Hsl_kxcwh1, Hsr_kxcwh0R, Hrd_kgcwh1, Hsl_kgcwh1, Hsr_kgcwh0R, Haw_kxccwh0⟩ Hk
  iapply (step_send I (N := N) (.kx .cw .h1) (rest 9) (dev11 c) rfl rfl (xdst_credit .cw .h1) (q := (shr .h1)) (X := xs I .cw .h1 c) BIBase.Entails.rfl BIBase.Entails.rfl (arrive_x I .cw .h1)) $$ [Hrd_kxcwh1 Hsl_kxcwh1 Hsr_kxcwh0R How]
  · isplitr; · iexact HR
    isplitl [Hrd_kxcwh1]; · iexact Hrd_kxcwh1
    isplitl [Hsl_kxcwh1]; · iexact Hsl_kxcwh1
    isplitl [Hsr_kxcwh0R]; · iexact Hsr_kxcwh0R
    iexact How
  iintro ⟨Hse_kxcwh1, How⟩
  iapply (step_send I (N := N) (.kg .cw .h1) (rest 10) (dev12 c) rfl rfl (gdst_credit .cw .h1) (q := (shr .h1)) (X := gs I .cw .h1 c) BIBase.Entails.rfl BIBase.Entails.rfl (arrive_g I .cw .h1)) $$ [Hrd_kgcwh1 Hsl_kgcwh1 Hsr_kgcwh0R How]
  · isplitr; · iexact HR
    isplitl [Hrd_kgcwh1]; · iexact Hrd_kgcwh1
    isplitl [Hsl_kgcwh1]; · iexact Hsl_kgcwh1
    isplitl [Hsr_kgcwh0R]; · iexact Hsr_kgcwh0R
    iexact How
  iintro ⟨Hse_kgcwh1, How⟩
  iapply (step_recv I (N := N) (.kx .ccw .h0) (rest 10) (by decide) rfl (xdst_credit .ccw .h0)) $$ [Haw_kxccwh0 How]
  · isplitr; · iexact HR
    isplitl [Haw_kxccwh0]; · iexact Haw_kxccwh0
    iexact How
  iintro ⟨Hvr_kxccwh0, Hsr_kxccwh0, How⟩
  ihave Hsr_kxccwh0 := (halves_kx I .ccw) $$ Hsr_kxccwh0
  icases Hsr_kxccwh0 with ⟨Hsr_kxccwh0L, Hsr_kxccwh0R⟩
  ihave Hq := Hk $$ [How Hse_kxcwh1 Hse_kgcwh1 Hvr_kxccwh0 Hsr_kxccwh0L Hsr_kxccwh0R]
  · isplitl [How]; · iexact How
    isplitl [Hse_kxcwh1]; · iexact Hse_kxcwh1
    isplitl [Hse_kgcwh1]; · iexact Hse_kgcwh1
    isplitl [Hvr_kxccwh0]; · iexact Hvr_kxccwh0
    isplitl [Hsr_kxccwh0L]; · iexact Hsr_kxccwh0L
    iexact Hsr_kxccwh0R
  iapply run_pure; iexact Hq

end Cert.KernelIdeal.Moe
-- ==== Proof.PartsB.lean ====
/-
  The first received blocks and the first partial sums sent home.
-/
module

public import proofs.«01_k».proof.Proof.Buffers

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

theorem part8_run {Q : _ → sProp (MT nD τ sig Unit (Elt F) ℕ UU ℕ)} (v5 : BitVec 32) (c1_i32_170 : BitVec 32) :
    iprop(records I N ∗ ow (rest 10) c ∗ await (.kg .ccw .h0) c ∗ ready (.kx .ccw .h1) c ∗ slot (.kx .ccw .h1) (peer (.kx .ccw .h1) c) ∗ owns (c : Thread nD τ) (xdst .ccw .h0) fullShare.right (xv I .ccw .h0 c) ∗ ready (.kg .ccw .h1) c ∗ slot (.kg .ccw .h1) (peer (.kg .ccw .h1) c) ∗ owns (c : Thread nD τ) (xdst .cw .h0) fullShare.left (xv I .cw .h0 c))
      ⊢ iprop(((ow (rest 12) c ∗ semVal (recvCell (.kg .ccw .h0) c) 0 ∗ owns (c : Thread nD τ) (gdst .ccw .h0) fullShare.left (gv I .ccw .h0 c) ∗ sent (.kx .ccw .h1) c ∗ sent (.kg .ccw .h1) c ∗ owns (c : Thread nD τ) (xdst .cw .h0) fullShare.left (xv I .cw .h0 c)) -∗ Q (unsq (xv I .cw .h0 c))) -∗ Run c (onBufs (k0_part8 (F := F)) c v5 c1_i32_170) Q) := by
  rw [k0_part8_eq_skeleton]
  dsimp only [onBufs, k0_part8_skel]
  iintro ⟨#HR, How, Haw_kgccwh0, Hrd_kxccwh1, Hsl_kxccwh1, Hsr_kxccwh0R, Hrd_kgccwh1, Hsl_kgccwh1, Hsr_kxcwh0L⟩ Hk
  iapply (step_recv I (N := N) (.kg .ccw .h0) (rest 10) (by decide) rfl (gdst_credit .ccw .h0)) $$ [Haw_kgccwh0 How]
  · isplitr; · iexact HR
    isplitl [Haw_kgccwh0]; · iexact Haw_kgccwh0
    iexact How
  iintro ⟨Hvr_kgccwh0, Hsr_kgccwh0, How⟩
  ihave Hsr_kgccwh0 := (halves_kg I .ccw) $$ Hsr_kgccwh0
  icases Hsr_kgccwh0 with ⟨Hsr_kgccwh0L, Hsr_kgccwh0R⟩
  iapply (step_send I (N := N) (.kx .ccw .h1) (rest 11) (dev13 c) rfl rfl (xdst_credit .ccw .h1) (q := (shr .h1)) (X := xs I .ccw .h1 c) BIBase.Entails.rfl BIBase.Entails.rfl (arrive_x I .ccw .h1)) $$ [Hrd_kxccwh1 Hsl_kxccwh1 Hsr_kxccwh0R How]
  · isplitr; · iexact HR
    isplitl [Hrd_kxccwh1]; · iexact Hrd_kxccwh1
    isplitl [Hsl_kxccwh1]; · iexact Hsl_kxccwh1
    isplitl [Hsr_kxccwh0R]; · iexact Hsr_kxccwh0R
    iexact How
  iintro ⟨Hse_kxccwh1, How⟩
  iapply (step_send I (N := N) (.kg .ccw .h1) (rest 12) (dev14 c) rfl rfl (gdst_credit .ccw .h1) (q := (shr .h1)) (X := gs I .ccw .h1 c) BIBase.Entails.rfl BIBase.Entails.rfl (arrive_g I .ccw .h1)) $$ [Hrd_kgccwh1 Hsl_kgccwh1 Hsr_kgccwh0R How]
  · isplitr; · iexact HR
    isplitl [Hrd_kgccwh1]; · iexact Hrd_kgccwh1
    isplitl [Hsl_kgccwh1]; · iexact Hsl_kgccwh1
    isplitl [Hsr_kgccwh0R]; · iexact Hsr_kgccwh0R
    iexact How
  iintro ⟨Hse_kgccwh1, How⟩
  iapply (load_slot (r := (Rect.unit (s := S3x512x512) ![0, 0, 0] S1x512x512.size inb_S3x512x512_S1x512x512_0_0_0)) (q := fullShare.left) (X := xv I .cw .h0 c) (hst := fun _ => rfl) (hsq := squeezes_S1x512x512_S512x512) (v := unsq (xv I .cw .h0 c)) rfl rfl) $$ [Hsr_kxcwh0L]
  · iexact Hsr_kxcwh0L
  iintro Hsr_kxcwh0L
  ihave Hq := Hk $$ [How Hvr_kgccwh0 Hsr_kgccwh0L Hse_kxccwh1 Hse_kgccwh1 Hsr_kxcwh0L]
  · isplitl [How]; · iexact How
    isplitl [Hvr_kgccwh0]; · iexact Hvr_kgccwh0
    isplitl [Hsr_kgccwh0L]; · iexact Hsr_kgccwh0L
    isplitl [Hse_kxccwh1]; · iexact Hse_kxccwh1
    isplitl [Hse_kgccwh1]; · iexact Hse_kgccwh1
    iexact Hsr_kxcwh0L
  iapply run_pure; iexact Hq

theorem part9_run {Q : _ → sProp (MT nD τ sig Unit (Elt F) ℕ UU ℕ)} (u27 : Vec F S512x2048 .bf16) :
    iprop(records I N ∗ owns (c : Thread nD τ) (gdst .cw .h0) fullShare.left (gv I .cw .h0 c) ∗ owns (c : Thread nD τ) (Memref.whole cc0_scratch20) fullShare (u27))
      ⊢ iprop(((owns (c : Thread nD τ) (gdst .cw .h0) fullShare.left (gv I .cw .h0 c) ∗ owns (c : Thread nD τ) (Memref.whole cc0_scratch20) fullShare (put rb2 (put rb1 (put rb0 (u27) (k0_pay21 (wd c) ((unsq (xv I .cw .h0 c))) (unsq (gv I .cw .h0 c)))) (k0_pay22 (wd c) ((unsq (xv I .cw .h0 c))) (unsq (gv I .cw .h0 c)))) (k0_pay23 (wd c) ((unsq (xv I .cw .h0 c))) (unsq (gv I .cw .h0 c))))) -∗ Q (k0_pay24 (wd c) ((unsq (xv I .cw .h0 c))) (unsq (gv I .cw .h0 c)))) -∗ Run c (onBufs (k0_part9 (F := F)) (wd c) ((unsq (xv I .cw .h0 c)))) Q) := by
  rw [k0_part9_eq_skeleton]
  dsimp only [onBufs, k0_part9_skel]
  iintro ⟨#HR, Hsr_kgcwh0L, Hb27⟩ Hk
  iapply (load_slot (r := (Rect.unit (s := S3x512x16) ![0, 0, 0] S1x512x16.size inb_S3x512x16_S1x512x16_0_0_0)) (q := fullShare.left) (X := gv I .cw .h0 c) (hst := fun _ => rfl) (hsq := squeezes_S1x512x16_S512x16) (v := unsq (gv I .cw .h0 c)) rfl rfl) $$ [Hsr_kgcwh0L]
  · iexact Hsr_kgcwh0L
  iintro Hsr_kgcwh0L
  iapply (load_sub (X := u27) (v := sub rb0 (u27)) rfl) $$ [Hb27]
  · iexact Hb27
  iintro Hb27
  iapply store_sub $$ [Hb27]
  · iexact Hb27
  iintro Hb27
  iapply (load_sub (X := put rb0 (u27) (k0_pay21 (wd c) ((unsq (xv I .cw .h0 c))) (unsq (gv I .cw .h0 c)))) (v := sub rb1 (put rb0 (u27) (k0_pay21 (wd c) ((unsq (xv I .cw .h0 c))) (unsq (gv I .cw .h0 c))))) rfl) $$ [Hb27]
  · iexact Hb27
  iintro Hb27
  iapply store_sub $$ [Hb27]
  · iexact Hb27
  iintro Hb27
  iapply (load_sub (X := put rb1 (put rb0 (u27) (k0_pay21 (wd c) ((unsq (xv I .cw .h0 c))) (unsq (gv I .cw .h0 c)))) (k0_pay22 (wd c) ((unsq (xv I .cw .h0 c))) (unsq (gv I .cw .h0 c)))) (v := sub rb2 (put rb1 (put rb0 (u27) (k0_pay21 (wd c) ((unsq (xv I .cw .h0 c))) (unsq (gv I .cw .h0 c)))) (k0_pay22 (wd c) ((unsq (xv I .cw .h0 c))) (unsq (gv I .cw .h0 c))))) rfl) $$ [Hb27]
  · iexact Hb27
  iintro Hb27
  iapply store_sub $$ [Hb27]
  · iexact Hb27
  iintro Hb27
  iapply (load_sub (X := put rb2 (put rb1 (put rb0 (u27) (k0_pay21 (wd c) ((unsq (xv I .cw .h0 c))) (unsq (gv I .cw .h0 c)))) (k0_pay22 (wd c) ((unsq (xv I .cw .h0 c))) (unsq (gv I .cw .h0 c)))) (k0_pay23 (wd c) ((unsq (xv I .cw .h0 c))) (unsq (gv I .cw .h0 c)))) (v := sub rb3 (put rb2 (put rb1 (put rb0 (u27) (k0_pay21 (wd c) ((unsq (xv I .cw .h0 c))) (unsq (gv I .cw .h0 c)))) (k0_pay22 (wd c) ((unsq (xv I .cw .h0 c))) (unsq (gv I .cw .h0 c)))) (k0_pay23 (wd c) ((unsq (xv I .cw .h0 c))) (unsq (gv I .cw .h0 c))))) rfl) $$ [Hb27]
  · iexact Hb27
  iintro Hb27
  ihave Hq := Hk $$ [Hsr_kgcwh0L Hb27]
  · isplitl [Hsr_kgcwh0L]; · iexact Hsr_kgcwh0L
    iexact Hb27
  iapply run_pure; iexact Hq

theorem part10_run {Q : _ → sProp (MT nD τ sig Unit (Elt F) ℕ UU ℕ)} (u17 : Vec F S512x1024 .f32) (u27 : Vec F S512x2048 .bf16) (u13q0 : Vec F S512x512 .bf16) (u13q1 : Vec F S512x512 .bf16) (v7 : BitVec 32) :
    iprop(records I N ∗ owns (c : Thread nD τ) (Memref.whole cc0_scratch20) fullShare (put rb2 (put rb1 (put rb0 (u27) (k0_pay21 (wd c) ((unsq (xv I .cw .h0 c))) (unsq (gv I .cw .h0 c)))) (k0_pay22 (wd c) ((unsq (xv I .cw .h0 c))) (unsq (gv I .cw .h0 c)))) (k0_pay23 (wd c) ((unsq (xv I .cw .h0 c))) (unsq (gv I .cw .h0 c)))) ∗ owns (c : Thread nD τ) (Memref.whole cc0_stg3_0) fullShare (I.ew c) ∗ owns (c : Thread nD τ) (Memref.whole cc0_scratch10) fullShare (u17) ∗ owns (c : Thread nD τ) (rstart .cw .q0) fullShare (u13q0) ∗ ow (rest 12) c ∗ ready (.rs .cw .h0 .q0) c ∗ slot (.rs .cw .h0 .q0) (peer (.rs .cw .h0 .q0) c) ∗ owns (c : Thread nD τ) (rstart .cw .q1) fullShare (u13q1))
      ⊢ iprop(((owns (c : Thread nD τ) (Memref.whole cc0_scratch20) fullShare (xgc I .cw .h0 c) ∗ owns (c : Thread nD τ) (Memref.whole cc0_stg3_0) fullShare (I.ew c) ∗ owns (c : Thread nD τ) (Memref.whole cc0_scratch10) fullShare (pc I .cw .h0 c) ∗ ow (rest 13) c ∗ sent (.rs .cw .h0 .q0) c ∗ owns (c : Thread nD τ) (rstart .cw .q1) fullShare (rs I .cw .h0 .q1 c)) -∗ Q ⟨⟩) -∗ Run c (onBufs (k0_part10 (F := F)) c v7 ((k0_pay24 (wd c) ((unsq (xv I .cw .h0 c))) (unsq (gv I .cw .h0 c))))) Q) := by
  rw [k0_part10_eq_skeleton]
  dsimp only [onBufs, k0_part10_skel]
  iintro ⟨#HR, Hb27, Hb3, Hb17, Hst13q0, How, Hrd_rscwh0q0, Hsl_rscwh0q0, Hst13q1⟩ Hk
  iapply store_sub $$ [Hb27]
  · iexact Hb27
  iintro Hb27
  ihave Hb27 := (Entails.of_eq (show owns (c : Thread nD τ) (Memref.whole cc0_scratch20) fullShare (put rb3 (put rb2 (put rb1 (put rb0 (u27) (k0_pay21 (wd c) ((unsq (xv I .cw .h0 c))) (unsq (gv I .cw .h0 c)))) (k0_pay22 (wd c) ((unsq (xv I .cw .h0 c))) (unsq (gv I .cw .h0 c)))) (k0_pay23 (wd c) ((unsq (xv I .cw .h0 c))) (unsq (gv I .cw .h0 c)))) (k0_pay25 ((k0_pay24 (wd c) ((unsq (xv I .cw .h0 c))) (unsq (gv I .cw .h0 c)))))) = owns (c : Thread nD τ) (Memref.whole cc0_scratch20) fullShare (xgc I .cw .h0 c) from congrArg _ (four_puts _ _ _ _ _))) $$ Hb27
  iapply (load_all (X := xgc I .cw .h0 c) (by decide)) $$ [Hb27]
  · iexact Hb27
  iintro Hb27
  iapply (load_all (X := I.ew c) (by decide)) $$ [Hb3]
  · iexact Hb3
  iintro Hb3
  iapply (load_all (X := u17) (by decide)) $$ [Hb17]
  · iexact Hb17
  iintro Hb17
  iapply (store_all (by decide)) $$ [Hb17]
  · iexact Hb17
  iintro Hb17
  iapply (load_sub (X := pc I .cw .h0 c) (v := pch I .cw .h0 .q0 c) rfl) $$ [Hb17]
  · iexact Hb17
  iintro Hb17
  iapply (load_tile (r := (Rect.unit (s := S512x1024) ![0, 0] S512x512.size inb_S512x1024_S512x512_0_0)) (q := fullShare) (X := u13q0) (hst := fun _ => rfl)) $$ [Hst13q0]
  · iexact Hst13q0
  iintro Hst13q0
  iapply (store_tile (r := (Rect.unit (s := S512x1024) ![0, 0] S512x512.size inb_S512x1024_S512x512_0_0)) (hst := fun _ => rfl)) $$ [Hst13q0]
  · iexact Hst13q0
  iintro Hst13q0
  iapply (step_send I (N := N) (.rs .cw .h0 .q0) (rest 13) (dev15 c) rfl rfl (rdst_credit .cw .h0 .q0) (q := fullShare) (X := rs I .cw .h0 .q0 c) BIBase.Entails.rfl BIBase.Entails.rfl (arrive_r I .cw .h0 .q0)) $$ [Hrd_rscwh0q0 Hsl_rscwh0q0 Hst13q0 How]
  · isplitr; · iexact HR
    isplitl [Hrd_rscwh0q0]; · iexact Hrd_rscwh0q0
    isplitl [Hsl_rscwh0q0]; · iexact Hsl_rscwh0q0
    isplitl [Hst13q0]; · iexact Hst13q0
    iexact How
  iintro ⟨Hse_rscwh0q0, How⟩
  iapply (load_sub (X := pc I .cw .h0 c) (v := pch I .cw .h0 .q1 c) rfl) $$ [Hb17]
  · iexact Hb17
  iintro Hb17
  iapply (load_tile (r := (Rect.unit (s := S512x1024) ![0, 512] S512x512.size inb_S512x1024_S512x512_0_512)) (q := fullShare) (X := u13q1) (hst := fun _ => rfl)) $$ [Hst13q1]
  · iexact Hst13q1
  iintro Hst13q1
  iapply (store_tile (r := (Rect.unit (s := S512x1024) ![0, 512] S512x512.size inb_S512x1024_S512x512_0_512)) (hst := fun _ => rfl)) $$ [Hst13q1]
  · iexact Hst13q1
  iintro Hst13q1
  ihave Hq := Hk $$ [Hb27 Hb3 Hb17 How Hse_rscwh0q0 Hst13q1]
  · isplitl [Hb27]; · iexact Hb27
    isplitl [Hb3]; · iexact Hb3
    isplitl [Hb17]; · iexact Hb17
    isplitl [How]; · iexact How
    isplitl [Hse_rscwh0q0]; · iexact Hse_rscwh0q0
    iexact Hst13q1
  iapply run_pure; iexact Hq

theorem part11_run {Q : _ → sProp (MT nD τ sig Unit (Elt F) ℕ UU ℕ)} (u28 : Vec F S512x2048 .bf16) (v7 : BitVec 32) :
    iprop(records I N ∗ ow (rest 13) c ∗ ready (.rs .cw .h0 .q1) c ∗ slot (.rs .cw .h0 .q1) (peer (.rs .cw .h0 .q1) c) ∗ owns (c : Thread nD τ) (rstart .cw .q1) fullShare (rs I .cw .h0 .q1 c) ∗ owns (c : Thread nD τ) (xdst .ccw .h0) fullShare.left (xv I .ccw .h0 c) ∗ owns (c : Thread nD τ) (gdst .ccw .h0) fullShare.left (gv I .ccw .h0 c) ∗ owns (c : Thread nD τ) (Memref.whole cc0_scratch21) fullShare (u28))
      ⊢ iprop(((ow (rest 14) c ∗ sent (.rs .cw .h0 .q1) c ∗ owns (c : Thread nD τ) (xdst .ccw .h0) fullShare.left (xv I .ccw .h0 c) ∗ owns (c : Thread nD τ) (gdst .ccw .h0) fullShare.left (gv I .ccw .h0 c) ∗ owns (c : Thread nD τ) (Memref.whole cc0_scratch21) fullShare (put rb0 (u28) (k0_pay31 (wd c) (unsq (xv I .ccw .h0 c)) (unsq (gv I .ccw .h0 c))))) -∗ Q ⟨k0_pay29 (unsq (xv I .ccw .h0 c)), k0_pay30 (wd c) (unsq (gv I .ccw .h0 c)), k0_pay32 (wd c) (unsq (xv I .ccw .h0 c)) (unsq (gv I .ccw .h0 c)), (sub rb1 (put rb0 (u28) (k0_pay31 (wd c) (unsq (xv I .ccw .h0 c)) (unsq (gv I .ccw .h0 c)))))⟩) -∗ Run c (onBufs (k0_part11 (F := F)) c (wd c) v7) Q) := by
  rw [k0_part11_eq_skeleton]
  dsimp only [onBufs, k0_part11_skel]
  iintro ⟨#HR, How, Hrd_rscwh0q1, Hsl_rscwh0q1, Hst13q1, Hsr_kxccwh0L, Hsr_kgccwh0L, Hb28⟩ Hk
  iapply (step_send I (N := N) (.rs .cw .h0 .q1) (rest 14) (dev16 c) rfl rfl (rdst_credit .cw .h0 .q1) (q := fullShare) (X := rs I .cw .h0 .q1 c) BIBase.Entails.rfl BIBase.Entails.rfl (arrive_r I .cw .h0 .q1)) $$ [Hrd_rscwh0q1 Hsl_rscwh0q1 Hst13q1 How]
  · isplitr; · iexact HR
    isplitl [Hrd_rscwh0q1]; · iexact Hrd_rscwh0q1
    isplitl [Hsl_rscwh0q1]; · iexact Hsl_rscwh0q1
    isplitl [Hst13q1]; · iexact Hst13q1
    iexact How
  iintro ⟨Hse_rscwh0q1, How⟩
  iapply (load_slot (r := (Rect.unit (s := S3x512x512) ![0, 0, 0] S1x512x512.size inb_S3x512x512_S1x512x512_0_0_0)) (q := fullShare.left) (X := xv I .ccw .h0 c) (hst := fun _ => rfl) (hsq := squeezes_S1x512x512_S512x512) (v := unsq (xv I .ccw .h0 c)) rfl rfl) $$ [Hsr_kxccwh0L]
  · iexact Hsr_kxccwh0L
  iintro Hsr_kxccwh0L
  iapply (load_slot (r := (Rect.unit (s := S3x512x16) ![0, 0, 0] S1x512x16.size inb_S3x512x16_S1x512x16_0_0_0)) (q := fullShare.left) (X := gv I .ccw .h0 c) (hst := fun _ => rfl) (hsq := squeezes_S1x512x16_S512x16) (v := unsq (gv I .ccw .h0 c)) rfl rfl) $$ [Hsr_kgccwh0L]
  · iexact Hsr_kgccwh0L
  iintro Hsr_kgccwh0L
  iapply (load_sub (X := u28) (v := sub rb0 (u28)) rfl) $$ [Hb28]
  · iexact Hb28
  iintro Hb28
  iapply store_sub $$ [Hb28]
  · iexact Hb28
  iintro Hb28
  iapply (load_sub (X := put rb0 (u28) (k0_pay31 (wd c) (unsq (xv I .ccw .h0 c)) (unsq (gv I .ccw .h0 c)))) (v := sub rb1 (put rb0 (u28) (k0_pay31 (wd c) (unsq (xv I .ccw .h0 c)) (unsq (gv I .ccw .h0 c))))) rfl) $$ [Hb28]
  · iexact Hb28
  iintro Hb28
  ihave Hq := Hk $$ [How Hse_rscwh0q1 Hsr_kxccwh0L Hsr_kgccwh0L Hb28]
  · isplitl [How]; · iexact How
    isplitl [Hse_rscwh0q1]; · iexact Hse_rscwh0q1
    isplitl [Hsr_kxccwh0L]; · iexact Hsr_kxccwh0L
    isplitl [Hsr_kgccwh0L]; · iexact Hsr_kgccwh0L
    iexact Hb28
  iapply run_pure; iexact Hq

theorem part12_run {Q : _ → sProp (MT nD τ sig Unit (Elt F) ℕ UU ℕ)} (u18 : Vec F S512x1024 .f32) (u28 : Vec F S512x2048 .bf16) (u14q0 : Vec F S512x512 .bf16) (v5 : BitVec 32) :
    iprop(records I N ∗ owns (c : Thread nD τ) (Memref.whole cc0_scratch21) fullShare (put rb0 (u28) (k0_pay31 (wd c) (unsq (xv I .ccw .h0 c)) (unsq (gv I .ccw .h0 c)))) ∗ owns (c : Thread nD τ) (Memref.whole cc0_stg3_0) fullShare (I.ew c) ∗ owns (c : Thread nD τ) (Memref.whole cc0_scratch11) fullShare (u18) ∗ owns (c : Thread nD τ) (rstart .ccw .q0) fullShare (u14q0))
      ⊢ iprop(((owns (c : Thread nD τ) (Memref.whole cc0_scratch21) fullShare (xgc I .ccw .h0 c) ∗ owns (c : Thread nD τ) (Memref.whole cc0_stg3_0) fullShare (I.ew c) ∗ owns (c : Thread nD τ) (Memref.whole cc0_scratch11) fullShare (pc I .ccw .h0 c) ∗ owns (c : Thread nD τ) (rstart .ccw .q0) fullShare (rs I .ccw .h0 .q0 c)) -∗ Q ⟨⟩) -∗ Run c (onBufs (k0_part12 (F := F)) v5 (k0_pay29 (unsq (xv I .ccw .h0 c))) (k0_pay30 (wd c) (unsq (gv I .ccw .h0 c))) (k0_pay32 (wd c) (unsq (xv I .ccw .h0 c)) (unsq (gv I .ccw .h0 c))) ((sub rb1 (put rb0 (u28) (k0_pay31 (wd c) (unsq (xv I .ccw .h0 c)) (unsq (gv I .ccw .h0 c))))))) Q) := by
  rw [k0_part12_eq_skeleton]
  dsimp only [onBufs, k0_part12_skel]
  iintro ⟨#HR, Hb28, Hb3, Hb18, Hst14q0⟩ Hk
  iapply store_sub $$ [Hb28]
  · iexact Hb28
  iintro Hb28
  iapply (load_sub (X := put rb1 (put rb0 (u28) (k0_pay31 (wd c) (unsq (xv I .ccw .h0 c)) (unsq (gv I .ccw .h0 c)))) (k0_pay33 (k0_pay32 (wd c) (unsq (xv I .ccw .h0 c)) (unsq (gv I .ccw .h0 c))))) (v := sub rb2 (put rb1 (put rb0 (u28) (k0_pay31 (wd c) (unsq (xv I .ccw .h0 c)) (unsq (gv I .ccw .h0 c)))) (k0_pay33 (k0_pay32 (wd c) (unsq (xv I .ccw .h0 c)) (unsq (gv I .ccw .h0 c)))))) rfl) $$ [Hb28]
  · iexact Hb28
  iintro Hb28
  iapply store_sub $$ [Hb28]
  · iexact Hb28
  iintro Hb28
  iapply (load_sub (X := put rb2 (put rb1 (put rb0 (u28) (k0_pay31 (wd c) (unsq (xv I .ccw .h0 c)) (unsq (gv I .ccw .h0 c)))) (k0_pay33 (k0_pay32 (wd c) (unsq (xv I .ccw .h0 c)) (unsq (gv I .ccw .h0 c))))) (k0_pay34 (k0_pay29 (unsq (xv I .ccw .h0 c))) (k0_pay30 (wd c) (unsq (gv I .ccw .h0 c))))) (v := sub rb3 (put rb2 (put rb1 (put rb0 (u28) (k0_pay31 (wd c) (unsq (xv I .ccw .h0 c)) (unsq (gv I .ccw .h0 c)))) (k0_pay33 (k0_pay32 (wd c) (unsq (xv I .ccw .h0 c)) (unsq (gv I .ccw .h0 c))))) (k0_pay34 (k0_pay29 (unsq (xv I .ccw .h0 c))) (k0_pay30 (wd c) (unsq (gv I .ccw .h0 c)))))) rfl) $$ [Hb28]
  · iexact Hb28
  iintro Hb28
  iapply store_sub $$ [Hb28]
  · iexact Hb28
  iintro Hb28
  ihave Hb28 := (Entails.of_eq (show owns (c : Thread nD τ) (Memref.whole cc0_scratch21) fullShare (put rb3 (put rb2 (put rb1 (put rb0 (u28) (k0_pay31 (wd c) (unsq (xv I .ccw .h0 c)) (unsq (gv I .ccw .h0 c)))) (k0_pay33 (k0_pay32 (wd c) (unsq (xv I .ccw .h0 c)) (unsq (gv I .ccw .h0 c))))) (k0_pay34 (k0_pay29 (unsq (xv I .ccw .h0 c))) (k0_pay30 (wd c) (unsq (gv I .ccw .h0 c))))) (k0_pay35 (k0_pay29 (unsq (xv I .ccw .h0 c))) (k0_pay30 (wd c) (unsq (gv I .ccw .h0 c))))) = owns (c : Thread nD τ) (Memref.whole cc0_scratch21) fullShare (xgc I .ccw .h0 c) from congrArg _ (four_puts _ _ _ _ _))) $$ Hb28
  iapply (load_all (X := xgc I .ccw .h0 c) (by decide)) $$ [Hb28]
  · iexact Hb28
  iintro Hb28
  iapply (load_all (X := I.ew c) (by decide)) $$ [Hb3]
  · iexact Hb3
  iintro Hb3
  iapply (load_all (X := u18) (by decide)) $$ [Hb18]
  · iexact Hb18
  iintro Hb18
  iapply (store_all (by decide)) $$ [Hb18]
  · iexact Hb18
  iintro Hb18
  iapply (load_sub (X := pc I .ccw .h0 c) (v := pch I .ccw .h0 .q0 c) rfl) $$ [Hb18]
  · iexact Hb18
  iintro Hb18
  iapply (load_tile (r := (Rect.unit (s := S512x1024) ![0, 0] S512x512.size inb_S512x1024_S512x512_0_0)) (q := fullShare) (X := u14q0) (hst := fun _ => rfl)) $$ [Hst14q0]
  · iexact Hst14q0
  iintro Hst14q0
  iapply (store_tile (r := (Rect.unit (s := S512x1024) ![0, 0] S512x512.size inb_S512x1024_S512x512_0_0)) (hst := fun _ => rfl)) $$ [Hst14q0]
  · iexact Hst14q0
  iintro Hst14q0
  ihave Hq := Hk $$ [Hb28 Hb3 Hb18 Hst14q0]
  · isplitl [Hb28]; · iexact Hb28
    isplitl [Hb3]; · iexact Hb3
    isplitl [Hb18]; · iexact Hb18
    iexact Hst14q0
  iapply run_pure; iexact Hq

theorem part13_run {Q : _ → sProp (MT nD τ sig Unit (Elt F) ℕ UU ℕ)} (u14q1 : Vec F S512x512 .bf16) (v5 : BitVec 32) (v7 : BitVec 32) :
    iprop(records I N ∗ ow (rest 14) c ∗ ready (.rs .ccw .h0 .q0) c ∗ slot (.rs .ccw .h0 .q0) (peer (.rs .ccw .h0 .q0) c) ∗ owns (c : Thread nD τ) (rstart .ccw .q0) fullShare (rs I .ccw .h0 .q0 c) ∗ owns (c : Thread nD τ) (Memref.whole cc0_scratch11) fullShare (pc I .ccw .h0 c) ∗ owns (c : Thread nD τ) (rstart .ccw .q1) fullShare (u14q1) ∗ ready (.rs .ccw .h0 .q1) c ∗ slot (.rs .ccw .h0 .q1) (peer (.rs .ccw .h0 .q1) c))
      ⊢ iprop(((ow (rest 16) c ∗ sent (.rs .ccw .h0 .q0) c ∗ owns (c : Thread nD τ) (Memref.whole cc0_scratch11) fullShare (pc I .ccw .h0 c) ∗ sent (.rs .ccw .h0 .q1) c) -∗ Q ⟨⟩) -∗ Run c (onBufs (k0_part13 (F := F)) c v5 v7) Q) := by
  rw [k0_part13_eq_skeleton]
  dsimp only [onBufs, k0_part13_skel]
  iintro ⟨#HR, How, Hrd_rsccwh0q0, Hsl_rsccwh0q0, Hst14q0, Hb18, Hst14q1, Hrd_rsccwh0q1, Hsl_rsccwh0q1⟩ Hk
  iapply (step_send I (N := N) (.rs .ccw .h0 .q0) (rest 15) (dev17 c) rfl rfl (rdst_credit .ccw .h0 .q0) (q := fullShare) (X := rs I .ccw .h0 .q0 c) BIBase.Entails.rfl BIBase.Entails.rfl (arrive_r I .ccw .h0 .q0)) $$ [Hrd_rsccwh0q0 Hsl_rsccwh0q0 Hst14q0 How]
  · isplitr; · iexact HR
    isplitl [Hrd_rsccwh0q0]; · iexact Hrd_rsccwh0q0
    isplitl [Hsl_rsccwh0q0]; · iexact Hsl_rsccwh0q0
    isplitl [Hst14q0]; · iexact Hst14q0
    iexact How
  iintro ⟨Hse_rsccwh0q0, How⟩
  iapply (load_sub (X := pc I .ccw .h0 c) (v := pch I .ccw .h0 .q1 c) rfl) $$ [Hb18]
  · iexact Hb18
  iintro Hb18
  iapply (load_tile (r := (Rect.unit (s := S512x1024) ![0, 512] S512x512.size inb_S512x1024_S512x512_0_512)) (q := fullShare) (X := u14q1) (hst := fun _ => rfl)) $$ [Hst14q1]
  · iexact Hst14q1
  iintro Hst14q1
  iapply (store_tile (r := (Rect.unit (s := S512x1024) ![0, 512] S512x512.size inb_S512x1024_S512x512_0_512)) (hst := fun _ => rfl)) $$ [Hst14q1]
  · iexact Hst14q1
  iintro Hst14q1
  iapply (step_send I (N := N) (.rs .ccw .h0 .q1) (rest 16) (dev18 c) rfl rfl (rdst_credit .ccw .h0 .q1) (q := fullShare) (X := rs I .ccw .h0 .q1 c) BIBase.Entails.rfl BIBase.Entails.rfl (arrive_r I .ccw .h0 .q1)) $$ [Hrd_rsccwh0q1 Hsl_rsccwh0q1 Hst14q1 How]
  · isplitr; · iexact HR
    isplitl [Hrd_rsccwh0q1]; · iexact Hrd_rsccwh0q1
    isplitl [Hsl_rsccwh0q1]; · iexact Hsl_rsccwh0q1
    isplitl [Hst14q1]; · iexact Hst14q1
    iexact How
  iintro ⟨Hse_rsccwh0q1, How⟩
  ihave Hq := Hk $$ [How Hse_rsccwh0q0 Hb18 Hse_rsccwh0q1]
  · isplitl [How]; · iexact How
    isplitl [Hse_rsccwh0q0]; · iexact Hse_rsccwh0q0
    isplitl [Hb18]; · iexact Hb18
    iexact Hse_rsccwh0q1
  iapply run_pure; iexact Hq

end Cert.KernelIdeal.Moe
-- ==== Proof.PartsC.lean ====
/-
  The second received blocks.
-/
module

public import proofs.«01_k».proof.Proof.Buffers

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

theorem part14_run {Q : _ → sProp (MT nD τ sig Unit (Elt F) ℕ UU ℕ)} (v5 : BitVec 32) (v7 : BitVec 32) :
    iprop(records I N ∗ ow (rest 16) c ∗ await (.kx .cw .h1) c ∗ await (.kg .cw .h1) c ∗ await (.kx .ccw .h1) c)
      ⊢ iprop(((ow (rest 16) c ∗ semVal (recvCell (.kx .cw .h1) c) 0 ∗ owns (c : Thread nD τ) (xdst .cw .h1) fullShare (xv I .cw .h1 c) ∗ semVal (recvCell (.kg .cw .h1) c) 0 ∗ owns (c : Thread nD τ) (gdst .cw .h1) fullShare (gv I .cw .h1 c) ∗ semVal (recvCell (.kx .ccw .h1) c) 0 ∗ owns (c : Thread nD τ) (xdst .ccw .h1) fullShare (xv I .ccw .h1 c)) -∗ Q ⟨⟩) -∗ Run c (onBufs (k0_part14 (F := F)) v5 v7) Q) := by
  rw [k0_part14_eq_skeleton]
  dsimp only [onBufs, k0_part14_skel]
  iintro ⟨#HR, How, Haw_kxcwh1, Haw_kgcwh1, Haw_kxccwh1⟩ Hk
  iapply (step_recv I (N := N) (.kx .cw .h1) (rest 16) (by decide) rfl (xdst_credit .cw .h1)) $$ [Haw_kxcwh1 How]
  · isplitr; · iexact HR
    isplitl [Haw_kxcwh1]; · iexact Haw_kxcwh1
    iexact How
  iintro ⟨Hvr_kxcwh1, Hsr_kxcwh1, How⟩
  ihave Hsr_kxcwh1 := (Entails.of_eq (show recvPay I (.kx .cw .h1) c = owns (c : Thread nD τ) (xdst .cw .h1) fullShare (xv I .cw .h1 c) from rfl)) $$ Hsr_kxcwh1
  iapply (step_recv I (N := N) (.kg .cw .h1) (rest 16) (by decide) rfl (gdst_credit .cw .h1)) $$ [Haw_kgcwh1 How]
  · isplitr; · iexact HR
    isplitl [Haw_kgcwh1]; · iexact Haw_kgcwh1
    iexact How
  iintro ⟨Hvr_kgcwh1, Hsr_kgcwh1, How⟩
  ihave Hsr_kgcwh1 := (Entails.of_eq (show recvPay I (.kg .cw .h1) c = owns (c : Thread nD τ) (gdst .cw .h1) fullShare (gv I .cw .h1 c) from rfl)) $$ Hsr_kgcwh1
  iapply (step_recv I (N := N) (.kx .ccw .h1) (rest 16) (by decide) rfl (xdst_credit .ccw .h1)) $$ [Haw_kxccwh1 How]
  · isplitr; · iexact HR
    isplitl [Haw_kxccwh1]; · iexact Haw_kxccwh1
    iexact How
  iintro ⟨Hvr_kxccwh1, Hsr_kxccwh1, How⟩
  ihave Hsr_kxccwh1 := (Entails.of_eq (show recvPay I (.kx .ccw .h1) c = owns (c : Thread nD τ) (xdst .ccw .h1) fullShare (xv I .ccw .h1 c) from rfl)) $$ Hsr_kxccwh1
  ihave Hq := Hk $$ [How Hvr_kxcwh1 Hsr_kxcwh1 Hvr_kgcwh1 Hsr_kgcwh1 Hvr_kxccwh1 Hsr_kxccwh1]
  · isplitl [How]; · iexact How
    isplitl [Hvr_kxcwh1]; · iexact Hvr_kxcwh1
    isplitl [Hsr_kxcwh1]; · iexact Hsr_kxcwh1
    isplitl [Hvr_kgcwh1]; · iexact Hvr_kgcwh1
    isplitl [Hsr_kgcwh1]; · iexact Hsr_kgcwh1
    isplitl [Hvr_kxccwh1]; · iexact Hvr_kxccwh1
    iexact Hsr_kxccwh1
  iapply run_pure; iexact Hq

theorem part15_run {Q : _ → sProp (MT nD τ sig Unit (Elt F) ℕ UU ℕ)}  :
    iprop(records I N ∗ ow (rest 16) c ∗ await (.kg .ccw .h1) c ∗ owns (c : Thread nD τ) (xdst .cw .h1) fullShare (xv I .cw .h1 c) ∗ owns (c : Thread nD τ) (gdst .cw .h1) fullShare (gv I .cw .h1 c) ∗ owns (c : Thread nD τ) (Memref.whole cc0_scratch20) fullShare (xgc I .cw .h0 c))
      ⊢ iprop(((ow (rest 16) c ∗ semVal (recvCell (.kg .ccw .h1) c) 0 ∗ owns (c : Thread nD τ) (gdst .ccw .h1) fullShare (gv I .ccw .h1 c) ∗ owns (c : Thread nD τ) (xdst .cw .h1) fullShare (xv I .cw .h1 c) ∗ owns (c : Thread nD τ) (gdst .cw .h1) fullShare (gv I .cw .h1 c) ∗ owns (c : Thread nD τ) (Memref.whole cc0_scratch20) fullShare (put rb1 (put rb0 (xgc I .cw .h0 c) (k0_pay41 (wd c) (unsq (xv I .cw .h1 c)) (unsq (gv I .cw .h1 c)))) (k0_pay42 (wd c) (unsq (xv I .cw .h1 c)) (unsq (gv I .cw .h1 c))))) -∗ Q ⟨k0_pay39 (unsq (xv I .cw .h1 c)), k0_pay40 (wd c) (unsq (gv I .cw .h1 c)), k0_pay43 (wd c) (unsq (xv I .cw .h1 c)) (unsq (gv I .cw .h1 c))⟩) -∗ Run c (onBufs (k0_part15 (F := F)) (wd c)) Q) := by
  rw [k0_part15_eq_skeleton]
  dsimp only [onBufs, k0_part15_skel]
  iintro ⟨#HR, How, Haw_kgccwh1, Hsr_kxcwh1, Hsr_kgcwh1, Hb27⟩ Hk
  iapply (step_recv I (N := N) (.kg .ccw .h1) (rest 16) (by decide) rfl (gdst_credit .ccw .h1)) $$ [Haw_kgccwh1 How]
  · isplitr; · iexact HR
    isplitl [Haw_kgccwh1]; · iexact Haw_kgccwh1
    iexact How
  iintro ⟨Hvr_kgccwh1, Hsr_kgccwh1, How⟩
  ihave Hsr_kgccwh1 := (Entails.of_eq (show recvPay I (.kg .ccw .h1) c = owns (c : Thread nD τ) (gdst .ccw .h1) fullShare (gv I .ccw .h1 c) from rfl)) $$ Hsr_kgccwh1
  iapply (load_slot (r := (Rect.unit (s := S3x512x512) ![1, 0, 0] S1x512x512.size inb_S3x512x512_S1x512x512_1_0_0)) (q := fullShare) (X := xv I .cw .h1 c) (hst := fun _ => rfl) (hsq := squeezes_S1x512x512_S512x512) (v := unsq (xv I .cw .h1 c)) rfl rfl) $$ [Hsr_kxcwh1]
  · iexact Hsr_kxcwh1
  iintro Hsr_kxcwh1
  iapply (load_slot (r := (Rect.unit (s := S3x512x16) ![1, 0, 0] S1x512x16.size inb_S3x512x16_S1x512x16_1_0_0)) (q := fullShare) (X := gv I .cw .h1 c) (hst := fun _ => rfl) (hsq := squeezes_S1x512x16_S512x16) (v := unsq (gv I .cw .h1 c)) rfl rfl) $$ [Hsr_kgcwh1]
  · iexact Hsr_kgcwh1
  iintro Hsr_kgcwh1
  iapply (load_sub (X := xgc I .cw .h0 c) (v := sub rb0 (xgc I .cw .h0 c)) rfl) $$ [Hb27]
  · iexact Hb27
  iintro Hb27
  iapply store_sub $$ [Hb27]
  · iexact Hb27
  iintro Hb27
  iapply (load_sub (X := put rb0 (xgc I .cw .h0 c) (k0_pay41 (wd c) (unsq (xv I .cw .h1 c)) (unsq (gv I .cw .h1 c)))) (v := sub rb1 (put rb0 (xgc I .cw .h0 c) (k0_pay41 (wd c) (unsq (xv I .cw .h1 c)) (unsq (gv I .cw .h1 c))))) rfl) $$ [Hb27]
  · iexact Hb27
  iintro Hb27
  iapply store_sub $$ [Hb27]
  · iexact Hb27
  iintro Hb27
  iapply (load_sub (X := put rb1 (put rb0 (xgc I .cw .h0 c) (k0_pay41 (wd c) (unsq (xv I .cw .h1 c)) (unsq (gv I .cw .h1 c)))) (k0_pay42 (wd c) (unsq (xv I .cw .h1 c)) (unsq (gv I .cw .h1 c)))) (v := sub rb2 (put rb1 (put rb0 (xgc I .cw .h0 c) (k0_pay41 (wd c) (unsq (xv I .cw .h1 c)) (unsq (gv I .cw .h1 c)))) (k0_pay42 (wd c) (unsq (xv I .cw .h1 c)) (unsq (gv I .cw .h1 c))))) rfl) $$ [Hb27]
  · iexact Hb27
  iintro Hb27
  ihave Hq := Hk $$ [How Hvr_kgccwh1 Hsr_kgccwh1 Hsr_kxcwh1 Hsr_kgcwh1 Hb27]
  · isplitl [How]; · iexact How
    isplitl [Hvr_kgccwh1]; · iexact Hvr_kgccwh1
    isplitl [Hsr_kgccwh1]; · iexact Hsr_kgccwh1
    isplitl [Hsr_kxcwh1]; · iexact Hsr_kxcwh1
    isplitl [Hsr_kgcwh1]; · iexact Hsr_kgcwh1
    iexact Hb27
  iapply run_pure; iexact Hq

theorem part16_run {Q : _ → sProp (MT nD τ sig Unit (Elt F) ℕ UU ℕ)} (v7 : BitVec 32) :
    iprop(records I N ∗ owns (c : Thread nD τ) (Memref.whole cc0_scratch20) fullShare (put rb1 (put rb0 (xgc I .cw .h0 c) (k0_pay41 (wd c) (unsq (xv I .cw .h1 c)) (unsq (gv I .cw .h1 c)))) (k0_pay42 (wd c) (unsq (xv I .cw .h1 c)) (unsq (gv I .cw .h1 c)))) ∗ owns (c : Thread nD τ) (Memref.whole cc0_stg3_0) fullShare (I.ew c) ∗ owns (c : Thread nD τ) (Memref.whole cc0_scratch10) fullShare (pc I .cw .h0 c) ∗ ow (rest 16) c ∗ await (.rs .cw .h0 .q0) c)
      ⊢ iprop(((owns (c : Thread nD τ) (Memref.whole cc0_scratch20) fullShare (xgc I .cw .h1 c) ∗ owns (c : Thread nD τ) (Memref.whole cc0_stg3_0) fullShare (I.ew c) ∗ owns (c : Thread nD τ) (Memref.whole cc0_scratch10) fullShare (pc I .cw .h1 c) ∗ ow (rest 16) c ∗ semVal (recvCell (.rs .cw .h0 .q0) c) 0 ∗ owns (c : Thread nD τ) (rdst .cw .h0 .q0) fullShare (rv I .cw .h0 .q0 c)) -∗ Q (k0_pay46 (unsq (rv I .cw .h0 .q0 c)) (pch I .cw .h1 .q0 c))) -∗ Run c (onBufs (k0_part16 (F := F)) v7 (k0_pay39 (unsq (xv I .cw .h1 c))) (k0_pay40 (wd c) (unsq (gv I .cw .h1 c))) (k0_pay43 (wd c) (unsq (xv I .cw .h1 c)) (unsq (gv I .cw .h1 c)))) Q) := by
  rw [k0_part16_eq_skeleton]
  dsimp only [onBufs, k0_part16_skel]
  iintro ⟨#HR, Hb27, Hb3, Hb17, How, Haw_rscwh0q0⟩ Hk
  iapply store_sub $$ [Hb27]
  · iexact Hb27
  iintro Hb27
  iapply (load_sub (X := put rb2 (put rb1 (put rb0 (xgc I .cw .h0 c) (k0_pay41 (wd c) (unsq (xv I .cw .h1 c)) (unsq (gv I .cw .h1 c)))) (k0_pay42 (wd c) (unsq (xv I .cw .h1 c)) (unsq (gv I .cw .h1 c)))) (k0_pay43 (wd c) (unsq (xv I .cw .h1 c)) (unsq (gv I .cw .h1 c)))) (v := sub rb3 (put rb2 (put rb1 (put rb0 (xgc I .cw .h0 c) (k0_pay41 (wd c) (unsq (xv I .cw .h1 c)) (unsq (gv I .cw .h1 c)))) (k0_pay42 (wd c) (unsq (xv I .cw .h1 c)) (unsq (gv I .cw .h1 c)))) (k0_pay43 (wd c) (unsq (xv I .cw .h1 c)) (unsq (gv I .cw .h1 c))))) rfl) $$ [Hb27]
  · iexact Hb27
  iintro Hb27
  iapply store_sub $$ [Hb27]
  · iexact Hb27
  iintro Hb27
  ihave Hb27 := (Entails.of_eq (show owns (c : Thread nD τ) (Memref.whole cc0_scratch20) fullShare (put rb3 (put rb2 (put rb1 (put rb0 (xgc I .cw .h0 c) (k0_pay41 (wd c) (unsq (xv I .cw .h1 c)) (unsq (gv I .cw .h1 c)))) (k0_pay42 (wd c) (unsq (xv I .cw .h1 c)) (unsq (gv I .cw .h1 c)))) (k0_pay43 (wd c) (unsq (xv I .cw .h1 c)) (unsq (gv I .cw .h1 c)))) (k0_pay44 (k0_pay39 (unsq (xv I .cw .h1 c))) (k0_pay40 (wd c) (unsq (gv I .cw .h1 c))))) = owns (c : Thread nD τ) (Memref.whole cc0_scratch20) fullShare (xgc I .cw .h1 c) from congrArg _ (four_puts _ _ _ _ _))) $$ Hb27
  iapply (load_all (X := xgc I .cw .h1 c) (by decide)) $$ [Hb27]
  · iexact Hb27
  iintro Hb27
  iapply (load_all (X := I.ew c) (by decide)) $$ [Hb3]
  · iexact Hb3
  iintro Hb3
  iapply (load_all (X := pc I .cw .h0 c) (by decide)) $$ [Hb17]
  · iexact Hb17
  iintro Hb17
  iapply (store_all (by decide)) $$ [Hb17]
  · iexact Hb17
  iintro Hb17
  iapply (step_recv I (N := N) (.rs .cw .h0 .q0) (rest 16) (by decide) rfl (rdst_credit .cw .h0 .q0)) $$ [Haw_rscwh0q0 How]
  · isplitr; · iexact HR
    isplitl [Haw_rscwh0q0]; · iexact Haw_rscwh0q0
    iexact How
  iintro ⟨Hvr_rscwh0q0, Hsr_rscwh0q0, How⟩
  ihave Hsr_rscwh0q0 := (Entails.of_eq (show recvPay I (.rs .cw .h0 .q0) c = owns (c : Thread nD τ) (rdst .cw .h0 .q0) fullShare (rv I .cw .h0 .q0 c) from rfl)) $$ Hsr_rscwh0q0
  iapply (load_slot (r := (Rect.unit (s := S3x512x1024) ![0, 0, 0] S1x512x512.size inb_S3x512x1024_S1x512x512_0_0_0)) (q := fullShare) (X := rv I .cw .h0 .q0 c) (hst := fun _ => rfl) (hsq := squeezes_S1x512x512_S512x512) (v := unsq (rv I .cw .h0 .q0 c)) rfl rfl) $$ [Hsr_rscwh0q0]
  · iexact Hsr_rscwh0q0
  iintro Hsr_rscwh0q0
  iapply (load_sub (X := pc I .cw .h1 c) (v := pch I .cw .h1 .q0 c) rfl) $$ [Hb17]
  · iexact Hb17
  iintro Hb17
  ihave Hq := Hk $$ [Hb27 Hb3 Hb17 How Hvr_rscwh0q0 Hsr_rscwh0q0]
  · isplitl [Hb27]; · iexact Hb27
    isplitl [Hb3]; · iexact Hb3
    isplitl [Hb17]; · iexact Hb17
    isplitl [How]; · iexact How
    isplitl [Hvr_rscwh0q0]; · iexact Hvr_rscwh0q0
    iexact Hsr_rscwh0q0
  iapply run_pure; iexact Hq

theorem part17_run {Q : _ → sProp (MT nD τ sig Unit (Elt F) ℕ UU ℕ)} (v7 : BitVec 32) :
    iprop(records I N ∗ owns (c : Thread nD τ) (rdst .cw .h0 .q0) fullShare (rv I .cw .h0 .q0 c) ∗ ow (rest 16) c ∗ ready (.rs .cw .h1 .q0) c ∗ slot (.rs .cw .h1 .q0) (peer (.rs .cw .h1 .q0) c) ∗ await (.rs .cw .h0 .q1) c ∗ owns (c : Thread nD τ) (Memref.whole cc0_scratch10) fullShare (pc I .cw .h1 c))
      ⊢ iprop(((ow (rest 17) c ∗ sent (.rs .cw .h1 .q0) c ∗ semVal (recvCell (.rs .cw .h0 .q1) c) 0 ∗ owns (c : Thread nD τ) (rdst .cw .h0 .q1) fullShare (rv I .cw .h0 .q1 c) ∗ owns (c : Thread nD τ) (Memref.whole cc0_scratch10) fullShare (pc I .cw .h1 c)) -∗ Q (k0_pay48 (unsq (rv I .cw .h0 .q1 c)) (pch I .cw .h1 .q1 c))) -∗ Run c (onBufs (k0_part17 (F := F)) c v7 ((k0_pay46 (unsq (rv I .cw .h0 .q0 c)) (pch I .cw .h1 .q0 c)))) Q) := by
  rw [k0_part17_eq_skeleton]
  dsimp only [onBufs, k0_part17_skel]
  iintro ⟨#HR, Hsr_rscwh0q0, How, Hrd_rscwh1q0, Hsl_rscwh1q0, Haw_rscwh0q1, Hb17⟩ Hk
  iapply (load_slot (r := (Rect.unit (s := S3x512x1024) ![0, 0, 0] S1x512x512.size inb_S3x512x1024_S1x512x512_0_0_0)) (q := fullShare) (X := rv I .cw .h0 .q0 c) (hst := fun _ => rfl) (hsq := squeezes_S1x512x512_S512x512) (v := unsq (rv I .cw .h0 .q0 c)) rfl rfl) $$ [Hsr_rscwh0q0]
  · iexact Hsr_rscwh0q0
  iintro Hsr_rscwh0q0
  iapply (store_slot (r := (Rect.unit (s := S3x512x1024) ![0, 0, 0] S1x512x512.size inb_S3x512x1024_S1x512x512_0_0_0)) (hst := fun _ => rfl) (hsq := squeezes_S1x512x512_S512x512)) $$ [Hsr_rscwh0q0]
  · iexact Hsr_rscwh0q0
  iintro Hsr_rscwh0q0
  iapply (step_send I (N := N) (.rs .cw .h1 .q0) (rest 17) (dev19 c) rfl rfl (rdst_credit .cw .h1 .q0) (q := fullShare) (X := rs I .cw .h1 .q0 c) BIBase.Entails.rfl BIBase.Entails.rfl (arrive_r I .cw .h1 .q0)) $$ [Hrd_rscwh1q0 Hsl_rscwh1q0 Hsr_rscwh0q0 How]
  · isplitr; · iexact HR
    isplitl [Hrd_rscwh1q0]; · iexact Hrd_rscwh1q0
    isplitl [Hsl_rscwh1q0]; · iexact Hsl_rscwh1q0
    isplitl [Hsr_rscwh0q0]; · iexact Hsr_rscwh0q0
    iexact How
  iintro ⟨Hse_rscwh1q0, How⟩
  iapply (step_recv I (N := N) (.rs .cw .h0 .q1) (rest 17) (by decide) rfl (rdst_credit .cw .h0 .q1)) $$ [Haw_rscwh0q1 How]
  · isplitr; · iexact HR
    isplitl [Haw_rscwh0q1]; · iexact Haw_rscwh0q1
    iexact How
  iintro ⟨Hvr_rscwh0q1, Hsr_rscwh0q1, How⟩
  ihave Hsr_rscwh0q1 := (Entails.of_eq (show recvPay I (.rs .cw .h0 .q1) c = owns (c : Thread nD τ) (rdst .cw .h0 .q1) fullShare (rv I .cw .h0 .q1 c) from rfl)) $$ Hsr_rscwh0q1
  iapply (load_slot (r := (Rect.unit (s := S3x512x1024) ![0, 0, 512] S1x512x512.size inb_S3x512x1024_S1x512x512_0_0_512)) (q := fullShare) (X := rv I .cw .h0 .q1 c) (hst := fun _ => rfl) (hsq := squeezes_S1x512x512_S512x512) (v := unsq (rv I .cw .h0 .q1 c)) rfl rfl) $$ [Hsr_rscwh0q1]
  · iexact Hsr_rscwh0q1
  iintro Hsr_rscwh0q1
  iapply (load_sub (X := pc I .cw .h1 c) (v := pch I .cw .h1 .q1 c) rfl) $$ [Hb17]
  · iexact Hb17
  iintro Hb17
  ihave Hq := Hk $$ [How Hse_rscwh1q0 Hvr_rscwh0q1 Hsr_rscwh0q1 Hb17]
  · isplitl [How]; · iexact How
    isplitl [Hse_rscwh1q0]; · iexact Hse_rscwh1q0
    isplitl [Hvr_rscwh0q1]; · iexact Hvr_rscwh0q1
    isplitl [Hsr_rscwh0q1]; · iexact Hsr_rscwh0q1
    iexact Hb17
  iapply run_pure; iexact Hq

theorem part18_run {Q : _ → sProp (MT nD τ sig Unit (Elt F) ℕ UU ℕ)} (v7 : BitVec 32) :
    iprop(records I N ∗ owns (c : Thread nD τ) (rdst .cw .h0 .q1) fullShare (rv I .cw .h0 .q1 c) ∗ ow (rest 17) c ∗ ready (.rs .cw .h1 .q1) c ∗ slot (.rs .cw .h1 .q1) (peer (.rs .cw .h1 .q1) c) ∗ owns (c : Thread nD τ) (xdst .ccw .h1) fullShare (xv I .ccw .h1 c) ∗ owns (c : Thread nD τ) (gdst .ccw .h1) fullShare (gv I .ccw .h1 c) ∗ owns (c : Thread nD τ) (Memref.whole cc0_scratch21) fullShare (xgc I .ccw .h0 c))
      ⊢ iprop(((ow (rest 18) c ∗ sent (.rs .cw .h1 .q1) c ∗ owns (c : Thread nD τ) (xdst .ccw .h1) fullShare (xv I .ccw .h1 c) ∗ owns (c : Thread nD τ) (gdst .ccw .h1) fullShare (gv I .ccw .h1 c) ∗ owns (c : Thread nD τ) (Memref.whole cc0_scratch21) fullShare (put rb0 (xgc I .ccw .h0 c) (k0_pay52 (wd c) (unsq (xv I .ccw .h1 c)) (unsq (gv I .ccw .h1 c))))) -∗ Q ⟨k0_pay50 (unsq (xv I .ccw .h1 c)), k0_pay51 (wd c) (unsq (gv I .ccw .h1 c))⟩) -∗ Run c (onBufs (k0_part18 (F := F)) c (wd c) v7 ((k0_pay48 (unsq (rv I .cw .h0 .q1 c)) (pch I .cw .h1 .q1 c)))) Q) := by
  rw [k0_part18_eq_skeleton]
  dsimp only [onBufs, k0_part18_skel]
  iintro ⟨#HR, Hsr_rscwh0q1, How, Hrd_rscwh1q1, Hsl_rscwh1q1, Hsr_kxccwh1, Hsr_kgccwh1, Hb28⟩ Hk
  iapply (load_slot (r := (Rect.unit (s := S3x512x1024) ![0, 0, 512] S1x512x512.size inb_S3x512x1024_S1x512x512_0_0_512)) (q := fullShare) (X := rv I .cw .h0 .q1 c) (hst := fun _ => rfl) (hsq := squeezes_S1x512x512_S512x512) (v := unsq (rv I .cw .h0 .q1 c)) rfl rfl) $$ [Hsr_rscwh0q1]
  · iexact Hsr_rscwh0q1
  iintro Hsr_rscwh0q1
  iapply (store_slot (r := (Rect.unit (s := S3x512x1024) ![0, 0, 512] S1x512x512.size inb_S3x512x1024_S1x512x512_0_0_512)) (hst := fun _ => rfl) (hsq := squeezes_S1x512x512_S512x512)) $$ [Hsr_rscwh0q1]
  · iexact Hsr_rscwh0q1
  iintro Hsr_rscwh0q1
  iapply (step_send I (N := N) (.rs .cw .h1 .q1) (rest 18) (dev20 c) rfl rfl (rdst_credit .cw .h1 .q1) (q := fullShare) (X := rs I .cw .h1 .q1 c) BIBase.Entails.rfl BIBase.Entails.rfl (arrive_r I .cw .h1 .q1)) $$ [Hrd_rscwh1q1 Hsl_rscwh1q1 Hsr_rscwh0q1 How]
  · isplitr; · iexact HR
    isplitl [Hrd_rscwh1q1]; · iexact Hrd_rscwh1q1
    isplitl [Hsl_rscwh1q1]; · iexact Hsl_rscwh1q1
    isplitl [Hsr_rscwh0q1]; · iexact Hsr_rscwh0q1
    iexact How
  iintro ⟨Hse_rscwh1q1, How⟩
  iapply (load_slot (r := (Rect.unit (s := S3x512x512) ![1, 0, 0] S1x512x512.size inb_S3x512x512_S1x512x512_1_0_0)) (q := fullShare) (X := xv I .ccw .h1 c) (hst := fun _ => rfl) (hsq := squeezes_S1x512x512_S512x512) (v := unsq (xv I .ccw .h1 c)) rfl rfl) $$ [Hsr_kxccwh1]
  · iexact Hsr_kxccwh1
  iintro Hsr_kxccwh1
  iapply (load_slot (r := (Rect.unit (s := S3x512x16) ![1, 0, 0] S1x512x16.size inb_S3x512x16_S1x512x16_1_0_0)) (q := fullShare) (X := gv I .ccw .h1 c) (hst := fun _ => rfl) (hsq := squeezes_S1x512x16_S512x16) (v := unsq (gv I .ccw .h1 c)) rfl rfl) $$ [Hsr_kgccwh1]
  · iexact Hsr_kgccwh1
  iintro Hsr_kgccwh1
  iapply (load_sub (X := xgc I .ccw .h0 c) (v := sub rb0 (xgc I .ccw .h0 c)) rfl) $$ [Hb28]
  · iexact Hb28
  iintro Hb28
  iapply store_sub $$ [Hb28]
  · iexact Hb28
  iintro Hb28
  ihave Hq := Hk $$ [How Hse_rscwh1q1 Hsr_kxccwh1 Hsr_kgccwh1 Hb28]
  · isplitl [How]; · iexact How
    isplitl [Hse_rscwh1q1]; · iexact Hse_rscwh1q1
    isplitl [Hsr_kxccwh1]; · iexact Hsr_kxccwh1
    isplitl [Hsr_kgccwh1]; · iexact Hsr_kgccwh1
    iexact Hb28
  iapply run_pure; iexact Hq

theorem part19_run {Q : _ → sProp (MT nD τ sig Unit (Elt F) ℕ UU ℕ)} (v5 : BitVec 32) :
    iprop(records I N ∗ owns (c : Thread nD τ) (Memref.whole cc0_scratch21) fullShare (put rb0 (xgc I .ccw .h0 c) (k0_pay52 (wd c) (unsq (xv I .ccw .h1 c)) (unsq (gv I .ccw .h1 c)))) ∗ owns (c : Thread nD τ) (Memref.whole cc0_stg3_0) fullShare (I.ew c) ∗ owns (c : Thread nD τ) (Memref.whole cc0_scratch11) fullShare (pc I .ccw .h0 c))
      ⊢ iprop(((owns (c : Thread nD τ) (Memref.whole cc0_scratch21) fullShare (xgc I .ccw .h1 c) ∗ owns (c : Thread nD τ) (Memref.whole cc0_stg3_0) fullShare (I.ew c) ∗ owns (c : Thread nD τ) (Memref.whole cc0_scratch11) fullShare (pc I .ccw .h1 c)) -∗ Q ⟨⟩) -∗ Run c (onBufs (k0_part19 (F := F)) v5 (k0_pay50 (unsq (xv I .ccw .h1 c))) (k0_pay51 (wd c) (unsq (gv I .ccw .h1 c)))) Q) := by
  rw [k0_part19_eq_skeleton]
  dsimp only [onBufs, k0_part19_skel]
  iintro ⟨#HR, Hb28, Hb3, Hb18⟩ Hk
  iapply (load_sub (X := put rb0 (xgc I .ccw .h0 c) (k0_pay52 (wd c) (unsq (xv I .ccw .h1 c)) (unsq (gv I .ccw .h1 c)))) (v := sub rb1 (put rb0 (xgc I .ccw .h0 c) (k0_pay52 (wd c) (unsq (xv I .ccw .h1 c)) (unsq (gv I .ccw .h1 c))))) rfl) $$ [Hb28]
  · iexact Hb28
  iintro Hb28
  iapply store_sub $$ [Hb28]
  · iexact Hb28
  iintro Hb28
  iapply (load_sub (X := put rb1 (put rb0 (xgc I .ccw .h0 c) (k0_pay52 (wd c) (unsq (xv I .ccw .h1 c)) (unsq (gv I .ccw .h1 c)))) (k0_pay53 (k0_pay50 (unsq (xv I .ccw .h1 c))) (k0_pay51 (wd c) (unsq (gv I .ccw .h1 c))))) (v := sub rb2 (put rb1 (put rb0 (xgc I .ccw .h0 c) (k0_pay52 (wd c) (unsq (xv I .ccw .h1 c)) (unsq (gv I .ccw .h1 c)))) (k0_pay53 (k0_pay50 (unsq (xv I .ccw .h1 c))) (k0_pay51 (wd c) (unsq (gv I .ccw .h1 c)))))) rfl) $$ [Hb28]
  · iexact Hb28
  iintro Hb28
  iapply store_sub $$ [Hb28]
  · iexact Hb28
  iintro Hb28
  iapply (load_sub (X := put rb2 (put rb1 (put rb0 (xgc I .ccw .h0 c) (k0_pay52 (wd c) (unsq (xv I .ccw .h1 c)) (unsq (gv I .ccw .h1 c)))) (k0_pay53 (k0_pay50 (unsq (xv I .ccw .h1 c))) (k0_pay51 (wd c) (unsq (gv I .ccw .h1 c))))) (k0_pay54 (k0_pay50 (unsq (xv I .ccw .h1 c))) (k0_pay51 (wd c) (unsq (gv I .ccw .h1 c))))) (v := sub rb3 (put rb2 (put rb1 (put rb0 (xgc I .ccw .h0 c) (k0_pay52 (wd c) (unsq (xv I .ccw .h1 c)) (unsq (gv I .ccw .h1 c)))) (k0_pay53 (k0_pay50 (unsq (xv I .ccw .h1 c))) (k0_pay51 (wd c) (unsq (gv I .ccw .h1 c))))) (k0_pay54 (k0_pay50 (unsq (xv I .ccw .h1 c))) (k0_pay51 (wd c) (unsq (gv I .ccw .h1 c)))))) rfl) $$ [Hb28]
  · iexact Hb28
  iintro Hb28
  iapply store_sub $$ [Hb28]
  · iexact Hb28
  iintro Hb28
  ihave Hb28 := (Entails.of_eq (show owns (c : Thread nD τ) (Memref.whole cc0_scratch21) fullShare (put rb3 (put rb2 (put rb1 (put rb0 (xgc I .ccw .h0 c) (k0_pay52 (wd c) (unsq (xv I .ccw .h1 c)) (unsq (gv I .ccw .h1 c)))) (k0_pay53 (k0_pay50 (unsq (xv I .ccw .h1 c))) (k0_pay51 (wd c) (unsq (gv I .ccw .h1 c))))) (k0_pay54 (k0_pay50 (unsq (xv I .ccw .h1 c))) (k0_pay51 (wd c) (unsq (gv I .ccw .h1 c))))) (k0_pay55 (k0_pay50 (unsq (xv I .ccw .h1 c))) (k0_pay51 (wd c) (unsq (gv I .ccw .h1 c))))) = owns (c : Thread nD τ) (Memref.whole cc0_scratch21) fullShare (xgc I .ccw .h1 c) from congrArg _ (four_puts _ _ _ _ _))) $$ Hb28
  iapply (load_all (X := xgc I .ccw .h1 c) (by decide)) $$ [Hb28]
  · iexact Hb28
  iintro Hb28
  iapply (load_all (X := I.ew c) (by decide)) $$ [Hb3]
  · iexact Hb3
  iintro Hb3
  iapply (load_all (X := pc I .ccw .h0 c) (by decide)) $$ [Hb18]
  · iexact Hb18
  iintro Hb18
  iapply (store_all (by decide)) $$ [Hb18]
  · iexact Hb18
  iintro Hb18
  ihave Hq := Hk $$ [Hb28 Hb3 Hb18]
  · isplitl [Hb28]; · iexact Hb28
    isplitl [Hb3]; · iexact Hb3
    iexact Hb18
  iapply run_pure; iexact Hq

theorem part20_run {Q : _ → sProp (MT nD τ sig Unit (Elt F) ℕ UU ℕ)} (v5 : BitVec 32) :
    iprop(records I N ∗ ow (rest 18) c ∗ await (.rs .ccw .h0 .q0) c ∗ owns (c : Thread nD τ) (Memref.whole cc0_scratch11) fullShare (pc I .ccw .h1 c) ∗ ready (.rs .ccw .h1 .q0) c ∗ slot (.rs .ccw .h1 .q0) (peer (.rs .ccw .h1 .q0) c))
      ⊢ iprop(((ow (rest 19) c ∗ semVal (recvCell (.rs .ccw .h0 .q0) c) 0 ∗ owns (c : Thread nD τ) (Memref.whole cc0_scratch11) fullShare (pc I .ccw .h1 c) ∗ sent (.rs .ccw .h1 .q0) c) -∗ Q ⟨⟩) -∗ Run c (onBufs (k0_part20 (F := F)) c v5) Q) := by
  rw [k0_part20_eq_skeleton]
  dsimp only [onBufs, k0_part20_skel]
  iintro ⟨#HR, How, Haw_rsccwh0q0, Hb18, Hrd_rsccwh1q0, Hsl_rsccwh1q0⟩ Hk
  iapply (step_recv I (N := N) (.rs .ccw .h0 .q0) (rest 18) (by decide) rfl (rdst_credit .ccw .h0 .q0)) $$ [Haw_rsccwh0q0 How]
  · isplitr; · iexact HR
    isplitl [Haw_rsccwh0q0]; · iexact Haw_rsccwh0q0
    iexact How
  iintro ⟨Hvr_rsccwh0q0, Hsr_rsccwh0q0, How⟩
  ihave Hsr_rsccwh0q0 := (Entails.of_eq (show recvPay I (.rs .ccw .h0 .q0) c = owns (c : Thread nD τ) (rdst .ccw .h0 .q0) fullShare (rv I .ccw .h0 .q0 c) from rfl)) $$ Hsr_rsccwh0q0
  iapply (load_slot (r := (Rect.unit (s := S3x512x1024) ![0, 0, 0] S1x512x512.size inb_S3x512x1024_S1x512x512_0_0_0)) (q := fullShare) (X := rv I .ccw .h0 .q0 c) (hst := fun _ => rfl) (hsq := squeezes_S1x512x512_S512x512) (v := unsq (rv I .ccw .h0 .q0 c)) rfl rfl) $$ [Hsr_rsccwh0q0]
  · iexact Hsr_rsccwh0q0
  iintro Hsr_rsccwh0q0
  iapply (load_sub (X := pc I .ccw .h1 c) (v := pch I .ccw .h1 .q0 c) rfl) $$ [Hb18]
  · iexact Hb18
  iintro Hb18
  iapply (load_slot (r := (Rect.unit (s := S3x512x1024) ![0, 0, 0] S1x512x512.size inb_S3x512x1024_S1x512x512_0_0_0)) (q := fullShare) (X := rv I .ccw .h0 .q0 c) (hst := fun _ => rfl) (hsq := squeezes_S1x512x512_S512x512) (v := unsq (rv I .ccw .h0 .q0 c)) rfl rfl) $$ [Hsr_rsccwh0q0]
  · iexact Hsr_rsccwh0q0
  iintro Hsr_rsccwh0q0
  iapply (store_slot (r := (Rect.unit (s := S3x512x1024) ![0, 0, 0] S1x512x512.size inb_S3x512x1024_S1x512x512_0_0_0)) (hst := fun _ => rfl) (hsq := squeezes_S1x512x512_S512x512)) $$ [Hsr_rsccwh0q0]
  · iexact Hsr_rsccwh0q0
  iintro Hsr_rsccwh0q0
  iapply (step_send I (N := N) (.rs .ccw .h1 .q0) (rest 19) (dev21 c) rfl rfl (rdst_credit .ccw .h1 .q0) (q := fullShare) (X := rs I .ccw .h1 .q0 c) BIBase.Entails.rfl BIBase.Entails.rfl (arrive_r I .ccw .h1 .q0)) $$ [Hrd_rsccwh1q0 Hsl_rsccwh1q0 Hsr_rsccwh0q0 How]
  · isplitr; · iexact HR
    isplitl [Hrd_rsccwh1q0]; · iexact Hrd_rsccwh1q0
    isplitl [Hsl_rsccwh1q0]; · iexact Hsl_rsccwh1q0
    isplitl [Hsr_rsccwh0q0]; · iexact Hsr_rsccwh0q0
    iexact How
  iintro ⟨Hse_rsccwh1q0, How⟩
  ihave Hq := Hk $$ [How Hvr_rsccwh0q0 Hb18 Hse_rsccwh1q0]
  · isplitl [How]; · iexact How
    isplitl [Hvr_rsccwh0q0]; · iexact Hvr_rsccwh0q0
    isplitl [Hb18]; · iexact Hb18
    iexact Hse_rsccwh1q0
  iapply run_pure; iexact Hq

theorem part21_run {Q : _ → sProp (MT nD τ sig Unit (Elt F) ℕ UU ℕ)} (v5 : BitVec 32) :
    iprop(records I N ∗ ow (rest 19) c ∗ await (.rs .ccw .h0 .q1) c ∗ owns (c : Thread nD τ) (Memref.whole cc0_scratch11) fullShare (pc I .ccw .h1 c) ∗ ready (.rs .ccw .h1 .q1) c ∗ slot (.rs .ccw .h1 .q1) (peer (.rs .ccw .h1 .q1) c))
      ⊢ iprop(((ow (rest 20) c ∗ semVal (recvCell (.rs .ccw .h0 .q1) c) 0 ∗ owns (c : Thread nD τ) (Memref.whole cc0_scratch11) fullShare (pc I .ccw .h1 c) ∗ sent (.rs .ccw .h1 .q1) c) -∗ Q ⟨⟩) -∗ Run c (onBufs (k0_part21 (F := F)) c v5) Q) := by
  rw [k0_part21_eq_skeleton]
  dsimp only [onBufs, k0_part21_skel]
  iintro ⟨#HR, How, Haw_rsccwh0q1, Hb18, Hrd_rsccwh1q1, Hsl_rsccwh1q1⟩ Hk
  iapply (step_recv I (N := N) (.rs .ccw .h0 .q1) (rest 19) (by decide) rfl (rdst_credit .ccw .h0 .q1)) $$ [Haw_rsccwh0q1 How]
  · isplitr; · iexact HR
    isplitl [Haw_rsccwh0q1]; · iexact Haw_rsccwh0q1
    iexact How
  iintro ⟨Hvr_rsccwh0q1, Hsr_rsccwh0q1, How⟩
  ihave Hsr_rsccwh0q1 := (Entails.of_eq (show recvPay I (.rs .ccw .h0 .q1) c = owns (c : Thread nD τ) (rdst .ccw .h0 .q1) fullShare (rv I .ccw .h0 .q1 c) from rfl)) $$ Hsr_rsccwh0q1
  iapply (load_slot (r := (Rect.unit (s := S3x512x1024) ![0, 0, 512] S1x512x512.size inb_S3x512x1024_S1x512x512_0_0_512)) (q := fullShare) (X := rv I .ccw .h0 .q1 c) (hst := fun _ => rfl) (hsq := squeezes_S1x512x512_S512x512) (v := unsq (rv I .ccw .h0 .q1 c)) rfl rfl) $$ [Hsr_rsccwh0q1]
  · iexact Hsr_rsccwh0q1
  iintro Hsr_rsccwh0q1
  iapply (load_sub (X := pc I .ccw .h1 c) (v := pch I .ccw .h1 .q1 c) rfl) $$ [Hb18]
  · iexact Hb18
  iintro Hb18
  iapply (load_slot (r := (Rect.unit (s := S3x512x1024) ![0, 0, 512] S1x512x512.size inb_S3x512x1024_S1x512x512_0_0_512)) (q := fullShare) (X := rv I .ccw .h0 .q1 c) (hst := fun _ => rfl) (hsq := squeezes_S1x512x512_S512x512) (v := unsq (rv I .ccw .h0 .q1 c)) rfl rfl) $$ [Hsr_rsccwh0q1]
  · iexact Hsr_rsccwh0q1
  iintro Hsr_rsccwh0q1
  iapply (store_slot (r := (Rect.unit (s := S3x512x1024) ![0, 0, 512] S1x512x512.size inb_S3x512x1024_S1x512x512_0_0_512)) (hst := fun _ => rfl) (hsq := squeezes_S1x512x512_S512x512)) $$ [Hsr_rsccwh0q1]
  · iexact Hsr_rsccwh0q1
  iintro Hsr_rsccwh0q1
  iapply (step_send I (N := N) (.rs .ccw .h1 .q1) (rest 20) (dev22 c) rfl rfl (rdst_credit .ccw .h1 .q1) (q := fullShare) (X := rs I .ccw .h1 .q1 c) BIBase.Entails.rfl BIBase.Entails.rfl (arrive_r I .ccw .h1 .q1)) $$ [Hrd_rsccwh1q1 Hsl_rsccwh1q1 Hsr_rsccwh0q1 How]
  · isplitr; · iexact HR
    isplitl [Hrd_rsccwh1q1]; · iexact Hrd_rsccwh1q1
    isplitl [Hsl_rsccwh1q1]; · iexact Hsl_rsccwh1q1
    isplitl [Hsr_rsccwh0q1]; · iexact Hsr_rsccwh0q1
    iexact How
  iintro ⟨Hse_rsccwh1q1, How⟩
  ihave Hq := Hk $$ [How Hvr_rsccwh0q1 Hb18 Hse_rsccwh1q1]
  · isplitl [How]; · iexact How
    isplitl [Hvr_rsccwh0q1]; · iexact Hvr_rsccwh0q1
    isplitl [Hb18]; · iexact Hb18
    iexact Hse_rsccwh1q1
  iapply run_pure; iexact Hq

end Cert.KernelIdeal.Moe
-- ==== Proof.PartsD.lean ====
/-
  The third received blocks.
-/
module

public import proofs.«01_k».proof.Proof.Buffers

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

theorem part22_run {Q : _ → sProp (MT nD τ sig Unit (Elt F) ℕ UU ℕ)} (v5 : BitVec 32) (v7 : BitVec 32) :
    iprop(records I N ∗ ow (rest 20) c ∗ await (.kx .cw .h2) c ∗ await (.kg .cw .h2) c ∗ await (.kx .ccw .h2) c ∗ await (.kg .ccw .h2) c)
      ⊢ iprop(((ow (rest 20) c ∗ semVal (recvCell (.kx .cw .h2) c) 0 ∗ owns (c : Thread nD τ) (xdst .cw .h2) fullShare (xv I .cw .h2 c) ∗ semVal (recvCell (.kg .cw .h2) c) 0 ∗ owns (c : Thread nD τ) (gdst .cw .h2) fullShare (gv I .cw .h2 c) ∗ semVal (recvCell (.kx .ccw .h2) c) 0 ∗ owns (c : Thread nD τ) (xdst .ccw .h2) fullShare (xv I .ccw .h2 c) ∗ semVal (recvCell (.kg .ccw .h2) c) 0 ∗ owns (c : Thread nD τ) (gdst .ccw .h2) fullShare (gv I .ccw .h2 c)) -∗ Q (k0_pay59 (unsq (xv I .cw .h2 c)))) -∗ Run c (onBufs (k0_part22 (F := F)) v5 v7) Q) := by
  rw [k0_part22_eq_skeleton]
  dsimp only [onBufs, k0_part22_skel]
  iintro ⟨#HR, How, Haw_kxcwh2, Haw_kgcwh2, Haw_kxccwh2, Haw_kgccwh2⟩ Hk
  iapply (step_recv I (N := N) (.kx .cw .h2) (rest 20) (by decide) rfl (xdst_credit .cw .h2)) $$ [Haw_kxcwh2 How]
  · isplitr; · iexact HR
    isplitl [Haw_kxcwh2]; · iexact Haw_kxcwh2
    iexact How
  iintro ⟨Hvr_kxcwh2, Hsr_kxcwh2, How⟩
  ihave Hsr_kxcwh2 := (Entails.of_eq (show recvPay I (.kx .cw .h2) c = owns (c : Thread nD τ) (xdst .cw .h2) fullShare (xv I .cw .h2 c) from rfl)) $$ Hsr_kxcwh2
  iapply (step_recv I (N := N) (.kg .cw .h2) (rest 20) (by decide) rfl (gdst_credit .cw .h2)) $$ [Haw_kgcwh2 How]
  · isplitr; · iexact HR
    isplitl [Haw_kgcwh2]; · iexact Haw_kgcwh2
    iexact How
  iintro ⟨Hvr_kgcwh2, Hsr_kgcwh2, How⟩
  ihave Hsr_kgcwh2 := (Entails.of_eq (show recvPay I (.kg .cw .h2) c = owns (c : Thread nD τ) (gdst .cw .h2) fullShare (gv I .cw .h2 c) from rfl)) $$ Hsr_kgcwh2
  iapply (step_recv I (N := N) (.kx .ccw .h2) (rest 20) (by decide) rfl (xdst_credit .ccw .h2)) $$ [Haw_kxccwh2 How]
  · isplitr; · iexact HR
    isplitl [Haw_kxccwh2]; · iexact Haw_kxccwh2
    iexact How
  iintro ⟨Hvr_kxccwh2, Hsr_kxccwh2, How⟩
  ihave Hsr_kxccwh2 := (Entails.of_eq (show recvPay I (.kx .ccw .h2) c = owns (c : Thread nD τ) (xdst .ccw .h2) fullShare (xv I .ccw .h2 c) from rfl)) $$ Hsr_kxccwh2
  iapply (step_recv I (N := N) (.kg .ccw .h2) (rest 20) (by decide) rfl (gdst_credit .ccw .h2)) $$ [Haw_kgccwh2 How]
  · isplitr; · iexact HR
    isplitl [Haw_kgccwh2]; · iexact Haw_kgccwh2
    iexact How
  iintro ⟨Hvr_kgccwh2, Hsr_kgccwh2, How⟩
  ihave Hsr_kgccwh2 := (Entails.of_eq (show recvPay I (.kg .ccw .h2) c = owns (c : Thread nD τ) (gdst .ccw .h2) fullShare (gv I .ccw .h2 c) from rfl)) $$ Hsr_kgccwh2
  iapply (load_slot (r := (Rect.unit (s := S3x512x512) ![2, 0, 0] S1x512x512.size inb_S3x512x512_S1x512x512_2_0_0)) (q := fullShare) (X := xv I .cw .h2 c) (hst := fun _ => rfl) (hsq := squeezes_S1x512x512_S512x512) (v := unsq (xv I .cw .h2 c)) rfl rfl) $$ [Hsr_kxcwh2]
  · iexact Hsr_kxcwh2
  iintro Hsr_kxcwh2
  ihave Hq := Hk $$ [How Hvr_kxcwh2 Hsr_kxcwh2 Hvr_kgcwh2 Hsr_kgcwh2 Hvr_kxccwh2 Hsr_kxccwh2 Hvr_kgccwh2 Hsr_kgccwh2]
  · isplitl [How]; · iexact How
    isplitl [Hvr_kxcwh2]; · iexact Hvr_kxcwh2
    isplitl [Hsr_kxcwh2]; · iexact Hsr_kxcwh2
    isplitl [Hvr_kgcwh2]; · iexact Hvr_kgcwh2
    isplitl [Hsr_kgcwh2]; · iexact Hsr_kgcwh2
    isplitl [Hvr_kxccwh2]; · iexact Hvr_kxccwh2
    isplitl [Hsr_kxccwh2]; · iexact Hsr_kxccwh2
    isplitl [Hvr_kgccwh2]; · iexact Hvr_kgccwh2
    iexact Hsr_kgccwh2
  iapply run_pure; iexact Hq

theorem part23_run {Q : _ → sProp (MT nD τ sig Unit (Elt F) ℕ UU ℕ)}  :
    iprop(records I N ∗ owns (c : Thread nD τ) (gdst .cw .h2) fullShare (gv I .cw .h2 c) ∗ owns (c : Thread nD τ) (Memref.whole cc0_scratch20) fullShare (xgc I .cw .h1 c))
      ⊢ iprop(((owns (c : Thread nD τ) (gdst .cw .h2) fullShare (gv I .cw .h2 c) ∗ owns (c : Thread nD τ) (Memref.whole cc0_scratch20) fullShare (put rb3 (put rb2 (put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c)))) (k0_pay63 (wd c) ((k0_pay59 (unsq (xv I .cw .h2 c)))) (unsq (gv I .cw .h2 c)))) (k0_pay64 (wd c) ((k0_pay59 (unsq (xv I .cw .h2 c)))) (unsq (gv I .cw .h2 c))))) -∗ Q ⟨⟩) -∗ Run c (onBufs (k0_part23 (F := F)) (wd c) ((k0_pay59 (unsq (xv I .cw .h2 c))))) Q) := by
  rw [k0_part23_eq_skeleton]
  dsimp only [onBufs, k0_part23_skel]
  iintro ⟨#HR, Hsr_kgcwh2, Hb27⟩ Hk
  iapply (load_slot (r := (Rect.unit (s := S3x512x16) ![2, 0, 0] S1x512x16.size inb_S3x512x16_S1x512x16_2_0_0)) (q := fullShare) (X := gv I .cw .h2 c) (hst := fun _ => rfl) (hsq := squeezes_S1x512x16_S512x16) (v := unsq (gv I .cw .h2 c)) rfl rfl) $$ [Hsr_kgcwh2]
  · iexact Hsr_kgcwh2
  iintro Hsr_kgcwh2
  iapply (load_sub (X := xgc I .cw .h1 c) (v := sub rb0 (xgc I .cw .h1 c)) rfl) $$ [Hb27]
  · iexact Hb27
  iintro Hb27
  iapply store_sub $$ [Hb27]
  · iexact Hb27
  iintro Hb27
  iapply (load_sub (X := put rb0 (xgc I .cw .h1 c) (k0_pay61 (wd c) ((k0_pay59 (unsq (xv I .cw .h2 c)))) (unsq (gv I .cw .h2 c)))) (v := sub rb1 (put rb0 (xgc I .cw .h1 c) (k0_pay61 (wd c) ((k0_pay59 (unsq (xv I .cw .h2 c)))) (unsq (gv I .cw .h2 c))))) rfl) $$ [Hb27]
  · iexact Hb27
  iintro Hb27
  iapply store_sub $$ [Hb27]
  · iexact Hb27
  iintro Hb27
  iapply (load_sub (X := put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c)))) (v := sub rb2 (put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c))))) rfl) $$ [Hb27]
  · iexact Hb27
  iintro Hb27
  iapply store_sub $$ [Hb27]
  · iexact Hb27
  iintro Hb27
  iapply (load_sub (X := put rb2 (put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c)))) (k0_pay63 (wd c) ((k0_pay59 (unsq (xv I .cw .h2 c)))) (unsq (gv I .cw .h2 c)))) (v := sub rb3 (put rb2 (put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c)))) (k0_pay63 (wd c) ((k0_pay59 (unsq (xv I .cw .h2 c)))) (unsq (gv I .cw .h2 c))))) rfl) $$ [Hb27]
  · iexact Hb27
  iintro Hb27
  iapply store_sub $$ [Hb27]
  · iexact Hb27
  iintro Hb27
  ihave Hq := Hk $$ [Hsr_kgcwh2 Hb27]
  · isplitl [Hsr_kgcwh2]; · iexact Hsr_kgcwh2
    iexact Hb27
  iapply run_pure; iexact Hq

theorem part24_run {Q : _ → sProp (MT nD τ sig Unit (Elt F) ℕ UU ℕ)} (v7 : BitVec 32) :
    iprop(records I N ∗ owns (c : Thread nD τ) (Memref.whole cc0_scratch20) fullShare (put rb3 (put rb2 (put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c)))) (k0_pay63 (wd c) ((k0_pay59 (unsq (xv I .cw .h2 c)))) (unsq (gv I .cw .h2 c)))) (k0_pay64 (wd c) ((k0_pay59 (unsq (xv I .cw .h2 c)))) (unsq (gv I .cw .h2 c)))) ∗ owns (c : Thread nD τ) (Memref.whole cc0_stg3_0) fullShare (I.ew c) ∗ owns (c : Thread nD τ) (Memref.whole cc0_scratch10) fullShare (pc I .cw .h1 c) ∗ ow (rest 20) c ∗ await (.rs .cw .h1 .q0) c)
      ⊢ iprop(((owns (c : Thread nD τ) (Memref.whole cc0_scratch20) fullShare (xgc I .cw .h2 c) ∗ owns (c : Thread nD τ) (Memref.whole cc0_stg3_0) fullShare (I.ew c) ∗ owns (c : Thread nD τ) (Memref.whole cc0_scratch10) fullShare (pc I .cw .h2 c) ∗ ow (rest 20) c ∗ semVal (recvCell (.rs .cw .h1 .q0) c) 0 ∗ owns (c : Thread nD τ) (rdst .cw .h1 .q0) fullShare (rs I .cw .h2 .q0 c)) -∗ Q (Scalar.muli v7 1#32)) -∗ Run c (onBufs (k0_part24 (F := F)) v7) Q) := by
  rw [k0_part24_eq_skeleton]
  dsimp only [onBufs, k0_part24_skel]
  iintro ⟨#HR, Hb27, Hb3, Hb17, How, Haw_rscwh1q0⟩ Hk
  ihave Hb27 := (Entails.of_eq (show owns (c : Thread nD τ) (Memref.whole cc0_scratch20) fullShare (put rb3 (put rb2 (put rb1 (put rb0 (xgc I .cw .h1 c) (k0_pay61 (wd c) ((k0_pay59 (unsq (xv I .cw .h2 c)))) (unsq (gv I .cw .h2 c)))) (k0_pay62 (wd c) ((k0_pay59 (unsq (xv I .cw .h2 c)))) (unsq (gv I .cw .h2 c)))) (k0_pay63 (wd c) ((k0_pay59 (unsq (xv I .cw .h2 c)))) (unsq (gv I .cw .h2 c)))) (k0_pay64 (wd c) ((k0_pay59 (unsq (xv I .cw .h2 c)))) (unsq (gv I .cw .h2 c)))) = owns (c : Thread nD τ) (Memref.whole cc0_scratch20) fullShare (xgc I .cw .h2 c) from congrArg _ (four_puts _ _ _ _ _))) $$ Hb27
  iapply (load_all (X := xgc I .cw .h2 c) (by decide)) $$ [Hb27]
  · iexact Hb27
  iintro Hb27
  iapply (load_all (X := I.ew c) (by decide)) $$ [Hb3]
  · iexact Hb3
  iintro Hb3
  iapply (load_all (X := pc I .cw .h1 c) (by decide)) $$ [Hb17]
  · iexact Hb17
  iintro Hb17
  iapply (store_all (by decide)) $$ [Hb17]
  · iexact Hb17
  iintro Hb17
  iapply (step_recv I (N := N) (.rs .cw .h1 .q0) (rest 20) (by decide) rfl (rdst_credit .cw .h1 .q0)) $$ [Haw_rscwh1q0 How]
  · isplitr; · iexact HR
    isplitl [Haw_rscwh1q0]; · iexact Haw_rscwh1q0
    iexact How
  iintro ⟨Hvr_rscwh1q0, Hsr_rscwh1q0, How⟩
  ihave Hsr_rscwh1q0 := (Entails.of_eq (show recvPay I (.rs .cw .h1 .q0) c = owns (c : Thread nD τ) (rdst .cw .h1 .q0) fullShare (rv I .cw .h1 .q0 c) from rfl)) $$ Hsr_rscwh1q0
  iapply (load_slot (r := (Rect.unit (s := S3x512x1024) ![1, 0, 0] S1x512x512.size inb_S3x512x1024_S1x512x512_1_0_0)) (q := fullShare) (X := rv I .cw .h1 .q0 c) (hst := fun _ => rfl) (hsq := squeezes_S1x512x512_S512x512) (v := unsq (rv I .cw .h1 .q0 c)) rfl rfl) $$ [Hsr_rscwh1q0]
  · iexact Hsr_rscwh1q0
  iintro Hsr_rscwh1q0
  iapply (load_sub (X := pc I .cw .h2 c) (v := pch I .cw .h2 .q0 c) rfl) $$ [Hb17]
  · iexact Hb17
  iintro Hb17
  iapply (load_slot (r := (Rect.unit (s := S3x512x1024) ![1, 0, 0] S1x512x512.size inb_S3x512x1024_S1x512x512_1_0_0)) (q := fullShare) (X := rv I .cw .h1 .q0 c) (hst := fun _ => rfl) (hsq := squeezes_S1x512x512_S512x512) (v := unsq (rv I .cw .h1 .q0 c)) rfl rfl) $$ [Hsr_rscwh1q0]
  · iexact Hsr_rscwh1q0
  iintro Hsr_rscwh1q0
  iapply (store_slot (r := (Rect.unit (s := S3x512x1024) ![1, 0, 0] S1x512x512.size inb_S3x512x1024_S1x512x512_1_0_0)) (hst := fun _ => rfl) (hsq := squeezes_S1x512x512_S512x512)) $$ [Hsr_rscwh1q0]
  · iexact Hsr_rscwh1q0
  iintro Hsr_rscwh1q0
  ihave Hq := Hk $$ [Hb27 Hb3 Hb17 How Hvr_rscwh1q0 Hsr_rscwh1q0]
  · isplitl [Hb27]; · iexact Hb27
    isplitl [Hb3]; · iexact Hb3
    isplitl [Hb17]; · iexact Hb17
    isplitl [How]; · iexact How
    isplitl [Hvr_rscwh1q0]; · iexact Hvr_rscwh1q0
    iexact Hsr_rscwh1q0
  iapply run_pure; iexact Hq

theorem part25_run {Q : _ → sProp (MT nD τ sig Unit (Elt F) ℕ UU ℕ)} (v7 : BitVec 32) (v738 : BitVec 32) :
    iprop(records I N ∗ ow (rest 20) c ∗ ready (.rs .cw .h2 .q0) c ∗ slot (.rs .cw .h2 .q0) (peer (.rs .cw .h2 .q0) c) ∗ owns (c : Thread nD τ) (rdst .cw .h1 .q0) fullShare (rs I .cw .h2 .q0 c) ∗ await (.rs .cw .h1 .q1) c ∗ owns (c : Thread nD τ) (Memref.whole cc0_scratch10) fullShare (pc I .cw .h2 c))
      ⊢ iprop(((ow (rest 21) c ∗ sent (.rs .cw .h2 .q0) c ∗ semVal (recvCell (.rs .cw .h1 .q1) c) 0 ∗ owns (c : Thread nD τ) (rdst .cw .h1 .q1) fullShare (rs I .cw .h2 .q1 c) ∗ owns (c : Thread nD τ) (Memref.whole cc0_scratch10) fullShare (pc I .cw .h2 c)) -∗ Q ⟨⟩) -∗ Run c (onBufs (k0_part25 (F := F)) c v7 v738) Q) := by
  rw [k0_part25_eq_skeleton]
  dsimp only [onBufs, k0_part25_skel]
  iintro ⟨#HR, How, Hrd_rscwh2q0, Hsl_rscwh2q0, Hsr_rscwh1q0, Haw_rscwh1q1, Hb17⟩ Hk
  iapply (step_send I (N := N) (.rs .cw .h2 .q0) (rest 21) (dev23 c) rfl rfl (rdst_credit .cw .h2 .q0) (q := fullShare) (X := rs I .cw .h2 .q0 c) BIBase.Entails.rfl BIBase.Entails.rfl (arrive_r I .cw .h2 .q0)) $$ [Hrd_rscwh2q0 Hsl_rscwh2q0 Hsr_rscwh1q0 How]
  · isplitr; · iexact HR
    isplitl [Hrd_rscwh2q0]; · iexact Hrd_rscwh2q0
    isplitl [Hsl_rscwh2q0]; · iexact Hsl_rscwh2q0
    isplitl [Hsr_rscwh1q0]; · iexact Hsr_rscwh1q0
    iexact How
  iintro ⟨Hse_rscwh2q0, How⟩
  iapply (step_recv I (N := N) (.rs .cw .h1 .q1) (rest 21) (by decide) rfl (rdst_credit .cw .h1 .q1)) $$ [Haw_rscwh1q1 How]
  · isplitr; · iexact HR
    isplitl [Haw_rscwh1q1]; · iexact Haw_rscwh1q1
    iexact How
  iintro ⟨Hvr_rscwh1q1, Hsr_rscwh1q1, How⟩
  ihave Hsr_rscwh1q1 := (Entails.of_eq (show recvPay I (.rs .cw .h1 .q1) c = owns (c : Thread nD τ) (rdst .cw .h1 .q1) fullShare (rv I .cw .h1 .q1 c) from rfl)) $$ Hsr_rscwh1q1
  iapply (load_slot (r := (Rect.unit (s := S3x512x1024) ![1, 0, 512] S1x512x512.size inb_S3x512x1024_S1x512x512_1_0_512)) (q := fullShare) (X := rv I .cw .h1 .q1 c) (hst := fun _ => rfl) (hsq := squeezes_S1x512x512_S512x512) (v := unsq (rv I .cw .h1 .q1 c)) rfl rfl) $$ [Hsr_rscwh1q1]
  · iexact Hsr_rscwh1q1
  iintro Hsr_rscwh1q1
  iapply (load_sub (X := pc I .cw .h2 c) (v := pch I .cw .h2 .q1 c) rfl) $$ [Hb17]
  · iexact Hb17
  iintro Hb17
  iapply (load_slot (r := (Rect.unit (s := S3x512x1024) ![1, 0, 512] S1x512x512.size inb_S3x512x1024_S1x512x512_1_0_512)) (q := fullShare) (X := rv I .cw .h1 .q1 c) (hst := fun _ => rfl) (hsq := squeezes_S1x512x512_S512x512) (v := unsq (rv I .cw .h1 .q1 c)) rfl rfl) $$ [Hsr_rscwh1q1]
  · iexact Hsr_rscwh1q1
  iintro Hsr_rscwh1q1
  iapply (store_slot (r := (Rect.unit (s := S3x512x1024) ![1, 0, 512] S1x512x512.size inb_S3x512x1024_S1x512x512_1_0_512)) (hst := fun _ => rfl) (hsq := squeezes_S1x512x512_S512x512)) $$ [Hsr_rscwh1q1]
  · iexact Hsr_rscwh1q1
  iintro Hsr_rscwh1q1
  ihave Hq := Hk $$ [How Hse_rscwh2q0 Hvr_rscwh1q1 Hsr_rscwh1q1 Hb17]
  · isplitl [How]; · iexact How
    isplitl [Hse_rscwh2q0]; · iexact Hse_rscwh2q0
    isplitl [Hvr_rscwh1q1]; · iexact Hvr_rscwh1q1
    isplitl [Hsr_rscwh1q1]; · iexact Hsr_rscwh1q1
    iexact Hb17
  iapply run_pure; iexact Hq

theorem part26_run {Q : _ → sProp (MT nD τ sig Unit (Elt F) ℕ UU ℕ)} (v7 : BitVec 32) :
    iprop(records I N ∗ ow (rest 21) c ∗ ready (.rs .cw .h2 .q1) c ∗ slot (.rs .cw .h2 .q1) (peer (.rs .cw .h2 .q1) c) ∗ owns (c : Thread nD τ) (rdst .cw .h1 .q1) fullShare (rs I .cw .h2 .q1 c) ∗ owns (c : Thread nD τ) (xdst .ccw .h2) fullShare (xv I .ccw .h2 c) ∗ owns (c : Thread nD τ) (gdst .ccw .h2) fullShare (gv I .ccw .h2 c) ∗ owns (c : Thread nD τ) (Memref.whole cc0_scratch21) fullShare (xgc I .ccw .h1 c))
      ⊢ iprop(((ow (rest 22) c ∗ sent (.rs .cw .h2 .q1) c ∗ owns (c : Thread nD τ) (xdst .ccw .h2) fullShare (xv I .ccw .h2 c) ∗ owns (c : Thread nD τ) (gdst .ccw .h2) fullShare (gv I .ccw .h2 c) ∗ owns (c : Thread nD τ) (Memref.whole cc0_scratch21) fullShare (put rb0 (xgc I .ccw .h1 c) (k0_pay70 (wd c) (unsq (xv I .ccw .h2 c)) (unsq (gv I .ccw .h2 c))))) -∗ Q ⟨k0_pay68 (unsq (xv I .ccw .h2 c)), k0_pay69 (wd c) (unsq (gv I .ccw .h2 c)), k0_pay71 (wd c) (unsq (xv I .ccw .h2 c)) (unsq (gv I .ccw .h2 c))⟩) -∗ Run c (onBufs (k0_part26 (F := F)) c (wd c) v7) Q) := by
  rw [k0_part26_eq_skeleton]
  dsimp only [onBufs, k0_part26_skel]
  iintro ⟨#HR, How, Hrd_rscwh2q1, Hsl_rscwh2q1, Hsr_rscwh1q1, Hsr_kxccwh2, Hsr_kgccwh2, Hb28⟩ Hk
  iapply (step_send I (N := N) (.rs .cw .h2 .q1) (rest 22) (dev24 c) rfl rfl (rdst_credit .cw .h2 .q1) (q := fullShare) (X := rs I .cw .h2 .q1 c) BIBase.Entails.rfl BIBase.Entails.rfl (arrive_r I .cw .h2 .q1)) $$ [Hrd_rscwh2q1 Hsl_rscwh2q1 Hsr_rscwh1q1 How]
  · isplitr; · iexact HR
    isplitl [Hrd_rscwh2q1]; · iexact Hrd_rscwh2q1
    isplitl [Hsl_rscwh2q1]; · iexact Hsl_rscwh2q1
    isplitl [Hsr_rscwh1q1]; · iexact Hsr_rscwh1q1
    iexact How
  iintro ⟨Hse_rscwh2q1, How⟩
  iapply (load_slot (r := (Rect.unit (s := S3x512x512) ![2, 0, 0] S1x512x512.size inb_S3x512x512_S1x512x512_2_0_0)) (q := fullShare) (X := xv I .ccw .h2 c) (hst := fun _ => rfl) (hsq := squeezes_S1x512x512_S512x512) (v := unsq (xv I .ccw .h2 c)) rfl rfl) $$ [Hsr_kxccwh2]
  · iexact Hsr_kxccwh2
  iintro Hsr_kxccwh2
  iapply (load_slot (r := (Rect.unit (s := S3x512x16) ![2, 0, 0] S1x512x16.size inb_S3x512x16_S1x512x16_2_0_0)) (q := fullShare) (X := gv I .ccw .h2 c) (hst := fun _ => rfl) (hsq := squeezes_S1x512x16_S512x16) (v := unsq (gv I .ccw .h2 c)) rfl rfl) $$ [Hsr_kgccwh2]
  · iexact Hsr_kgccwh2
  iintro Hsr_kgccwh2
  iapply (load_sub (X := xgc I .ccw .h1 c) (v := sub rb0 (xgc I .ccw .h1 c)) rfl) $$ [Hb28]
  · iexact Hb28
  iintro Hb28
  iapply store_sub $$ [Hb28]
  · iexact Hb28
  iintro Hb28
  iapply (load_sub (X := put rb0 (xgc I .ccw .h1 c) (k0_pay70 (wd c) (unsq (xv I .ccw .h2 c)) (unsq (gv I .ccw .h2 c)))) (v := sub rb1 (put rb0 (xgc I .ccw .h1 c) (k0_pay70 (wd c) (unsq (xv I .ccw .h2 c)) (unsq (gv I .ccw .h2 c))))) rfl) $$ [Hb28]
  · iexact Hb28
  iintro Hb28
  ihave Hq := Hk $$ [How Hse_rscwh2q1 Hsr_kxccwh2 Hsr_kgccwh2 Hb28]
  · isplitl [How]; · iexact How
    isplitl [Hse_rscwh2q1]; · iexact Hse_rscwh2q1
    isplitl [Hsr_kxccwh2]; · iexact Hsr_kxccwh2
    isplitl [Hsr_kgccwh2]; · iexact Hsr_kgccwh2
    iexact Hb28
  iapply run_pure; iexact Hq

theorem part27_run {Q : _ → sProp (MT nD τ sig Unit (Elt F) ℕ UU ℕ)} (v5 : BitVec 32) :
    iprop(records I N ∗ owns (c : Thread nD τ) (Memref.whole cc0_scratch21) fullShare (put rb0 (xgc I .ccw .h1 c) (k0_pay70 (wd c) (unsq (xv I .ccw .h2 c)) (unsq (gv I .ccw .h2 c)))) ∗ owns (c : Thread nD τ) (Memref.whole cc0_stg3_0) fullShare (I.ew c) ∗ owns (c : Thread nD τ) (Memref.whole cc0_scratch11) fullShare (pc I .ccw .h1 c) ∗ ow (rest 22) c ∗ await (.rs .ccw .h1 .q0) c)
      ⊢ iprop(((owns (c : Thread nD τ) (Memref.whole cc0_scratch21) fullShare (xgc I .ccw .h2 c) ∗ owns (c : Thread nD τ) (Memref.whole cc0_stg3_0) fullShare (I.ew c) ∗ owns (c : Thread nD τ) (Memref.whole cc0_scratch11) fullShare (pc I .ccw .h2 c) ∗ ow (rest 22) c ∗ semVal (recvCell (.rs .ccw .h1 .q0) c) 0 ∗ owns (c : Thread nD τ) (rdst .ccw .h1 .q0) fullShare (rv I .ccw .h1 .q0 c)) -∗ Q ⟨⟩) -∗ Run c (onBufs (k0_part27 (F := F)) v5 (k0_pay68 (unsq (xv I .ccw .h2 c))) (k0_pay69 (wd c) (unsq (gv I .ccw .h2 c))) (k0_pay71 (wd c) (unsq (xv I .ccw .h2 c)) (unsq (gv I .ccw .h2 c)))) Q) := by
  rw [k0_part27_eq_skeleton]
  dsimp only [onBufs, k0_part27_skel]
  iintro ⟨#HR, Hb28, Hb3, Hb18, How, Haw_rsccwh1q0⟩ Hk
  iapply store_sub $$ [Hb28]
  · iexact Hb28
  iintro Hb28
  iapply (load_sub (X := put rb1 (put rb0 (xgc I .ccw .h1 c) (k0_pay70 (wd c) (unsq (xv I .ccw .h2 c)) (unsq (gv I .ccw .h2 c)))) (k0_pay71 (wd c) (unsq (xv I .ccw .h2 c)) (unsq (gv I .ccw .h2 c)))) (v := sub rb2 (put rb1 (put rb0 (xgc I .ccw .h1 c) (k0_pay70 (wd c) (unsq (xv I .ccw .h2 c)) (unsq (gv I .ccw .h2 c)))) (k0_pay71 (wd c) (unsq (xv I .ccw .h2 c)) (unsq (gv I .ccw .h2 c))))) rfl) $$ [Hb28]
  · iexact Hb28
  iintro Hb28
  iapply store_sub $$ [Hb28]
  · iexact Hb28
  iintro Hb28
  iapply (load_sub (X := put rb2 (put rb1 (put rb0 (xgc I .ccw .h1 c) (k0_pay70 (wd c) (unsq (xv I .ccw .h2 c)) (unsq (gv I .ccw .h2 c)))) (k0_pay71 (wd c) (unsq (xv I .ccw .h2 c)) (unsq (gv I .ccw .h2 c)))) (k0_pay72 (k0_pay68 (unsq (xv I .ccw .h2 c))) (k0_pay69 (wd c) (unsq (gv I .ccw .h2 c))))) (v := sub rb3 (put rb2 (put rb1 (put rb0 (xgc I .ccw .h1 c) (k0_pay70 (wd c) (unsq (xv I .ccw .h2 c)) (unsq (gv I .ccw .h2 c)))) (k0_pay71 (wd c) (unsq (xv I .ccw .h2 c)) (unsq (gv I .ccw .h2 c)))) (k0_pay72 (k0_pay68 (unsq (xv I .ccw .h2 c))) (k0_pay69 (wd c) (unsq (gv I .ccw .h2 c)))))) rfl) $$ [Hb28]
  · iexact Hb28
  iintro Hb28
  iapply store_sub $$ [Hb28]
  · iexact Hb28
  iintro Hb28
  ihave Hb28 := (Entails.of_eq (show owns (c : Thread nD τ) (Memref.whole cc0_scratch21) fullShare (put rb3 (put rb2 (put rb1 (put rb0 (xgc I .ccw .h1 c) (k0_pay70 (wd c) (unsq (xv I .ccw .h2 c)) (unsq (gv I .ccw .h2 c)))) (k0_pay71 (wd c) (unsq (xv I .ccw .h2 c)) (unsq (gv I .ccw .h2 c)))) (k0_pay72 (k0_pay68 (unsq (xv I .ccw .h2 c))) (k0_pay69 (wd c) (unsq (gv I .ccw .h2 c))))) (k0_pay73 (k0_pay68 (unsq (xv I .ccw .h2 c))) (k0_pay69 (wd c) (unsq (gv I .ccw .h2 c))))) = owns (c : Thread nD τ) (Memref.whole cc0_scratch21) fullShare (xgc I .ccw .h2 c) from congrArg _ (four_puts _ _ _ _ _))) $$ Hb28
  iapply (load_all (X := xgc I .ccw .h2 c) (by decide)) $$ [Hb28]
  · iexact Hb28
  iintro Hb28
  iapply (load_all (X := I.ew c) (by decide)) $$ [Hb3]
  · iexact Hb3
  iintro Hb3
  iapply (load_all (X := pc I .ccw .h1 c) (by decide)) $$ [Hb18]
  · iexact Hb18
  iintro Hb18
  iapply (store_all (by decide)) $$ [Hb18]
  · iexact Hb18
  iintro Hb18
  iapply (step_recv I (N := N) (.rs .ccw .h1 .q0) (rest 22) (by decide) rfl (rdst_credit .ccw .h1 .q0)) $$ [Haw_rsccwh1q0 How]
  · isplitr; · iexact HR
    isplitl [Haw_rsccwh1q0]; · iexact Haw_rsccwh1q0
    iexact How
  iintro ⟨Hvr_rsccwh1q0, Hsr_rsccwh1q0, How⟩
  ihave Hsr_rsccwh1q0 := (Entails.of_eq (show recvPay I (.rs .ccw .h1 .q0) c = owns (c : Thread nD τ) (rdst .ccw .h1 .q0) fullShare (rv I .ccw .h1 .q0 c) from rfl)) $$ Hsr_rsccwh1q0
  ihave Hq := Hk $$ [Hb28 Hb3 Hb18 How Hvr_rsccwh1q0 Hsr_rsccwh1q0]
  · isplitl [Hb28]; · iexact Hb28
    isplitl [Hb3]; · iexact Hb3
    isplitl [Hb18]; · iexact Hb18
    isplitl [How]; · iexact How
    isplitl [Hvr_rsccwh1q0]; · iexact Hvr_rsccwh1q0
    iexact Hsr_rsccwh1q0
  iapply run_pure; iexact Hq

theorem part28_run {Q : _ → sProp (MT nD τ sig Unit (Elt F) ℕ UU ℕ)} (v5 : BitVec 32) :
    iprop(records I N ∗ owns (c : Thread nD τ) (rdst .ccw .h1 .q0) fullShare (rv I .ccw .h1 .q0 c) ∗ owns (c : Thread nD τ) (Memref.whole cc0_scratch11) fullShare (pc I .ccw .h2 c) ∗ ow (rest 22) c ∗ ready (.rs .ccw .h2 .q0) c ∗ slot (.rs .ccw .h2 .q0) (peer (.rs .ccw .h2 .q0) c))
      ⊢ iprop(((owns (c : Thread nD τ) (Memref.whole cc0_scratch11) fullShare (pc I .ccw .h2 c) ∗ ow (rest 23) c ∗ sent (.rs .ccw .h2 .q0) c) -∗ Q ⟨⟩) -∗ Run c (onBufs (k0_part28 (F := F)) c v5) Q) := by
  rw [k0_part28_eq_skeleton]
  dsimp only [onBufs, k0_part28_skel]
  iintro ⟨#HR, Hsr_rsccwh1q0, Hb18, How, Hrd_rsccwh2q0, Hsl_rsccwh2q0⟩ Hk
  iapply (load_slot (r := (Rect.unit (s := S3x512x1024) ![1, 0, 0] S1x512x512.size inb_S3x512x1024_S1x512x512_1_0_0)) (q := fullShare) (X := rv I .ccw .h1 .q0 c) (hst := fun _ => rfl) (hsq := squeezes_S1x512x512_S512x512) (v := unsq (rv I .ccw .h1 .q0 c)) rfl rfl) $$ [Hsr_rsccwh1q0]
  · iexact Hsr_rsccwh1q0
  iintro Hsr_rsccwh1q0
  iapply (load_sub (X := pc I .ccw .h2 c) (v := pch I .ccw .h2 .q0 c) rfl) $$ [Hb18]
  · iexact Hb18
  iintro Hb18
  iapply (load_slot (r := (Rect.unit (s := S3x512x1024) ![1, 0, 0] S1x512x512.size inb_S3x512x1024_S1x512x512_1_0_0)) (q := fullShare) (X := rv I .ccw .h1 .q0 c) (hst := fun _ => rfl) (hsq := squeezes_S1x512x512_S512x512) (v := unsq (rv I .ccw .h1 .q0 c)) rfl rfl) $$ [Hsr_rsccwh1q0]
  · iexact Hsr_rsccwh1q0
  iintro Hsr_rsccwh1q0
  iapply (store_slot (r := (Rect.unit (s := S3x512x1024) ![1, 0, 0] S1x512x512.size inb_S3x512x1024_S1x512x512_1_0_0)) (hst := fun _ => rfl) (hsq := squeezes_S1x512x512_S512x512)) $$ [Hsr_rsccwh1q0]
  · iexact Hsr_rsccwh1q0
  iintro Hsr_rsccwh1q0
  iapply (step_send I (N := N) (.rs .ccw .h2 .q0) (rest 23) (dev25 c) rfl rfl (rdst_credit .ccw .h2 .q0) (q := fullShare) (X := rs I .ccw .h2 .q0 c) BIBase.Entails.rfl BIBase.Entails.rfl (arrive_r I .ccw .h2 .q0)) $$ [Hrd_rsccwh2q0 Hsl_rsccwh2q0 Hsr_rsccwh1q0 How]
  · isplitr; · iexact HR
    isplitl [Hrd_rsccwh2q0]; · iexact Hrd_rsccwh2q0
    isplitl [Hsl_rsccwh2q0]; · iexact Hsl_rsccwh2q0
    isplitl [Hsr_rsccwh1q0]; · iexact Hsr_rsccwh1q0
    iexact How
  iintro ⟨Hse_rsccwh2q0, How⟩
  ihave Hq := Hk $$ [Hb18 How Hse_rsccwh2q0]
  · isplitl [Hb18]; · iexact Hb18
    isplitl [How]; · iexact How
    iexact Hse_rsccwh2q0
  iapply run_pure; iexact Hq

theorem part29_run {Q : _ → sProp (MT nD τ sig Unit (Elt F) ℕ UU ℕ)} (v5 : BitVec 32) (v7 : BitVec 32) :
    iprop(records I N ∗ ow (rest 23) c ∗ await (.rs .ccw .h1 .q1) c ∗ owns (c : Thread nD τ) (Memref.whole cc0_scratch11) fullShare (pc I .ccw .h2 c) ∗ ready (.rs .ccw .h2 .q1) c ∗ slot (.rs .ccw .h2 .q1) (peer (.rs .ccw .h2 .q1) c))
      ⊢ iprop(((ow (rest 24) c ∗ semVal (recvCell (.rs .ccw .h1 .q1) c) 0 ∗ owns (c : Thread nD τ) (Memref.whole cc0_scratch11) fullShare (pc I .ccw .h2 c) ∗ sent (.rs .ccw .h2 .q1) c) -∗ Q ⟨⟩) -∗ Run c (onBufs (k0_part29 (F := F)) c v5 v7) Q) := by
  rw [k0_part29_eq_skeleton]
  dsimp only [onBufs, k0_part29_skel]
  iintro ⟨#HR, How, Haw_rsccwh1q1, Hb18, Hrd_rsccwh2q1, Hsl_rsccwh2q1⟩ Hk
  iapply (step_recv I (N := N) (.rs .ccw .h1 .q1) (rest 23) (by decide) rfl (rdst_credit .ccw .h1 .q1)) $$ [Haw_rsccwh1q1 How]
  · isplitr; · iexact HR
    isplitl [Haw_rsccwh1q1]; · iexact Haw_rsccwh1q1
    iexact How
  iintro ⟨Hvr_rsccwh1q1, Hsr_rsccwh1q1, How⟩
  ihave Hsr_rsccwh1q1 := (Entails.of_eq (show recvPay I (.rs .ccw .h1 .q1) c = owns (c : Thread nD τ) (rdst .ccw .h1 .q1) fullShare (rv I .ccw .h1 .q1 c) from rfl)) $$ Hsr_rsccwh1q1
  iapply (load_slot (r := (Rect.unit (s := S3x512x1024) ![1, 0, 512] S1x512x512.size inb_S3x512x1024_S1x512x512_1_0_512)) (q := fullShare) (X := rv I .ccw .h1 .q1 c) (hst := fun _ => rfl) (hsq := squeezes_S1x512x512_S512x512) (v := unsq (rv I .ccw .h1 .q1 c)) rfl rfl) $$ [Hsr_rsccwh1q1]
  · iexact Hsr_rsccwh1q1
  iintro Hsr_rsccwh1q1
  iapply (load_sub (X := pc I .ccw .h2 c) (v := pch I .ccw .h2 .q1 c) rfl) $$ [Hb18]
  · iexact Hb18
  iintro Hb18
  iapply (load_slot (r := (Rect.unit (s := S3x512x1024) ![1, 0, 512] S1x512x512.size inb_S3x512x1024_S1x512x512_1_0_512)) (q := fullShare) (X := rv I .ccw .h1 .q1 c) (hst := fun _ => rfl) (hsq := squeezes_S1x512x512_S512x512) (v := unsq (rv I .ccw .h1 .q1 c)) rfl rfl) $$ [Hsr_rsccwh1q1]
  · iexact Hsr_rsccwh1q1
  iintro Hsr_rsccwh1q1
  iapply (store_slot (r := (Rect.unit (s := S3x512x1024) ![1, 0, 512] S1x512x512.size inb_S3x512x1024_S1x512x512_1_0_512)) (hst := fun _ => rfl) (hsq := squeezes_S1x512x512_S512x512)) $$ [Hsr_rsccwh1q1]
  · iexact Hsr_rsccwh1q1
  iintro Hsr_rsccwh1q1
  iapply (step_send I (N := N) (.rs .ccw .h2 .q1) (rest 24) (dev26 c) rfl rfl (rdst_credit .ccw .h2 .q1) (q := fullShare) (X := rs I .ccw .h2 .q1 c) BIBase.Entails.rfl BIBase.Entails.rfl (arrive_r I .ccw .h2 .q1)) $$ [Hrd_rsccwh2q1 Hsl_rsccwh2q1 Hsr_rsccwh1q1 How]
  · isplitr; · iexact HR
    isplitl [Hrd_rsccwh2q1]; · iexact Hrd_rsccwh2q1
    isplitl [Hsl_rsccwh2q1]; · iexact Hsl_rsccwh2q1
    isplitl [Hsr_rsccwh1q1]; · iexact Hsr_rsccwh1q1
    iexact How
  iintro ⟨Hse_rsccwh2q1, How⟩
  ihave Hq := Hk $$ [How Hvr_rsccwh1q1 Hb18 Hse_rsccwh2q1]
  · isplitl [How]; · iexact How
    isplitl [Hvr_rsccwh1q1]; · iexact Hvr_rsccwh1q1
    isplitl [Hb18]; · iexact Hb18
    iexact Hse_rsccwh2q1
  iapply run_pure; iexact Hq

end Cert.KernelIdeal.Moe
-- ==== Proof.PartsE.lean ====
/-
  The final additions and the departures.
-/
module

public import proofs.«01_k».proof.Proof.Buffers

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

theorem part30_run {Q : _ → sProp (MT nD τ sig Unit (Elt F) ℕ UU ℕ)} (v5 : BitVec 32) :
    iprop(records I N ∗ ow (rest 24) c ∗ await (.rs .cw .h2 .q0) c ∗ owns (c : Thread nD τ) (Memref.whole cc0_stg6_0) fullShare (loc I c) ∗ await (.rs .ccw .h2 .q0) c)
      ⊢ iprop(((ow (rest 24) c ∗ semVal (recvCell (.rs .cw .h2 .q0) c) 0 ∗ owns (c : Thread nD τ) (rdst .cw .h2 .q0) fullShare (rv I .cw .h2 .q0 c) ∗ owns (c : Thread nD τ) (Memref.whole cc0_stg6_0) fullShare (out2 I c) ∗ semVal (recvCell (.rs .ccw .h2 .q0) c) 0 ∗ owns (c : Thread nD τ) (rdst .ccw .h2 .q0) fullShare (rv I .ccw .h2 .q0 c)) -∗ Q ⟨⟩) -∗ Run c (onBufs (k0_part30 (F := F)) v5) Q) := by
  rw [k0_part30_eq_skeleton]
  dsimp only [onBufs, k0_part30_skel]
  iintro ⟨#HR, How, Haw_rscwh2q0, Hb6, Haw_rsccwh2q0⟩ Hk
  iapply (step_recv I (N := N) (.rs .cw .h2 .q0) (rest 24) (by decide) rfl (rdst_credit .cw .h2 .q0)) $$ [Haw_rscwh2q0 How]
  · isplitr; · iexact HR
    isplitl [Haw_rscwh2q0]; · iexact Haw_rscwh2q0
    iexact How
  iintro ⟨Hvr_rscwh2q0, Hsr_rscwh2q0, How⟩
  ihave Hsr_rscwh2q0 := (Entails.of_eq (show recvPay I (.rs .cw .h2 .q0) c = owns (c : Thread nD τ) (rdst .cw .h2 .q0) fullShare (rv I .cw .h2 .q0 c) from rfl)) $$ Hsr_rscwh2q0
  iapply (load_sub (X := loc I c) (v := sub rc00 (loc I c)) rfl) $$ [Hb6]
  · iexact Hb6
  iintro Hb6
  iapply (load_slot (r := (Rect.unit (s := S3x512x1024) ![2, 0, 0] S1x512x512.size inb_S3x512x1024_S1x512x512_2_0_0)) (q := fullShare) (X := rv I .cw .h2 .q0 c) (hst := fun _ => rfl) (hsq := squeezes_S1x512x512_S512x512) (v := unsq (rv I .cw .h2 .q0 c)) rfl rfl) $$ [Hsr_rscwh2q0]
  · iexact Hsr_rscwh2q0
  iintro Hsr_rscwh2q0
  iapply (load_sub (X := loc I c) (v := sub rc00 (loc I c)) rfl) $$ [Hb6]
  · iexact Hb6
  iintro Hb6
  iapply store_sub $$ [Hb6]
  · iexact Hb6
  iintro Hb6
  iapply (step_recv I (N := N) (.rs .ccw .h2 .q0) (rest 24) (by decide) rfl (rdst_credit .ccw .h2 .q0)) $$ [Haw_rsccwh2q0 How]
  · isplitr; · iexact HR
    isplitl [Haw_rsccwh2q0]; · iexact Haw_rsccwh2q0
    iexact How
  iintro ⟨Hvr_rsccwh2q0, Hsr_rsccwh2q0, How⟩
  ihave Hsr_rsccwh2q0 := (Entails.of_eq (show recvPay I (.rs .ccw .h2 .q0) c = owns (c : Thread nD τ) (rdst .ccw .h2 .q0) fullShare (rv I .ccw .h2 .q0 c) from rfl)) $$ Hsr_rsccwh2q0
  iapply (load_sub (X := out1 I c) (v := sub rc10 (out1 I c)) rfl) $$ [Hb6]
  · iexact Hb6
  iintro Hb6
  iapply (load_slot (r := (Rect.unit (s := S3x512x1024) ![2, 0, 0] S1x512x512.size inb_S3x512x1024_S1x512x512_2_0_0)) (q := fullShare) (X := rv I .ccw .h2 .q0 c) (hst := fun _ => rfl) (hsq := squeezes_S1x512x512_S512x512) (v := unsq (rv I .ccw .h2 .q0 c)) rfl rfl) $$ [Hsr_rsccwh2q0]
  · iexact Hsr_rsccwh2q0
  iintro Hsr_rsccwh2q0
  iapply (load_sub (X := out1 I c) (v := sub rc10 (out1 I c)) rfl) $$ [Hb6]
  · iexact Hb6
  iintro Hb6
  iapply store_sub $$ [Hb6]
  · iexact Hb6
  iintro Hb6
  ihave Hq := Hk $$ [How Hvr_rscwh2q0 Hsr_rscwh2q0 Hb6 Hvr_rsccwh2q0 Hsr_rsccwh2q0]
  · isplitl [How]; · iexact How
    isplitl [Hvr_rscwh2q0]; · iexact Hvr_rscwh2q0
    isplitl [Hsr_rscwh2q0]; · iexact Hsr_rscwh2q0
    isplitl [Hb6]; · iexact Hb6
    isplitl [Hvr_rsccwh2q0]; · iexact Hvr_rsccwh2q0
    iexact Hsr_rsccwh2q0
  iapply run_pure; iexact Hq

theorem part31_run {Q : _ → sProp (MT nD τ sig Unit (Elt F) ℕ UU ℕ)} (v5 : BitVec 32) (v7 : BitVec 32) :
    iprop(records I N ∗ ow (rest 24) c ∗ await (.rs .cw .h2 .q1) c ∗ owns (c : Thread nD τ) (Memref.whole cc0_stg6_0) fullShare (out2 I c) ∗ await (.rs .ccw .h2 .q1) c)
      ⊢ iprop(((ow (rest 24) c ∗ semVal (recvCell (.rs .cw .h2 .q1) c) 0 ∗ owns (c : Thread nD τ) (rdst .cw .h2 .q1) fullShare (rv I .cw .h2 .q1 c) ∗ owns (c : Thread nD τ) (Memref.whole cc0_stg6_0) fullShare (out3 I c) ∗ semVal (recvCell (.rs .ccw .h2 .q1) c) 0 ∗ owns (c : Thread nD τ) (rdst .ccw .h2 .q1) fullShare (rv I .ccw .h2 .q1 c)) -∗ Q ⟨k0_pay80 (sub rc11 (out3 I c)), k0_pay81 (unsq (rv I .ccw .h2 .q1 c))⟩) -∗ Run c (onBufs (k0_part31 (F := F)) v5 v7) Q) := by
  rw [k0_part31_eq_skeleton]
  dsimp only [onBufs, k0_part31_skel]
  iintro ⟨#HR, How, Haw_rscwh2q1, Hb6, Haw_rsccwh2q1⟩ Hk
  iapply (step_recv I (N := N) (.rs .cw .h2 .q1) (rest 24) (by decide) rfl (rdst_credit .cw .h2 .q1)) $$ [Haw_rscwh2q1 How]
  · isplitr; · iexact HR
    isplitl [Haw_rscwh2q1]; · iexact Haw_rscwh2q1
    iexact How
  iintro ⟨Hvr_rscwh2q1, Hsr_rscwh2q1, How⟩
  ihave Hsr_rscwh2q1 := (Entails.of_eq (show recvPay I (.rs .cw .h2 .q1) c = owns (c : Thread nD τ) (rdst .cw .h2 .q1) fullShare (rv I .cw .h2 .q1 c) from rfl)) $$ Hsr_rscwh2q1
  iapply (load_sub (X := out2 I c) (v := sub rc01 (out2 I c)) rfl) $$ [Hb6]
  · iexact Hb6
  iintro Hb6
  iapply (load_slot (r := (Rect.unit (s := S3x512x1024) ![2, 0, 512] S1x512x512.size inb_S3x512x1024_S1x512x512_2_0_512)) (q := fullShare) (X := rv I .cw .h2 .q1 c) (hst := fun _ => rfl) (hsq := squeezes_S1x512x512_S512x512) (v := unsq (rv I .cw .h2 .q1 c)) rfl rfl) $$ [Hsr_rscwh2q1]
  · iexact Hsr_rscwh2q1
  iintro Hsr_rscwh2q1
  iapply (load_sub (X := out2 I c) (v := sub rc01 (out2 I c)) rfl) $$ [Hb6]
  · iexact Hb6
  iintro Hb6
  iapply store_sub $$ [Hb6]
  · iexact Hb6
  iintro Hb6
  iapply (step_recv I (N := N) (.rs .ccw .h2 .q1) (rest 24) (by decide) rfl (rdst_credit .ccw .h2 .q1)) $$ [Haw_rsccwh2q1 How]
  · isplitr; · iexact HR
    isplitl [Haw_rsccwh2q1]; · iexact Haw_rsccwh2q1
    iexact How
  iintro ⟨Hvr_rsccwh2q1, Hsr_rsccwh2q1, How⟩
  ihave Hsr_rsccwh2q1 := (Entails.of_eq (show recvPay I (.rs .ccw .h2 .q1) c = owns (c : Thread nD τ) (rdst .ccw .h2 .q1) fullShare (rv I .ccw .h2 .q1 c) from rfl)) $$ Hsr_rsccwh2q1
  iapply (load_sub (X := out3 I c) (v := sub rc11 (out3 I c)) rfl) $$ [Hb6]
  · iexact Hb6
  iintro Hb6
  iapply (load_slot (r := (Rect.unit (s := S3x512x1024) ![2, 0, 512] S1x512x512.size inb_S3x512x1024_S1x512x512_2_0_512)) (q := fullShare) (X := rv I .ccw .h2 .q1 c) (hst := fun _ => rfl) (hsq := squeezes_S1x512x512_S512x512) (v := unsq (rv I .ccw .h2 .q1 c)) rfl rfl) $$ [Hsr_rsccwh2q1]
  · iexact Hsr_rsccwh2q1
  iintro Hsr_rsccwh2q1
  ihave Hq := Hk $$ [How Hvr_rscwh2q1 Hsr_rscwh2q1 Hb6 Hvr_rsccwh2q1 Hsr_rsccwh2q1]
  · isplitl [How]; · iexact How
    isplitl [Hvr_rscwh2q1]; · iexact Hvr_rscwh2q1
    isplitl [Hsr_rscwh2q1]; · iexact Hsr_rscwh2q1
    isplitl [Hb6]; · iexact Hb6
    isplitl [Hvr_rsccwh2q1]; · iexact Hvr_rsccwh2q1
    iexact Hsr_rsccwh2q1
  iapply run_pure; iexact Hq

theorem part32_run {Q : _ → sProp (MT nD τ sig Unit (Elt F) ℕ UU ℕ)}  :
    iprop(records I N ∗ owns (c : Thread nD τ) (Memref.whole cc0_stg6_0) fullShare (out3 I c) ∗ ow (rest 24) c ∗ sent (.kx .cw .h0) c ∗ sent (.kx .ccw .h0) c ∗ sent (.kg .cw .h0) c ∗ sent (.kg .ccw .h0) c)
      ⊢ iprop(((owns (c : Thread nD τ) (Memref.whole cc0_stg6_0) fullShare (out I c) ∗ ow (rest 24) c ∗ semVal (sendCell (.kx .cw .h0) c) 0 ∗ sendPay I (.kx .cw .h0) c ∗ semVal (sendCell (.kx .ccw .h0) c) 0 ∗ sendPay I (.kx .ccw .h0) c ∗ semVal (sendCell (.kg .cw .h0) c) 0 ∗ sendPay I (.kg .cw .h0) c ∗ semVal (sendCell (.kg .ccw .h0) c) 0 ∗ sendPay I (.kg .ccw .h0) c) -∗ Q ⟨⟩) -∗ Run c (onBufs (k0_part32 (F := F)) (k0_pay80 (sub rc11 (out3 I c))) (k0_pay81 (unsq (rv I .ccw .h2 .q1 c)))) Q) := by
  rw [k0_part32_eq_skeleton]
  dsimp only [onBufs, k0_part32_skel]
  iintro ⟨#HR, Hb6, How, Hse_kxcwh0, Hse_kxccwh0, Hse_kgcwh0, Hse_kgccwh0⟩ Hk
  iapply (load_sub (X := out3 I c) (v := sub rc11 (out3 I c)) rfl) $$ [Hb6]
  · iexact Hb6
  iintro Hb6
  iapply store_sub $$ [Hb6]
  · iexact Hb6
  iintro Hb6
  iapply (step_drain I (N := N) (.kx .cw .h0) rfl (xfrom_credit .cw .h0)) $$ [Hse_kxcwh0 How]
  · isplitr; · iexact HR
    isplitl [Hse_kxcwh0]; · iexact Hse_kxcwh0
    iexact How
  iintro ⟨Hvs_kxcwh0, Hba_kxcwh0, How⟩
  iapply (step_drain I (N := N) (.kx .ccw .h0) rfl (xfrom_credit .ccw .h0)) $$ [Hse_kxccwh0 How]
  · isplitr; · iexact HR
    isplitl [Hse_kxccwh0]; · iexact Hse_kxccwh0
    iexact How
  iintro ⟨Hvs_kxccwh0, Hba_kxccwh0, How⟩
  iapply (step_drain I (N := N) (.kg .cw .h0) rfl (gfrom_credit .cw .h0)) $$ [Hse_kgcwh0 How]
  · isplitr; · iexact HR
    isplitl [Hse_kgcwh0]; · iexact Hse_kgcwh0
    iexact How
  iintro ⟨Hvs_kgcwh0, Hba_kgcwh0, How⟩
  iapply (step_drain I (N := N) (.kg .ccw .h0) rfl (gfrom_credit .ccw .h0)) $$ [Hse_kgccwh0 How]
  · isplitr; · iexact HR
    isplitl [Hse_kgccwh0]; · iexact Hse_kgccwh0
    iexact How
  iintro ⟨Hvs_kgccwh0, Hba_kgccwh0, How⟩
  ihave Hq := Hk $$ [Hb6 How Hvs_kxcwh0 Hba_kxcwh0 Hvs_kxccwh0 Hba_kxccwh0 Hvs_kgcwh0 Hba_kgcwh0 Hvs_kgccwh0 Hba_kgccwh0]
  · isplitl [Hb6]; · iexact Hb6
    isplitl [How]; · iexact How
    isplitl [Hvs_kxcwh0]; · iexact Hvs_kxcwh0
    isplitl [Hba_kxcwh0]; · iexact Hba_kxcwh0
    isplitl [Hvs_kxccwh0]; · iexact Hvs_kxccwh0
    isplitl [Hba_kxccwh0]; · iexact Hba_kxccwh0
    isplitl [Hvs_kgcwh0]; · iexact Hvs_kgcwh0
    isplitl [Hba_kgcwh0]; · iexact Hba_kgcwh0
    isplitl [Hvs_kgccwh0]; · iexact Hvs_kgccwh0
    iexact Hba_kgccwh0
  iapply run_pure; iexact Hq

theorem part33_run {Q : _ → sProp (MT nD τ sig Unit (Elt F) ℕ UU ℕ)}  :
    iprop(records I N ∗ ow (rest 24) c ∗ sent (.kx .cw .h2) c ∗ sent (.kx .ccw .h2) c ∗ sent (.kg .cw .h2) c ∗ sent (.kg .ccw .h2) c)
      ⊢ iprop(((ow (rest 24) c ∗ semVal (sendCell (.kx .cw .h2) c) 0 ∗ sendPay I (.kx .cw .h2) c ∗ semVal (sendCell (.kx .ccw .h2) c) 0 ∗ sendPay I (.kx .ccw .h2) c ∗ semVal (sendCell (.kg .cw .h2) c) 0 ∗ sendPay I (.kg .cw .h2) c ∗ semVal (sendCell (.kg .ccw .h2) c) 0 ∗ sendPay I (.kg .ccw .h2) c) -∗ Q ⟨⟩) -∗ Run c (onBufs (k0_part33 (F := F))) Q) := by
  rw [k0_part33_eq_skeleton]
  dsimp only [onBufs, k0_part33_skel]
  iintro ⟨#HR, How, Hse_kxcwh2, Hse_kxccwh2, Hse_kgcwh2, Hse_kgccwh2⟩ Hk
  iapply (step_drain I (N := N) (.kx .cw .h2) rfl (xfrom_credit .cw .h2)) $$ [Hse_kxcwh2 How]
  · isplitr; · iexact HR
    isplitl [Hse_kxcwh2]; · iexact Hse_kxcwh2
    iexact How
  iintro ⟨Hvs_kxcwh2, Hba_kxcwh2, How⟩
  iapply (step_drain I (N := N) (.kx .ccw .h2) rfl (xfrom_credit .ccw .h2)) $$ [Hse_kxccwh2 How]
  · isplitr; · iexact HR
    isplitl [Hse_kxccwh2]; · iexact Hse_kxccwh2
    iexact How
  iintro ⟨Hvs_kxccwh2, Hba_kxccwh2, How⟩
  iapply (step_drain I (N := N) (.kg .cw .h2) rfl (gfrom_credit .cw .h2)) $$ [Hse_kgcwh2 How]
  · isplitr; · iexact HR
    isplitl [Hse_kgcwh2]; · iexact Hse_kgcwh2
    iexact How
  iintro ⟨Hvs_kgcwh2, Hba_kgcwh2, How⟩
  iapply (step_drain I (N := N) (.kg .ccw .h2) rfl (gfrom_credit .ccw .h2)) $$ [Hse_kgccwh2 How]
  · isplitr; · iexact HR
    isplitl [Hse_kgccwh2]; · iexact Hse_kgccwh2
    iexact How
  iintro ⟨Hvs_kgccwh2, Hba_kgccwh2, How⟩
  ihave Hq := Hk $$ [How Hvs_kxcwh2 Hba_kxcwh2 Hvs_kxccwh2 Hba_kxccwh2 Hvs_kgcwh2 Hba_kgcwh2 Hvs_kgccwh2 Hba_kgccwh2]
  · isplitl [How]; · iexact How
    isplitl [Hvs_kxcwh2]; · iexact Hvs_kxcwh2
    isplitl [Hba_kxcwh2]; · iexact Hba_kxcwh2
    isplitl [Hvs_kxccwh2]; · iexact Hvs_kxccwh2
    isplitl [Hba_kxccwh2]; · iexact Hba_kxccwh2
    isplitl [Hvs_kgcwh2]; · iexact Hvs_kgcwh2
    isplitl [Hba_kgcwh2]; · iexact Hba_kgcwh2
    isplitl [Hvs_kgccwh2]; · iexact Hvs_kgccwh2
    iexact Hba_kgccwh2
  iapply run_pure; iexact Hq

theorem part34_run {Q : _ → sProp (MT nD τ sig Unit (Elt F) ℕ UU ℕ)}  :
    iprop(records I N ∗ ow (rest 24) c ∗ sent (.kx .cw .h1) c ∗ sent (.kg .cw .h1) c ∗ sent (.kx .ccw .h1) c)
      ⊢ iprop(((ow (rest 24) c ∗ semVal (sendCell (.kx .cw .h1) c) 0 ∗ sendPay I (.kx .cw .h1) c ∗ semVal (sendCell (.kg .cw .h1) c) 0 ∗ sendPay I (.kg .cw .h1) c ∗ semVal (sendCell (.kx .ccw .h1) c) 0 ∗ sendPay I (.kx .ccw .h1) c) -∗ Q ⟨⟩) -∗ Run c (onBufs (k0_part34 (F := F))) Q) := by
  rw [k0_part34_eq_skeleton]
  dsimp only [onBufs, k0_part34_skel]
  iintro ⟨#HR, How, Hse_kxcwh1, Hse_kgcwh1, Hse_kxccwh1⟩ Hk
  iapply (step_drain I (N := N) (.kx .cw .h1) rfl (xfrom_credit .cw .h1)) $$ [Hse_kxcwh1 How]
  · isplitr; · iexact HR
    isplitl [Hse_kxcwh1]; · iexact Hse_kxcwh1
    iexact How
  iintro ⟨Hvs_kxcwh1, Hba_kxcwh1, How⟩
  iapply (step_drain I (N := N) (.kg .cw .h1) rfl (gfrom_credit .cw .h1)) $$ [Hse_kgcwh1 How]
  · isplitr; · iexact HR
    isplitl [Hse_kgcwh1]; · iexact Hse_kgcwh1
    iexact How
  iintro ⟨Hvs_kgcwh1, Hba_kgcwh1, How⟩
  iapply (step_drain I (N := N) (.kx .ccw .h1) rfl (xfrom_credit .ccw .h1)) $$ [Hse_kxccwh1 How]
  · isplitr; · iexact HR
    isplitl [Hse_kxccwh1]; · iexact Hse_kxccwh1
    iexact How
  iintro ⟨Hvs_kxccwh1, Hba_kxccwh1, How⟩
  ihave Hq := Hk $$ [How Hvs_kxcwh1 Hba_kxcwh1 Hvs_kgcwh1 Hba_kgcwh1 Hvs_kxccwh1 Hba_kxccwh1]
  · isplitl [How]; · iexact How
    isplitl [Hvs_kxcwh1]; · iexact Hvs_kxcwh1
    isplitl [Hba_kxcwh1]; · iexact Hba_kxcwh1
    isplitl [Hvs_kgcwh1]; · iexact Hvs_kgcwh1
    isplitl [Hba_kgcwh1]; · iexact Hba_kgcwh1
    isplitl [Hvs_kxccwh1]; · iexact Hvs_kxccwh1
    iexact Hba_kxccwh1
  iapply run_pure; iexact Hq

theorem part35_run {Q : _ → sProp (MT nD τ sig Unit (Elt F) ℕ UU ℕ)}  :
    iprop(records I N ∗ ow (rest 24) c ∗ sent (.kg .ccw .h1) c ∗ sent (.rs .cw .h0 .q0) c ∗ sent (.rs .cw .h0 .q1) c ∗ sent (.rs .ccw .h0 .q0) c)
      ⊢ iprop(((ow (rest 24) c ∗ semVal (sendCell (.kg .ccw .h1) c) 0 ∗ sendPay I (.kg .ccw .h1) c ∗ semVal (sendCell (.rs .cw .h0 .q0) c) 0 ∗ sendPay I (.rs .cw .h0 .q0) c ∗ semVal (sendCell (.rs .cw .h0 .q1) c) 0 ∗ sendPay I (.rs .cw .h0 .q1) c ∗ semVal (sendCell (.rs .ccw .h0 .q0) c) 0 ∗ sendPay I (.rs .ccw .h0 .q0) c) -∗ Q ⟨⟩) -∗ Run c (onBufs (k0_part35 (F := F))) Q) := by
  rw [k0_part35_eq_skeleton]
  dsimp only [onBufs, k0_part35_skel]
  iintro ⟨#HR, How, Hse_kgccwh1, Hse_rscwh0q0, Hse_rscwh0q1, Hse_rsccwh0q0⟩ Hk
  iapply (step_drain I (N := N) (.kg .ccw .h1) rfl (gfrom_credit .ccw .h1)) $$ [Hse_kgccwh1 How]
  · isplitr; · iexact HR
    isplitl [Hse_kgccwh1]; · iexact Hse_kgccwh1
    iexact How
  iintro ⟨Hvs_kgccwh1, Hba_kgccwh1, How⟩
  iapply (step_drain I (N := N) (.rs .cw .h0 .q0) rfl (rfrom_credit .cw .h0 .q0)) $$ [Hse_rscwh0q0 How]
  · isplitr; · iexact HR
    isplitl [Hse_rscwh0q0]; · iexact Hse_rscwh0q0
    iexact How
  iintro ⟨Hvs_rscwh0q0, Hba_rscwh0q0, How⟩
  iapply (step_drain I (N := N) (.rs .cw .h0 .q1) rfl (rfrom_credit .cw .h0 .q1)) $$ [Hse_rscwh0q1 How]
  · isplitr; · iexact HR
    isplitl [Hse_rscwh0q1]; · iexact Hse_rscwh0q1
    iexact How
  iintro ⟨Hvs_rscwh0q1, Hba_rscwh0q1, How⟩
  iapply (step_drain I (N := N) (.rs .ccw .h0 .q0) rfl (rfrom_credit .ccw .h0 .q0)) $$ [Hse_rsccwh0q0 How]
  · isplitr; · iexact HR
    isplitl [Hse_rsccwh0q0]; · iexact Hse_rsccwh0q0
    iexact How
  iintro ⟨Hvs_rsccwh0q0, Hba_rsccwh0q0, How⟩
  ihave Hq := Hk $$ [How Hvs_kgccwh1 Hba_kgccwh1 Hvs_rscwh0q0 Hba_rscwh0q0 Hvs_rscwh0q1 Hba_rscwh0q1 Hvs_rsccwh0q0 Hba_rsccwh0q0]
  · isplitl [How]; · iexact How
    isplitl [Hvs_kgccwh1]; · iexact Hvs_kgccwh1
    isplitl [Hba_kgccwh1]; · iexact Hba_kgccwh1
    isplitl [Hvs_rscwh0q0]; · iexact Hvs_rscwh0q0
    isplitl [Hba_rscwh0q0]; · iexact Hba_rscwh0q0
    isplitl [Hvs_rscwh0q1]; · iexact Hvs_rscwh0q1
    isplitl [Hba_rscwh0q1]; · iexact Hba_rscwh0q1
    isplitl [Hvs_rsccwh0q0]; · iexact Hvs_rsccwh0q0
    iexact Hba_rsccwh0q0
  iapply run_pure; iexact Hq

theorem part36_run {Q : _ → sProp (MT nD τ sig Unit (Elt F) ℕ UU ℕ)}  :
    iprop(records I N ∗ ow (rest 24) c ∗ sent (.rs .ccw .h0 .q1) c ∗ sent (.rs .cw .h1 .q0) c ∗ sent (.rs .cw .h1 .q1) c ∗ sent (.rs .ccw .h1 .q0) c)
      ⊢ iprop(((ow (rest 24) c ∗ semVal (sendCell (.rs .ccw .h0 .q1) c) 0 ∗ sendPay I (.rs .ccw .h0 .q1) c ∗ semVal (sendCell (.rs .cw .h1 .q0) c) 0 ∗ sendPay I (.rs .cw .h1 .q0) c ∗ semVal (sendCell (.rs .cw .h1 .q1) c) 0 ∗ sendPay I (.rs .cw .h1 .q1) c ∗ semVal (sendCell (.rs .ccw .h1 .q0) c) 0 ∗ sendPay I (.rs .ccw .h1 .q0) c) -∗ Q ⟨⟩) -∗ Run c (onBufs (k0_part36 (F := F))) Q) := by
  rw [k0_part36_eq_skeleton]
  dsimp only [onBufs, k0_part36_skel]
  iintro ⟨#HR, How, Hse_rsccwh0q1, Hse_rscwh1q0, Hse_rscwh1q1, Hse_rsccwh1q0⟩ Hk
  iapply (step_drain I (N := N) (.rs .ccw .h0 .q1) rfl (rfrom_credit .ccw .h0 .q1)) $$ [Hse_rsccwh0q1 How]
  · isplitr; · iexact HR
    isplitl [Hse_rsccwh0q1]; · iexact Hse_rsccwh0q1
    iexact How
  iintro ⟨Hvs_rsccwh0q1, Hba_rsccwh0q1, How⟩
  iapply (step_drain I (N := N) (.rs .cw .h1 .q0) rfl (rfrom_credit .cw .h1 .q0)) $$ [Hse_rscwh1q0 How]
  · isplitr; · iexact HR
    isplitl [Hse_rscwh1q0]; · iexact Hse_rscwh1q0
    iexact How
  iintro ⟨Hvs_rscwh1q0, Hba_rscwh1q0, How⟩
  iapply (step_drain I (N := N) (.rs .cw .h1 .q1) rfl (rfrom_credit .cw .h1 .q1)) $$ [Hse_rscwh1q1 How]
  · isplitr; · iexact HR
    isplitl [Hse_rscwh1q1]; · iexact Hse_rscwh1q1
    iexact How
  iintro ⟨Hvs_rscwh1q1, Hba_rscwh1q1, How⟩
  iapply (step_drain I (N := N) (.rs .ccw .h1 .q0) rfl (rfrom_credit .ccw .h1 .q0)) $$ [Hse_rsccwh1q0 How]
  · isplitr; · iexact HR
    isplitl [Hse_rsccwh1q0]; · iexact Hse_rsccwh1q0
    iexact How
  iintro ⟨Hvs_rsccwh1q0, Hba_rsccwh1q0, How⟩
  ihave Hq := Hk $$ [How Hvs_rsccwh0q1 Hba_rsccwh0q1 Hvs_rscwh1q0 Hba_rscwh1q0 Hvs_rscwh1q1 Hba_rscwh1q1 Hvs_rsccwh1q0 Hba_rsccwh1q0]
  · isplitl [How]; · iexact How
    isplitl [Hvs_rsccwh0q1]; · iexact Hvs_rsccwh0q1
    isplitl [Hba_rsccwh0q1]; · iexact Hba_rsccwh0q1
    isplitl [Hvs_rscwh1q0]; · iexact Hvs_rscwh1q0
    isplitl [Hba_rscwh1q0]; · iexact Hba_rscwh1q0
    isplitl [Hvs_rscwh1q1]; · iexact Hvs_rscwh1q1
    isplitl [Hba_rscwh1q1]; · iexact Hba_rscwh1q1
    isplitl [Hvs_rsccwh1q0]; · iexact Hvs_rsccwh1q0
    iexact Hba_rsccwh1q0
  iapply run_pure; iexact Hq

theorem part37_run {Q : _ → sProp (MT nD τ sig Unit (Elt F) ℕ UU ℕ)}  :
    iprop(records I N ∗ ow (rest 24) c ∗ sent (.rs .ccw .h1 .q1) c ∗ sent (.rs .cw .h2 .q0) c ∗ sent (.rs .cw .h2 .q1) c)
      ⊢ iprop(((ow (rest 24) c ∗ semVal (sendCell (.rs .ccw .h1 .q1) c) 0 ∗ sendPay I (.rs .ccw .h1 .q1) c ∗ semVal (sendCell (.rs .cw .h2 .q0) c) 0 ∗ sendPay I (.rs .cw .h2 .q0) c ∗ semVal (sendCell (.rs .cw .h2 .q1) c) 0 ∗ sendPay I (.rs .cw .h2 .q1) c) -∗ Q ⟨⟩) -∗ Run c (onBufs (k0_part37 (F := F))) Q) := by
  rw [k0_part37_eq_skeleton]
  dsimp only [onBufs, k0_part37_skel]
  iintro ⟨#HR, How, Hse_rsccwh1q1, Hse_rscwh2q0, Hse_rscwh2q1⟩ Hk
  iapply (step_drain I (N := N) (.rs .ccw .h1 .q1) rfl (rfrom_credit .ccw .h1 .q1)) $$ [Hse_rsccwh1q1 How]
  · isplitr; · iexact HR
    isplitl [Hse_rsccwh1q1]; · iexact Hse_rsccwh1q1
    iexact How
  iintro ⟨Hvs_rsccwh1q1, Hba_rsccwh1q1, How⟩
  iapply (step_drain I (N := N) (.rs .cw .h2 .q0) rfl (rfrom_credit .cw .h2 .q0)) $$ [Hse_rscwh2q0 How]
  · isplitr; · iexact HR
    isplitl [Hse_rscwh2q0]; · iexact Hse_rscwh2q0
    iexact How
  iintro ⟨Hvs_rscwh2q0, Hba_rscwh2q0, How⟩
  iapply (step_drain I (N := N) (.rs .cw .h2 .q1) rfl (rfrom_credit .cw .h2 .q1)) $$ [Hse_rscwh2q1 How]
  · isplitr; · iexact HR
    isplitl [Hse_rscwh2q1]; · iexact Hse_rscwh2q1
    iexact How
  iintro ⟨Hvs_rscwh2q1, Hba_rscwh2q1, How⟩
  ihave Hq := Hk $$ [How Hvs_rsccwh1q1 Hba_rsccwh1q1 Hvs_rscwh2q0 Hba_rscwh2q0 Hvs_rscwh2q1 Hba_rscwh2q1]
  · isplitl [How]; · iexact How
    isplitl [Hvs_rsccwh1q1]; · iexact Hvs_rsccwh1q1
    isplitl [Hba_rsccwh1q1]; · iexact Hba_rsccwh1q1
    isplitl [Hvs_rscwh2q0]; · iexact Hvs_rscwh2q0
    isplitl [Hba_rscwh2q0]; · iexact Hba_rscwh2q0
    isplitl [Hvs_rscwh2q1]; · iexact Hvs_rscwh2q1
    iexact Hba_rscwh2q1
  iapply run_pure; iexact Hq

end Cert.KernelIdeal.Moe
-- ==== Proof.Body.lean ====
/-
  The whole kernel on one device: its parts in order.
-/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

set_option maxHeartbeats 2000000

/-- What a device holds when its kernel starts. -/
def before (u6 : Vec F S1024x1024 .f32) (u11 : Vec F S512x16 .bf16) (u12 : Vec F S512x16 .bf16) (u17 : Vec F S512x1024 .f32) (u18 : Vec F S512x1024 .f32) (u27 : Vec F S512x2048 .bf16) (u28 : Vec F S512x2048 .bf16) (u29 : Vec F S1024x2048 .bf16) (u13q0 : Vec F S512x512 .bf16) (u13q1 : Vec F S512x512 .bf16) (u14q0 : Vec F S512x512 .bf16) (u14q1 : Vec F S512x512 .bf16) : sProp (MT nD τ sig Unit (Elt F) ℕ UU ℕ) :=
  iprop(iprop(∃ W, owes (c : Thread nD τ) (O₀ c) W) ∗ dutyTok ER (barCell (prv c)) 0 (Duty.bar .cw) ∗ slots (F := F) .cw c ∗ reached ER (barCell (prv c)) 0 ∗ dutyTok ER (barCell (nxt c)) 0 (Duty.bar .ccw) ∗ slots (F := F) .ccw c ∗ reached ER (barCell (nxt c)) 0 ∗ atPos ER (barCell c) 0 ∅ 0 ∗ cred (tallyAt (barCell c) () 2) ∗ ready (.kx .cw .h0) c ∗ owns (c : Thread nD τ) (xown .cw) fullShare.left (xh I .cw c) ∗ ready (.kx .ccw .h0) c ∗ owns (c : Thread nD τ) (xown .ccw) fullShare.left (xh I .ccw c) ∗ owns (c : Thread nD τ) (Memref.whole cc0_stg0_0) fullShare (I.x c) ∗ owns (c : Thread nD τ) (Memref.whole cc0_stg1_0) fullShare (I.rw c) ∗ owns (c : Thread nD τ) (Memref.whole cc0_stg2_0) fullShare (I.ri c) ∗ owns (c : Thread nD τ) (Memref.whole cc0_scratch4) fullShare (u11) ∗ owns (c : Thread nD τ) (Memref.whole cc0_scratch5) fullShare (u12) ∗ ready (.kg .cw .h0) c ∗ ready (.kg .ccw .h0) c ∗ owns (c : Thread nD τ) (Memref.whole cc0_scratch22) fullShare (u29) ∗ owns (c : Thread nD τ) (Memref.whole cc0_stg3_0) fullShare (I.ew c) ∗ owns (c : Thread nD τ) (Memref.whole cc0_stg6_0) fullShare (u6) ∗ ready (.kx .cw .h2) c ∗ owns (c : Thread nD τ) (xown .cw) fullShare.right (xh I .cw c) ∗ ready (.kx .ccw .h2) c ∗ owns (c : Thread nD τ) (xown .ccw) fullShare.right (xh I .ccw c) ∗ ready (.kg .cw .h2) c ∗ ready (.kg .ccw .h2) c ∗ await (.kx .cw .h0) c ∗ await (.kg .cw .h0) c ∗ ready (.kx .cw .h1) c ∗ ready (.kg .cw .h1) c ∗ await (.kx .ccw .h0) c ∗ await (.kg .ccw .h0) c ∗ ready (.kx .ccw .h1) c ∗ ready (.kg .ccw .h1) c ∗ owns (c : Thread nD τ) (Memref.whole cc0_scratch20) fullShare (u27) ∗ owns (c : Thread nD τ) (Memref.whole cc0_scratch10) fullShare (u17) ∗ owns (c : Thread nD τ) (rstart .cw .q0) fullShare (u13q0) ∗ ready (.rs .cw .h0 .q0) c ∗ owns (c : Thread nD τ) (rstart .cw .q1) fullShare (u13q1) ∗ ready (.rs .cw .h0 .q1) c ∗ owns (c : Thread nD τ) (Memref.whole cc0_scratch21) fullShare (u28) ∗ owns (c : Thread nD τ) (Memref.whole cc0_scratch11) fullShare (u18) ∗ owns (c : Thread nD τ) (rstart .ccw .q0) fullShare (u14q0) ∗ ready (.rs .ccw .h0 .q0) c ∗ owns (c : Thread nD τ) (rstart .ccw .q1) fullShare (u14q1) ∗ ready (.rs .ccw .h0 .q1) c ∗ await (.kx .cw .h1) c ∗ await (.kg .cw .h1) c ∗ await (.kx .ccw .h1) c ∗ await (.kg .ccw .h1) c ∗ await (.rs .cw .h0 .q0) c ∗ ready (.rs .cw .h1 .q0) c ∗ await (.rs .cw .h0 .q1) c ∗ ready (.rs .cw .h1 .q1) c ∗ await (.rs .ccw .h0 .q0) c ∗ ready (.rs .ccw .h1 .q0) c ∗ await (.rs .ccw .h0 .q1) c ∗ ready (.rs .ccw .h1 .q1) c ∗ await (.kx .cw .h2) c ∗ await (.kg .cw .h2) c ∗ await (.kx .ccw .h2) c ∗ await (.kg .ccw .h2) c ∗ await (.rs .cw .h1 .q0) c ∗ ready (.rs .cw .h2 .q0) c ∗ await (.rs .cw .h1 .q1) c ∗ ready (.rs .cw .h2 .q1) c ∗ await (.rs .ccw .h1 .q0) c ∗ ready (.rs .ccw .h2 .q0) c ∗ await (.rs .ccw .h1 .q1) c ∗ ready (.rs .ccw .h2 .q1) c ∗ await (.rs .cw .h2 .q0) c ∗ await (.rs .ccw .h2 .q0) c ∗ await (.rs .cw .h2 .q1) c ∗ await (.rs .ccw .h2 .q1) c)

/-- What it holds before the last departure is waited for. -/
def almost : sProp (MT nD τ sig Unit (Elt F) ℕ UU ℕ) :=
  iprop(ow (rest 24) c ∗ semVal (barCell c) 0 ∗ owns (c : Thread nD τ) (Memref.whole cc0_stg0_0) fullShare (I.x c) ∗ owns (c : Thread nD τ) (Memref.whole cc0_stg1_0) fullShare (I.rw c) ∗ owns (c : Thread nD τ) (Memref.whole cc0_stg2_0) fullShare (I.ri c) ∗ owns (c : Thread nD τ) (Memref.whole cc0_scratch22) fullShare (xgl I c) ∗ owns (c : Thread nD τ) (Memref.whole cc0_stg3_0) fullShare (I.ew c) ∗ owns (c : Thread nD τ) (Memref.whole cc0_stg6_0) fullShare (out I c) ∗ semVal (recvCell (.kx .cw .h0) c) 0 ∗ owns (c : Thread nD τ) (xdst .cw .h0) fullShare.left (xv I .cw .h0 c) ∗ semVal (recvCell (.kg .cw .h0) c) 0 ∗ owns (c : Thread nD τ) (gdst .cw .h0) fullShare.left (gv I .cw .h0 c) ∗ semVal (recvCell (.kx .ccw .h0) c) 0 ∗ owns (c : Thread nD τ) (xdst .ccw .h0) fullShare.left (xv I .ccw .h0 c) ∗ semVal (recvCell (.kg .ccw .h0) c) 0 ∗ owns (c : Thread nD τ) (gdst .ccw .h0) fullShare.left (gv I .ccw .h0 c) ∗ owns (c : Thread nD τ) (Memref.whole cc0_scratch20) fullShare (xgc I .cw .h2 c) ∗ owns (c : Thread nD τ) (Memref.whole cc0_scratch10) fullShare (pc I .cw .h2 c) ∗ owns (c : Thread nD τ) (Memref.whole cc0_scratch21) fullShare (xgc I .ccw .h2 c) ∗ owns (c : Thread nD τ) (Memref.whole cc0_scratch11) fullShare (pc I .ccw .h2 c) ∗ semVal (recvCell (.kx .cw .h1) c) 0 ∗ owns (c : Thread nD τ) (xdst .cw .h1) fullShare (xv I .cw .h1 c) ∗ semVal (recvCell (.kg .cw .h1) c) 0 ∗ owns (c : Thread nD τ) (gdst .cw .h1) fullShare (gv I .cw .h1 c) ∗ semVal (recvCell (.kx .ccw .h1) c) 0 ∗ owns (c : Thread nD τ) (xdst .ccw .h1) fullShare (xv I .ccw .h1 c) ∗ semVal (recvCell (.kg .ccw .h1) c) 0 ∗ owns (c : Thread nD τ) (gdst .ccw .h1) fullShare (gv I .ccw .h1 c) ∗ semVal (recvCell (.rs .cw .h0 .q0) c) 0 ∗ semVal (recvCell (.rs .cw .h0 .q1) c) 0 ∗ semVal (recvCell (.rs .ccw .h0 .q0) c) 0 ∗ semVal (recvCell (.rs .ccw .h0 .q1) c) 0 ∗ semVal (recvCell (.kx .cw .h2) c) 0 ∗ owns (c : Thread nD τ) (xdst .cw .h2) fullShare (xv I .cw .h2 c) ∗ semVal (recvCell (.kg .cw .h2) c) 0 ∗ owns (c : Thread nD τ) (gdst .cw .h2) fullShare (gv I .cw .h2 c) ∗ semVal (recvCell (.kx .ccw .h2) c) 0 ∗ owns (c : Thread nD τ) (xdst .ccw .h2) fullShare (xv I .ccw .h2 c) ∗ semVal (recvCell (.kg .ccw .h2) c) 0 ∗ owns (c : Thread nD τ) (gdst .ccw .h2) fullShare (gv I .ccw .h2 c) ∗ semVal (recvCell (.rs .cw .h1 .q0) c) 0 ∗ semVal (recvCell (.rs .cw .h1 .q1) c) 0 ∗ semVal (recvCell (.rs .ccw .h1 .q0) c) 0 ∗ semVal (recvCell (.rs .ccw .h1 .q1) c) 0 ∗ sent (.rs .ccw .h2 .q1) c ∗ semVal (recvCell (.rs .cw .h2 .q0) c) 0 ∗ owns (c : Thread nD τ) (rdst .cw .h2 .q0) fullShare (rv I .cw .h2 .q0 c) ∗ semVal (recvCell (.rs .ccw .h2 .q0) c) 0 ∗ owns (c : Thread nD τ) (rdst .ccw .h2 .q0) fullShare (rv I .ccw .h2 .q0 c) ∗ semVal (recvCell (.rs .cw .h2 .q1) c) 0 ∗ owns (c : Thread nD τ) (rdst .cw .h2 .q1) fullShare (rv I .cw .h2 .q1 c) ∗ semVal (recvCell (.rs .ccw .h2 .q1) c) 0 ∗ owns (c : Thread nD τ) (rdst .ccw .h2 .q1) fullShare (rv I .ccw .h2 .q1 c) ∗ semVal (sendCell (.kx .cw .h0) c) 0 ∗ sendPay I (.kx .cw .h0) c ∗ semVal (sendCell (.kx .ccw .h0) c) 0 ∗ sendPay I (.kx .ccw .h0) c ∗ semVal (sendCell (.kg .cw .h0) c) 0 ∗ sendPay I (.kg .cw .h0) c ∗ semVal (sendCell (.kg .ccw .h0) c) 0 ∗ sendPay I (.kg .ccw .h0) c ∗ semVal (sendCell (.kx .cw .h2) c) 0 ∗ sendPay I (.kx .cw .h2) c ∗ semVal (sendCell (.kx .ccw .h2) c) 0 ∗ sendPay I (.kx .ccw .h2) c ∗ semVal (sendCell (.kg .cw .h2) c) 0 ∗ sendPay I (.kg .cw .h2) c ∗ semVal (sendCell (.kg .ccw .h2) c) 0 ∗ sendPay I (.kg .ccw .h2) c ∗ semVal (sendCell (.kx .cw .h1) c) 0 ∗ sendPay I (.kx .cw .h1) c ∗ semVal (sendCell (.kg .cw .h1) c) 0 ∗ sendPay I (.kg .cw .h1) c ∗ semVal (sendCell (.kx .ccw .h1) c) 0 ∗ sendPay I (.kx .ccw .h1) c ∗ semVal (sendCell (.kg .ccw .h1) c) 0 ∗ sendPay I (.kg .ccw .h1) c ∗ semVal (sendCell (.rs .cw .h0 .q0) c) 0 ∗ sendPay I (.rs .cw .h0 .q0) c ∗ semVal (sendCell (.rs .cw .h0 .q1) c) 0 ∗ sendPay I (.rs .cw .h0 .q1) c ∗ semVal (sendCell (.rs .ccw .h0 .q0) c) 0 ∗ sendPay I (.rs .ccw .h0 .q0) c ∗ semVal (sendCell (.rs .ccw .h0 .q1) c) 0 ∗ sendPay I (.rs .ccw .h0 .q1) c ∗ semVal (sendCell (.rs .cw .h1 .q0) c) 0 ∗ sendPay I (.rs .cw .h1 .q0) c ∗ semVal (sendCell (.rs .cw .h1 .q1) c) 0 ∗ sendPay I (.rs .cw .h1 .q1) c ∗ semVal (sendCell (.rs .ccw .h1 .q0) c) 0 ∗ sendPay I (.rs .ccw .h1 .q0) c ∗ semVal (sendCell (.rs .ccw .h1 .q1) c) 0 ∗ sendPay I (.rs .ccw .h1 .q1) c ∗ semVal (sendCell (.rs .cw .h2 .q0) c) 0 ∗ sendPay I (.rs .cw .h2 .q0) c ∗ semVal (sendCell (.rs .cw .h2 .q1) c) 0 ∗ sendPay I (.rs .cw .h2 .q1) c ∗ semVal (sendCell (.rs .ccw .h2 .q0) c) 0 ∗ sendPay I (.rs .ccw .h2 .q0) c)

theorem part38_run (u6 : Vec F S1024x1024 .f32) (u11 : Vec F S512x16 .bf16) (u12 : Vec F S512x16 .bf16) (u17 : Vec F S512x1024 .f32) (u18 : Vec F S512x1024 .f32) (u27 : Vec F S512x2048 .bf16) (u28 : Vec F S512x2048 .bf16) (u29 : Vec F S1024x2048 .bf16) (u13q0 : Vec F S512x512 .bf16) (u13q1 : Vec F S512x512 .bf16) (u14q0 : Vec F S512x512 .bf16) (u14q1 : Vec F S512x512 .bf16) {Q : _ → sProp (MT nD τ sig Unit (Elt F) ℕ UU ℕ)} :
    iprop(records I N ∗ before I c u6 u11 u12 u17 u18 u27 u28 u29 u13q0 u13q1 u14q0 u14q1)
      ⊢ iprop((almost I c -∗ Q ⟨⟩) -∗ Run c (onBufs (k0_part38 (F := F))) Q) := by
  rw [k0_part38_eq_skeleton]
  dsimp only [onBufs, k0_part38_skel]
  unfold before almost
  iintro ⟨#HR, HowI, HtokL, HownL, HrchL, HtokR, HownR, HrchR, HbarA, HbarC, Hrd_kxcwh0, HxoLcw, Hrd_kxccwh0, HxoLccw, Hb0, Hb1, Hb2, Hb11, Hb12, Hrd_kgcwh0, Hrd_kgccwh0, Hb29, Hb3, Hb6, Hrd_kxcwh2, HxoRcw, Hrd_kxccwh2, HxoRccw, Hrd_kgcwh2, Hrd_kgccwh2, Haw_kxcwh0, Haw_kgcwh0, Hrd_kxcwh1, Hrd_kgcwh1, Haw_kxccwh0, Haw_kgccwh0, Hrd_kxccwh1, Hrd_kgccwh1, Hb27, Hb17, Hst13q0, Hrd_rscwh0q0, Hst13q1, Hrd_rscwh0q1, Hb28, Hb18, Hst14q0, Hrd_rsccwh0q0, Hst14q1, Hrd_rsccwh0q1, Haw_kxcwh1, Haw_kgcwh1, Haw_kxccwh1, Haw_kgccwh1, Haw_rscwh0q0, Hrd_rscwh1q0, Haw_rscwh0q1, Hrd_rscwh1q1, Haw_rsccwh0q0, Hrd_rsccwh1q0, Haw_rsccwh0q1, Hrd_rsccwh1q1, Haw_kxcwh2, Haw_kgcwh2, Haw_kxccwh2, Haw_kgccwh2, Haw_rscwh1q0, Hrd_rscwh2q0, Haw_rscwh1q1, Hrd_rscwh2q1, Haw_rsccwh1q0, Hrd_rsccwh2q0, Haw_rsccwh1q1, Hrd_rsccwh2q1, Haw_rscwh2q0, Haw_rsccwh2q0, Haw_rscwh2q1, Haw_rsccwh2q1⟩ Hk
  iapply (seq (fun Q' => part1_run I N c (Q := Q') )) $$ [HowI HtokL HownL HrchL HtokR HownR HrchR HbarA HbarC Hrd_kxcwh0 HxoLcw]
  · isplitr; · iexact HR
    isplitl [HowI]; · iexact HowI
    isplitl [HtokL]; · iexact HtokL
    isplitl [HownL]; · iexact HownL
    isplitl [HrchL]; · iexact HrchL
    isplitl [HtokR]; · iexact HtokR
    isplitl [HownR]; · iexact HownR
    isplitl [HrchR]; · iexact HrchR
    isplitl [HbarA]; · iexact HbarA
    isplitl [HbarC]; · iexact HbarC
    isplitl [Hrd_kxcwh0]; · iexact Hrd_kxcwh0
    iexact HxoLcw
  iintro ⟨How, Hse_kxcwh0, Hbarv, Hsl_kgcwh0, Hsl_kxccwh2, Hsl_kgccwh2, Hsl_kxcwh1, Hsl_kgcwh1, Hsl_rscwh0q0, Hsl_rscwh0q1, Hsl_rscwh1q0, Hsl_rscwh1q1, Hsl_rscwh2q0, Hsl_rscwh2q1, Hsl_kxccwh0, Hsl_kgccwh0, Hsl_kxcwh2, Hsl_kgcwh2, Hsl_kxccwh1, Hsl_kgccwh1, Hsl_rsccwh0q0, Hsl_rsccwh0q1, Hsl_rsccwh1q0, Hsl_rsccwh1q1, Hsl_rsccwh2q0, Hsl_rsccwh2q1⟩
  dsimp only
  iapply (seq (fun Q' => part2_run I N c (Q := Q') )) $$ [How Hrd_kxccwh0 Hsl_kxccwh0 HxoLccw Hb0 Hb1 Hb2]
  · isplitr; · iexact HR
    isplitl [How]; · iexact How
    isplitl [Hrd_kxccwh0]; · iexact Hrd_kxccwh0
    isplitl [Hsl_kxccwh0]; · iexact Hsl_kxccwh0
    isplitl [HxoLccw]; · iexact HxoLccw
    isplitl [Hb0]; · iexact Hb0
    isplitl [Hb1]; · iexact Hb1
    iexact Hb2
  iintro ⟨How, Hse_kxccwh0, Hb0, Hb1, Hb2⟩
  dsimp only
  iapply (seq (fun Q' => part3_run I N c (Q := Q') u11 u12 _ _)) $$ [Hb11 Hb12 How Hrd_kgcwh0 Hsl_kgcwh0 Hrd_kgccwh0 Hsl_kgccwh0]
  · isplitr; · iexact HR
    isplitl [Hb11]; · iexact Hb11
    isplitl [Hb12]; · iexact Hb12
    isplitl [How]; · iexact How
    isplitl [Hrd_kgcwh0]; · iexact Hrd_kgcwh0
    isplitl [Hsl_kgcwh0]; · iexact Hsl_kgcwh0
    isplitl [Hrd_kgccwh0]; · iexact Hrd_kgccwh0
    iexact Hsl_kgccwh0
  iintro ⟨HgoRcw, HgoRccw, How, Hse_kgcwh0, Hse_kgccwh0⟩
  iapply (seq (fun Q' => part4_run I N c (Q := Q') u29)) $$ [Hb29]
  · isplitr; · iexact HR
    iexact Hb29
  iintro Hb29
  iapply (seq (fun Q' => part5_run I N c (Q := Q') u6 _ _)) $$ [Hb3 Hb6 How Hrd_kxcwh2 Hsl_kxcwh2 HxoRcw Hrd_kxccwh2 Hsl_kxccwh2 HxoRccw]
  · isplitr; · iexact HR
    isplitl [Hb3]; · iexact Hb3
    isplitl [Hb6]; · iexact Hb6
    isplitl [How]; · iexact How
    isplitl [Hrd_kxcwh2]; · iexact Hrd_kxcwh2
    isplitl [Hsl_kxcwh2]; · iexact Hsl_kxcwh2
    isplitl [HxoRcw]; · iexact HxoRcw
    isplitl [Hrd_kxccwh2]; · iexact Hrd_kxccwh2
    isplitl [Hsl_kxccwh2]; · iexact Hsl_kxccwh2
    iexact HxoRccw
  iintro ⟨Hb3, Hb6, How, Hse_kxcwh2, Hse_kxccwh2⟩
  iapply (seq (fun Q' => part6_run I N c (Q := Q') _)) $$ [How Hrd_kgcwh2 Hsl_kgcwh2 HgoRcw Hrd_kgccwh2 Hsl_kgccwh2 HgoRccw Haw_kxcwh0 Haw_kgcwh0]
  · isplitr; · iexact HR
    isplitl [How]; · iexact How
    isplitl [Hrd_kgcwh2]; · iexact Hrd_kgcwh2
    isplitl [Hsl_kgcwh2]; · iexact Hsl_kgcwh2
    isplitl [HgoRcw]; · iexact HgoRcw
    isplitl [Hrd_kgccwh2]; · iexact Hrd_kgccwh2
    isplitl [Hsl_kgccwh2]; · iexact Hsl_kgccwh2
    isplitl [HgoRccw]; · iexact HgoRccw
    isplitl [Haw_kxcwh0]; · iexact Haw_kxcwh0
    iexact Haw_kgcwh0
  iintro ⟨How, Hse_kgcwh2, Hse_kgccwh2, Hvr_kxcwh0, Hsr_kxcwh0L, Hsr_kxcwh0R, Hvr_kgcwh0, Hsr_kgcwh0L, Hsr_kgcwh0R⟩
  iapply (seq (fun Q' => part7_run I N c (Q := Q') _ _ _)) $$ [How Hrd_kxcwh1 Hsl_kxcwh1 Hsr_kxcwh0R Hrd_kgcwh1 Hsl_kgcwh1 Hsr_kgcwh0R Haw_kxccwh0]
  · isplitr; · iexact HR
    isplitl [How]; · iexact How
    isplitl [Hrd_kxcwh1]; · iexact Hrd_kxcwh1
    isplitl [Hsl_kxcwh1]; · iexact Hsl_kxcwh1
    isplitl [Hsr_kxcwh0R]; · iexact Hsr_kxcwh0R
    isplitl [Hrd_kgcwh1]; · iexact Hrd_kgcwh1
    isplitl [Hsl_kgcwh1]; · iexact Hsl_kgcwh1
    isplitl [Hsr_kgcwh0R]; · iexact Hsr_kgcwh0R
    iexact Haw_kxccwh0
  iintro ⟨How, Hse_kxcwh1, Hse_kgcwh1, Hvr_kxccwh0, Hsr_kxccwh0L, Hsr_kxccwh0R⟩
  iapply (seq (fun Q' => part8_run I N c (Q := Q') _ _)) $$ [How Haw_kgccwh0 Hrd_kxccwh1 Hsl_kxccwh1 Hsr_kxccwh0R Hrd_kgccwh1 Hsl_kgccwh1 Hsr_kxcwh0L]
  · isplitr; · iexact HR
    isplitl [How]; · iexact How
    isplitl [Haw_kgccwh0]; · iexact Haw_kgccwh0
    isplitl [Hrd_kxccwh1]; · iexact Hrd_kxccwh1
    isplitl [Hsl_kxccwh1]; · iexact Hsl_kxccwh1
    isplitl [Hsr_kxccwh0R]; · iexact Hsr_kxccwh0R
    isplitl [Hrd_kgccwh1]; · iexact Hrd_kgccwh1
    isplitl [Hsl_kgccwh1]; · iexact Hsl_kgccwh1
    iexact Hsr_kxcwh0L
  iintro ⟨How, Hvr_kgccwh0, Hsr_kgccwh0L, Hse_kxccwh1, Hse_kgccwh1, Hsr_kxcwh0L⟩
  iapply (seq (fun Q' => part9_run I N c (Q := Q') u27)) $$ [Hsr_kgcwh0L Hb27]
  · isplitr; · iexact HR
    isplitl [Hsr_kgcwh0L]; · iexact Hsr_kgcwh0L
    iexact Hb27
  iintro ⟨Hsr_kgcwh0L, Hb27⟩
  iapply (seq (fun Q' => part10_run I N c (Q := Q') u17 u27 u13q0 u13q1 _)) $$ [Hb27 Hb3 Hb17 Hst13q0 How Hrd_rscwh0q0 Hsl_rscwh0q0 Hst13q1]
  · isplitr; · iexact HR
    isplitl [Hb27]; · iexact Hb27
    isplitl [Hb3]; · iexact Hb3
    isplitl [Hb17]; · iexact Hb17
    isplitl [Hst13q0]; · iexact Hst13q0
    isplitl [How]; · iexact How
    isplitl [Hrd_rscwh0q0]; · iexact Hrd_rscwh0q0
    isplitl [Hsl_rscwh0q0]; · iexact Hsl_rscwh0q0
    iexact Hst13q1
  iintro ⟨Hb27, Hb3, Hb17, How, Hse_rscwh0q0, Hst13q1⟩
  iapply (seq (fun Q' => part11_run I N c (Q := Q') u28 _)) $$ [How Hrd_rscwh0q1 Hsl_rscwh0q1 Hst13q1 Hsr_kxccwh0L Hsr_kgccwh0L Hb28]
  · isplitr; · iexact HR
    isplitl [How]; · iexact How
    isplitl [Hrd_rscwh0q1]; · iexact Hrd_rscwh0q1
    isplitl [Hsl_rscwh0q1]; · iexact Hsl_rscwh0q1
    isplitl [Hst13q1]; · iexact Hst13q1
    isplitl [Hsr_kxccwh0L]; · iexact Hsr_kxccwh0L
    isplitl [Hsr_kgccwh0L]; · iexact Hsr_kgccwh0L
    iexact Hb28
  iintro ⟨How, Hse_rscwh0q1, Hsr_kxccwh0L, Hsr_kgccwh0L, Hb28⟩
  dsimp only
  iapply (seq (fun Q' => part12_run I N c (Q := Q') u18 u28 u14q0 _)) $$ [Hb28 Hb3 Hb18 Hst14q0]
  · isplitr; · iexact HR
    isplitl [Hb28]; · iexact Hb28
    isplitl [Hb3]; · iexact Hb3
    isplitl [Hb18]; · iexact Hb18
    iexact Hst14q0
  iintro ⟨Hb28, Hb3, Hb18, Hst14q0⟩
  iapply (seq (fun Q' => part13_run I N c (Q := Q') u14q1 _ _)) $$ [How Hrd_rsccwh0q0 Hsl_rsccwh0q0 Hst14q0 Hb18 Hst14q1 Hrd_rsccwh0q1 Hsl_rsccwh0q1]
  · isplitr; · iexact HR
    isplitl [How]; · iexact How
    isplitl [Hrd_rsccwh0q0]; · iexact Hrd_rsccwh0q0
    isplitl [Hsl_rsccwh0q0]; · iexact Hsl_rsccwh0q0
    isplitl [Hst14q0]; · iexact Hst14q0
    isplitl [Hb18]; · iexact Hb18
    isplitl [Hst14q1]; · iexact Hst14q1
    isplitl [Hrd_rsccwh0q1]; · iexact Hrd_rsccwh0q1
    iexact Hsl_rsccwh0q1
  iintro ⟨How, Hse_rsccwh0q0, Hb18, Hse_rsccwh0q1⟩
  iapply (seq (fun Q' => part14_run I N c (Q := Q') _ _)) $$ [How Haw_kxcwh1 Haw_kgcwh1 Haw_kxccwh1]
  · isplitr; · iexact HR
    isplitl [How]; · iexact How
    isplitl [Haw_kxcwh1]; · iexact Haw_kxcwh1
    isplitl [Haw_kgcwh1]; · iexact Haw_kgcwh1
    iexact Haw_kxccwh1
  iintro ⟨How, Hvr_kxcwh1, Hsr_kxcwh1, Hvr_kgcwh1, Hsr_kgcwh1, Hvr_kxccwh1, Hsr_kxccwh1⟩
  iapply (seq (fun Q' => part15_run I N c (Q := Q') )) $$ [How Haw_kgccwh1 Hsr_kxcwh1 Hsr_kgcwh1 Hb27]
  · isplitr; · iexact HR
    isplitl [How]; · iexact How
    isplitl [Haw_kgccwh1]; · iexact Haw_kgccwh1
    isplitl [Hsr_kxcwh1]; · iexact Hsr_kxcwh1
    isplitl [Hsr_kgcwh1]; · iexact Hsr_kgcwh1
    iexact Hb27
  iintro ⟨How, Hvr_kgccwh1, Hsr_kgccwh1, Hsr_kxcwh1, Hsr_kgcwh1, Hb27⟩
  dsimp only
  iapply (seq (fun Q' => part16_run I N c (Q := Q') _)) $$ [Hb27 Hb3 Hb17 How Haw_rscwh0q0]
  · isplitr; · iexact HR
    isplitl [Hb27]; · iexact Hb27
    isplitl [Hb3]; · iexact Hb3
    isplitl [Hb17]; · iexact Hb17
    isplitl [How]; · iexact How
    iexact Haw_rscwh0q0
  iintro ⟨Hb27, Hb3, Hb17, How, Hvr_rscwh0q0, Hsr_rscwh0q0⟩
  iapply (seq (fun Q' => part17_run I N c (Q := Q') _)) $$ [Hsr_rscwh0q0 How Hrd_rscwh1q0 Hsl_rscwh1q0 Haw_rscwh0q1 Hb17]
  · isplitr; · iexact HR
    isplitl [Hsr_rscwh0q0]; · iexact Hsr_rscwh0q0
    isplitl [How]; · iexact How
    isplitl [Hrd_rscwh1q0]; · iexact Hrd_rscwh1q0
    isplitl [Hsl_rscwh1q0]; · iexact Hsl_rscwh1q0
    isplitl [Haw_rscwh0q1]; · iexact Haw_rscwh0q1
    iexact Hb17
  iintro ⟨How, Hse_rscwh1q0, Hvr_rscwh0q1, Hsr_rscwh0q1, Hb17⟩
  iapply (seq (fun Q' => part18_run I N c (Q := Q') _)) $$ [Hsr_rscwh0q1 How Hrd_rscwh1q1 Hsl_rscwh1q1 Hsr_kxccwh1 Hsr_kgccwh1 Hb28]
  · isplitr; · iexact HR
    isplitl [Hsr_rscwh0q1]; · iexact Hsr_rscwh0q1
    isplitl [How]; · iexact How
    isplitl [Hrd_rscwh1q1]; · iexact Hrd_rscwh1q1
    isplitl [Hsl_rscwh1q1]; · iexact Hsl_rscwh1q1
    isplitl [Hsr_kxccwh1]; · iexact Hsr_kxccwh1
    isplitl [Hsr_kgccwh1]; · iexact Hsr_kgccwh1
    iexact Hb28
  iintro ⟨How, Hse_rscwh1q1, Hsr_kxccwh1, Hsr_kgccwh1, Hb28⟩
  dsimp only
  iapply (seq (fun Q' => part19_run I N c (Q := Q') _)) $$ [Hb28 Hb3 Hb18]
  · isplitr; · iexact HR
    isplitl [Hb28]; · iexact Hb28
    isplitl [Hb3]; · iexact Hb3
    iexact Hb18
  iintro ⟨Hb28, Hb3, Hb18⟩
  iapply (seq (fun Q' => part20_run I N c (Q := Q') _)) $$ [How Haw_rsccwh0q0 Hb18 Hrd_rsccwh1q0 Hsl_rsccwh1q0]
  · isplitr; · iexact HR
    isplitl [How]; · iexact How
    isplitl [Haw_rsccwh0q0]; · iexact Haw_rsccwh0q0
    isplitl [Hb18]; · iexact Hb18
    isplitl [Hrd_rsccwh1q0]; · iexact Hrd_rsccwh1q0
    iexact Hsl_rsccwh1q0
  iintro ⟨How, Hvr_rsccwh0q0, Hb18, Hse_rsccwh1q0⟩
  iapply (seq (fun Q' => part21_run I N c (Q := Q') _)) $$ [How Haw_rsccwh0q1 Hb18 Hrd_rsccwh1q1 Hsl_rsccwh1q1]
  · isplitr; · iexact HR
    isplitl [How]; · iexact How
    isplitl [Haw_rsccwh0q1]; · iexact Haw_rsccwh0q1
    isplitl [Hb18]; · iexact Hb18
    isplitl [Hrd_rsccwh1q1]; · iexact Hrd_rsccwh1q1
    iexact Hsl_rsccwh1q1
  iintro ⟨How, Hvr_rsccwh0q1, Hb18, Hse_rsccwh1q1⟩
  iapply (seq (fun Q' => part22_run I N c (Q := Q') _ _)) $$ [How Haw_kxcwh2 Haw_kgcwh2 Haw_kxccwh2 Haw_kgccwh2]
  · isplitr; · iexact HR
    isplitl [How]; · iexact How
    isplitl [Haw_kxcwh2]; · iexact Haw_kxcwh2
    isplitl [Haw_kgcwh2]; · iexact Haw_kgcwh2
    isplitl [Haw_kxccwh2]; · iexact Haw_kxccwh2
    iexact Haw_kgccwh2
  iintro ⟨How, Hvr_kxcwh2, Hsr_kxcwh2, Hvr_kgcwh2, Hsr_kgcwh2, Hvr_kxccwh2, Hsr_kxccwh2, Hvr_kgccwh2, Hsr_kgccwh2⟩
  iapply (seq (fun Q' => part23_run I N c (Q := Q') )) $$ [Hsr_kgcwh2 Hb27]
  · isplitr; · iexact HR
    isplitl [Hsr_kgcwh2]; · iexact Hsr_kgcwh2
    iexact Hb27
  iintro ⟨Hsr_kgcwh2, Hb27⟩
  iapply (seq (fun Q' => part24_run I N c (Q := Q') _)) $$ [Hb27 Hb3 Hb17 How Haw_rscwh1q0]
  · isplitr; · iexact HR
    isplitl [Hb27]; · iexact Hb27
    isplitl [Hb3]; · iexact Hb3
    isplitl [Hb17]; · iexact Hb17
    isplitl [How]; · iexact How
    iexact Haw_rscwh1q0
  iintro ⟨Hb27, Hb3, Hb17, How, Hvr_rscwh1q0, Hsr_rscwh1q0⟩
  iapply (seq (fun Q' => part25_run I N c (Q := Q') _ _)) $$ [How Hrd_rscwh2q0 Hsl_rscwh2q0 Hsr_rscwh1q0 Haw_rscwh1q1 Hb17]
  · isplitr; · iexact HR
    isplitl [How]; · iexact How
    isplitl [Hrd_rscwh2q0]; · iexact Hrd_rscwh2q0
    isplitl [Hsl_rscwh2q0]; · iexact Hsl_rscwh2q0
    isplitl [Hsr_rscwh1q0]; · iexact Hsr_rscwh1q0
    isplitl [Haw_rscwh1q1]; · iexact Haw_rscwh1q1
    iexact Hb17
  iintro ⟨How, Hse_rscwh2q0, Hvr_rscwh1q1, Hsr_rscwh1q1, Hb17⟩
  iapply (seq (fun Q' => part26_run I N c (Q := Q') _)) $$ [How Hrd_rscwh2q1 Hsl_rscwh2q1 Hsr_rscwh1q1 Hsr_kxccwh2 Hsr_kgccwh2 Hb28]
  · isplitr; · iexact HR
    isplitl [How]; · iexact How
    isplitl [Hrd_rscwh2q1]; · iexact Hrd_rscwh2q1
    isplitl [Hsl_rscwh2q1]; · iexact Hsl_rscwh2q1
    isplitl [Hsr_rscwh1q1]; · iexact Hsr_rscwh1q1
    isplitl [Hsr_kxccwh2]; · iexact Hsr_kxccwh2
    isplitl [Hsr_kgccwh2]; · iexact Hsr_kgccwh2
    iexact Hb28
  iintro ⟨How, Hse_rscwh2q1, Hsr_kxccwh2, Hsr_kgccwh2, Hb28⟩
  dsimp only
  iapply (seq (fun Q' => part27_run I N c (Q := Q') _)) $$ [Hb28 Hb3 Hb18 How Haw_rsccwh1q0]
  · isplitr; · iexact HR
    isplitl [Hb28]; · iexact Hb28
    isplitl [Hb3]; · iexact Hb3
    isplitl [Hb18]; · iexact Hb18
    isplitl [How]; · iexact How
    iexact Haw_rsccwh1q0
  iintro ⟨Hb28, Hb3, Hb18, How, Hvr_rsccwh1q0, Hsr_rsccwh1q0⟩
  iapply (seq (fun Q' => part28_run I N c (Q := Q') _)) $$ [Hsr_rsccwh1q0 Hb18 How Hrd_rsccwh2q0 Hsl_rsccwh2q0]
  · isplitr; · iexact HR
    isplitl [Hsr_rsccwh1q0]; · iexact Hsr_rsccwh1q0
    isplitl [Hb18]; · iexact Hb18
    isplitl [How]; · iexact How
    isplitl [Hrd_rsccwh2q0]; · iexact Hrd_rsccwh2q0
    iexact Hsl_rsccwh2q0
  iintro ⟨Hb18, How, Hse_rsccwh2q0⟩
  iapply (seq (fun Q' => part29_run I N c (Q := Q') _ _)) $$ [How Haw_rsccwh1q1 Hb18 Hrd_rsccwh2q1 Hsl_rsccwh2q1]
  · isplitr; · iexact HR
    isplitl [How]; · iexact How
    isplitl [Haw_rsccwh1q1]; · iexact Haw_rsccwh1q1
    isplitl [Hb18]; · iexact Hb18
    isplitl [Hrd_rsccwh2q1]; · iexact Hrd_rsccwh2q1
    iexact Hsl_rsccwh2q1
  iintro ⟨How, Hvr_rsccwh1q1, Hb18, Hse_rsccwh2q1⟩
  iapply (seq (fun Q' => part30_run I N c (Q := Q') _)) $$ [How Haw_rscwh2q0 Hb6 Haw_rsccwh2q0]
  · isplitr; · iexact HR
    isplitl [How]; · iexact How
    isplitl [Haw_rscwh2q0]; · iexact Haw_rscwh2q0
    isplitl [Hb6]; · iexact Hb6
    iexact Haw_rsccwh2q0
  iintro ⟨How, Hvr_rscwh2q0, Hsr_rscwh2q0, Hb6, Hvr_rsccwh2q0, Hsr_rsccwh2q0⟩
  iapply (seq (fun Q' => part31_run I N c (Q := Q') _ _)) $$ [How Haw_rscwh2q1 Hb6 Haw_rsccwh2q1]
  · isplitr; · iexact HR
    isplitl [How]; · iexact How
    isplitl [Haw_rscwh2q1]; · iexact Haw_rscwh2q1
    isplitl [Hb6]; · iexact Hb6
    iexact Haw_rsccwh2q1
  iintro ⟨How, Hvr_rscwh2q1, Hsr_rscwh2q1, Hb6, Hvr_rsccwh2q1, Hsr_rsccwh2q1⟩
  dsimp only
  iapply (seq (fun Q' => part32_run I N c (Q := Q') )) $$ [Hb6 How Hse_kxcwh0 Hse_kxccwh0 Hse_kgcwh0 Hse_kgccwh0]
  · isplitr; · iexact HR
    isplitl [Hb6]; · iexact Hb6
    isplitl [How]; · iexact How
    isplitl [Hse_kxcwh0]; · iexact Hse_kxcwh0
    isplitl [Hse_kxccwh0]; · iexact Hse_kxccwh0
    isplitl [Hse_kgcwh0]; · iexact Hse_kgcwh0
    iexact Hse_kgccwh0
  iintro ⟨Hb6, How, Hvs_kxcwh0, Hba_kxcwh0, Hvs_kxccwh0, Hba_kxccwh0, Hvs_kgcwh0, Hba_kgcwh0, Hvs_kgccwh0, Hba_kgccwh0⟩
  iapply (seq (fun Q' => part33_run I N c (Q := Q') )) $$ [How Hse_kxcwh2 Hse_kxccwh2 Hse_kgcwh2 Hse_kgccwh2]
  · isplitr; · iexact HR
    isplitl [How]; · iexact How
    isplitl [Hse_kxcwh2]; · iexact Hse_kxcwh2
    isplitl [Hse_kxccwh2]; · iexact Hse_kxccwh2
    isplitl [Hse_kgcwh2]; · iexact Hse_kgcwh2
    iexact Hse_kgccwh2
  iintro ⟨How, Hvs_kxcwh2, Hba_kxcwh2, Hvs_kxccwh2, Hba_kxccwh2, Hvs_kgcwh2, Hba_kgcwh2, Hvs_kgccwh2, Hba_kgccwh2⟩
  iapply (seq (fun Q' => part34_run I N c (Q := Q') )) $$ [How Hse_kxcwh1 Hse_kgcwh1 Hse_kxccwh1]
  · isplitr; · iexact HR
    isplitl [How]; · iexact How
    isplitl [Hse_kxcwh1]; · iexact Hse_kxcwh1
    isplitl [Hse_kgcwh1]; · iexact Hse_kgcwh1
    iexact Hse_kxccwh1
  iintro ⟨How, Hvs_kxcwh1, Hba_kxcwh1, Hvs_kgcwh1, Hba_kgcwh1, Hvs_kxccwh1, Hba_kxccwh1⟩
  iapply (seq (fun Q' => part35_run I N c (Q := Q') )) $$ [How Hse_kgccwh1 Hse_rscwh0q0 Hse_rscwh0q1 Hse_rsccwh0q0]
  · isplitr; · iexact HR
    isplitl [How]; · iexact How
    isplitl [Hse_kgccwh1]; · iexact Hse_kgccwh1
    isplitl [Hse_rscwh0q0]; · iexact Hse_rscwh0q0
    isplitl [Hse_rscwh0q1]; · iexact Hse_rscwh0q1
    iexact Hse_rsccwh0q0
  iintro ⟨How, Hvs_kgccwh1, Hba_kgccwh1, Hvs_rscwh0q0, Hba_rscwh0q0, Hvs_rscwh0q1, Hba_rscwh0q1, Hvs_rsccwh0q0, Hba_rsccwh0q0⟩
  iapply (seq (fun Q' => part36_run I N c (Q := Q') )) $$ [How Hse_rsccwh0q1 Hse_rscwh1q0 Hse_rscwh1q1 Hse_rsccwh1q0]
  · isplitr; · iexact HR
    isplitl [How]; · iexact How
    isplitl [Hse_rsccwh0q1]; · iexact Hse_rsccwh0q1
    isplitl [Hse_rscwh1q0]; · iexact Hse_rscwh1q0
    isplitl [Hse_rscwh1q1]; · iexact Hse_rscwh1q1
    iexact Hse_rsccwh1q0
  iintro ⟨How, Hvs_rsccwh0q1, Hba_rsccwh0q1, Hvs_rscwh1q0, Hba_rscwh1q0, Hvs_rscwh1q1, Hba_rscwh1q1, Hvs_rsccwh1q0, Hba_rsccwh1q0⟩
  iapply (seq (fun Q' => part37_run I N c (Q := Q') )) $$ [How Hse_rsccwh1q1 Hse_rscwh2q0 Hse_rscwh2q1]
  · isplitr; · iexact HR
    isplitl [How]; · iexact How
    isplitl [Hse_rsccwh1q1]; · iexact Hse_rsccwh1q1
    isplitl [Hse_rscwh2q0]; · iexact Hse_rscwh2q0
    iexact Hse_rscwh2q1
  iintro ⟨How, Hvs_rsccwh1q1, Hba_rsccwh1q1, Hvs_rscwh2q0, Hba_rscwh2q0, Hvs_rscwh2q1, Hba_rscwh2q1⟩
  iapply (step_drain I (N := N) (.rs .ccw .h2 .q0) rfl (rfrom_credit .ccw .h2 .q0)) $$ [Hse_rsccwh2q0 How]
  · isplitr; · iexact HR
    isplitl [Hse_rsccwh2q0]; · iexact Hse_rsccwh2q0
    iexact How
  iintro ⟨Hvs_rsccwh2q0, Hba_rsccwh2q0, How⟩
  ihave Hq := Hk $$ [How Hbarv Hb0 Hb1 Hb2 Hb29 Hb3 Hb6 Hvr_kxcwh0 Hsr_kxcwh0L Hvr_kgcwh0 Hsr_kgcwh0L Hvr_kxccwh0 Hsr_kxccwh0L Hvr_kgccwh0 Hsr_kgccwh0L Hb27 Hb17 Hb28 Hb18 Hvr_kxcwh1 Hsr_kxcwh1 Hvr_kgcwh1 Hsr_kgcwh1 Hvr_kxccwh1 Hsr_kxccwh1 Hvr_kgccwh1 Hsr_kgccwh1 Hvr_rscwh0q0 Hvr_rscwh0q1 Hvr_rsccwh0q0 Hvr_rsccwh0q1 Hvr_kxcwh2 Hsr_kxcwh2 Hvr_kgcwh2 Hsr_kgcwh2 Hvr_kxccwh2 Hsr_kxccwh2 Hvr_kgccwh2 Hsr_kgccwh2 Hvr_rscwh1q0 Hvr_rscwh1q1 Hvr_rsccwh1q0 Hvr_rsccwh1q1 Hse_rsccwh2q1 Hvr_rscwh2q0 Hsr_rscwh2q0 Hvr_rsccwh2q0 Hsr_rsccwh2q0 Hvr_rscwh2q1 Hsr_rscwh2q1 Hvr_rsccwh2q1 Hsr_rsccwh2q1 Hvs_kxcwh0 Hba_kxcwh0 Hvs_kxccwh0 Hba_kxccwh0 Hvs_kgcwh0 Hba_kgcwh0 Hvs_kgccwh0 Hba_kgccwh0 Hvs_kxcwh2 Hba_kxcwh2 Hvs_kxccwh2 Hba_kxccwh2 Hvs_kgcwh2 Hba_kgcwh2 Hvs_kgccwh2 Hba_kgccwh2 Hvs_kxcwh1 Hba_kxcwh1 Hvs_kgcwh1 Hba_kgcwh1 Hvs_kxccwh1 Hba_kxccwh1 Hvs_kgccwh1 Hba_kgccwh1 Hvs_rscwh0q0 Hba_rscwh0q0 Hvs_rscwh0q1 Hba_rscwh0q1 Hvs_rsccwh0q0 Hba_rsccwh0q0 Hvs_rsccwh0q1 Hba_rsccwh0q1 Hvs_rscwh1q0 Hba_rscwh1q0 Hvs_rscwh1q1 Hba_rscwh1q1 Hvs_rsccwh1q0 Hba_rsccwh1q0 Hvs_rsccwh1q1 Hba_rsccwh1q1 Hvs_rscwh2q0 Hba_rscwh2q0 Hvs_rscwh2q1 Hba_rscwh2q1 Hvs_rsccwh2q0 Hba_rsccwh2q0]
  · isplitl [How]; · iexact How
    isplitl [Hbarv]; · iexact Hbarv
    isplitl [Hb0]; · iexact Hb0
    isplitl [Hb1]; · iexact Hb1
    isplitl [Hb2]; · iexact Hb2
    isplitl [Hb29]; · iexact Hb29
    isplitl [Hb3]; · iexact Hb3
    isplitl [Hb6]; · iexact Hb6
    isplitl [Hvr_kxcwh0]; · iexact Hvr_kxcwh0
    isplitl [Hsr_kxcwh0L]; · iexact Hsr_kxcwh0L
    isplitl [Hvr_kgcwh0]; · iexact Hvr_kgcwh0
    isplitl [Hsr_kgcwh0L]; · iexact Hsr_kgcwh0L
    isplitl [Hvr_kxccwh0]; · iexact Hvr_kxccwh0
    isplitl [Hsr_kxccwh0L]; · iexact Hsr_kxccwh0L
    isplitl [Hvr_kgccwh0]; · iexact Hvr_kgccwh0
    isplitl [Hsr_kgccwh0L]; · iexact Hsr_kgccwh0L
    isplitl [Hb27]; · iexact Hb27
    isplitl [Hb17]; · iexact Hb17
    isplitl [Hb28]; · iexact Hb28
    isplitl [Hb18]; · iexact Hb18
    isplitl [Hvr_kxcwh1]; · iexact Hvr_kxcwh1
    isplitl [Hsr_kxcwh1]; · iexact Hsr_kxcwh1
    isplitl [Hvr_kgcwh1]; · iexact Hvr_kgcwh1
    isplitl [Hsr_kgcwh1]; · iexact Hsr_kgcwh1
    isplitl [Hvr_kxccwh1]; · iexact Hvr_kxccwh1
    isplitl [Hsr_kxccwh1]; · iexact Hsr_kxccwh1
    isplitl [Hvr_kgccwh1]; · iexact Hvr_kgccwh1
    isplitl [Hsr_kgccwh1]; · iexact Hsr_kgccwh1
    isplitl [Hvr_rscwh0q0]; · iexact Hvr_rscwh0q0
    isplitl [Hvr_rscwh0q1]; · iexact Hvr_rscwh0q1
    isplitl [Hvr_rsccwh0q0]; · iexact Hvr_rsccwh0q0
    isplitl [Hvr_rsccwh0q1]; · iexact Hvr_rsccwh0q1
    isplitl [Hvr_kxcwh2]; · iexact Hvr_kxcwh2
    isplitl [Hsr_kxcwh2]; · iexact Hsr_kxcwh2
    isplitl [Hvr_kgcwh2]; · iexact Hvr_kgcwh2
    isplitl [Hsr_kgcwh2]; · iexact Hsr_kgcwh2
    isplitl [Hvr_kxccwh2]; · iexact Hvr_kxccwh2
    isplitl [Hsr_kxccwh2]; · iexact Hsr_kxccwh2
    isplitl [Hvr_kgccwh2]; · iexact Hvr_kgccwh2
    isplitl [Hsr_kgccwh2]; · iexact Hsr_kgccwh2
    isplitl [Hvr_rscwh1q0]; · iexact Hvr_rscwh1q0
    isplitl [Hvr_rscwh1q1]; · iexact Hvr_rscwh1q1
    isplitl [Hvr_rsccwh1q0]; · iexact Hvr_rsccwh1q0
    isplitl [Hvr_rsccwh1q1]; · iexact Hvr_rsccwh1q1
    isplitl [Hse_rsccwh2q1]; · iexact Hse_rsccwh2q1
    isplitl [Hvr_rscwh2q0]; · iexact Hvr_rscwh2q0
    isplitl [Hsr_rscwh2q0]; · iexact Hsr_rscwh2q0
    isplitl [Hvr_rsccwh2q0]; · iexact Hvr_rsccwh2q0
    isplitl [Hsr_rsccwh2q0]; · iexact Hsr_rsccwh2q0
    isplitl [Hvr_rscwh2q1]; · iexact Hvr_rscwh2q1
    isplitl [Hsr_rscwh2q1]; · iexact Hsr_rscwh2q1
    isplitl [Hvr_rsccwh2q1]; · iexact Hvr_rsccwh2q1
    isplitl [Hsr_rsccwh2q1]; · iexact Hsr_rsccwh2q1
    isplitl [Hvs_kxcwh0]; · iexact Hvs_kxcwh0
    isplitl [Hba_kxcwh0]; · iexact Hba_kxcwh0
    isplitl [Hvs_kxccwh0]; · iexact Hvs_kxccwh0
    isplitl [Hba_kxccwh0]; · iexact Hba_kxccwh0
    isplitl [Hvs_kgcwh0]; · iexact Hvs_kgcwh0
    isplitl [Hba_kgcwh0]; · iexact Hba_kgcwh0
    isplitl [Hvs_kgccwh0]; · iexact Hvs_kgccwh0
    isplitl [Hba_kgccwh0]; · iexact Hba_kgccwh0
    isplitl [Hvs_kxcwh2]; · iexact Hvs_kxcwh2
    isplitl [Hba_kxcwh2]; · iexact Hba_kxcwh2
    isplitl [Hvs_kxccwh2]; · iexact Hvs_kxccwh2
    isplitl [Hba_kxccwh2]; · iexact Hba_kxccwh2
    isplitl [Hvs_kgcwh2]; · iexact Hvs_kgcwh2
    isplitl [Hba_kgcwh2]; · iexact Hba_kgcwh2
    isplitl [Hvs_kgccwh2]; · iexact Hvs_kgccwh2
    isplitl [Hba_kgccwh2]; · iexact Hba_kgccwh2
    isplitl [Hvs_kxcwh1]; · iexact Hvs_kxcwh1
    isplitl [Hba_kxcwh1]; · iexact Hba_kxcwh1
    isplitl [Hvs_kgcwh1]; · iexact Hvs_kgcwh1
    isplitl [Hba_kgcwh1]; · iexact Hba_kgcwh1
    isplitl [Hvs_kxccwh1]; · iexact Hvs_kxccwh1
    isplitl [Hba_kxccwh1]; · iexact Hba_kxccwh1
    isplitl [Hvs_kgccwh1]; · iexact Hvs_kgccwh1
    isplitl [Hba_kgccwh1]; · iexact Hba_kgccwh1
    isplitl [Hvs_rscwh0q0]; · iexact Hvs_rscwh0q0
    isplitl [Hba_rscwh0q0]; · iexact Hba_rscwh0q0
    isplitl [Hvs_rscwh0q1]; · iexact Hvs_rscwh0q1
    isplitl [Hba_rscwh0q1]; · iexact Hba_rscwh0q1
    isplitl [Hvs_rsccwh0q0]; · iexact Hvs_rsccwh0q0
    isplitl [Hba_rsccwh0q0]; · iexact Hba_rsccwh0q0
    isplitl [Hvs_rsccwh0q1]; · iexact Hvs_rsccwh0q1
    isplitl [Hba_rsccwh0q1]; · iexact Hba_rsccwh0q1
    isplitl [Hvs_rscwh1q0]; · iexact Hvs_rscwh1q0
    isplitl [Hba_rscwh1q0]; · iexact Hba_rscwh1q0
    isplitl [Hvs_rscwh1q1]; · iexact Hvs_rscwh1q1
    isplitl [Hba_rscwh1q1]; · iexact Hba_rscwh1q1
    isplitl [Hvs_rsccwh1q0]; · iexact Hvs_rsccwh1q0
    isplitl [Hba_rsccwh1q0]; · iexact Hba_rsccwh1q0
    isplitl [Hvs_rsccwh1q1]; · iexact Hvs_rsccwh1q1
    isplitl [Hba_rsccwh1q1]; · iexact Hba_rsccwh1q1
    isplitl [Hvs_rscwh2q0]; · iexact Hvs_rscwh2q0
    isplitl [Hba_rscwh2q0]; · iexact Hba_rscwh2q0
    isplitl [Hvs_rscwh2q1]; · iexact Hvs_rscwh2q1
    isplitl [Hba_rscwh2q1]; · iexact Hba_rscwh2q1
    isplitl [Hvs_rsccwh2q0]; · iexact Hvs_rsccwh2q0
    iexact Hba_rsccwh2q0
  iapply run_pure; iexact Hq

/-- What a device holds when its kernel is over. -/
def after : sProp (MT nD τ sig Unit (Elt F) ℕ UU ℕ) :=
  iprop(semVal (barCell c) 0 ∗ owns (c : Thread nD τ) (Memref.whole cc0_stg0_0) fullShare (I.x c) ∗ owns (c : Thread nD τ) (Memref.whole cc0_stg1_0) fullShare (I.rw c) ∗ owns (c : Thread nD τ) (Memref.whole cc0_stg2_0) fullShare (I.ri c) ∗ owns (c : Thread nD τ) (Memref.whole cc0_scratch22) fullShare (xgl I c) ∗ owns (c : Thread nD τ) (Memref.whole cc0_stg3_0) fullShare (I.ew c) ∗ owns (c : Thread nD τ) (Memref.whole cc0_stg6_0) fullShare (out I c) ∗ semVal (recvCell (.kx .cw .h0) c) 0 ∗ owns (c : Thread nD τ) (xdst .cw .h0) fullShare.left (xv I .cw .h0 c) ∗ semVal (recvCell (.kg .cw .h0) c) 0 ∗ owns (c : Thread nD τ) (gdst .cw .h0) fullShare.left (gv I .cw .h0 c) ∗ semVal (recvCell (.kx .ccw .h0) c) 0 ∗ owns (c : Thread nD τ) (xdst .ccw .h0) fullShare.left (xv I .ccw .h0 c) ∗ semVal (recvCell (.kg .ccw .h0) c) 0 ∗ owns (c : Thread nD τ) (gdst .ccw .h0) fullShare.left (gv I .ccw .h0 c) ∗ owns (c : Thread nD τ) (Memref.whole cc0_scratch20) fullShare (xgc I .cw .h2 c) ∗ owns (c : Thread nD τ) (Memref.whole cc0_scratch10) fullShare (pc I .cw .h2 c) ∗ owns (c : Thread nD τ) (Memref.whole cc0_scratch21) fullShare (xgc I .ccw .h2 c) ∗ owns (c : Thread nD τ) (Memref.whole cc0_scratch11) fullShare (pc I .ccw .h2 c) ∗ semVal (recvCell (.kx .cw .h1) c) 0 ∗ owns (c : Thread nD τ) (xdst .cw .h1) fullShare (xv I .cw .h1 c) ∗ semVal (recvCell (.kg .cw .h1) c) 0 ∗ owns (c : Thread nD τ) (gdst .cw .h1) fullShare (gv I .cw .h1 c) ∗ semVal (recvCell (.kx .ccw .h1) c) 0 ∗ owns (c : Thread nD τ) (xdst .ccw .h1) fullShare (xv I .ccw .h1 c) ∗ semVal (recvCell (.kg .ccw .h1) c) 0 ∗ owns (c : Thread nD τ) (gdst .ccw .h1) fullShare (gv I .ccw .h1 c) ∗ semVal (recvCell (.rs .cw .h0 .q0) c) 0 ∗ semVal (recvCell (.rs .cw .h0 .q1) c) 0 ∗ semVal (recvCell (.rs .ccw .h0 .q0) c) 0 ∗ semVal (recvCell (.rs .ccw .h0 .q1) c) 0 ∗ semVal (recvCell (.kx .cw .h2) c) 0 ∗ owns (c : Thread nD τ) (xdst .cw .h2) fullShare (xv I .cw .h2 c) ∗ semVal (recvCell (.kg .cw .h2) c) 0 ∗ owns (c : Thread nD τ) (gdst .cw .h2) fullShare (gv I .cw .h2 c) ∗ semVal (recvCell (.kx .ccw .h2) c) 0 ∗ owns (c : Thread nD τ) (xdst .ccw .h2) fullShare (xv I .ccw .h2 c) ∗ semVal (recvCell (.kg .ccw .h2) c) 0 ∗ owns (c : Thread nD τ) (gdst .ccw .h2) fullShare (gv I .ccw .h2 c) ∗ semVal (recvCell (.rs .cw .h1 .q0) c) 0 ∗ semVal (recvCell (.rs .cw .h1 .q1) c) 0 ∗ semVal (recvCell (.rs .ccw .h1 .q0) c) 0 ∗ semVal (recvCell (.rs .ccw .h1 .q1) c) 0 ∗ semVal (recvCell (.rs .cw .h2 .q0) c) 0 ∗ owns (c : Thread nD τ) (rdst .cw .h2 .q0) fullShare (rv I .cw .h2 .q0 c) ∗ semVal (recvCell (.rs .ccw .h2 .q0) c) 0 ∗ owns (c : Thread nD τ) (rdst .ccw .h2 .q0) fullShare (rv I .ccw .h2 .q0 c) ∗ semVal (recvCell (.rs .cw .h2 .q1) c) 0 ∗ owns (c : Thread nD τ) (rdst .cw .h2 .q1) fullShare (rv I .cw .h2 .q1 c) ∗ semVal (recvCell (.rs .ccw .h2 .q1) c) 0 ∗ owns (c : Thread nD τ) (rdst .ccw .h2 .q1) fullShare (rv I .ccw .h2 .q1 c) ∗ semVal (sendCell (.kx .cw .h0) c) 0 ∗ sendPay I (.kx .cw .h0) c ∗ semVal (sendCell (.kx .ccw .h0) c) 0 ∗ sendPay I (.kx .ccw .h0) c ∗ semVal (sendCell (.kg .cw .h0) c) 0 ∗ sendPay I (.kg .cw .h0) c ∗ semVal (sendCell (.kg .ccw .h0) c) 0 ∗ sendPay I (.kg .ccw .h0) c ∗ semVal (sendCell (.kx .cw .h2) c) 0 ∗ sendPay I (.kx .cw .h2) c ∗ semVal (sendCell (.kx .ccw .h2) c) 0 ∗ sendPay I (.kx .ccw .h2) c ∗ semVal (sendCell (.kg .cw .h2) c) 0 ∗ sendPay I (.kg .cw .h2) c ∗ semVal (sendCell (.kg .ccw .h2) c) 0 ∗ sendPay I (.kg .ccw .h2) c ∗ semVal (sendCell (.kx .cw .h1) c) 0 ∗ sendPay I (.kx .cw .h1) c ∗ semVal (sendCell (.kg .cw .h1) c) 0 ∗ sendPay I (.kg .cw .h1) c ∗ semVal (sendCell (.kx .ccw .h1) c) 0 ∗ sendPay I (.kx .ccw .h1) c ∗ semVal (sendCell (.kg .ccw .h1) c) 0 ∗ sendPay I (.kg .ccw .h1) c ∗ semVal (sendCell (.rs .cw .h0 .q0) c) 0 ∗ sendPay I (.rs .cw .h0 .q0) c ∗ semVal (sendCell (.rs .cw .h0 .q1) c) 0 ∗ sendPay I (.rs .cw .h0 .q1) c ∗ semVal (sendCell (.rs .ccw .h0 .q0) c) 0 ∗ sendPay I (.rs .ccw .h0 .q0) c ∗ semVal (sendCell (.rs .ccw .h0 .q1) c) 0 ∗ sendPay I (.rs .ccw .h0 .q1) c ∗ semVal (sendCell (.rs .cw .h1 .q0) c) 0 ∗ sendPay I (.rs .cw .h1 .q0) c ∗ semVal (sendCell (.rs .cw .h1 .q1) c) 0 ∗ sendPay I (.rs .cw .h1 .q1) c ∗ semVal (sendCell (.rs .ccw .h1 .q0) c) 0 ∗ sendPay I (.rs .ccw .h1 .q0) c ∗ semVal (sendCell (.rs .ccw .h1 .q1) c) 0 ∗ sendPay I (.rs .ccw .h1 .q1) c ∗ semVal (sendCell (.rs .cw .h2 .q0) c) 0 ∗ sendPay I (.rs .cw .h2 .q0) c ∗ semVal (sendCell (.rs .cw .h2 .q1) c) 0 ∗ sendPay I (.rs .cw .h2 .q1) c ∗ semVal (sendCell (.rs .ccw .h2 .q0) c) 0 ∗ sendPay I (.rs .ccw .h2 .q0) c ∗ ow (rest 24) c ∗ semVal (sendCell (.rs .ccw .h2 .q1) c) 0 ∗ sendPay I (.rs .ccw .h2 .q1) c)

theorem body_run (u6 : Vec F S1024x1024 .f32) (u11 : Vec F S512x16 .bf16) (u12 : Vec F S512x16 .bf16) (u17 : Vec F S512x1024 .f32) (u18 : Vec F S512x1024 .f32) (u27 : Vec F S512x2048 .bf16) (u28 : Vec F S512x2048 .bf16) (u29 : Vec F S1024x2048 .bf16) (u13q0 : Vec F S512x512 .bf16) (u13q1 : Vec F S512x512 .bf16) (u14q0 : Vec F S512x512 .bf16) (u14q1 : Vec F S512x512 .bf16) {Q : _ → sProp (MT nD τ sig Unit (Elt F) ℕ UU ℕ)} :
    iprop(records I N ∗ before I c u6 u11 u12 u17 u18 u27 u28 u29 u13q0 u13q1 u14q0 u14q1)
      ⊢ iprop((after I c -∗ Q ⟨⟩) -∗ Run c (onBufs (cc0_body (F := F))) Q) := by
  rw [cc0_body_eq_skeleton]
  dsimp only [onBufs, cc0_body_skel]
  iintro ⟨#HR, Hb⟩ Hk
  iapply (seq (fun Q' => part38_run I N c u6 u11 u12 u17 u18 u27 u28 u29 u13q0 u13q1 u14q0 u14q1 (Q := Q'))) $$ [Hb]
  · isplitr; · iexact HR
    iexact Hb
  unfold almost after
  iintro ⟨How, Hbarv, Hb0, Hb1, Hb2, Hb29, Hb3, Hb6, Hvr_kxcwh0, Hsr_kxcwh0L, Hvr_kgcwh0, Hsr_kgcwh0L, Hvr_kxccwh0, Hsr_kxccwh0L, Hvr_kgccwh0, Hsr_kgccwh0L, Hb27, Hb17, Hb28, Hb18, Hvr_kxcwh1, Hsr_kxcwh1, Hvr_kgcwh1, Hsr_kgcwh1, Hvr_kxccwh1, Hsr_kxccwh1, Hvr_kgccwh1, Hsr_kgccwh1, Hvr_rscwh0q0, Hvr_rscwh0q1, Hvr_rsccwh0q0, Hvr_rsccwh0q1, Hvr_kxcwh2, Hsr_kxcwh2, Hvr_kgcwh2, Hsr_kgcwh2, Hvr_kxccwh2, Hsr_kxccwh2, Hvr_kgccwh2, Hsr_kgccwh2, Hvr_rscwh1q0, Hvr_rscwh1q1, Hvr_rsccwh1q0, Hvr_rsccwh1q1, Hse_rsccwh2q1, Hvr_rscwh2q0, Hsr_rscwh2q0, Hvr_rsccwh2q0, Hsr_rsccwh2q0, Hvr_rscwh2q1, Hsr_rscwh2q1, Hvr_rsccwh2q1, Hsr_rsccwh2q1, Hvs_kxcwh0, Hba_kxcwh0, Hvs_kxccwh0, Hba_kxccwh0, Hvs_kgcwh0, Hba_kgcwh0, Hvs_kgccwh0, Hba_kgccwh0, Hvs_kxcwh2, Hba_kxcwh2, Hvs_kxccwh2, Hba_kxccwh2, Hvs_kgcwh2, Hba_kgcwh2, Hvs_kgccwh2, Hba_kgccwh2, Hvs_kxcwh1, Hba_kxcwh1, Hvs_kgcwh1, Hba_kgcwh1, Hvs_kxccwh1, Hba_kxccwh1, Hvs_kgccwh1, Hba_kgccwh1, Hvs_rscwh0q0, Hba_rscwh0q0, Hvs_rscwh0q1, Hba_rscwh0q1, Hvs_rsccwh0q0, Hba_rsccwh0q0, Hvs_rsccwh0q1, Hba_rsccwh0q1, Hvs_rscwh1q0, Hba_rscwh1q0, Hvs_rscwh1q1, Hba_rscwh1q1, Hvs_rsccwh1q0, Hba_rsccwh1q0, Hvs_rsccwh1q1, Hba_rsccwh1q1, Hvs_rscwh2q0, Hba_rscwh2q0, Hvs_rscwh2q1, Hba_rscwh2q1, Hvs_rsccwh2q0, Hba_rsccwh2q0⟩
  iapply (step_drain I (N := N) (.rs .ccw .h2 .q1) rfl (rfrom_credit .ccw .h2 .q1)) $$ [Hse_rsccwh2q1 How]
  · isplitr; · iexact HR
    isplitl [Hse_rsccwh2q1]; · iexact Hse_rsccwh2q1
    iexact How
  iintro ⟨Hvs_rsccwh2q1, Hba_rsccwh2q1, How⟩
  ihave Hq := Hk $$ [Hbarv Hb0 Hb1 Hb2 Hb29 Hb3 Hb6 Hvr_kxcwh0 Hsr_kxcwh0L Hvr_kgcwh0 Hsr_kgcwh0L Hvr_kxccwh0 Hsr_kxccwh0L Hvr_kgccwh0 Hsr_kgccwh0L Hb27 Hb17 Hb28 Hb18 Hvr_kxcwh1 Hsr_kxcwh1 Hvr_kgcwh1 Hsr_kgcwh1 Hvr_kxccwh1 Hsr_kxccwh1 Hvr_kgccwh1 Hsr_kgccwh1 Hvr_rscwh0q0 Hvr_rscwh0q1 Hvr_rsccwh0q0 Hvr_rsccwh0q1 Hvr_kxcwh2 Hsr_kxcwh2 Hvr_kgcwh2 Hsr_kgcwh2 Hvr_kxccwh2 Hsr_kxccwh2 Hvr_kgccwh2 Hsr_kgccwh2 Hvr_rscwh1q0 Hvr_rscwh1q1 Hvr_rsccwh1q0 Hvr_rsccwh1q1 Hvr_rscwh2q0 Hsr_rscwh2q0 Hvr_rsccwh2q0 Hsr_rsccwh2q0 Hvr_rscwh2q1 Hsr_rscwh2q1 Hvr_rsccwh2q1 Hsr_rsccwh2q1 Hvs_kxcwh0 Hba_kxcwh0 Hvs_kxccwh0 Hba_kxccwh0 Hvs_kgcwh0 Hba_kgcwh0 Hvs_kgccwh0 Hba_kgccwh0 Hvs_kxcwh2 Hba_kxcwh2 Hvs_kxccwh2 Hba_kxccwh2 Hvs_kgcwh2 Hba_kgcwh2 Hvs_kgccwh2 Hba_kgccwh2 Hvs_kxcwh1 Hba_kxcwh1 Hvs_kgcwh1 Hba_kgcwh1 Hvs_kxccwh1 Hba_kxccwh1 Hvs_kgccwh1 Hba_kgccwh1 Hvs_rscwh0q0 Hba_rscwh0q0 Hvs_rscwh0q1 Hba_rscwh0q1 Hvs_rsccwh0q0 Hba_rsccwh0q0 Hvs_rsccwh0q1 Hba_rsccwh0q1 Hvs_rscwh1q0 Hba_rscwh1q0 Hvs_rscwh1q1 Hba_rscwh1q1 Hvs_rsccwh1q0 Hba_rsccwh1q0 Hvs_rsccwh1q1 Hba_rsccwh1q1 Hvs_rscwh2q0 Hba_rscwh2q0 Hvs_rscwh2q1 Hba_rscwh2q1 Hvs_rsccwh2q0 Hba_rsccwh2q0 How Hvs_rsccwh2q1 Hba_rsccwh2q1]
  · isplitl [Hbarv]; · iexact Hbarv
    isplitl [Hb0]; · iexact Hb0
    isplitl [Hb1]; · iexact Hb1
    isplitl [Hb2]; · iexact Hb2
    isplitl [Hb29]; · iexact Hb29
    isplitl [Hb3]; · iexact Hb3
    isplitl [Hb6]; · iexact Hb6
    isplitl [Hvr_kxcwh0]; · iexact Hvr_kxcwh0
    isplitl [Hsr_kxcwh0L]; · iexact Hsr_kxcwh0L
    isplitl [Hvr_kgcwh0]; · iexact Hvr_kgcwh0
    isplitl [Hsr_kgcwh0L]; · iexact Hsr_kgcwh0L
    isplitl [Hvr_kxccwh0]; · iexact Hvr_kxccwh0
    isplitl [Hsr_kxccwh0L]; · iexact Hsr_kxccwh0L
    isplitl [Hvr_kgccwh0]; · iexact Hvr_kgccwh0
    isplitl [Hsr_kgccwh0L]; · iexact Hsr_kgccwh0L
    isplitl [Hb27]; · iexact Hb27
    isplitl [Hb17]; · iexact Hb17
    isplitl [Hb28]; · iexact Hb28
    isplitl [Hb18]; · iexact Hb18
    isplitl [Hvr_kxcwh1]; · iexact Hvr_kxcwh1
    isplitl [Hsr_kxcwh1]; · iexact Hsr_kxcwh1
    isplitl [Hvr_kgcwh1]; · iexact Hvr_kgcwh1
    isplitl [Hsr_kgcwh1]; · iexact Hsr_kgcwh1
    isplitl [Hvr_kxccwh1]; · iexact Hvr_kxccwh1
    isplitl [Hsr_kxccwh1]; · iexact Hsr_kxccwh1
    isplitl [Hvr_kgccwh1]; · iexact Hvr_kgccwh1
    isplitl [Hsr_kgccwh1]; · iexact Hsr_kgccwh1
    isplitl [Hvr_rscwh0q0]; · iexact Hvr_rscwh0q0
    isplitl [Hvr_rscwh0q1]; · iexact Hvr_rscwh0q1
    isplitl [Hvr_rsccwh0q0]; · iexact Hvr_rsccwh0q0
    isplitl [Hvr_rsccwh0q1]; · iexact Hvr_rsccwh0q1
    isplitl [Hvr_kxcwh2]; · iexact Hvr_kxcwh2
    isplitl [Hsr_kxcwh2]; · iexact Hsr_kxcwh2
    isplitl [Hvr_kgcwh2]; · iexact Hvr_kgcwh2
    isplitl [Hsr_kgcwh2]; · iexact Hsr_kgcwh2
    isplitl [Hvr_kxccwh2]; · iexact Hvr_kxccwh2
    isplitl [Hsr_kxccwh2]; · iexact Hsr_kxccwh2
    isplitl [Hvr_kgccwh2]; · iexact Hvr_kgccwh2
    isplitl [Hsr_kgccwh2]; · iexact Hsr_kgccwh2
    isplitl [Hvr_rscwh1q0]; · iexact Hvr_rscwh1q0
    isplitl [Hvr_rscwh1q1]; · iexact Hvr_rscwh1q1
    isplitl [Hvr_rsccwh1q0]; · iexact Hvr_rsccwh1q0
    isplitl [Hvr_rsccwh1q1]; · iexact Hvr_rsccwh1q1
    isplitl [Hvr_rscwh2q0]; · iexact Hvr_rscwh2q0
    isplitl [Hsr_rscwh2q0]; · iexact Hsr_rscwh2q0
    isplitl [Hvr_rsccwh2q0]; · iexact Hvr_rsccwh2q0
    isplitl [Hsr_rsccwh2q0]; · iexact Hsr_rsccwh2q0
    isplitl [Hvr_rscwh2q1]; · iexact Hvr_rscwh2q1
    isplitl [Hsr_rscwh2q1]; · iexact Hsr_rscwh2q1
    isplitl [Hvr_rsccwh2q1]; · iexact Hvr_rsccwh2q1
    isplitl [Hsr_rsccwh2q1]; · iexact Hsr_rsccwh2q1
    isplitl [Hvs_kxcwh0]; · iexact Hvs_kxcwh0
    isplitl [Hba_kxcwh0]; · iexact Hba_kxcwh0
    isplitl [Hvs_kxccwh0]; · iexact Hvs_kxccwh0
    isplitl [Hba_kxccwh0]; · iexact Hba_kxccwh0
    isplitl [Hvs_kgcwh0]; · iexact Hvs_kgcwh0
    isplitl [Hba_kgcwh0]; · iexact Hba_kgcwh0
    isplitl [Hvs_kgccwh0]; · iexact Hvs_kgccwh0
    isplitl [Hba_kgccwh0]; · iexact Hba_kgccwh0
    isplitl [Hvs_kxcwh2]; · iexact Hvs_kxcwh2
    isplitl [Hba_kxcwh2]; · iexact Hba_kxcwh2
    isplitl [Hvs_kxccwh2]; · iexact Hvs_kxccwh2
    isplitl [Hba_kxccwh2]; · iexact Hba_kxccwh2
    isplitl [Hvs_kgcwh2]; · iexact Hvs_kgcwh2
    isplitl [Hba_kgcwh2]; · iexact Hba_kgcwh2
    isplitl [Hvs_kgccwh2]; · iexact Hvs_kgccwh2
    isplitl [Hba_kgccwh2]; · iexact Hba_kgccwh2
    isplitl [Hvs_kxcwh1]; · iexact Hvs_kxcwh1
    isplitl [Hba_kxcwh1]; · iexact Hba_kxcwh1
    isplitl [Hvs_kgcwh1]; · iexact Hvs_kgcwh1
    isplitl [Hba_kgcwh1]; · iexact Hba_kgcwh1
    isplitl [Hvs_kxccwh1]; · iexact Hvs_kxccwh1
    isplitl [Hba_kxccwh1]; · iexact Hba_kxccwh1
    isplitl [Hvs_kgccwh1]; · iexact Hvs_kgccwh1
    isplitl [Hba_kgccwh1]; · iexact Hba_kgccwh1
    isplitl [Hvs_rscwh0q0]; · iexact Hvs_rscwh0q0
    isplitl [Hba_rscwh0q0]; · iexact Hba_rscwh0q0
    isplitl [Hvs_rscwh0q1]; · iexact Hvs_rscwh0q1
    isplitl [Hba_rscwh0q1]; · iexact Hba_rscwh0q1
    isplitl [Hvs_rsccwh0q0]; · iexact Hvs_rsccwh0q0
    isplitl [Hba_rsccwh0q0]; · iexact Hba_rsccwh0q0
    isplitl [Hvs_rsccwh0q1]; · iexact Hvs_rsccwh0q1
    isplitl [Hba_rsccwh0q1]; · iexact Hba_rsccwh0q1
    isplitl [Hvs_rscwh1q0]; · iexact Hvs_rscwh1q0
    isplitl [Hba_rscwh1q0]; · iexact Hba_rscwh1q0
    isplitl [Hvs_rscwh1q1]; · iexact Hvs_rscwh1q1
    isplitl [Hba_rscwh1q1]; · iexact Hba_rscwh1q1
    isplitl [Hvs_rsccwh1q0]; · iexact Hvs_rsccwh1q0
    isplitl [Hba_rsccwh1q0]; · iexact Hba_rsccwh1q0
    isplitl [Hvs_rsccwh1q1]; · iexact Hvs_rsccwh1q1
    isplitl [Hba_rsccwh1q1]; · iexact Hba_rsccwh1q1
    isplitl [Hvs_rscwh2q0]; · iexact Hvs_rscwh2q0
    isplitl [Hba_rscwh2q0]; · iexact Hba_rscwh2q0
    isplitl [Hvs_rscwh2q1]; · iexact Hvs_rscwh2q1
    isplitl [Hba_rscwh2q1]; · iexact Hba_rscwh2q1
    isplitl [Hvs_rsccwh2q0]; · iexact Hvs_rsccwh2q0
    isplitl [Hba_rsccwh2q0]; · iexact Hba_rsccwh2q0
    isplitl [How]; · iexact How
    isplitl [Hvs_rsccwh2q1]; · iexact Hvs_rsccwh2q1
    iexact Hba_rsccwh2q1
  iapply run_pure; iexact Hq

end Cert.KernelIdeal.Moe
-- ==== Proof.Slots.lean ====
/-
  A device's scratch buffers, taken apart into the slots that copies write, and put together again.
-/
module

public import proofs.«01_k».proof.Proof.Protocol
public import Idealize.ShloMosaic.Lib.Ring

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Cert.KernelIdeal.Gen

variable {F : FTy → Type} [FloatOps F]

local notation "𝕄" => MT nD τ sig Unit (Elt F) ℕ UU ℕ

/-- A piece of memory owned in full, holding anything. -/
def free (c : Dev nD) {sp : Space} {s : Shape} {e : EltTy} (M : Memref sig .tc sp s e) : sProp 𝕄 :=
  iprop(∃ v, owns (c : Thread nD τ) M fullShare v)
/-- A whole buffer holding anything. -/
def buf (c : Dev nD) (b : Ref sig .tc) : sProp 𝕄 :=
  iprop(∃ f : Buf (Elt F) ((c : Thread nD τ).loc b), ((c : Thread nD τ).loc b) ↦{fullShare} f)

theorem free_eq (c : Dev nD) {sp : Space} {s : Shape} {e : EltTy} (M : Memref sig .tc sp s e) :
    (free (F := F) c M) = iprop(∃ f, M.view.loc (c : Thread nD τ) ↦[M.view.set]{fullShare} f) := by
  unfold free owns
  have h₁ : iprop(∃ v, ∃ f, ⌜M.view.read (Elt F) f = v⌝ ∗ (M.view.loc (c : Thread nD τ) ↦[M.view.set]{fullShare} f))
      ⊢ (iprop(∃ f, M.view.loc (c : Thread nD τ) ↦[M.view.set]{fullShare} f) : sProp 𝕄) := by
    iintro ⟨%v, %f, -, H⟩; iexists f; iexact H
  have h₂ : iprop(∃ f, M.view.loc (c : Thread nD τ) ↦[M.view.set]{fullShare} f)
      ⊢ (iprop(∃ v, ∃ f, ⌜M.view.read (Elt F) f = v⌝ ∗ (M.view.loc (c : Thread nD τ) ↦[M.view.set]{fullShare} f)) : sProp 𝕄) := by
    iintro ⟨%f, H⟩; iexists (M.view.read (Elt F) f); iexists f
    isplitr; · ipureintro; rfl
    iexact H
  exact BI.equiv_iff.mp ⟨h₁, h₂⟩

theorem free_whole (c : Dev nD) (b : Ref sig .tc) : free (F := F) c (Memref.whole b) = buf c b := by
  unfold free buf; congr 1; funext f; exact owns_whole _ _ _ _

/-- A buffer is its pieces: any disjoint pieces that cover it. -/
theorem buf_pieces {T : Type} [Fintype T] [DecidableEq T] (c : Dev nD) (b : Ref sig .tc) (K : T → Finset (Idx ((c : Thread nD τ).loc b)))
    (hd : ∀ t t', t ≠ t' → Disjoint (K t) (K t')) (hc : Finset.univ.biUnion K = Finset.univ) (P : T → sProp 𝕄)
    (hP : ∀ t, P t = iprop(∃ f, ((c : Thread nD τ).loc b) ↦[K t]{fullShare} f)) :
    buf c b = bigSep Finset.univ P := by
  rw [show P = fun t => iprop(∃ f, ((c : Thread nD τ).loc b) ↦[K t]{fullShare} f) from funext hP]
  unfold buf
  have h₁ : iprop(∃ f : Buf (Elt F) ((c : Thread nD τ).loc b), ((c : Thread nD τ).loc b) ↦{fullShare} f)
      ⊢ (bigSep Finset.univ fun t => iprop(∃ f, ((c : Thread nD τ).loc b) ↦[K t]{fullShare} f) : sProp 𝕄) := by
    iintro ⟨%f, H⟩
    have h₃ : (((c : Thread nD τ).loc b) ↦{fullShare} f : sProp 𝕄)
        ⊢ bigSep Finset.univ fun t => iprop(∃ f, ((c : Thread nD τ).loc b) ↦[K t]{fullShare} f) :=
      (Entails.of_eq (pointsTo_blocks K hd hc f)).trans (bigSep_mono fun t _ => exists_intro (Φ := fun f => (((c : Thread nD τ).loc b) ↦[K t]{fullShare} f : sProp 𝕄)) f)
    iapply h₃; iexact H
  exact BI.equiv_iff.mp ⟨h₁, pointsTo_blocks_join_exists K hd hc (fun _ => Classical.arbitrary _)⟩

def Hop.no : Hop → ℕ | .h0 => 0 | .h1 => 1 | .h2 => 2
def Half.no : Half → ℕ | .q0 => 0 | .q1 => 1

theorem hop_no_inj : ∀ h h' : Hop, h.no = h'.no → h = h' := by decide
theorem hop_cover : ∀ n < 3, ∃ h : Hop, h.no = n := by decide
theorem half_no_inj : ∀ h h' : Half, h.no = h'.no → h = h' := by decide
theorem half_cover : ∀ n < 2, ∃ h : Half, h.no = n := by decide

/-- Pieces told apart by a label of every position are disjoint, and cover the buffer if every position's label is some piece's. -/
theorem pieces_of_label {ι T : Type} [Fintype ι] [DecidableEq ι] [Fintype T] [DecidableEq T] (K : T → Finset ι) (l : ι → T)
    (h : ∀ t i, i ∈ K t ↔ l i = t) : (∀ t t', t ≠ t' → Disjoint (K t) (K t')) ∧ Finset.univ.biUnion K = Finset.univ :=
  ⟨fun t t' ht => Finset.disjoint_left.mpr fun i hi hi' => ht (((h t i).mp hi).symm.trans ((h t' i).mp hi')),
    Finset.eq_univ_iff_forall.mpr fun i => Finset.mem_biUnion.mpr ⟨l i, Finset.mem_univ _, (h _ i).mpr rfl⟩⟩

def hopOf (n : ℕ) : Hop := if n = 0 then .h0 else if n = 1 then .h1 else .h2
def halfOf (n : ℕ) : Half := if n < 512 then .q0 else .q1

theorem hop_pieces {a b : ℕ} {inb : ∀ h : Hop, ∀ x, (![h.no, 0, 0] : Fin 3 → ℕ) x + (⟨3, ![1, a, b]⟩ : Shape).size x ≤ (⟨3, ![3, a, b]⟩ : Shape).size x}
    (h : Hop) (i : (⟨3, ![3, a, b]⟩ : Shape).Idx) :
    i ∈ (Rect.unit (s := ⟨3, ![3, a, b]⟩) ![h.no, 0, 0] (⟨3, ![1, a, b]⟩ : Shape).size (inb h)).set ↔ hopOf (i 0).val = h := by
  rw [Rect.mem_set_unit]
  have h0 : (i 0).val < 3 := (i 0).isLt
  have h1 : (i 1).val < a := (i 1).isLt
  have h2 : (i 2).val < b := (i 2).isLt
  constructor
  · intro H
    have := H 0
    have e : h.no ≤ (i 0).val ∧ (i 0).val < h.no + 1 := this
    have : (i 0).val = h.no := by omega
    rw [this]; cases h <;> rfl
  · rintro rfl x
    have e : (hopOf (i 0).val).no = (i 0).val := by
      unfold hopOf; split
      · next h => exact h.symm
      · split
        · next h => exact h.symm
        · show 2 = _; omega
    fin_cases x
    · show (hopOf (i 0).val).no ≤ (i 0).val ∧ (i 0).val < (hopOf (i 0).val).no + 1; omega
    · show 0 ≤ (i 1).val ∧ (i 1).val < 0 + a; omega
    · show 0 ≤ (i 2).val ∧ (i 2).val < 0 + b; omega

theorem tile_pieces {inb : ∀ p : Hop × Half, ∀ x, (![p.1.no, 0, 512 * p.2.no] : Fin 3 → ℕ) x + S1x512x512.size x ≤ S3x512x1024.size x}
    (p : Hop × Half) (i : S3x512x1024.Idx) :
    i ∈ (Rect.unit (s := S3x512x1024) ![p.1.no, 0, 512 * p.2.no] S1x512x512.size (inb p)).set ↔ (hopOf (i 0).val, halfOf (i 2).val) = p := by
  rw [Rect.mem_set_unit]
  have h0 : (i 0).val < 3 := (i 0).isLt
  have h1 : (i 1).val < 512 := (i 1).isLt
  have h2 : (i 2).val < 1024 := (i 2).isLt
  obtain ⟨h, q⟩ := p
  constructor
  · intro H
    have e : h.no ≤ (i 0).val ∧ (i 0).val < h.no + 1 := H 0
    have e2 : 512 * q.no ≤ (i 2).val ∧ (i 2).val < 512 * q.no + 512 := H 2
    have : (i 0).val = h.no := by omega
    refine Prod.ext ?_ ?_
    · show hopOf (i 0).val = h
      rw [this]; cases h <;> rfl
    · show halfOf (i 2).val = q
      unfold halfOf
      cases q
      · exact if_pos (by have : (i 2).val < 512 * 0 + 512 := e2.2; omega)
      · exact if_neg (by have : 512 * 1 ≤ (i 2).val := e2.1; omega)
  · intro hp x
    obtain ⟨rfl, rfl⟩ := Prod.mk.inj hp
    have e : (hopOf (i 0).val).no = (i 0).val := by
      unfold hopOf; split
      · next h => exact h.symm
      · split
        · next h => exact h.symm
        · show 2 = _; omega
    have e2 : 512 * (halfOf (i 2).val).no ≤ (i 2).val ∧ (i 2).val < 512 * (halfOf (i 2).val).no + 512 := by
      unfold halfOf; split
      · show 512 * 0 ≤ _ ∧ _ < 512 * 0 + 512; omega
      · show 512 * 1 ≤ _ ∧ _ < 512 * 1 + 512; omega
    fin_cases x
    · show (hopOf (i 0).val).no ≤ (i 0).val ∧ (i 0).val < (hopOf (i 0).val).no + 1; omega
    · show 0 ≤ (i 1).val ∧ (i 1).val < 0 + 512; omega
    · exact e2

theorem half_pieces {inb : ∀ q : Half, ∀ x, (![0, 512 * q.no] : Fin 2 → ℕ) x + S512x512.size x ≤ S512x1024.size x}
    (q : Half) (i : S512x1024.Idx) :
    i ∈ (Rect.unit (s := S512x1024) ![0, 512 * q.no] S512x512.size (inb q)).set ↔ halfOf (i 1).val = q := by
  rw [Rect.mem_set_unit]
  have h1 : (i 0).val < 512 := (i 0).isLt
  have h2 : (i 1).val < 1024 := (i 1).isLt
  constructor
  · intro H
    have e2 : 512 * q.no ≤ (i 1).val ∧ (i 1).val < 512 * q.no + 512 := H 1
    unfold halfOf
    cases q
    · exact if_pos (by have : (i 1).val < 512 * 0 + 512 := e2.2; omega)
    · exact if_neg (by have : 512 * 1 ≤ (i 1).val := e2.1; omega)
  · rintro rfl x
    have e2 : 512 * (halfOf (i 1).val).no ≤ (i 1).val ∧ (i 1).val < 512 * (halfOf (i 1).val).no + 512 := by
      unfold halfOf; split
      · show 512 * 0 ≤ _ ∧ _ < 512 * 0 + 512; omega
      · show 512 * 1 ≤ _ ∧ _ < 512 * 1 + 512; omega
    fin_cases x
    · show 0 ≤ (i 0).val ∧ (i 0).val < 0 + 512; omega
    · exact e2

theorem inbX (h : Hop) : ∀ x, (![h.no, 0, 0] : Fin 3 → ℕ) x + S1x512x512.size x ≤ S3x512x512.size x := by cases h <;> decide
theorem inbG (h : Hop) : ∀ x, (![h.no, 0, 0] : Fin 3 → ℕ) x + S1x512x16.size x ≤ S3x512x16.size x := by cases h <;> decide
theorem inbR (p : Hop × Half) : ∀ x, (![p.1.no, 0, 512 * p.2.no] : Fin 3 → ℕ) x + S1x512x512.size x ≤ S3x512x1024.size x := by
  obtain ⟨h, q⟩ := p; cases h <;> cases q <;> decide
theorem inbS (q : Half) : ∀ x, (![0, 512 * q.no] : Fin 2 → ℕ) x + S512x512.size x ≤ S512x1024.size x := by cases q <;> decide

abbrev KX (h : Hop) : Finset S3x512x512.Idx := (Rect.unit (s := S3x512x512) ![h.no, 0, 0] S1x512x512.size (inbX h)).set
abbrev KG (h : Hop) : Finset S3x512x16.Idx := (Rect.unit (s := S3x512x16) ![h.no, 0, 0] S1x512x16.size (inbG h)).set
abbrev KR (p : Hop × Half) : Finset S3x512x1024.Idx := (Rect.unit (s := S3x512x1024) ![p.1.no, 0, 512 * p.2.no] S1x512x512.size (inbR p)).set
abbrev KS (q : Half) : Finset S512x1024.Idx := (Rect.unit (s := S512x1024) ![0, 512 * q.no] S512x512.size (inbS q)).set

theorem ex_set {ℓ : Loc nD τ sig} {K K' : Finset (Idx ℓ)} (h : K = K') :
    (iprop(∃ f, ℓ ↦[K]{fullShare} f) : sProp 𝕄) = iprop(∃ f, ℓ ↦[K']{fullShare} f) := by rw [h]

/-- The token slots make up their buffers. -/
theorem xbuf_cw (c : Dev nD) : buf (F := F) c cc0_scratch0 = bigSep Finset.univ fun h => free c (xdst .cw h) :=
  have H := pieces_of_label KX (fun i => hopOf (i 0).val) (fun t i => hop_pieces (inb := inbX) t i)
  buf_pieces c cc0_scratch0 KX H.1 H.2 _ fun h => (free_eq c (xdst .cw h)).trans (by
    cases h <;> exact ex_set (ℓ := (c : Thread nD τ).loc cc0_scratch0) ((View.set_reshape _ _).trans (View.set_slice_whole _ _)))
theorem xbuf_ccw (c : Dev nD) : buf (F := F) c cc0_scratch1 = bigSep Finset.univ fun h => free c (xdst .ccw h) :=
  have H := pieces_of_label KX (fun i => hopOf (i 0).val) (fun t i => hop_pieces (inb := inbX) t i)
  buf_pieces c cc0_scratch1 KX H.1 H.2 _ fun h => (free_eq c (xdst .ccw h)).trans (by
    cases h <;> exact ex_set (ℓ := (c : Thread nD τ).loc cc0_scratch1) ((View.set_reshape _ _).trans (View.set_slice_whole _ _)))
/-- So do the gate slots. -/
theorem gbuf_cw (c : Dev nD) : buf (F := F) c cc0_scratch2 = bigSep Finset.univ fun h => free c (gdst .cw h) :=
  have H := pieces_of_label KG (fun i => hopOf (i 0).val) (fun t i => hop_pieces (inb := inbG) t i)
  buf_pieces c cc0_scratch2 KG H.1 H.2 _ fun h => (free_eq c (gdst .cw h)).trans (by
    cases h <;> exact ex_set (ℓ := (c : Thread nD τ).loc cc0_scratch2) ((View.set_reshape _ _).trans (View.set_slice_whole _ _)))
theorem gbuf_ccw (c : Dev nD) : buf (F := F) c cc0_scratch3 = bigSep Finset.univ fun h => free c (gdst .ccw h) :=
  have H := pieces_of_label KG (fun i => hopOf (i 0).val) (fun t i => hop_pieces (inb := inbG) t i)
  buf_pieces c cc0_scratch3 KG H.1 H.2 _ fun h => (free_eq c (gdst .ccw h)).trans (by
    cases h <;> exact ex_set (ℓ := (c : Thread nD τ).loc cc0_scratch3) ((View.set_reshape _ _).trans (View.set_slice_whole _ _)))
/-- And the slots of partial sums. -/
theorem rbuf_cw (c : Dev nD) : buf (F := F) c cc0_scratch8 = bigSep Finset.univ fun p : Hop × Half => free c (rdst .cw p.1 p.2) :=
  have H := pieces_of_label KR (fun i => (hopOf (i 0).val, halfOf (i 2).val)) (fun t i => tile_pieces (inb := inbR) t i)
  buf_pieces c cc0_scratch8 KR H.1 H.2 _ fun p => (free_eq c (rdst .cw p.1 p.2)).trans (by
    obtain ⟨h, q⟩ := p
    cases h <;> cases q <;> exact ex_set (ℓ := (c : Thread nD τ).loc cc0_scratch8) ((View.set_reshape _ _).trans (View.set_slice_whole _ _)))
theorem rbuf_ccw (c : Dev nD) : buf (F := F) c cc0_scratch9 = bigSep Finset.univ fun p : Hop × Half => free c (rdst .ccw p.1 p.2) :=
  have H := pieces_of_label KR (fun i => (hopOf (i 0).val, halfOf (i 2).val)) (fun t i => tile_pieces (inb := inbR) t i)
  buf_pieces c cc0_scratch9 KR H.1 H.2 _ fun p => (free_eq c (rdst .ccw p.1 p.2)).trans (by
    obtain ⟨h, q⟩ := p
    cases h <;> cases q <;> exact ex_set (ℓ := (c : Thread nD τ).loc cc0_scratch9) ((View.set_reshape _ _).trans (View.set_slice_whole _ _)))
theorem sbuf_cw (c : Dev nD) : buf (F := F) c cc0_scratch6 = bigSep Finset.univ fun q => free c (rstart .cw q) :=
  have H := pieces_of_label KS (fun i => halfOf (i 1).val) (fun t i => half_pieces (inb := inbS) t i)
  buf_pieces c cc0_scratch6 KS H.1 H.2 _ fun q => (free_eq c (rstart .cw q)).trans (by
    cases q <;> exact ex_set (ℓ := (c : Thread nD τ).loc cc0_scratch6) (View.set_slice_whole _ _))
theorem sbuf_ccw (c : Dev nD) : buf (F := F) c cc0_scratch7 = bigSep Finset.univ fun q => free c (rstart .ccw q) :=
  have H := pieces_of_label KS (fun i => halfOf (i 1).val) (fun t i => half_pieces (inb := inbS) t i)
  buf_pieces c cc0_scratch7 KS H.1 H.2 _ fun q => (free_eq c (rstart .ccw q)).trans (by
    cases q <;> exact ex_set (ℓ := (c : Thread nD τ).loc cc0_scratch7) (View.set_slice_whole _ _))

end Cert.KernelIdeal.Moe
-- ==== Proof.Enter.lean ====
/-
  What a device holds when its kernel starts, put together from its buffers, its windows and the state of its semaphores; and
  what it holds when the kernel is over, taken apart into the same.
-/
module

public import proofs.«01_k».proof.Proof.Body
public import proofs.«01_k».proof.Proof.Slots

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] (I : Inputs F) (N : GSem nD τ sig → ℕ) (c : Dev nD)

local notation "𝕄" => MT nD τ sig Unit (Elt F) ℕ UU ℕ

/-- The buffers no window stages, each holding anything. -/
def scratch : sProp 𝕄 :=
  iprop(buf c cc0_scratch0 ∗ buf c cc0_scratch1 ∗ buf c cc0_scratch2 ∗ buf c cc0_scratch3 ∗ buf c cc0_scratch4 ∗ buf c cc0_scratch5 ∗ buf c cc0_scratch6 ∗ buf c cc0_scratch7 ∗ buf c cc0_scratch8 ∗ buf c cc0_scratch9 ∗ buf c cc0_scratch10 ∗ buf c cc0_scratch11 ∗ buf c cc0_scratch20 ∗ buf c cc0_scratch21 ∗ buf c cc0_scratch22)

/-- A device's part of the protocol, its semaphores open. -/
def begun : sProp 𝕄 :=
  iprop(reached ER (barCell (prv c)) 0 ∗ reached ER (barCell (nxt c)) 0
    ∗ dutyTok ER (barCell (prv c)) 0 (Duty.bar .cw) ∗ dutyTok ER (barCell (nxt c)) 0 (Duty.bar .ccw)
    ∗ atPos ER (barCell c) 0 ∅ 0 ∗ cred (tallyAt (barCell c) () 2)
    ∗ (bigSep Finset.univ fun k => ready k c) ∗ (bigSep Finset.univ fun k => await k c)
    ∗ bigSep Finset.univ fun k => reached ER (recvCell k c) 0)

/-- The windows of what the kernel reads. -/
def reads : sProp 𝕄 :=
  iprop(owns (c : Thread nD τ) (Memref.whole cc0_stg0_0) fullShare (I.x c) ∗ owns (c : Thread nD τ) (Memref.whole cc0_stg1_0) fullShare (I.rw c)
    ∗ owns (c : Thread nD τ) (Memref.whole cc0_stg2_0) fullShare (I.ri c) ∗ owns (c : Thread nD τ) (Memref.whole cc0_stg3_0) fullShare (I.ew c)
    ∗ owns (c : Thread nD τ) (xown .cw) fullShare (xh I .cw c) ∗ owns (c : Thread nD τ) (xown .ccw) fullShare (xh I .ccw c))

theorem cps (P : Cp → sProp 𝕄) : bigSep Finset.univ P = iprop(P (.kx .cw .h0) ∗ P (.kx .ccw .h0) ∗ P (.kg .cw .h0) ∗ P (.kg .ccw .h0) ∗ P (.kx .cw .h2) ∗ P (.kx .ccw .h2) ∗ P (.kg .cw .h2) ∗ P (.kg .ccw .h2) ∗ P (.kx .cw .h1) ∗ P (.kg .cw .h1) ∗ P (.kx .ccw .h1) ∗ P (.kg .ccw .h1) ∗ P (.rs .cw .h0 .q0) ∗ P (.rs .cw .h0 .q1) ∗ P (.rs .ccw .h0 .q0) ∗ P (.rs .ccw .h0 .q1) ∗ P (.rs .cw .h1 .q0) ∗ P (.rs .cw .h1 .q1) ∗ P (.rs .ccw .h1 .q0) ∗ P (.rs .ccw .h1 .q1) ∗ P (.rs .cw .h2 .q0) ∗ P (.rs .cw .h2 .q1) ∗ P (.rs .ccw .h2 .q0) ∗ P (.rs .ccw .h2 .q1)) := by
  rw [bigSep_eq_bigSepL_of_eq allCp (by decide) (by decide)]; rfl
theorem hops (P : Hop → sProp 𝕄) : bigSep Finset.univ P = iprop(P .h0 ∗ P .h1 ∗ P .h2) := by
  rw [bigSep_eq_bigSepL_of_eq [.h0, .h1, .h2] (by decide) (by decide)]; rfl
theorem halves (P : Half → sProp 𝕄) : bigSep Finset.univ P = iprop(P .q0 ∗ P .q1) := by
  rw [bigSep_eq_bigSepL_of_eq [.q0, .q1] (by decide) (by decide)]; rfl
theorem tiles (P : Hop × Half → sProp 𝕄) : bigSep Finset.univ P
    = iprop(P (.h0, .q0) ∗ P (.h0, .q1) ∗ P (.h1, .q0) ∗ P (.h1, .q1) ∗ P (.h2, .q0) ∗ P (.h2, .q1)) := by
  rw [bigSep_eq_bigSepL_of_eq [(.h0, .q0), (.h0, .q1), (.h1, .q0), (.h1, .q1), (.h2, .q0), (.h2, .q1)] (by decide) (by decide)]; rfl

theorem slots_cw : slots (F := F) .cw c = iprop(slot (.kx .cw .h0) c ∗ slot (.kg .cw .h0) c ∗ slot (.kx .ccw .h2) c ∗ slot (.kg .ccw .h2) c ∗ slot (.kx .cw .h1) c ∗ slot (.kg .cw .h1) c ∗ slot (.rs .cw .h0 .q0) c ∗ slot (.rs .cw .h0 .q1) c ∗ slot (.rs .cw .h1 .q0) c ∗ slot (.rs .cw .h1 .q1) c ∗ slot (.rs .cw .h2 .q0) c ∗ slot (.rs .cw .h2 .q1) c) := by
  unfold slots
  rw [bigSep_eq_bigSepL_of_eq [.kx .cw .h0, .kg .cw .h0, .kx .ccw .h2, .kg .ccw .h2, .kx .cw .h1, .kg .cw .h1, .rs .cw .h0 .q0, .rs .cw .h0 .q1, .rs .cw .h1 .q0, .rs .cw .h1 .q1, .rs .cw .h2 .q0, .rs .cw .h2 .q1] (by decide) (by decide)]; rfl
theorem slots_ccw : slots (F := F) .ccw c = iprop(slot (.kx .ccw .h0) c ∗ slot (.kg .ccw .h0) c ∗ slot (.kx .cw .h2) c ∗ slot (.kg .cw .h2) c ∗ slot (.kx .ccw .h1) c ∗ slot (.kg .ccw .h1) c ∗ slot (.rs .ccw .h0 .q0) c ∗ slot (.rs .ccw .h0 .q1) c ∗ slot (.rs .ccw .h1 .q0) c ∗ slot (.rs .ccw .h1 .q1) c ∗ slot (.rs .ccw .h2 .q0) c ∗ slot (.rs .ccw .h2 .q1) c) := by
  unfold slots
  rw [bigSep_eq_bigSepL_of_eq [.kx .ccw .h0, .kg .ccw .h0, .kx .cw .h2, .kg .cw .h2, .kx .ccw .h1, .kg .ccw .h1, .rs .ccw .h0 .q0, .rs .ccw .h0 .q1, .rs .ccw .h1 .q0, .rs .ccw .h1 .q1, .rs .ccw .h2 .q0, .rs .ccw .h2 .q1] (by decide) (by decide)]; rfl

/-- The buffers in which copies arrive are the slots. -/
theorem arrivals_eq : iprop(buf c cc0_scratch0 ∗ buf c cc0_scratch1 ∗ buf c cc0_scratch2 ∗ buf c cc0_scratch3 ∗ buf c cc0_scratch8 ∗ buf c cc0_scratch9)
    = (iprop((free c (xdst .cw .h0) ∗ free c (xdst .cw .h1) ∗ free c (xdst .cw .h2)) ∗ (free c (xdst .ccw .h0) ∗ free c (xdst .ccw .h1) ∗ free c (xdst .ccw .h2)) ∗ (free c (gdst .cw .h0) ∗ free c (gdst .cw .h1) ∗ free c (gdst .cw .h2)) ∗ (free c (gdst .ccw .h0) ∗ free c (gdst .ccw .h1) ∗ free c (gdst .ccw .h2)) ∗ (free c (rdst .cw .h0 .q0) ∗ free c (rdst .cw .h0 .q1) ∗ free c (rdst .cw .h1 .q0) ∗ free c (rdst .cw .h1 .q1) ∗ free c (rdst .cw .h2 .q0) ∗ free c (rdst .cw .h2 .q1)) ∗ (free c (rdst .ccw .h0 .q0) ∗ free c (rdst .ccw .h0 .q1) ∗ free c (rdst .ccw .h1 .q0) ∗ free c (rdst .ccw .h1 .q1) ∗ free c (rdst .ccw .h2 .q0) ∗ free c (rdst .ccw .h2 .q1))) : sProp 𝕄) := by
  rw [xbuf_cw, xbuf_ccw, gbuf_cw, gbuf_ccw, rbuf_cw, rbuf_ccw, hops, hops, hops, hops, tiles, tiles]

theorem slot_of (k : Cp) {sp : Space} {s : Shape} {e : EltTy} (M : Memref sig .tc sp s e)
    (h : slot (F := F) k c = iprop(free c M ∗ reached ER (recvCell k c) 0)) :
    iprop(free (F := F) c M ∗ reached ER (recvCell k c) 0) ⊢ slot k c := Entails.of_eq h.symm

/-- Both directions' slots, from the buffers. -/
theorem slots_of : iprop((buf c cc0_scratch0 ∗ buf c cc0_scratch1 ∗ buf c cc0_scratch2 ∗ buf c cc0_scratch3 ∗ buf c cc0_scratch8 ∗ buf c cc0_scratch9)
      ∗ bigSep Finset.univ fun k => reached ER (recvCell k c) 0)
    ⊢ (iprop(slots .cw c ∗ slots .ccw c) : sProp 𝕄) := by
  rw [arrivals_eq, cps, slots_cw, slots_ccw]
  iintro ⟨⟨⟨Fkxcwh0, Fkxcwh1, Fkxcwh2⟩, ⟨Fkxccwh0, Fkxccwh1, Fkxccwh2⟩, ⟨Fkgcwh0, Fkgcwh1, Fkgcwh2⟩, ⟨Fkgccwh0, Fkgccwh1, Fkgccwh2⟩, ⟨Frscwh0q0, Frscwh0q1, Frscwh1q0, Frscwh1q1, Frscwh2q0, Frscwh2q1⟩, ⟨Frsccwh0q0, Frsccwh0q1, Frsccwh1q0, Frsccwh1q1, Frsccwh2q0, Frsccwh2q1⟩⟩, Rkxcwh0, Rkxccwh0, Rkgcwh0, Rkgccwh0, Rkxcwh2, Rkxccwh2, Rkgcwh2, Rkgccwh2, Rkxcwh1, Rkgcwh1, Rkxccwh1, Rkgccwh1, Rrscwh0q0, Rrscwh0q1, Rrsccwh0q0, Rrsccwh0q1, Rrscwh1q0, Rrscwh1q1, Rrsccwh1q0, Rrsccwh1q1, Rrscwh2q0, Rrscwh2q1, Rrsccwh2q0, Rrsccwh2q1⟩
  isplitl [Fkxcwh0 Rkxcwh0 Fkgcwh0 Rkgcwh0 Fkxccwh2 Rkxccwh2 Fkgccwh2 Rkgccwh2 Fkxcwh1 Rkxcwh1 Fkgcwh1 Rkgcwh1 Frscwh0q0 Rrscwh0q0 Frscwh0q1 Rrscwh0q1 Frscwh1q0 Rrscwh1q0 Frscwh1q1 Rrscwh1q1 Frscwh2q0 Rrscwh2q0 Frscwh2q1 Rrscwh2q1]
  · isplitl [Fkxcwh0 Rkxcwh0]; · iapply (slot_of c (.kx .cw .h0) (xdst .cw .h0) rfl); isplitl [Fkxcwh0] <;> iassumption
    isplitl [Fkgcwh0 Rkgcwh0]; · iapply (slot_of c (.kg .cw .h0) (gdst .cw .h0) rfl); isplitl [Fkgcwh0] <;> iassumption
    isplitl [Fkxccwh2 Rkxccwh2]; · iapply (slot_of c (.kx .ccw .h2) (xdst .ccw .h2) rfl); isplitl [Fkxccwh2] <;> iassumption
    isplitl [Fkgccwh2 Rkgccwh2]; · iapply (slot_of c (.kg .ccw .h2) (gdst .ccw .h2) rfl); isplitl [Fkgccwh2] <;> iassumption
    isplitl [Fkxcwh1 Rkxcwh1]; · iapply (slot_of c (.kx .cw .h1) (xdst .cw .h1) rfl); isplitl [Fkxcwh1] <;> iassumption
    isplitl [Fkgcwh1 Rkgcwh1]; · iapply (slot_of c (.kg .cw .h1) (gdst .cw .h1) rfl); isplitl [Fkgcwh1] <;> iassumption
    isplitl [Frscwh0q0 Rrscwh0q0]; · iapply (slot_of c (.rs .cw .h0 .q0) (rdst .cw .h0 .q0) rfl); isplitl [Frscwh0q0] <;> iassumption
    isplitl [Frscwh0q1 Rrscwh0q1]; · iapply (slot_of c (.rs .cw .h0 .q1) (rdst .cw .h0 .q1) rfl); isplitl [Frscwh0q1] <;> iassumption
    isplitl [Frscwh1q0 Rrscwh1q0]; · iapply (slot_of c (.rs .cw .h1 .q0) (rdst .cw .h1 .q0) rfl); isplitl [Frscwh1q0] <;> iassumption
    isplitl [Frscwh1q1 Rrscwh1q1]; · iapply (slot_of c (.rs .cw .h1 .q1) (rdst .cw .h1 .q1) rfl); isplitl [Frscwh1q1] <;> iassumption
    isplitl [Frscwh2q0 Rrscwh2q0]; · iapply (slot_of c (.rs .cw .h2 .q0) (rdst .cw .h2 .q0) rfl); isplitl [Frscwh2q0] <;> iassumption
    iapply (slot_of c (.rs .cw .h2 .q1) (rdst .cw .h2 .q1) rfl); isplitl [Frscwh2q1] <;> iassumption
  isplitl [Fkxccwh0 Rkxccwh0]; · iapply (slot_of c (.kx .ccw .h0) (xdst .ccw .h0) rfl); isplitl [Fkxccwh0] <;> iassumption
  isplitl [Fkgccwh0 Rkgccwh0]; · iapply (slot_of c (.kg .ccw .h0) (gdst .ccw .h0) rfl); isplitl [Fkgccwh0] <;> iassumption
  isplitl [Fkxcwh2 Rkxcwh2]; · iapply (slot_of c (.kx .cw .h2) (xdst .cw .h2) rfl); isplitl [Fkxcwh2] <;> iassumption
  isplitl [Fkgcwh2 Rkgcwh2]; · iapply (slot_of c (.kg .cw .h2) (gdst .cw .h2) rfl); isplitl [Fkgcwh2] <;> iassumption
  isplitl [Fkxccwh1 Rkxccwh1]; · iapply (slot_of c (.kx .ccw .h1) (xdst .ccw .h1) rfl); isplitl [Fkxccwh1] <;> iassumption
  isplitl [Fkgccwh1 Rkgccwh1]; · iapply (slot_of c (.kg .ccw .h1) (gdst .ccw .h1) rfl); isplitl [Fkgccwh1] <;> iassumption
  isplitl [Frsccwh0q0 Rrsccwh0q0]; · iapply (slot_of c (.rs .ccw .h0 .q0) (rdst .ccw .h0 .q0) rfl); isplitl [Frsccwh0q0] <;> iassumption
  isplitl [Frsccwh0q1 Rrsccwh0q1]; · iapply (slot_of c (.rs .ccw .h0 .q1) (rdst .ccw .h0 .q1) rfl); isplitl [Frsccwh0q1] <;> iassumption
  isplitl [Frsccwh1q0 Rrsccwh1q0]; · iapply (slot_of c (.rs .ccw .h1 .q0) (rdst .ccw .h1 .q0) rfl); isplitl [Frsccwh1q0] <;> iassumption
  isplitl [Frsccwh1q1 Rrsccwh1q1]; · iapply (slot_of c (.rs .ccw .h1 .q1) (rdst .ccw .h1 .q1) rfl); isplitl [Frsccwh1q1] <;> iassumption
  isplitl [Frsccwh2q0 Rrsccwh2q0]; · iapply (slot_of c (.rs .ccw .h2 .q0) (rdst .ccw .h2 .q0) rfl); isplitl [Frsccwh2q0] <;> iassumption
  iapply (slot_of c (.rs .ccw .h2 .q1) (rdst .ccw .h2 .q1) rfl); isplitl [Frsccwh2q1] <;> iassumption

/-- What the kernel starts from. -/
theorem enter : iprop((∃ W, owes (c : Thread nD τ) (O₀ c) W) ∗ begun c ∗ scratch c ∗ reads I c ∗ free c (Memref.whole cc0_stg6_0))
    ⊢ (iprop(∃ u6 u11 u12 u17 u18 u27 u28 u29 u13q0 u13q1 u14q0 u14q1, before I c u6 u11 u12 u17 u18 u27 u28 u29 u13q0 u13q1 u14q0 u14q1) : sProp 𝕄) := by
  unfold begun scratch reads before
  rw [cps, cps, sbuf_cw, sbuf_ccw, halves, halves, ← free_whole c cc0_scratch4, ← free_whole c cc0_scratch5, ← free_whole c cc0_scratch10,
    ← free_whole c cc0_scratch11, ← free_whole c cc0_scratch20, ← free_whole c cc0_scratch21, ← free_whole c cc0_scratch22]
  unfold free
  iintro ⟨HO, ⟨HrL, HrR, HtL, HtR, HbA, HbC, ⟨Hrdkxcwh0, Hrdkxccwh0, Hrdkgcwh0, Hrdkgccwh0, Hrdkxcwh2, Hrdkxccwh2, Hrdkgcwh2, Hrdkgccwh2, Hrdkxcwh1, Hrdkgcwh1, Hrdkxccwh1, Hrdkgccwh1, Hrdrscwh0q0, Hrdrscwh0q1, Hrdrsccwh0q0, Hrdrsccwh0q1, Hrdrscwh1q0, Hrdrscwh1q1, Hrdrsccwh1q0, Hrdrsccwh1q1, Hrdrscwh2q0, Hrdrscwh2q1, Hrdrsccwh2q0, Hrdrsccwh2q1⟩, ⟨Hawkxcwh0, Hawkxccwh0, Hawkgcwh0, Hawkgccwh0, Hawkxcwh2, Hawkxccwh2, Hawkgcwh2, Hawkgccwh2, Hawkxcwh1, Hawkgcwh1, Hawkxccwh1, Hawkgccwh1, Hawrscwh0q0, Hawrscwh0q1, Hawrsccwh0q0, Hawrsccwh0q1, Hawrscwh1q0, Hawrscwh1q1, Hawrsccwh1q0, Hawrsccwh1q1, Hawrscwh2q0, Hawrscwh2q1, Hawrsccwh2q0, Hawrsccwh2q1⟩, Hrr⟩, ⟨Hs0, Hs1, Hs2, Hs3, ⟨%u11, Hu11⟩, ⟨%u12, Hu12⟩, ⟨⟨%u13q0, Hu13q0⟩, ⟨%u13q1, Hu13q1⟩⟩, ⟨⟨%u14q0, Hu14q0⟩, ⟨%u14q1, Hu14q1⟩⟩, Hs8, Hs9, ⟨%u17, Hu17⟩, ⟨%u18, Hu18⟩, ⟨%u27, Hu27⟩, ⟨%u28, Hu28⟩, ⟨%u29, Hu29⟩⟩, ⟨H0, H1, H2, H3, H4, H5⟩, ⟨%u6, Hu6⟩⟩
  ihave Hsl := (slots_of c) $$ [Hs0 Hs1 Hs2 Hs3 Hs8 Hs9 Hrr]
  · isplitl [Hs0 Hs1 Hs2 Hs3 Hs8 Hs9]
    · isplitl [Hs0]; · iexact Hs0
      isplitl [Hs1]; · iexact Hs1
      isplitl [Hs2]; · iexact Hs2
      isplitl [Hs3]; · iexact Hs3
      isplitl [Hs8]; · iexact Hs8
      iexact Hs9
    iexact Hrr
  icases Hsl with ⟨HsL, HsR⟩
  ihave Hx4 := (halves_xo I .cw) $$ H4
  icases Hx4 with ⟨HxLcw, HxRcw⟩
  ihave Hx5 := (halves_xo I .ccw) $$ H5
  icases Hx5 with ⟨HxLccw, HxRccw⟩
  iexists u6
  iexists u11
  iexists u12
  iexists u17
  iexists u18
  iexists u27
  iexists u28
  iexists u29
  iexists u13q0
  iexists u13q1
  iexists u14q0
  iexists u14q1
  isplitl [HO]; · iexact HO
  isplitl [HtL]; · iexact HtL
  isplitl [HsL]; · iexact HsL
  isplitl [HrL]; · iexact HrL
  isplitl [HtR]; · iexact HtR
  isplitl [HsR]; · iexact HsR
  isplitl [HrR]; · iexact HrR
  isplitl [HbA]; · iexact HbA
  isplitl [HbC]; · iexact HbC
  isplitl [Hrdkxcwh0]; · iexact Hrdkxcwh0
  isplitl [HxLcw]; · iexact HxLcw
  isplitl [Hrdkxccwh0]; · iexact Hrdkxccwh0
  isplitl [HxLccw]; · iexact HxLccw
  isplitl [H0]; · iexact H0
  isplitl [H1]; · iexact H1
  isplitl [H2]; · iexact H2
  isplitl [Hu11]; · iexact Hu11
  isplitl [Hu12]; · iexact Hu12
  isplitl [Hrdkgcwh0]; · iexact Hrdkgcwh0
  isplitl [Hrdkgccwh0]; · iexact Hrdkgccwh0
  isplitl [Hu29]; · iexact Hu29
  isplitl [H3]; · iexact H3
  isplitl [Hu6]; · iexact Hu6
  isplitl [Hrdkxcwh2]; · iexact Hrdkxcwh2
  isplitl [HxRcw]; · iexact HxRcw
  isplitl [Hrdkxccwh2]; · iexact Hrdkxccwh2
  isplitl [HxRccw]; · iexact HxRccw
  isplitl [Hrdkgcwh2]; · iexact Hrdkgcwh2
  isplitl [Hrdkgccwh2]; · iexact Hrdkgccwh2
  isplitl [Hawkxcwh0]; · iexact Hawkxcwh0
  isplitl [Hawkgcwh0]; · iexact Hawkgcwh0
  isplitl [Hrdkxcwh1]; · iexact Hrdkxcwh1
  isplitl [Hrdkgcwh1]; · iexact Hrdkgcwh1
  isplitl [Hawkxccwh0]; · iexact Hawkxccwh0
  isplitl [Hawkgccwh0]; · iexact Hawkgccwh0
  isplitl [Hrdkxccwh1]; · iexact Hrdkxccwh1
  isplitl [Hrdkgccwh1]; · iexact Hrdkgccwh1
  isplitl [Hu27]; · iexact Hu27
  isplitl [Hu17]; · iexact Hu17
  isplitl [Hu13q0]; · iexact Hu13q0
  isplitl [Hrdrscwh0q0]; · iexact Hrdrscwh0q0
  isplitl [Hu13q1]; · iexact Hu13q1
  isplitl [Hrdrscwh0q1]; · iexact Hrdrscwh0q1
  isplitl [Hu28]; · iexact Hu28
  isplitl [Hu18]; · iexact Hu18
  isplitl [Hu14q0]; · iexact Hu14q0
  isplitl [Hrdrsccwh0q0]; · iexact Hrdrsccwh0q0
  isplitl [Hu14q1]; · iexact Hu14q1
  isplitl [Hrdrsccwh0q1]; · iexact Hrdrsccwh0q1
  isplitl [Hawkxcwh1]; · iexact Hawkxcwh1
  isplitl [Hawkgcwh1]; · iexact Hawkgcwh1
  isplitl [Hawkxccwh1]; · iexact Hawkxccwh1
  isplitl [Hawkgccwh1]; · iexact Hawkgccwh1
  isplitl [Hawrscwh0q0]; · iexact Hawrscwh0q0
  isplitl [Hrdrscwh1q0]; · iexact Hrdrscwh1q0
  isplitl [Hawrscwh0q1]; · iexact Hawrscwh0q1
  isplitl [Hrdrscwh1q1]; · iexact Hrdrscwh1q1
  isplitl [Hawrsccwh0q0]; · iexact Hawrsccwh0q0
  isplitl [Hrdrsccwh1q0]; · iexact Hrdrsccwh1q0
  isplitl [Hawrsccwh0q1]; · iexact Hawrsccwh0q1
  isplitl [Hrdrsccwh1q1]; · iexact Hrdrsccwh1q1
  isplitl [Hawkxcwh2]; · iexact Hawkxcwh2
  isplitl [Hawkgcwh2]; · iexact Hawkgcwh2
  isplitl [Hawkxccwh2]; · iexact Hawkxccwh2
  isplitl [Hawkgccwh2]; · iexact Hawkgccwh2
  isplitl [Hawrscwh1q0]; · iexact Hawrscwh1q0
  isplitl [Hrdrscwh2q0]; · iexact Hrdrscwh2q0
  isplitl [Hawrscwh1q1]; · iexact Hawrscwh1q1
  isplitl [Hrdrscwh2q1]; · iexact Hrdrscwh2q1
  isplitl [Hawrsccwh1q0]; · iexact Hawrsccwh1q0
  isplitl [Hrdrsccwh2q0]; · iexact Hrdrsccwh2q0
  isplitl [Hawrsccwh1q1]; · iexact Hawrsccwh1q1
  isplitl [Hrdrsccwh2q1]; · iexact Hrdrsccwh2q1
  isplitl [Hawrscwh2q0]; · iexact Hawrscwh2q0
  isplitl [Hawrsccwh2q0]; · iexact Hawrsccwh2q0
  isplitl [Hawrscwh2q1]; · iexact Hawrscwh2q1
  iexact Hawrsccwh2q1

/-! ## The end -/

theorem kx_own (d : Dir) : iprop(sendPay I (.kx d .h0) c ∗ sendPay I (.kx d .h2) c) ⊢ owns (c : Thread nD τ) (xown d) fullShare (xh I d c) :=
  (owns_halves _ _ _ _).2
theorem free_intro {sp : Space} {s : Shape} {e : EltTy} {M : Memref sig .tc sp s e} {v : s.Idx → Elt F e} :
    owns (c : Thread nD τ) M fullShare v ⊢ (free c M : sProp 𝕄) := by
  unfold free; iintro H; iexists v; iexact H
theorem whole_intro {b : Ref sig .tc} {v : b.ty.shape.Idx → Elt F b.ty.elt} :
    owns (c : Thread nD τ) (Memref.whole b) fullShare v ⊢ (buf c b : sProp 𝕄) := by
  rw [← free_whole]; exact free_intro c
theorem kg_own (d : Dir) : iprop(sendPay I (.kg d .h0) c ∗ sendPay I (.kg d .h2) c) ⊢ free c (gown d) :=
  BIBase.Entails.trans (Q := owns (c : Thread nD τ) (gown d) fullShare (gsrc I d c)) (owns_halves _ _ _ _).2 (free_intro c)
theorem kx_slot (d : Dir) : iprop(owns (c : Thread nD τ) (xdst d .h0) fullShare.left (xv I d .h0 c) ∗ sendPay I (.kx d .h1) c) ⊢ free c (xdst d .h0) :=
  BIBase.Entails.trans (Q := owns (c : Thread nD τ) (xdst d .h0) fullShare (xv I d .h0 c)) (owns_halves _ _ _ _).2 (free_intro c)
theorem kg_slot (d : Dir) : iprop(owns (c : Thread nD τ) (gdst d .h0) fullShare.left (gv I d .h0 c) ∗ sendPay I (.kg d .h1) c) ⊢ free c (gdst d .h0) :=
  BIBase.Entails.trans (Q := owns (c : Thread nD τ) (gdst d .h0) fullShare (gv I d .h0 c)) (owns_halves _ _ _ _).2 (free_intro c)
theorem rs_slot (d : Dir) (h : Hop) (q : Half) : sendPay I (.rs d h q) c ⊢ free c (rfrom d h q) := free_intro c
theorem sbufs : (iprop((free c (rstart .cw .q0) ∗ free c (rstart .cw .q1)) ∗ (free c (rstart .ccw .q0) ∗ free c (rstart .ccw .q1))) : sProp 𝕄)
    = iprop(buf c cc0_scratch6 ∗ buf c cc0_scratch7) := by
  rw [sbuf_cw, sbuf_ccw, halves, halves]

/-- What the kernel leaves. -/
theorem leave : after I c ⊢ (iprop(semVal (barCell c) 0 ∗ reads I c ∗ owns (c : Thread nD τ) (Memref.whole cc0_stg6_0) fullShare (out I c) ∗ scratch c
      ∗ (bigSep Finset.univ fun k => semVal (sendCell k c) 0) ∗ (bigSep Finset.univ fun k => semVal (recvCell k c) 0) ∗ ow [] c) : sProp 𝕄) := by
  unfold after scratch reads
  rw [cps, cps]
  iintro ⟨Hbar, H0, H1, H2, Hs22, H3, H6, Hvkxcwh0, Hakxcwh0, Hvkgcwh0, Hakgcwh0, Hvkxccwh0, Hakxccwh0, Hvkgccwh0, Hakgccwh0, Hs20, Hs10, Hs21, Hs11, Hvkxcwh1, Hakxcwh1, Hvkgcwh1, Hakgcwh1, Hvkxccwh1, Hakxccwh1, Hvkgccwh1, Hakgccwh1, Hvrscwh0q0, Hvrscwh0q1, Hvrsccwh0q0, Hvrsccwh0q1, Hvkxcwh2, Hakxcwh2, Hvkgcwh2, Hakgcwh2, Hvkxccwh2, Hakxccwh2, Hvkgccwh2, Hakgccwh2, Hvrscwh1q0, Hvrscwh1q1, Hvrsccwh1q0, Hvrsccwh1q1, Hvrscwh2q0, Harscwh2q0, Hvrsccwh2q0, Harsccwh2q0, Hvrscwh2q1, Harscwh2q1, Hvrsccwh2q1, Harsccwh2q1, Hwkxcwh0, Hpkxcwh0, Hwkxccwh0, Hpkxccwh0, Hwkgcwh0, Hpkgcwh0, Hwkgccwh0, Hpkgccwh0, Hwkxcwh2, Hpkxcwh2, Hwkxccwh2, Hpkxccwh2, Hwkgcwh2, Hpkgcwh2, Hwkgccwh2, Hpkgccwh2, Hwkxcwh1, Hpkxcwh1, Hwkgcwh1, Hpkgcwh1, Hwkxccwh1, Hpkxccwh1, Hwkgccwh1, Hpkgccwh1, Hwrscwh0q0, Hprscwh0q0, Hwrscwh0q1, Hprscwh0q1, Hwrsccwh0q0, Hprsccwh0q0, Hwrsccwh0q1, Hprsccwh0q1, Hwrscwh1q0, Hprscwh1q0, Hwrscwh1q1, Hprscwh1q1, Hwrsccwh1q0, Hprsccwh1q0, Hwrsccwh1q1, Hprsccwh1q1, Hwrscwh2q0, Hprscwh2q0, Hwrscwh2q1, Hprscwh2q1, Hwrsccwh2q0, Hprsccwh2q0, How, Hwrsccwh2q1, Hprsccwh2q1⟩
  ihave Har := (Entails.of_eq (arrivals_eq c).symm) $$ [Hakxcwh0 Hpkxcwh1 Hakxcwh1 Hakxcwh2 Hakxccwh0 Hpkxccwh1 Hakxccwh1 Hakxccwh2 Hakgcwh0 Hpkgcwh1 Hakgcwh1 Hakgcwh2 Hakgccwh0 Hpkgccwh1 Hakgccwh1 Hakgccwh2 Hprscwh1q0 Hprscwh1q1 Hprscwh2q0 Hprscwh2q1 Harscwh2q0 Harscwh2q1 Hprsccwh1q0 Hprsccwh1q1 Hprsccwh2q0 Hprsccwh2q1 Harsccwh2q0 Harsccwh2q1]
  · isplitl [Hakxcwh0 Hpkxcwh1 Hakxcwh1 Hakxcwh2]
    · isplitl [Hakxcwh0 Hpkxcwh1]; · iapply (kx_slot I c .cw); isplitl [Hakxcwh0] <;> iassumption
      isplitl [Hakxcwh1]; · iapply (free_intro c); iexact Hakxcwh1
      iapply (free_intro c); iexact Hakxcwh2
    isplitl [Hakxccwh0 Hpkxccwh1 Hakxccwh1 Hakxccwh2]
    · isplitl [Hakxccwh0 Hpkxccwh1]; · iapply (kx_slot I c .ccw); isplitl [Hakxccwh0] <;> iassumption
      isplitl [Hakxccwh1]; · iapply (free_intro c); iexact Hakxccwh1
      iapply (free_intro c); iexact Hakxccwh2
    isplitl [Hakgcwh0 Hpkgcwh1 Hakgcwh1 Hakgcwh2]
    · isplitl [Hakgcwh0 Hpkgcwh1]; · iapply (kg_slot I c .cw); isplitl [Hakgcwh0] <;> iassumption
      isplitl [Hakgcwh1]; · iapply (free_intro c); iexact Hakgcwh1
      iapply (free_intro c); iexact Hakgcwh2
    isplitl [Hakgccwh0 Hpkgccwh1 Hakgccwh1 Hakgccwh2]
    · isplitl [Hakgccwh0 Hpkgccwh1]; · iapply (kg_slot I c .ccw); isplitl [Hakgccwh0] <;> iassumption
      isplitl [Hakgccwh1]; · iapply (free_intro c); iexact Hakgccwh1
      iapply (free_intro c); iexact Hakgccwh2
    isplitl [Hprscwh1q0 Hprscwh1q1 Hprscwh2q0 Hprscwh2q1 Harscwh2q0 Harscwh2q1]
    · isplitl [Hprscwh1q0]; · iapply (rs_slot I c .cw .h1 .q0); iexact Hprscwh1q0
      isplitl [Hprscwh1q1]; · iapply (rs_slot I c .cw .h1 .q1); iexact Hprscwh1q1
      isplitl [Hprscwh2q0]; · iapply (rs_slot I c .cw .h2 .q0); iexact Hprscwh2q0
      isplitl [Hprscwh2q1]; · iapply (rs_slot I c .cw .h2 .q1); iexact Hprscwh2q1
      isplitl [Harscwh2q0]; · iapply (free_intro c); iexact Harscwh2q0
      iapply (free_intro c); iexact Harscwh2q1
    isplitl [Hprsccwh1q0]; · iapply (rs_slot I c .ccw .h1 .q0); iexact Hprsccwh1q0
    isplitl [Hprsccwh1q1]; · iapply (rs_slot I c .ccw .h1 .q1); iexact Hprsccwh1q1
    isplitl [Hprsccwh2q0]; · iapply (rs_slot I c .ccw .h2 .q0); iexact Hprsccwh2q0
    isplitl [Hprsccwh2q1]; · iapply (rs_slot I c .ccw .h2 .q1); iexact Hprsccwh2q1
    isplitl [Harsccwh2q0]; · iapply (free_intro c); iexact Harsccwh2q0
    iapply (free_intro c); iexact Harsccwh2q1
  icases Har with ⟨Hs0, Hs1, Hs2, Hs3, Hs8, Hs9⟩
  ihave Hst := (Entails.of_eq (sbufs c)) $$ [Hprscwh0q0 Hprscwh0q1 Hprsccwh0q0 Hprsccwh0q1]
  · isplitl [Hprscwh0q0 Hprscwh0q1]
    · isplitl [Hprscwh0q0]; · iapply (rs_slot I c .cw .h0 .q0); iexact Hprscwh0q0
      iapply (rs_slot I c .cw .h0 .q1); iexact Hprscwh0q1
    isplitl [Hprsccwh0q0]; · iapply (rs_slot I c .ccw .h0 .q0); iexact Hprsccwh0q0
    iapply (rs_slot I c .ccw .h0 .q1); iexact Hprsccwh0q1
  icases Hst with ⟨Hs6, Hs7⟩
  isplitl [Hbar]; · iexact Hbar
  isplitl [H0 H1 H2 H3 Hpkxcwh0 Hpkxcwh2 Hpkxccwh0 Hpkxccwh2]
  · isplitl [H0]; · iexact H0
    isplitl [H1]; · iexact H1
    isplitl [H2]; · iexact H2
    isplitl [H3]; · iexact H3
    isplitl [Hpkxcwh0 Hpkxcwh2]; · iapply (kx_own I c .cw); isplitl [Hpkxcwh0] <;> iassumption
    iapply (kx_own I c .ccw); isplitl [Hpkxccwh0] <;> iassumption
  isplitl [H6]; · iexact H6
  isplitl [Hs0 Hs1 Hs2 Hs3 Hpkgcwh0 Hpkgcwh2 Hpkgccwh0 Hpkgccwh2 Hs6 Hs7 Hs8 Hs9 Hs10 Hs11 Hs20 Hs21 Hs22]
  · isplitl [Hs0]; · iexact Hs0
    isplitl [Hs1]; · iexact Hs1
    isplitl [Hs2]; · iexact Hs2
    isplitl [Hs3]; · iexact Hs3
    isplitl [Hpkgcwh0 Hpkgcwh2]; · rw [← free_whole]; iapply (kg_own I c .cw); isplitl [Hpkgcwh0] <;> iassumption
    isplitl [Hpkgccwh0 Hpkgccwh2]; · rw [← free_whole]; iapply (kg_own I c .ccw); isplitl [Hpkgccwh0] <;> iassumption
    isplitl [Hs6]; · iexact Hs6
    isplitl [Hs7]; · iexact Hs7
    isplitl [Hs8]; · iexact Hs8
    isplitl [Hs9]; · iexact Hs9
    isplitl [Hs10]; · iapply (whole_intro c); iexact Hs10
    isplitl [Hs11]; · iapply (whole_intro c); iexact Hs11
    isplitl [Hs20]; · iapply (whole_intro c); iexact Hs20
    isplitl [Hs21]; · iapply (whole_intro c); iexact Hs21
    iapply (whole_intro c); iexact Hs22
  isplitl [Hwkxcwh0 Hwkxccwh0 Hwkgcwh0 Hwkgccwh0 Hwkxcwh2 Hwkxccwh2 Hwkgcwh2 Hwkgccwh2 Hwkxcwh1 Hwkgcwh1 Hwkxccwh1 Hwkgccwh1 Hwrscwh0q0 Hwrscwh0q1 Hwrsccwh0q0 Hwrsccwh0q1 Hwrscwh1q0 Hwrscwh1q1 Hwrsccwh1q0 Hwrsccwh1q1 Hwrscwh2q0 Hwrscwh2q1 Hwrsccwh2q0 Hwrsccwh2q1]
  · isplitl [Hwkxcwh0]; · iexact Hwkxcwh0
    isplitl [Hwkxccwh0]; · iexact Hwkxccwh0
    isplitl [Hwkgcwh0]; · iexact Hwkgcwh0
    isplitl [Hwkgccwh0]; · iexact Hwkgccwh0
    isplitl [Hwkxcwh2]; · iexact Hwkxcwh2
    isplitl [Hwkxccwh2]; · iexact Hwkxccwh2
    isplitl [Hwkgcwh2]; · iexact Hwkgcwh2
    isplitl [Hwkgccwh2]; · iexact Hwkgccwh2
    isplitl [Hwkxcwh1]; · iexact Hwkxcwh1
    isplitl [Hwkgcwh1]; · iexact Hwkgcwh1
    isplitl [Hwkxccwh1]; · iexact Hwkxccwh1
    isplitl [Hwkgccwh1]; · iexact Hwkgccwh1
    isplitl [Hwrscwh0q0]; · iexact Hwrscwh0q0
    isplitl [Hwrscwh0q1]; · iexact Hwrscwh0q1
    isplitl [Hwrsccwh0q0]; · iexact Hwrsccwh0q0
    isplitl [Hwrsccwh0q1]; · iexact Hwrsccwh0q1
    isplitl [Hwrscwh1q0]; · iexact Hwrscwh1q0
    isplitl [Hwrscwh1q1]; · iexact Hwrscwh1q1
    isplitl [Hwrsccwh1q0]; · iexact Hwrsccwh1q0
    isplitl [Hwrsccwh1q1]; · iexact Hwrsccwh1q1
    isplitl [Hwrscwh2q0]; · iexact Hwrscwh2q0
    isplitl [Hwrscwh2q1]; · iexact Hwrscwh2q1
    isplitl [Hwrsccwh2q0]; · iexact Hwrsccwh2q0
    iexact Hwrsccwh2q1
  isplitl [Hvkxcwh0 Hvkxccwh0 Hvkgcwh0 Hvkgccwh0 Hvkxcwh2 Hvkxccwh2 Hvkgcwh2 Hvkgccwh2 Hvkxcwh1 Hvkgcwh1 Hvkxccwh1 Hvkgccwh1 Hvrscwh0q0 Hvrscwh0q1 Hvrsccwh0q0 Hvrsccwh0q1 Hvrscwh1q0 Hvrscwh1q1 Hvrsccwh1q0 Hvrsccwh1q1 Hvrscwh2q0 Hvrscwh2q1 Hvrsccwh2q0 Hvrsccwh2q1]
  · isplitl [Hvkxcwh0]; · iexact Hvkxcwh0
    isplitl [Hvkxccwh0]; · iexact Hvkxccwh0
    isplitl [Hvkgcwh0]; · iexact Hvkgcwh0
    isplitl [Hvkgccwh0]; · iexact Hvkgccwh0
    isplitl [Hvkxcwh2]; · iexact Hvkxcwh2
    isplitl [Hvkxccwh2]; · iexact Hvkxccwh2
    isplitl [Hvkgcwh2]; · iexact Hvkgcwh2
    isplitl [Hvkgccwh2]; · iexact Hvkgccwh2
    isplitl [Hvkxcwh1]; · iexact Hvkxcwh1
    isplitl [Hvkgcwh1]; · iexact Hvkgcwh1
    isplitl [Hvkxccwh1]; · iexact Hvkxccwh1
    isplitl [Hvkgccwh1]; · iexact Hvkgccwh1
    isplitl [Hvrscwh0q0]; · iexact Hvrscwh0q0
    isplitl [Hvrscwh0q1]; · iexact Hvrscwh0q1
    isplitl [Hvrsccwh0q0]; · iexact Hvrsccwh0q0
    isplitl [Hvrsccwh0q1]; · iexact Hvrsccwh0q1
    isplitl [Hvrscwh1q0]; · iexact Hvrscwh1q0
    isplitl [Hvrscwh1q1]; · iexact Hvrscwh1q1
    isplitl [Hvrsccwh1q0]; · iexact Hvrsccwh1q0
    isplitl [Hvrsccwh1q1]; · iexact Hvrsccwh1q1
    isplitl [Hvrscwh2q0]; · iexact Hvrscwh2q0
    isplitl [Hvrscwh2q1]; · iexact Hvrscwh2q1
    isplitl [Hvrsccwh2q0]; · iexact Hvrsccwh2q0
    iexact Hvrsccwh2q1
  iexact How

end Cert.KernelIdeal.Moe
-- ==== Proof.Ghost.lean ====
/-
  The protocol's state at launch: every semaphore's record is made, those of the copies closed, and each device is dealt the rights it
  needs; and how a device opens its own semaphores when its kernel starts.
-/
module

public import proofs.«01_k».proof.Proof.Enter
public import Idealize.ShloMosaic.Harness.Basic
public import Idealize.ShloMosaic.Lib.Pipeline.Regions

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal.Gen

variable {F : FTy → Type} [FloatOps F] (I : Inputs F) (N : GSem nD τ sig → ℕ) (c : Dev nD)

local notation "𝕄" => MT nD τ sig Unit (Elt F) ℕ UU ℕ

theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

/-! ## The copies' semaphores -/

/-- A copy's two semaphores. -/
def semOf : Cp ⊕ Cp → SemLoc sig
  | .inl k => .dma (sendSem k)
  | .inr k => .dma (recvSem k)

theorem semOf_inj : Function.Injective semOf := by
  rintro (k | k) (k' | k') h
  · rw [sendNo_inj k k' (SemLoc.dma.inj h)]
  · exact absurd (SemLoc.dma.inj h) (send_ne_recv k k')
  · exact absurd (SemLoc.dma.inj h).symm (send_ne_recv k' k)
  · rw [recvNo_inj k k' (SemLoc.dma.inj h)]

theorem sendNo_ge : ∀ k : Cp, 7 ≤ (sendNo k).val := by decide
theorem recvNo_ge : ∀ k : Cp, 7 ≤ (recvNo k).val := by decide

theorem own_facts : Pipeline.OwnSemFacts spec0 semOf where
  isScoped k := by
    have hs : ∀ n : Fin 67, (SemLoc.dma n : SemLoc sig).isScoped .tc = true := by decide
    rcases k with k | k <;> exact hs _
  inj := semOf_inj
  disj k w s h := by
    have hw : ∀ (w : Fin 7) (s : Fin (spec0 w).nbuf), ((spec0 w).sem s).val < 7 := by decide
    have h7 := hw w s
    rcases k with k | k
    · have h8 := sendNo_ge k; rw [show sendNo k = (spec0 w).sem s from SemLoc.dma.inj h] at h8; omega
    · have h8 := recvNo_ge k; rw [show recvNo k = (spec0 w).sem s from SemLoc.dma.inj h] at h8; omega

theorem own_eq : (Pipeline.ownSems0 semOf c : sProp 𝕄)
    = iprop((bigSep Finset.univ fun k => semVal (sendCell k c) 0) ∗ bigSep Finset.univ fun k => semVal (recvCell k c) 0) := by
  unfold Pipeline.ownSems0; rw [bigSep_univ_sum]; rfl

/-! ## Opening them -/

/-- A device's rights over one copy's semaphores, these closed. -/
def shut (k : Cp) : sProp 𝕄 :=
  iprop((openTok ER (sendCell k c) ∗ openTok ER (recvCell k c))
    ∗ (dutyTok ER (sendCell k c) 0 (.snd k) ∗ dutyTok ER (recvCell k (peer k c)) 0 (.rcv k)))

/-- A device's part of the barrier. -/
def meet : sProp 𝕄 :=
  iprop(reached ER (barCell (prv c)) 0 ∗ reached ER (barCell (nxt c)) 0
    ∗ dutyTok ER (barCell (prv c)) 0 (Duty.bar .cw) ∗ dutyTok ER (barCell (nxt c)) 0 (Duty.bar .ccw)
    ∗ atPos ER (barCell c) 0 ∅ 0 ∗ cred (tallyAt (barCell c) () 2))

/-- What a device is dealt at launch. -/
def dealt : sProp 𝕄 :=
  iprop(∃ N, records I N ∗ meet c ∗ (bigSep Finset.univ fun k => shut c k) ∗ bigSep Finset.univ fun k => cred (tallyAt (recvCell k c) () (amt k)))

/-- The same with its semaphores open. -/
def opened : sProp 𝕄 := iprop(∃ N, records I N ∗ begun c)

theorem send_inv (k : Cp) : records I N ⊢ cellInv ER (Rd I) (N (sendCell k c)) (sendCell k c) := by
  have h : (bigSep Finset.univ fun p : Cp × Dev nD => cellInv ER (Rd I) (N (sendCell p.1 p.2)) (sendCell p.1 p.2))
      ⊢ (cellInv ER (Rd I) (N (sendCell k c)) (sendCell k c) : sProp 𝕄) := bigSep_elim (Finset.mem_univ (k, c))
  unfold records
  iintro ⟨-, H, -, -⟩
  iapply h $$ H
theorem recv_inv (k : Cp) : records I N ⊢ cellInv ER (Rd I) (N (recvCell k c)) (recvCell k c) := by
  have h : (bigSep Finset.univ fun p : Cp × Dev nD => cellInv ER (Rd I) (N (recvCell p.1 p.2)) (recvCell p.1 p.2))
      ⊢ (cellInv ER (Rd I) (N (recvCell k c)) (recvCell k c) : sProp 𝕄) := bigSep_elim (Finset.mem_univ (k, c))
  unfold records
  iintro ⟨-, -, H, -⟩
  iapply h $$ H

theorem open_one (k : Cp) : iprop(records I N ∗ (shut c k ∗ cred (tallyAt (recvCell k c) () (amt k)) ∗ semVal (sendCell k c) 0 ∗ semVal (recvCell k c) 0))
    ⊢ (iprop(|={Set.univ}=> (ready k c ∗ await k c ∗ reached ER (recvCell k c) 0)) : sProp 𝕄) := by
  unfold shut ready await
  iintro ⟨#HR, ⟨⟨HoS, HoV⟩, HtS, HtV⟩, Hc, HvS, HvV⟩
  ihave #HIs := (send_inv I N c k) $$ HR
  ihave #HIv := (recv_inv I N c k) $$ HR
  imod (Rounds.cell_open ER (Rd I) (g := sendCell k c) (Set.mem_univ (N (sendCell k c)))) $$ [HoS HvS] with ⟨HaS, #HrS⟩
  · isplitr; · iexact HIs
    isplitl [HoS] <;> iassumption
  imod (Rounds.cell_open ER (Rd I) (g := recvCell k c) (Set.mem_univ (N (recvCell k c)))) $$ [HoV HvV] with ⟨HaV, #HrV⟩
  · isplitr; · iexact HIv
    isplitl [HoV] <;> iassumption
  imodintro
  isplitl [HtS HtV HaS]
  · isplitl [HtS]; · iexact HtS
    isplitr; · iexact HrS
    isplitl [HtV] <;> iassumption
  isplitl [HaV Hc]; · isplitl [HaV] <;> iassumption
  iexact HrV

theorem open_all : iprop(dealt I c ∗ Pipeline.ownSems0 semOf c ∗ levAts L lv) ⊢ (iprop(|={Set.univ}=> opened I c) : sProp 𝕄) := by
  rw [own_eq]
  unfold dealt opened begun meet
  iintro ⟨⟨%N, #HR, ⟨HrL, HrR, HtL, HtR, HbA, HbC⟩, Hsh, Hcr⟩, ⟨HvS, HvV⟩, -⟩
  ihave H1 := bigSep_pair $$ [HvS HvV]; · isplitl [HvS] <;> iassumption
  ihave H2 := bigSep_pair $$ [Hcr H1]; · isplitl [Hcr] <;> iassumption
  ihave H3 := bigSep_pair $$ [Hsh H2]; · isplitl [Hsh] <;> iassumption
  ihave H4 := (bigSep_with_persistent (R := records I N) fun k _ => open_one I N c k) $$ [H3]
  · isplitr; · iexact HR
    iexact H3
  imod (bigSep_fupd Finset.univ (fun k => iprop(ready k c ∗ await k c ∗ reached ER (recvCell k c) 0))) $$ H4 with H5
  imodintro
  iexists N
  isplitr; · iexact HR
  isplitl [HrL]; · iexact HrL
  isplitl [HrR]; · iexact HrR
  isplitl [HtL]; · iexact HtL
  isplitl [HtR]; · iexact HtR
  isplitl [HbA]; · iexact HbA
  isplitl [HbC]; · iexact HbC
  ihave H6 := bigSep_unpair $$ H5
  icases H6 with ⟨Hrd, H7⟩
  isplitl [Hrd]; · iexact Hrd
  ihave H8 := bigSep_unpair $$ H7
  iexact H8

/-! ## The launch -/

/-- One step around the ring. -/
def around (d : Dir) : Dev nD ≃ Dev nD := ⟨d.step, d.flip.step, by revert d; decide, by revert d; decide⟩

def barEmb : Dev nD ↪ GSem nD τ sig := ⟨fun c => barCell c, fun _ _ h => congrArg (fun g : GSem nD τ sig => g.1.1) h⟩
def copyEmb : (Cp ⊕ Cp) × Dev nD ↪ GSem nD τ sig :=
  ⟨fun p => ((p.2 : Thread nD τ), semOf p.1), fun _ _ h =>
    Prod.ext (semOf_inj (congrArg Prod.snd h)) (congrArg (fun g : GSem nD τ sig => g.1.1) h)⟩

abbrev barCells : Finset (GSem nD τ sig) := Finset.univ.map barEmb
abbrev copyCells : Finset (GSem nD τ sig) := Finset.univ.map copyEmb

/-- The duties, sorted. -/
def duty : Dir ⊕ (Cp ⊕ Cp) → Duty
  | .inl d => .bar d
  | .inr (.inl k) => .snd k
  | .inr (.inr k) => .rcv k

theorem duty_inj : Function.Injective duty := by
  rintro (d | k | k) (d' | k' | k') h <;> first | (cases h; rfl) | cases h

def dutyEmb : (Dir ⊕ (Cp ⊕ Cp)) × Dev nD ↪ GSem nD τ sig × ℕ × Duty :=
  ⟨fun p => (((p.2 : Thread nD τ), (duty p.1).sem), 0, duty p.1), fun _ _ h =>
    Prod.ext (duty_inj (congrArg (fun t : GSem nD τ sig × ℕ × Duty => t.2.2) h)) (congrArg (fun t : GSem nD τ sig × ℕ × Duty => t.1.1.1) h)⟩
def toks : Finset (GSem nD τ sig × ℕ × Duty) := Finset.univ.map dutyEmb

theorem disjoint_cells : Disjoint barCells copyCells := by
  rw [Finset.disjoint_left]
  rintro g h₁ h₂
  obtain ⟨c, -, rfl⟩ := Finset.mem_map.mp h₁
  obtain ⟨⟨k | k, d⟩, -, h⟩ := Finset.mem_map.mp h₂
  · cases congrArg Prod.snd h
  · cases congrArg Prod.snd h

/-- Every duty's right, dealt to the device that pays it. -/
theorem toks_dealt : bigSep toks (fun x => (dutyTok ER x.1 x.2.1 x.2.2 : sProp 𝕄))
    ⊢ bigSep Finset.univ fun c : Dev nD => iprop((dutyTok ER (barCell (prv c)) 0 (Duty.bar .cw) ∗ dutyTok ER (barCell (nxt c)) 0 (Duty.bar .ccw))
        ∗ bigSep Finset.univ fun k => iprop(dutyTok ER (sendCell k c) 0 (.snd k) ∗ dutyTok ER (recvCell k (peer k c)) 0 (.rcv k))) := by
  have hb (d : Dir) : (bigSep Finset.univ fun c : Dev nD => dutyTok ER (barCell c) 0 (Duty.bar d))
      ⊢ (bigSep Finset.univ fun c : Dev nD => dutyTok ER (barCell (d.flip.step c)) 0 (Duty.bar d) : sProp 𝕄) :=
    Entails.of_eq (bigSep_univ_equiv (around d.flip) fun c : Dev nD => (dutyTok ER (barCell c) 0 (Duty.bar d) : sProp 𝕄))
  have hs : (bigSep Finset.univ fun k : Cp => bigSep Finset.univ fun c : Dev nD => dutyTok ER (sendCell k c) 0 (Duty.snd k))
      ⊢ (bigSep Finset.univ fun c : Dev nD => bigSep Finset.univ fun k : Cp => dutyTok ER (sendCell k c) 0 (Duty.snd k) : sProp 𝕄) :=
    Entails.of_eq (swap _)
  have hv : (bigSep Finset.univ fun k : Cp => bigSep Finset.univ fun c : Dev nD => dutyTok ER (recvCell k c) 0 (Duty.rcv k))
      ⊢ (bigSep Finset.univ fun c : Dev nD => bigSep Finset.univ fun k : Cp => dutyTok ER (recvCell k (peer k c)) 0 (Duty.rcv k) : sProp 𝕄) :=
    (bigSep_mono fun k _ => Entails.of_eq (bigSep_univ_equiv (around k.to) fun c : Dev nD => (dutyTok ER (recvCell k c) 0 (Duty.rcv k) : sProp 𝕄))).trans
      (Entails.of_eq (swap _))
  have hz : (bigSep Finset.univ fun c : Dev nD => iprop((bigSep Finset.univ fun k : Cp => dutyTok ER (sendCell k c) 0 (Duty.snd k))
        ∗ bigSep Finset.univ fun k : Cp => dutyTok ER (recvCell k (peer k c)) 0 (Duty.rcv k)))
      ⊢ (bigSep Finset.univ fun c : Dev nD => bigSep Finset.univ fun k : Cp =>
        iprop(dutyTok ER (sendCell k c) 0 (Duty.snd k) ∗ dutyTok ER (recvCell k (peer k c)) 0 (Duty.rcv k)) : sProp 𝕄) :=
    bigSep_mono fun c _ => bigSep_pair
  have hd (P : Dir → sProp 𝕄) : bigSep Finset.univ P = iprop(P .cw ∗ P .ccw) := by
    rw [bigSep_eq_bigSepL_of_eq [.cw, .ccw] (by decide) (by decide)]; rfl
  have h₁ : bigSep toks (fun x => (dutyTok ER x.1 x.2.1 x.2.2 : sProp 𝕄))
      = iprop(((bigSep Finset.univ fun c : Dev nD => dutyTok ER (barCell c) 0 (Duty.bar .cw)) ∗ bigSep Finset.univ fun c : Dev nD => dutyTok ER (barCell c) 0 (Duty.bar .ccw))
        ∗ (bigSep Finset.univ fun k : Cp => bigSep Finset.univ fun c : Dev nD => dutyTok ER (sendCell k c) 0 (Duty.snd k))
        ∗ bigSep Finset.univ fun k : Cp => bigSep Finset.univ fun c : Dev nD => dutyTok ER (recvCell k c) 0 (Duty.rcv k)) := by
    unfold toks
    rw [bigSep_map, bigSep_univ_prod, bigSep_univ_sum, bigSep_univ_sum, hd]; rfl
  rw [h₁]
  iintro ⟨⟨Hcw, Hccw⟩, Hs, Hv⟩
  ihave Hcw := (hb .cw) $$ Hcw
  ihave Hccw := (hb .ccw) $$ Hccw
  ihave Hs := hs $$ Hs
  ihave Hv := hv $$ Hv
  ihave Hb := bigSep_pair $$ [Hcw Hccw]; · isplitl [Hcw] <;> iassumption
  ihave Hc := bigSep_pair $$ [Hs Hv]; · isplitl [Hs] <;> iassumption
  ihave Hc' := hz $$ Hc
  ihave H := bigSep_pair $$ [Hb Hc']; · isplitl [Hb] <;> iassumption
  iexact H

/-! ### The credit for what is owed -/

theorem owed_recv (l : List Cp) (d : Dev nD) (k : Cp) : owedL l d (recvCell k c) () = if d = frm k c then l.count k * amt k else 0 := by
  induction l with
  | nil => simp [owedL]
  | cons k' l ih =>
    show owedL l d (recvCell k c) () + tallyAt (recvCell k' (peer k' d)) () (amt k') (recvCell k c) () = _
    rw [ih, tallyAt_apply]
    by_cases hk : k' = k
    · subst hk
      rw [List.count_cons_self]
      by_cases hd : d = frm k' c
      · have hp : peer k' d = c := by rw [hd]; exact (around k'.to).right_inv c
        rw [if_pos hd, if_pos ⟨by rw [hp], rfl⟩, if_pos hd, Nat.succ_mul]
      · have hp : ¬(recvCell k' c = recvCell k' (peer k' d) ∧ () = ()) := fun ⟨e, _⟩ =>
          hd (by rw [show c = peer k' d from congrArg (fun g : GSem nD τ sig => g.1.1) e]; exact ((around k'.to).left_inv d).symm)
        rw [if_neg hd, if_neg hp, if_neg hd]
    · have hp : ¬(recvCell k c = recvCell k' (peer k' d) ∧ () = ()) := fun ⟨e, _⟩ =>
        hk (recvNo_inj _ _ (SemLoc.dma.inj (congrArg Prod.snd e))).symm
      rw [if_neg hp, List.count_cons_of_ne hk, Nat.add_zero]

theorem owed_bar (l : List Cp) (d : Dev nD) : owedL l d (barCell c) () = 0 := by
  by_contra h
  obtain ⟨k, -, e⟩ := owedL_pos l d (barCell c) () (Nat.pos_of_ne_zero h)
  cases congrArg Prod.snd e

theorem count_one : ∀ k : Cp, allCp.count k = 1 := by decide

theorem credit_recv (k : Cp) :
    tallyOn (recvCell k c) (launchCredit (Pipeline.owing O₀) 0 (recvCell k c)) = (tallyAt (recvCell k c) () (amt k) : CellTallies nD τ sig Unit) := by
  unfold tallyAt; refine congrArg _ (Finsupp.ext fun u => ?_); cases u
  have h (d : Dev nD) : O₀ d (recvCell k c) () = if d = frm k c then amt k else 0 := by
    show owedL allCp d (recvCell k c) () + tallyAt (barCell (nxt d)) () 1 (recvCell k c) () + tallyAt (barCell (prv d)) () 1 (recvCell k c) () = _
    rw [owed_recv, count_one, one_mul, tallyAt_ne_cell (fun h => by cases congrArg Prod.snd h), tallyAt_ne_cell (fun h => by cases congrArg Prod.snd h)]
    rfl
  rw [Pipeline.launchCredit_owing, Finsupp.single_eq_same, Finset.sum_congr rfl fun d _ => h d, Finset.sum_ite_eq' Finset.univ (frm k c) fun _ => amt k,
    if_pos (Finset.mem_univ _)]

theorem credit_bar :
    tallyOn (barCell c) (launchCredit (Pipeline.owing O₀) 0 (barCell c)) = (tallyAt (barCell c) () 2 : CellTallies nD τ sig Unit) := by
  unfold tallyAt; refine congrArg _ (Finsupp.ext fun u => ?_); cases u
  have hi (a b : Dev nD) : tallyAt (barCell a) () 1 (barCell b) () = if a = b then 1 else 0 := by
    rw [tallyAt_apply]
    by_cases h : a = b
    · subst h; rw [if_pos ⟨rfl, rfl⟩, if_pos rfl]
    · rw [if_neg h, if_neg fun ⟨e, _⟩ => h (congrArg (fun g : GSem nD τ sig => g.1.1) e).symm]
  have h (d : Dev nD) : O₀ d (barCell c) () = (if nxt d = c then 1 else 0) + (if prv d = c then 1 else 0) := by
    show owedL allCp d (barCell c) () + tallyAt (barCell (nxt d)) () 1 (barCell c) () + tallyAt (barCell (prv d)) () 1 (barCell c) () = _
    rw [owed_bar, hi, hi, Nat.zero_add]
  rw [Pipeline.launchCredit_owing, Finsupp.single_eq_same, Finset.sum_congr rfl fun d _ => h d]
  clear h
  revert c; decide

def recvEmb : Cp ↪ SemLoc sig := ⟨fun k => .dma (recvSem k), fun k k' h => recvNo_inj k k' (SemLoc.dma.inj h)⟩

theorem credits : (Pipeline.launchCred O₀ c : sProp 𝕄)
    ⊢ iprop(cred (tallyAt (barCell c) () 2) ∗ bigSep Finset.univ fun k => cred (tallyAt (recvCell k c) () (amt k))) := by
  unfold Pipeline.launchCred
  rw [bigSep_univ_at _ (SemLoc.reg barS), credit_bar]
  refine sep_mono_right ?_
  have hs : (Finset.univ : Finset Cp).map recvEmb ⊆ Finset.univ.erase (SemLoc.reg barS) := fun sm h => by
    obtain ⟨k, -, rfl⟩ := Finset.mem_map.mp h
    exact Finset.mem_erase.mpr ⟨(fun e => nomatch e), Finset.mem_univ _⟩
  refine (bigSep_subset hs).trans ?_
  rw [bigSep_map]
  exact bigSep_mono fun k _ => Entails.of_eq (congrArg cred (credit_recv c k))

theorem lev_pos : ∀ k : Cp, 0 < lev k := by decide

/-- Waiting on a window's copy is allowed whatever a device owes. -/
theorem owed_above (g : GSem nD τ sig) (u : Unit) (h : 0 < O₀ c g u) : u ∈ L g ∧ 0 < lv g u := by
  have h' : 0 < owedL allCp c g u + tallyAt (barCell (nxt c)) () 1 g u + tallyAt (barCell (prv c)) () 1 g u := h
  by_cases h₁ : 0 < owedL allCp c g u
  · obtain ⟨k, -, rfl⟩ := owedL_pos _ _ _ _ h₁
    refine ⟨by rw [L_tc]; exact Finset.mem_singleton_self _, ?_⟩
    show 0 < levN (recvNo k).val
    rw [levN_recv]; exact lev_pos k
  · have h₂ : (∃ a, g = barCell a) := by
      by_contra hne
      rw [Nat.eq_zero_of_not_pos h₁, tallyAt_ne_cell (fun e => hne ⟨_, e⟩), tallyAt_ne_cell (fun e => hne ⟨_, e⟩)] at h'
      exact absurd h' (Nat.lt_irrefl 0)
    obtain ⟨a, rfl⟩ := h₂
    exact ⟨by rw [L_tc]; exact Finset.mem_singleton_self _, Nat.one_pos⟩

/-! ### Dealing -/

theorem records_intro : iprop((bigSep (barCells ∪ copyCells) fun g => cellInv ER (Rd I) (N g) g) ∗ levAts L lv) ⊢ (records I N : sProp 𝕄) := by
  have h : (bigSep (barCells ∪ copyCells) fun g => cellInv ER (Rd I) (N g) g)
      = (iprop((bigSep Finset.univ fun c => cellInv ER (Rd I) (N (barCell c)) (barCell c))
        ∗ (bigSep Finset.univ fun p : Cp × Dev nD => cellInv ER (Rd I) (N (sendCell p.1 p.2)) (sendCell p.1 p.2))
        ∗ (bigSep Finset.univ fun p : Cp × Dev nD => cellInv ER (Rd I) (N (recvCell p.1 p.2)) (recvCell p.1 p.2))) : sProp 𝕄) := by
    rw [bigSep_union disjoint_cells, bigSep_map, bigSep_map, bigSep_univ_prod, bigSep_univ_sum, bigSep_univ_prod, bigSep_univ_prod]; rfl
  rw [h]; unfold records
  iintro ⟨⟨Hb, Hs, Hv⟩, Hl⟩
  isplitl [Hb]; · iexact Hb
  isplitl [Hs]; · iexact Hs
  isplitl [Hv] <;> iassumption

/-- From the barrier's counters and the protocol's element, every device's share. -/
theorem deal : iprop(((bigSep Finset.univ fun c : Dev nD => iprop(semVal (barCell c) 0 ∗ Pipeline.launchCred O₀ c))
      ∗ BI.own (ER (launchOf barCells copyCells toks))) ∗ levAts L lv)
    ⊢ (iprop(|={Set.univ}=> bigSep Finset.univ (dealt I)) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr (c : Dev nD) : bigSep barCells (fun g => (reached ER g 0 : sProp 𝕄)) ⊢ reached ER (barCell c) 0 :=
    bigSep_elim (Finset.mem_map_of_mem barEmb (Finset.mem_univ c))
  have ho : bigSep copyCells (fun g => (openTok ER g : sProp 𝕄))
      ⊢ bigSep Finset.univ (fun c : Dev nD => bigSep Finset.univ fun k : Cp => iprop(openTok ER (sendCell k c) ∗ openTok ER (recvCell k c))) := by
    refine (Entails.of_eq ?_).trans (Entails.of_eq (swap fun (k : Cp) (c : Dev nD) =>
      (iprop(openTok ER (sendCell k c) ∗ openTok ER (recvCell k c)) : sProp 𝕄)))
    rw [bigSep_map, bigSep_univ_prod, bigSep_univ_sum]
    simp only [bigSep_sep']
    rfl
  have hc : (bigSep Finset.univ fun c : Dev nD => Pipeline.launchCred O₀ c)
      ⊢ (bigSep Finset.univ fun c : Dev nD => iprop(cred (tallyAt (barCell c) () 2) ∗ bigSep Finset.univ fun k => cred (tallyAt (recvCell k c) () (amt k))) : sProp 𝕄) :=
    bigSep_mono fun c _ => credits (F := F) c
  iintro ⟨⟨H, Hu⟩, #Hl⟩
  ihave H := bigSep_unpair $$ H
  icases H with ⟨Hv, Hc⟩
  ihave Hc := hc $$ Hc
  ihave Hc := bigSep_unpair $$ Hc
  icases Hc with ⟨Hcb, Hcr⟩
  imod (Rounds.fund_launch ER (Rd I) disjoint_cells (fun g _ h => h) toks) $$ [Hv Hu] with ⟨%N, -, #Hinv, #Hr, Hat, Hopen, Htok⟩
  · isplitl [Hv]; · iapply hv $$ Hv
    iexact Hu
  imodintro
  ihave Hat := hat $$ Hat
  ihave Ho := ho $$ Hopen
  ihave Ht := (toks_dealt (F := F)) $$ Htok
  ihave H1 := bigSep_pair $$ [Ho Ht]; · isplitl [Ho] <;> iassumption
  ihave H2 := bigSep_pair $$ [Hcb H1]; · isplitl [Hcb] <;> iassumption
  ihave H3 := bigSep_pair $$ [Hat H2]; · isplitl [Hat] <;> iassumption
  ihave H4 := bigSep_pair $$ [Hcr H3]; · isplitl [Hcr] <;> iassumption
  have hone (c : Dev nD) : iprop((records I N ∗ bigSep barCells fun g => reached ER g 0)
        ∗ ((bigSep Finset.univ fun k => cred (tallyAt (recvCell k c) () (amt k))) ∗ atPos ER (barCell c) 0 ∅ 0 ∗ cred (tallyAt (barCell c) () 2)
          ∗ (bigSep Finset.univ fun k => iprop(openTok ER (sendCell k c) ∗ openTok ER (recvCell k c)))
          ∗ (dutyTok ER (barCell (prv c)) 0 (Duty.bar .cw) ∗ dutyTok ER (barCell (nxt c)) 0 (Duty.bar .ccw))
          ∗ bigSep Finset.univ fun k => iprop(dutyTok ER (sendCell k c) 0 (.snd k) ∗ dutyTok ER (recvCell k (peer k c)) 0 (.rcv k))))
      ⊢ (dealt I c : sProp 𝕄) := by
    unfold dealt meet
    iintro ⟨⟨HR, #Hr⟩, Hcr, Hat, Hcb, Ho, ⟨HtL, HtR⟩, Ht⟩
    iexists N
    isplitl [HR]; · iexact HR
    isplitl [HtL HtR Hat Hcb]
    · isplitr; · iapply (hr (prv c)); iexact Hr
      isplitr; · iapply (hr (nxt c)); iexact Hr
      isplitl [HtL]; · iexact HtL
      isplitl [HtR]; · iexact HtR
      isplitl [Hat] <;> iassumption
    isplitl [Ho Ht]
    · unfold shut
      iapply bigSep_pair; isplitl [Ho] <;> iassumption
    iexact Hcr
  iapply (bigSep_with_persistent (R := iprop(records I N ∗ bigSep barCells fun g => reached ER g 0)) fun c _ => hone c)
  isplitr [H4]
  · isplitr
    · iapply (records_intro I N); isplitr; · iexact Hinv
      iexact Hl
    iexact Hr
  iexact H4

end Cert.KernelIdeal.Moe
-- ==== Proof.Run.lean ====
/-
  The run of the whole program: the host's reshape and slices, the kernel on every device, and what is left in memory.
-/
module

public import proofs.«01_k».proof.Proof.Ghost
public import proofs.«01_k».proof.Proof.Gen.KernelIdeal.Frame
public import Idealize.ShloMosaic.Lib.Pipeline.Kit
public import Idealize.ShloMosaic.Lib.Pipeline.RegionTalk
public import Idealize.ShloMosaic.Lib.Pipeline.Value

@[expose] public section

set_option maxRecDepth 16384

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)
open Cert.KernelIdeal.Gen

variable {F : FTy → Type} [FloatOps F] (m : (ℓ : Loc nD τ sig) → Buf (Elt F) ℓ) (ρ : Dev nD → PrngReg) (c : Dev nD)

local notation "𝕄" => MT nD τ sig Unit (Elt F) ℕ UU ℕ

/-! ## What the kernel reads and what it leaves -/

/-- The arrays the kernel is called with. -/
def ins : Inputs F where
  x c := V m c main_arg0
  rw c := V m c main_arg1
  ri c := V m c main_arg2
  ew c := V m c main_v1
  xa c := V m c main_v2
  xb c := V m c main_v3

theorem blk_0 (t : Fin cfg0.N) : iblk m c 0 t = (ins m).x c := by
  funext i
  show V m c main_arg0 (((cfg0.win 0).rect t).emb i) = V m c main_arg0 i
  congr 1; funext a; exact Fin.ext ((cfg0.win 0).rect_emb_val_of_index_zero t a rfl i)
theorem blk_1 (t : Fin cfg0.N) : iblk m c 1 t = (ins m).rw c := by
  funext i
  show V m c main_arg1 (((cfg0.win 1).rect t).emb i) = V m c main_arg1 i
  congr 1; funext a; exact Fin.ext ((cfg0.win 1).rect_emb_val_of_index_zero t a rfl i)
theorem blk_2 (t : Fin cfg0.N) : iblk m c 2 t = (ins m).ri c := by
  funext i
  show V m c main_arg2 (((cfg0.win 2).rect t).emb i) = V m c main_arg2 i
  congr 1; funext a; exact Fin.ext ((cfg0.win 2).rect_emb_val_of_index_zero t a rfl i)
theorem blk_3 (t : Fin cfg0.N) : iblk m c 3 t = (ins m).ew c := by
  funext i
  show V m c main_v1 (((cfg0.win 3).rect t).emb i) = V m c main_v1 i
  congr 1; funext a; exact Fin.ext ((cfg0.win 3).rect_emb_val_of_index_zero t a rfl i)
theorem blk_4 (t : Fin cfg0.N) : iblk m c 4 t = (ins m).xa c := by
  funext i
  show V m c main_v2 (((cfg0.win 4).rect t).emb i) = V m c main_v2 i
  congr 1; funext a; exact Fin.ext ((cfg0.win 4).rect_emb_val_of_index_zero t a rfl i)
theorem blk_5 (t : Fin cfg0.N) : iblk m c 5 t = (ins m).xb c := by
  funext i
  show V m c main_v3 (((cfg0.win 5).rect t).emb i) = V m c main_v3 i
  congr 1; funext a; exact Fin.ext ((cfg0.win 5).rect_emb_val_of_index_zero t a rfl i)

/-- The kernel's run on a device as the pipeline sees it. -/
def dat (c : Dev nD) : Dat τ (Elt F) Unit ℕ UU ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => out (ins m) c
    | ⟨_ + 7, h⟩ => absurd h (Nat.not_lt.2 (Nat.le_add_left _ _))
  Φ t := if t.val = 0 then iprop(opened (ins m) c ∗ scratch c ∗ ∃ r, prngReg c r)
    else iprop(semVal (barCell c) 0 ∗ Pipeline.ownSems0 semOf c ∗ scratch c ∗ ∃ r, prngReg c r)
  q _ := fullShare
  owed t := if t.val = 0 then O₀ c else 0

theorem before_0 (t : Fin cfg0.N) (d) : (dat m c).before 0 t d = (ins m).x c :=
  (((dat m c).before_in_eq_fetched 0 rfl (fun _ => rfl) (fun _ _ _ => rfl) (fun _ => rfl) t d).trans rfl).trans (blk_0 m c t)
theorem before_1 (t : Fin cfg0.N) (d) : (dat m c).before 1 t d = (ins m).rw c :=
  (((dat m c).before_in_eq_fetched 1 rfl (fun _ => rfl) (fun _ _ _ => rfl) (fun _ => rfl) t d).trans rfl).trans (blk_1 m c t)
theorem before_2 (t : Fin cfg0.N) (d) : (dat m c).before 2 t d = (ins m).ri c :=
  (((dat m c).before_in_eq_fetched 2 rfl (fun _ => rfl) (fun _ _ _ => rfl) (fun _ => rfl) t d).trans rfl).trans (blk_2 m c t)
theorem before_3 (t : Fin cfg0.N) (d) : (dat m c).before 3 t d = (ins m).ew c :=
  (((dat m c).before_in_eq_fetched 3 rfl (fun _ => rfl) (fun _ _ _ => rfl) (fun _ => rfl) t d).trans rfl).trans (blk_3 m c t)
theorem before_4 (t : Fin cfg0.N) (d) : (dat m c).before 4 t d = (ins m).xa c :=
  (((dat m c).before_in_eq_fetched 4 rfl (fun _ => rfl) (fun _ _ _ => rfl) (fun _ => rfl) t d).trans rfl).trans (blk_4 m c t)
theorem before_5 (t : Fin cfg0.N) (d) : (dat m c).before 5 t d = (ins m).xb c :=
  (((dat m c).before_in_eq_fetched 5 rfl (fun _ => rfl) (fun _ _ _ => rfl) (fun _ => rfl) t d).trans rfl).trans (blk_5 m c t)

theorem after_0 (t : Fin cfg0.N) : (dat m c).after 0 t = (ins m).x c := blk_0 m c t
theorem after_1 (t : Fin cfg0.N) : (dat m c).after 1 t = (ins m).rw c := blk_1 m c t
theorem after_2 (t : Fin cfg0.N) : (dat m c).after 2 t = (ins m).ri c := blk_2 m c t
theorem after_3 (t : Fin cfg0.N) : (dat m c).after 3 t = (ins m).ew c := blk_3 m c t
theorem after_4 (t : Fin cfg0.N) : (dat m c).after 4 t = (ins m).xa c := blk_4 m c t
theorem after_5 (t : Fin cfg0.N) : (dat m c).after 5 t = (ins m).xb c := blk_5 m c t
theorem after_6 (t : Fin cfg0.N) : (dat m c).after 6 t = out (ins m) c := rfl

theorem owed_first : (dat m c).owed t0_0.castSucc = O₀ c := by
  show (if (t0_0.castSucc : Fin (cfg0.N + 1)).val = 0 then O₀ c else 0) = O₀ c; exact if_pos rfl
theorem owed_last : (dat m c).owed (Fin.last _) = 0 := by
  show (if (Fin.last cfg0.N).val = 0 then O₀ c else 0) = 0
  rw [Fin.val_last, if_neg (by rw [show cfg0.N = 1 from N_0]; decide)]

theorem owes_in (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W; isplitr; · ipureintro; exact fun _ _ => Or.inl trivial
  iexact HO
theorem owes_out (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- The windows when the kernel's body has run. -/
theorem reads_eq (I : Inputs F) : reads I c = iprop(owns (c : Thread nD τ) (Memref.whole cc0_stg0_0) fullShare (I.x c) ∗ owns (c : Thread nD τ) (Memref.whole cc0_stg1_0) fullShare (I.rw c)
    ∗ owns (c : Thread nD τ) (Memref.whole cc0_stg2_0) fullShare (I.ri c) ∗ owns (c : Thread nD τ) (Memref.whole cc0_stg3_0) fullShare (I.ew c)
    ∗ owns (c : Thread nD τ) (Memref.whole cc0_stg4_0) fullShare (I.xa c) ∗ owns (c : Thread nD τ) (Memref.whole cc0_stg5_0) fullShare (I.xb c)) := rfl

/-- The body on a device, from its whole state to its whole state. -/
theorem body_whole (Q : PUnit → sProp 𝕄) :
    iprop(opened (ins m) c ∗ scratch c ∗ reads (ins m) c ∗ free c (Memref.whole cc0_stg6_0) ∗ (∃ W, owes (c : Thread nD τ) (O₀ c) W))
      ⊢ iprop((iprop(semVal (barCell c) 0 ∗ Pipeline.ownSems0 semOf c ∗ scratch c ∗ reads (ins m) c
          ∗ owns (c : Thread nD τ) (Memref.whole cc0_stg6_0) fullShare (out (ins m) c) ∗ ∃ W, owes (c : Thread nD τ) (0 : CellTallies nD τ sig Unit) W) -∗ Q ⟨⟩)
        -∗ Run c (onBufs (cc0_body (F := F))) Q) := by
  unfold opened
  iintro ⟨⟨%N, #HR, Hb⟩, Hs, Hr, H6, HO⟩ Hk
  ihave He := (enter (ins m) c) $$ [HO Hb Hs Hr H6]
  · isplitl [HO]; · iexact HO
    isplitl [Hb]; · iexact Hb
    isplitl [Hs]; · iexact Hs
    isplitl [Hr] <;> iassumption
  icases He with ⟨%u6, %u11, %u12, %u17, %u18, %u27, %u28, %u29, %v0, %v1, %v2, %v3, He⟩
  iapply (body_run (ins m) N c u6 u11 u12 u17 u18 u27 u28 u29 v0 v1 v2 v3) $$ [He]
  · isplitr; · iexact HR
    iexact He
  iintro Ha
  ihave Hl := (leave (ins m) c) $$ Ha
  icases Hl with ⟨Hbar, Hr, H6, Hs, Hsn, Hrc, Ho⟩
  iapply Hk
  rw [own_eq]
  isplitl [Hbar]; · iexact Hbar
  isplitl [Hsn Hrc]; · isplitl [Hsn] <;> iassumption
  isplitl [Hs]; · iexact Hs
  isplitl [Hr]; · iexact Hr
  isplitl [H6]; · iexact H6
  unfold ow; iexact Ho

theorem body (c : Dev nD) : BodyObligation (dat m c) defs₀ 𝒱₀ () Set.univ := fun t => by
  obtain rfl := fin_N0 t
  rw [bigSep_W0, bigSep_W0]
  rw [show (dat m c).Φ t0_0.castSucc = iprop(opened (ins m) c ∗ scratch c ∗ ∃ r, prngReg c r) from rfl,
    show (dat m c).Φ t0_0.succ = iprop(semVal (barCell c) 0 ∗ Pipeline.ownSems0 semOf c ∗ scratch c ∗ ∃ r, prngReg c r) from rfl]
  show iprop((opened (ins m) c ∗ scratch c ∗ ∃ r, prngReg c r) ∗ (dat m c).owesAt () t0_0.castSucc ∗ (∃ d, owns (c : Thread nD τ) (Memref.whole cc0_stg0_0) fullShare ((dat m c).before 0 t0_0 d)) ∗ (∃ d, owns (c : Thread nD τ) (Memref.whole cc0_stg1_0) fullShare ((dat m c).before 1 t0_0 d)) ∗ (∃ d, owns (c : Thread nD τ) (Memref.whole cc0_stg2_0) fullShare ((dat m c).before 2 t0_0 d)) ∗ (∃ d, owns (c : Thread nD τ) (Memref.whole cc0_stg3_0) fullShare ((dat m c).before 3 t0_0 d)) ∗ (∃ d, owns (c : Thread nD τ) (Memref.whole cc0_stg4_0) fullShare ((dat m c).before 4 t0_0 d)) ∗ (∃ d, owns (c : Thread nD τ) (Memref.whole cc0_stg5_0) fullShare ((dat m c).before 5 t0_0 d)) ∗ (∃ d, owns (c : Thread nD τ) (Memref.whole cc0_stg6_0) fullShare ((dat m c).before 6 t0_0 d)))
    ⊢ Run c (onBufs (cc0_body (F := F))) fun _ => iprop((semVal (barCell c) 0 ∗ Pipeline.ownSems0 semOf c ∗ scratch c ∗ ∃ r, prngReg c r)
      ∗ (dat m c).owesAt () t0_0.succ ∗ owns (c : Thread nD τ) (Memref.whole cc0_stg0_0) fullShare ((dat m c).after 0 t0_0) ∗ owns (c : Thread nD τ) (Memref.whole cc0_stg1_0) fullShare ((dat m c).after 1 t0_0) ∗ owns (c : Thread nD τ) (Memref.whole cc0_stg2_0) fullShare ((dat m c).after 2 t0_0) ∗ owns (c : Thread nD τ) (Memref.whole cc0_stg3_0) fullShare ((dat m c).after 3 t0_0) ∗ owns (c : Thread nD τ) (Memref.whole cc0_stg4_0) fullShare ((dat m c).after 4 t0_0) ∗ owns (c : Thread nD τ) (Memref.whole cc0_stg5_0) fullShare ((dat m c).after 5 t0_0) ∗ owns (c : Thread nD τ) (Memref.whole cc0_stg6_0) fullShare ((dat m c).after 6 t0_0))
  rw [after_0, after_1, after_2, after_3, after_4, after_5, after_6]
  iintro ⟨⟨Hop, Hsc, Hreg⟩, HO, ⟨%d0, H0⟩, ⟨%d1, H1⟩, ⟨%d2, H2⟩, ⟨%d3, H3⟩, ⟨%d4, H4⟩, ⟨%d5, H5⟩, ⟨%d6, H6⟩⟩
  rw [before_0 m c t0_0 d0, before_1 m c t0_0 d1, before_2 m c t0_0 d2, before_3 m c t0_0 d3, before_4 m c t0_0 d4, before_5 m c t0_0 d5]
  ihave HO' := (owes_out m c _ (O₀ c) (owed_first m c)) $$ HO
  iapply (body_whole m c _) $$ [Hop Hsc HO' H0 H1 H2 H3 H4 H5 H6]
  · isplitl [Hop]; · iexact Hop
    isplitl [Hsc]; · iexact Hsc
    isplitl [H0 H1 H2 H3 H4 H5]
    · rw [reads_eq]
      isplitl [H0]; · iexact H0
      isplitl [H1]; · iexact H1
      isplitl [H2]; · iexact H2
      isplitl [H3]; · iexact H3
      isplitl [H4] <;> iassumption
    isplitl [H6]; · unfold free; iexists _; iexact H6
    iexact HO'
  iintro ⟨Hbar, Hse, Hsc, Hr, H6, HO⟩
  ihave HO' := (owes_in m c t0_0.succ 0 (owed_last m c)) $$ HO
  isplitl [Hbar Hse Hsc Hreg]
  · isplitl [Hbar]; · iexact Hbar
    isplitl [Hse]; · iexact Hse
    isplitl [Hsc] <;> iassumption
  isplitl [HO']; · iexact HO'
  ihave Hr := (Entails.of_eq (reads_eq c (ins m))) $$ Hr
  icases Hr with ⟨H0, H1, H2, H3, H4, H5⟩
  isplitl [H0]; · iexact H0
  isplitl [H1]; · iexact H1
  isplitl [H2]; · iexact H2
  isplitl [H3]; · iexact H3
  isplitl [H4]; · iexact H4
  isplitl [H5] <;> iassumption

/-! ## The kernel as a segment of the program -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- The buffers a launch gives a device. -/
def bufs : Finset (DevRef τ sig) := (StableHlo.tcRefs τ sig).filter fun b => ¬ b.isScoped
/-- Those of them that are the kernel's operands, and the others. -/
abbrev opnds : Finset (DevRef τ sig) := Pipeline.arrRefs (τ := τ) spec0
theorem opnds_sub : opnds ⊆ bufs := by decide

/-- A device's buffers when the kernel starts, and when it has ended. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v4) (out (ins m) c)

theorem V₂_out : V₂ m c (Proc.devRef .tc main_v4) = out (ins m) c := Function.update_self ..
theorem V₂_ne (b : DevRef τ sig) (h : b ≠ Proc.devRef .tc main_v4) : V₂ m c b = V₁ m c b := Function.update_of_ne h ..

theorem rest_same (b : DevRef τ sig) (h : b ∈ (bufs \ opnds) \ ∅) : V₂ m c b = V₁ m c b :=
  V₂_ne m c b (by
    rintro rfl
    exact absurd h (by decide))

theorem hopen (c : Dev nD) : iprop(dealt (ins m) c ∗ Pipeline.ownSems0 semOf c ∗ levAts L lv) ⊢ (iprop(|={Set.univ}=> opened (ins m) c) : sProp 𝕄) :=
  open_all (ins m) c

theorem scratch_eq : (Pipeline.scopedRest spec0 c : sProp 𝕄) = scratch c := by
  rw [scopedRest0_eq]; rfl

theorem held_none (W : Valuation τ sig (Elt F)) : (StableHlo.held (c : Thread nD τ) ∅ W : sProp 𝕄) = iprop(emp) := by
  unfold StableHlo.held; exact BI.bigSep_empty

theorem hin (c : Dev nD) : iprop(Pipeline.scopedRest spec0 c ∗ (∃ r, prngReg c r) ∗ StableHlo.held (c : Thread nD τ) ∅ (V₁ m c) ∗ opened (ins m) c)
    ⊢ ((dat m c).Φ 0 : sProp 𝕄) := by
  rw [show (dat m c).Φ 0 = iprop(opened (ins m) c ∗ scratch c ∗ ∃ r, prngReg c r) from rfl, scratch_eq]
  iintro ⟨Hs, Hp, -, Ho⟩
  isplitl [Ho]; · iexact Ho
  isplitl [Hs] <;> iassumption

theorem hout (c : Dev nD) : ((dat m c).Φ (Fin.last cfg0.N) : sProp 𝕄)
    ⊢ iprop(Pipeline.scopedRest spec0 c ∗ (∃ r, prngReg c r) ∗ StableHlo.held (c : Thread nD τ) ∅ (V₂ m c) ∗ Pipeline.ownSems0 semOf c ∗ semVal (barCell c) 0) := by
  rw [show (dat m c).Φ (Fin.last _) = iprop(semVal (barCell c) 0 ∗ Pipeline.ownSems0 semOf c ∗ scratch c ∗ ∃ r, prngReg c r) from rfl, scratch_eq, held_none]
  iintro ⟨Hb, Hss, Hs, Hp⟩
  isplitl [Hs]; · iexact Hs
  isplitl [Hp]; · iexact Hp
  isplitr; · iempintro
  isplitl [Hss] <;> iassumption

theorem lv_stage : ∀ w : Fin 7, ∀ s : Fin (spec0 w).nbuf, lv ((c : Thread nD τ), .dma ((spec0 w).sem s)) () = 0 := by
  intro w s
  revert c w; decide

theorem cut (c : Dev nD) (t : Fin (cfg0.N + 1)) (g : GSem nD τ sig) (i : Unit) (h : 0 < (dat m c).owed t g i) : i ∈ L g ∧ (0 : ℕ) < lv g i := by
  rw [show (dat m c).owed t = if t.val = 0 then O₀ c else 0 from rfl] at h
  split at h
  · exact owed_above c g i h
  · exact absurd h (Nat.lt_irrefl 0)

/-- The result array once the kernel has written it back. -/
theorem result_eq : (dat m c).arrAt 6 cfg0.N = out (ins m) c := by
  have e (t : Fin cfg0.N) (i : S1024x1024.Idx) : ((cfg0.win 6).rect t).emb i = i :=
    funext fun a => Fin.ext ((cfg0.win 6).rect_emb_val_of_index_zero t a rfl i)
  refine (dat m c).arrAt_eq_of_cover 6 (out (ins m) c) (fun t _ => ?_) (fun i => ⟨t0_0, flush0_6 t0_0, ?_⟩)
  · funext i
    show out (ins m) c i = out (ins m) c (((cfg0.win 6).rect t).emb i)
    rw [e]
  · show i ∈ ((View.whole main_v4).slice ((cfg0.win 6).rect t0_0)).set
    rw [View.set_slice_whole]
    have h := ((cfg0.win 6).rect t0_0).idx_mem i
    rwa [show ((cfg0.win 6).rect t0_0).idx i = i from e t0_0 i] at h

theorem arr_start : ∀ w : Fin 7, (dat m c).arrAt w 0 = V₁ m c (Proc.devRef .tc (Pipeline.arrRef spec0 w)) := fun _ => rfl

theorem arr_ne : ∀ w : Fin 7, w ≠ 6 → (Proc.devRef .tc (Pipeline.arrRef spec0 w) : DevRef τ sig) ≠ Proc.devRef .tc main_v4 := by decide
theorem arr_in : ∀ w : Fin 7, w ≠ 6 → (cfg0.win w).isOut = false := by decide

theorem arr_end (w : Fin 7) : (dat m c).arrAt w cfg0.N = V₂ m c (Proc.devRef .tc (Pipeline.arrRef spec0 w)) := by
  by_cases h : w = 6
  · subst h
    exact (result_eq m c).trans (V₂_out m c).symm
  · rw [V₂_ne m c _ (arr_ne w h), (dat m c).arrAt_in w (arr_in w h)]; rfl

theorem all_shares (w : Fin 7) : (dat m c).share w = fullShare := by
  unfold Dat.share; split <;> rfl

theorem kit : Pipeline.PLaunchFacts (nD := nD) (τ := τ) (pcfgs (F := F)) 0 := launch0.toP

local notation "𝕊" => Pipeline.Seg (pcfgs (F := F)) adm (pdats m) () defs₀ 𝒱₀ L lv

set_option backward.isDefEq.respectTransparency.types false in
/-- The kernel: it is entered with what the launch dealt and gives back the barrier's counter at zero. -/
def reg : Pipeline.RegionSeg (pcfgs (F := F)) adm (pdats m) () defs₀ 𝒱₀ L lv 0 :=
  Pipeline.RegionSeg.ofTalk (pcfgs (F := F)) adm (pdats m) () defs₀ 𝒱₀ L lv 0 semOf own_facts
    ∅ (bufs \ opnds) (Finset.empty_subset _) kit rfl (fun c => (body m c).loose)
    (fun _ => 0) O₀ (fun c => (owed_first m c).trans (zero_add _).symm) (owed_last m) (fun _ => rfl) (fun c w => all_shares m c w)
    (V₁ m) (V₂ m) (rest_same m)
    (dealt (ins m)) (fun c => semVal (barCell c) 0) (opened (ins m)) (fun c => semVal (barCell c) 0) (hopen m) (hin m) (hout m)
    (fun c => by iintro H; imodintro; iexact H)
    (fun _ => 0)
    ⟨fun c w s => by rw [L_tc]; exact Finset.mem_singleton_self _, fun c w s => (lv_stage c w s).le, fun c t g i h => cut m c t g i h⟩
    (fun _ => iprop(emp))
    (fun c w => arr_start m c w) (fun c w => arr_end m c w)

/-- What a device holds beside its buffers until the kernel starts. -/
def rides (c : Dev nD) : sProp 𝕄 := iprop(dealt (ins m) c ∗ (∃ r, prngReg c r) ∗ ∃ W, owes (c : Thread nD τ) (O₀ c) W)

theorem ops_sub : ∀ op ∈ (hostOps0 (F := F)), op.bufs ⊆ bufs := by
  have h (a b : Ref sig .tc) (e : ({Proc.devRef .tc a, Proc.devRef .tc b} : Finset (DevRef τ sig)) ⊆ bufs := by decide) :
      ({Proc.devRef .tc a, Proc.devRef .tc b} : Finset (DevRef τ sig)) ⊆ bufs := e
  intro op hop
  simp only [hostOps0, List.mem_cons, List.mem_nil_iff, or_false] at hop
  rcases hop with rfl | rfl | rfl
  · exact h main_arg3 main_v1
  · exact h main_arg0 main_v2
  · exact h main_arg0 main_v3
theorem ops_fresh : ∀ op ∈ (hostOps0 (F := F)), op.fresh = ∅ := by
  intro op hop
  simp only [hostOps0, List.mem_cons, List.mem_nil_iff, or_false] at hop
  rcases hop with rfl | rfl | rfl <;> rfl

/-- The host's reshape and slices before it. -/
def host : Pipeline.HostSeg (Name := ℕ) (U := UU) (pcfgs (F := F)) defs₀ 𝒱₀ L lv :=
  Pipeline.HostSeg.ofOps _ _ _ _ _ bufs hostOps0 ops_sub ops_fresh (V₀ m) (rides m)

def segs : List 𝕊 := [.host (host m), .region (reg m)]

theorem main_eq : main (F := F) c = Pipeline.Seg.run (segs m) := main_segs adm (pdats m) () 𝒱₀ L lv (host m) (reg m) rfl c

theorem held_split (W : Valuation τ sig (Elt F)) : (StableHlo.held (c : Thread nD τ) bufs W : sProp 𝕄)
    = iprop(StableHlo.held (c : Thread nD τ) opnds W ∗ StableHlo.held (c : Thread nD τ) (bufs \ opnds) W) :=
  StableHlo.held_sub_split (c : Thread nD τ) opnds_sub W

theorem reg_pre : iprop(StableHlo.held (c : Thread nD τ) bufs (V₁ m c) ∗ rides m c) ⊢ ((reg m).pre c : sProp 𝕄) := by
  show _ ⊢ iprop(StableHlo.held (c : Thread nD τ) opnds (V₁ m c) ∗ (∃ r, prngReg c r)
    ∗ (StableHlo.held (c : Thread nD τ) (bufs \ opnds) (V₁ m c) ∗ emp) ∗ dealt (ins m) c ∗ ∃ Wd, owes (c : Thread nD τ) (0 + O₀ c) Wd)
  rw [held_split, zero_add]
  unfold rides
  iintro ⟨⟨Ha, Hr⟩, Hd, Hp, HO⟩
  isplitl [Ha]; · iexact Ha
  isplitl [Hp]; · iexact Hp
  isplitl [Hr]
  · isplitl [Hr]; · iexact Hr
    iempintro
  isplitl [Hd] <;> iassumption

theorem reg_post : ((reg m).post c : sProp 𝕄)
    ⊢ iprop((StableHlo.held (c : Thread nD τ) bufs (V₂ m c) ∗ semVal (barCell c) 0) ∗ ∃ W, owes (c : Thread nD τ) (0 : CellTallies nD τ sig Unit) W) := by
  show iprop(StableHlo.held (c : Thread nD τ) opnds (V₂ m c) ∗ (∃ r, prngReg c r)
    ∗ (StableHlo.held (c : Thread nD τ) (bufs \ opnds) (V₂ m c) ∗ emp) ∗ semVal (barCell c) 0 ∗ ∃ Wd, owes (c : Thread nD τ) (0 : CellTallies nD τ sig Unit) Wd)
    ⊢ (iprop((StableHlo.held (c : Thread nD τ) bufs (V₂ m c) ∗ semVal (barCell c) 0) ∗ ∃ W, owes (c : Thread nD τ) (0 : CellTallies nD τ sig Unit) W) : sProp 𝕄)
  rw [held_split]
  iintro ⟨Ha, -, ⟨Hr, -⟩, Hb, HO⟩
  isplitr [HO]
  · isplitl [Ha Hr]; · isplitl [Ha] <;> iassumption
    iexact Hb
  iexact HO

/-! ## The launch -/

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

theorem pin_inj : Function.Injective (Pipeline.cellOf (nD := nD) (τ := τ) (Pipeline.pin (pcfgs (F := F)) adm)) := cellOf_inj

/-- The ghost state of the launch: the pipeline's own, and the protocol's. -/
def u₀ : UU :=
  (initOf (Pipeline.cells (Pipeline.pin (pcfgs (F := F)) adm) pin_inj) (Pipeline.launchToks (Pipeline.pin (pcfgs (F := F)) adm) pin_inj),
    launchOf barCells copyCells toks)

/-- A resource that only device 0 starts with. -/
def onFirst (X : sProp 𝕄) (c : Dev nD) : sProp 𝕄 := if c = 0 then X else iprop(emp)
theorem first_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def gift : Dev nD → sProp 𝕄 := onFirst (BI.own (ER (launchOf barCells copyCells toks)))

abbrev T₀ (c : Dev nD) : sProp 𝕄 := iprop(StableHlo.held (c : Thread nD τ) bufs (V₀ m c) ∗ rides m c)
abbrev Tₙ (c : Dev nD) : sProp 𝕄 := iprop(StableHlo.held (c : Thread nD τ) bufs (V₂ m c) ∗ semVal (barCell c) 0)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ gift c)) ∗ levAts L lv)
      ⊢ (iprop(|={Set.univ}=> bigSep Finset.univ (T₀ m)) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ gift c)
      ⊢ (iprop((StableHlo.held (c : Thread nD τ) bufs (V₀ m c) ∗ (∃ r, prngReg c r) ∗ ∃ W, owes (c : Thread nD τ) (O₀ c) W)
          ∗ ((semVal (barCell c) 0 ∗ Pipeline.launchCred O₀ c) ∗ gift c)) : sProp 𝕄) := by
    rw [show unscopedBufs c (fun b => m ((c : Thread nD τ).loc b)) = StableHlo.held (c : Thread nD τ) bufs (V₀ m c) from unscopedBufs_held c (V₀ m c),
      unscopedSems0_eq]
    iintro ⟨Hh, Hs, HO, Hc, Hp, HG⟩
    isplitl [Hh HO Hp]
    · isplitl [Hh]; · iexact Hh
      isplitl [Hp]; · iexists _; iexact Hp
      iexists _; iexact HO
    isplitl [Hs Hc]; · isplitl [Hs] <;> iassumption
    iexact HG
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ gift c))
      ⊢ (bigSep Finset.univ fun c : Dev nD => iprop((StableHlo.held (c : Thread nD τ) bufs (V₀ m c) ∗ (∃ r, prngReg c r) ∗ ∃ W, owes (c : Thread nD τ) (O₀ c) W)
          ∗ ((semVal (barCell c) 0 ∗ Pipeline.launchCred O₀ c) ∗ gift c)) : sProp 𝕄) := bigSep_mono fun c _ => hcore c
  have hone (c : Dev nD) : iprop(dealt (ins m) c ∗ (StableHlo.held (c : Thread nD τ) bufs (V₀ m c) ∗ (∃ r, prngReg c r) ∗ ∃ W, owes (c : Thread nD τ) (O₀ c) W))
      ⊢ (T₀ m c : sProp 𝕄) := by
    unfold T₀ rides
    iintro ⟨Hd, Hh, Hp, HO⟩
    isplitl [Hh]; · iexact Hh
    isplitl [Hd]; · iexact Hd
    isplitl [Hp] <;> iassumption
  have hjoin : (bigSep Finset.univ fun c : Dev nD => iprop(dealt (ins m) c
        ∗ (StableHlo.held (c : Thread nD τ) bufs (V₀ m c) ∗ (∃ r, prngReg c r) ∗ ∃ W, owes (c : Thread nD τ) (O₀ c) W)))
      ⊢ (bigSep Finset.univ (T₀ m) : sProp 𝕄) := bigSep_mono fun c _ => hone c
  have hu : bigSep Finset.univ (gift (F := F)) ⊢ (BI.own (ER (launchOf barCells copyCells toks)) : sProp 𝕄) :=
    Entails.of_eq (first_all (F := F) (BI.own (ER (launchOf barCells copyCells toks))))
  iintro ⟨H, #Hl⟩
  ihave H := hall $$ H
  ihave H := bigSep_unpair $$ H
  icases H with ⟨HB, H⟩
  ihave H := bigSep_unpair $$ H
  icases H with ⟨Hv, HG⟩
  ihave HG := hu $$ HG
  imod (deal (ins m)) $$ [Hv HG] with Hd
  · isplitl [Hv HG]
    · isplitl [Hv] <;> iassumption
    iexact Hl
  imodintro
  iapply hjoin
  iapply bigSep_pair
  isplitl [Hd] <;> iassumption

/-! ## The run -/

theorem bufs_eq (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_v4 ↦{fullShare} W main_v4) ∗ ((c : Thread nD τ).loc main_v1 ↦{fullShare} W main_v1)
      ∗ ((c : Thread nD τ).loc main_v2 ↦{fullShare} W main_v2) ∗ ((c : Thread nD τ).loc main_v3 ↦{fullShare} W main_v3)) := by
  unfold StableHlo.held
  rw [bigSep_eq_bigSepL_of_eq [Proc.devRef .tc main_arg0, Proc.devRef .tc main_arg1, Proc.devRef .tc main_arg2, Proc.devRef .tc main_arg3,
    Proc.devRef .tc main_v4, Proc.devRef .tc main_v1, Proc.devRef .tc main_v2, Proc.devRef .tc main_v3] (by decide) (by decide)]
  rfl

set_option backward.isDefEq.respectTransparency.types false in
/-- Every run of the program ends, with the arguments unchanged, the result array at `out` and all semaphores at zero. -/
theorem run_main : θ_run defs (onTc (τ := τ) (main (F := F))) (s₀ m ρ)
    (fun r => (∀ c : Dev nD, r.2.mem ((c : Thread nD τ).loc main_v4) = out (ins m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (pdats m) () pin_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := gift) (u₀ := u₀ (F := F))
    (hu₀ := by
      unfold u₀ gift
      iintro Hu
      ihave H := (ownU_pair _ _) $$ Hu
      icases H with ⟨HP, HX⟩
      imodintro
      isplitl [HP]; · iexact HP
      rw [first_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v4) = V₂ m c main_v4
        ∧ s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3)
      ∧ s.sem (barCell c) = 0)
    (hfin := fun c s' => by
      dsimp only [Tₙ]; rw [bufs_eq]
      iintro ⟨⟨⟨H0, H1, H2, H3, H4, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h4, Buf.eq_of_forall_mem_univ h0, Buf.eq_of_forall_mem_univ h1, Buf.eq_of_forall_mem_univ h2,
          Buf.eq_of_forall_mem_univ h3⟩, by simpa using hb⟩
      iexact HSI)
    (hQ := fun s h hs => ⟨fun c => by
        obtain ⟨⟨h4, h0, h1, h2, h3⟩, -⟩ := h c
        refine ⟨h4.trans (V₂_out m c), h0.trans ?_, h1.trans ?_, h2.trans ?_, h3.trans ?_⟩
        · exact (V₂_ne m c _ (by decide)).trans (V_main_arg0 m c)
        · exact (V₂_ne m c _ (by decide)).trans (V_main_arg1 m c)
        · exact (V₂_ne m c _ (by decide)).trans (V_main_arg2 m c)
        · exact (V₂_ne m c _ (by decide)).trans (V_main_arg3 m c),
      sem_eq_zero hs fun c sm hsm => by
        obtain rfl := unscoped_eq sm hsm
        exact (h c).2⟩)

end Cert.KernelIdeal.Moe
-- ==== Proof.Mixture.lean ====
/-
  The mathematics of one token: its scores, its probabilities, its two gates, and the sum of its two chosen experts'
  outputs, over the extended reals.
-/
module

public import Idealize.ShloMosaic.Lib.Pointwise

@[expose] public section

set_option maxRecDepth 16384

noncomputable section

namespace Cert.Moe

open Idealize.ShloMosaic

/-! ## Reals and positive reals among the extended reals -/

/-- A value that is a real number. -/
def IsReal (v : EReal) : Prop := ∃ r : ℝ, v = r
/-- A value that is a positive real number. -/
def IsPos (v : EReal) : Prop := ∃ r : ℝ, 0 < r ∧ v = r

theorem isReal_of_ne {v : EReal} (hb : ⊥ < v) (ht : v < ⊤) : IsReal v :=
  ⟨v.toReal, (EReal.coe_toReal ht.ne hb.ne').symm⟩

theorem IsReal.add {a b : EReal} : IsReal a → IsReal b → IsReal (a + b)
  | ⟨r, hr⟩, ⟨s, hs⟩ => ⟨r + s, by rw [hr, hs, EReal.coe_add]⟩
theorem IsReal.mul {a b : EReal} : IsReal a → IsReal b → IsReal (a * b)
  | ⟨r, hr⟩, ⟨s, hs⟩ => ⟨r * s, by rw [hr, hs, EReal.coe_mul]⟩
theorem IsReal.sum {n : ℕ} (f : Fin n → EReal) (h : ∀ i, IsReal (f i)) : IsReal (∑ i, f i) :=
  Finset.sum_induction f IsReal (fun _ _ => IsReal.add) ⟨0, rfl⟩ fun i _ => h i
theorem IsReal.exp_sub {a b : EReal} : IsReal a → IsReal b → IsPos (Ideal.exp (a - b))
  | ⟨r, hr⟩, ⟨s, hs⟩ => ⟨Real.exp (r - s), Real.exp_pos _, by rw [hr, hs, ← EReal.coe_sub]; rfl⟩

theorem IsPos.add {a b : EReal} : IsPos a → IsPos b → IsPos (a + b)
  | ⟨r, pr, hr⟩, ⟨s, ps, hs⟩ => ⟨r + s, add_pos pr ps, by rw [hr, hs, EReal.coe_add]⟩
theorem IsPos.sum {n : ℕ} (f : Fin (n + 1) → EReal) (h : ∀ i, IsPos (f i)) : IsPos (∑ i, f i) :=
  Finset.sum_induction_nonempty f IsPos (fun _ _ => IsPos.add) ⟨0, Finset.mem_univ _⟩ fun i _ => h i
theorem IsPos.div {a b : EReal} : IsPos a → IsPos b → IsPos (Ideal.div a b)
  | ⟨r, pr, hr⟩, ⟨s, ps, hs⟩ => ⟨r * s⁻¹, mul_pos pr (inv_pos.2 ps), by
      rw [hr, hs, Ideal.div, if_neg (by simpa using ps.ne'), EReal.coe_mul, EReal.coe_inv]⟩
theorem IsPos.nonneg {a : EReal} : IsPos a → 0 ≤ a
  | ⟨_, pr, hr⟩ => by rw [hr]; exact_mod_cast pr.le
theorem IsPos.ne_top {a : EReal} : IsPos a → a ≠ ⊤
  | ⟨_, _, hr⟩ => by rw [hr]; exact EReal.coe_ne_top _

/-! ## Scores and probabilities -/

/-- The start of the running maximum: minus infinity's word. -/
abbrev low : EReal := Ideal.ofBits .f32 0xFF800000#32

theorem low_lt_top : low < ⊤ := by
  have h : low = ⊥ := by simp [low, Ideal.ofBits, Ideal.ieee]
  rw [h]; exact bot_lt_top

/-- A token's score for every expert. -/
def score (x : Fin 512 → EReal) (w : Fin 512 → Fin 16 → EReal) (e : Fin 16) : EReal := ∑ k, x k * w k e
/-- The exponential of a score less the largest. -/
def weight (x : Fin 512 → EReal) (w : Fin 512 → Fin 16 → EReal) (e : Fin 16) : EReal :=
  Ideal.exp (score x w e - Finset.univ.fold max low (score x w))
/-- The softmax of the scores. -/
def prob (x : Fin 512 → EReal) (w : Fin 512 → Fin 16 → EReal) (e : Fin 16) : EReal :=
  Ideal.div (weight x w e) (∑ e', weight x w e')
/-- The share of expert `e` among the two chosen. -/
def part (x : Fin 512 → EReal) (w : Fin 512 → Fin 16 → EReal) (e e0 e1 : Fin 16) : EReal :=
  Ideal.div (prob x w e) (prob x w e0 + prob x w e1)

section
variable {x : Fin 512 → EReal} {w : Fin 512 → Fin 16 → EReal} (hx : ∀ k, IsReal (x k)) (hw : ∀ k e, IsReal (w k e))
include hx hw

theorem score_real (e : Fin 16) : IsReal (score x w e) := IsReal.sum _ fun k => (hx k).mul (hw k e)

theorem weight_pos (e : Fin 16) : IsPos (weight x w e) := by
  refine (score_real hx hw e).exp_sub (isReal_of_ne ?_ ?_)
  · obtain ⟨r, hr⟩ := score_real hx hw 0
    exact (Finset.lt_fold_max _).2 (Or.inr ⟨0, Finset.mem_univ _, by rw [hr]; exact EReal.bot_lt_coe r⟩)
  · refine (Finset.fold_max_lt _).2 ⟨low_lt_top, fun e _ => ?_⟩
    obtain ⟨r, hr⟩ := score_real hx hw e
    rw [hr]; exact EReal.coe_lt_top r

theorem prob_pos (e : Fin 16) : IsPos (prob x w e) :=
  (weight_pos hx hw e).div (IsPos.sum _ fun e' => weight_pos hx hw e')

theorem part_pos (e e0 e1 : Fin 16) : IsPos (part x w e e0 e1) :=
  (prob_pos hx hw e).div ((prob_pos hx hw e0).add (prob_pos hx hw e1))

end

/-! ## The mixture -/

/-- A token's gate for every expert: the two chosen experts' shares, and nothing elsewhere. -/
def tgate (x : Fin 512 → EReal) (w : Fin 512 → Fin 16 → EReal) (e0 e1 e : Fin 16) : EReal :=
  (if e = e0 then part x w e0 e0 e1 else 0) + (if e = e1 then part x w e1 e0 e1 else 0)

theorem mul_sum_of_real {n : ℕ} {q : EReal} (h0 : 0 ≤ q) (ht : q ≠ ⊤) (f : Fin n → EReal) :
    q * ∑ k, f k = ∑ k, q * f k := by
  classical
  refine Finset.induction_on (motive := fun s => q * ∑ k ∈ s, f k = ∑ k ∈ s, q * f k) Finset.univ (by simp) ?_
  intro a s ha ih
  rw [Finset.sum_insert ha, Finset.sum_insert ha, EReal.left_distrib_of_nonneg_of_ne_top h0 ht, ih]

/-- What a chosen expert gives, picked out of a sum over all the experts. -/
theorem pick {q : EReal} (e0 : Fin 16) (y : Fin 16 → EReal) :
    ∑ e, (if e = e0 then q else 0) * y e = q * y e0 := by
  rw [Finset.sum_eq_single e0 (fun e _ he => by rw [if_neg he, zero_mul]) (fun h => absurd (Finset.mem_univ _) h), if_pos rfl]

/-- The sum over all the experts of the gated tokens' products is the two chosen experts' outputs by their shares. -/
theorem mixture {x : Fin 512 → EReal} {w : Fin 512 → Fin 16 → EReal} (hx : ∀ k, IsReal (x k)) (hw : ∀ k e, IsReal (w k e))
    (e0 e1 : Fin 16) (W : Fin 16 → Fin 512 → EReal) :
    ∑ e, ∑ k, (x k * tgate x w e0 e1 e) * W e k
      = part x w e0 e0 e1 * (∑ k, x k * W e0 k) + part x w e1 e0 e1 * (∑ k, x k * W e1 k) := by
  have p0 := part_pos hx hw e0 e0 e1
  have p1 := part_pos hx hw e1 e0 e1
  have n0 : ∀ e, (0 : EReal) ≤ if e = e0 then part x w e0 e0 e1 else 0 := fun e => by split; exacts [p0.nonneg, le_rfl]
  have n1 : ∀ e, (0 : EReal) ≤ if e = e1 then part x w e1 e0 e1 else 0 := fun e => by split; exacts [p1.nonneg, le_rfl]
  have t0 : ∀ e, (if e = e0 then part x w e0 e0 e1 else 0) ≠ ⊤ := fun e => by split; exacts [p0.ne_top, EReal.zero_ne_top]
  have t1 : ∀ e, (if e = e1 then part x w e1 e0 e1 else 0) ≠ ⊤ := fun e => by split; exacts [p1.ne_top, EReal.zero_ne_top]
  have step : ∀ e, ∑ k, (x k * tgate x w e0 e1 e) * W e k
      = (if e = e0 then part x w e0 e0 e1 else 0) * (∑ k, x k * W e k)
        + (if e = e1 then part x w e1 e0 e1 else 0) * (∑ k, x k * W e k) := fun e => by
    rw [← EReal.right_distrib_of_nonneg (n0 e) (n1 e),
      mul_sum_of_real (add_nonneg (n0 e) (n1 e)) (EReal.add_ne_top (t0 e) (t1 e))]
    refine Finset.sum_congr rfl fun k _ => ?_
    show _ = tgate x w e0 e1 e * _
    rw [← mul_assoc, mul_comm (x k)]
  simp only [step, Finset.sum_add_distrib]
  rw [pick (q := part x w e0 e0 e1) e0 fun e => ∑ k, x k * W e k, pick (q := part x w e1 e0 e1) e1 fun e => ∑ k, x k * W e k]

/-! ## Experts by device, rows by expert -/

/-- Expert `j` of device `d`. -/
def expert (d j : Fin 4) : Fin 16 := ⟨4 * d.val + j.val, by omega⟩
/-- Row `k` of expert `j`'s block in a device's stacked weights. -/
def stacked (j : Fin 4) (k : Fin 512) : Fin 2048 := ⟨512 * j.val + k.val, by omega⟩

theorem sum_experts (f : Fin 16 → EReal) : ∑ e, f e = ∑ d, ∑ j, f (expert d j) := by
  rw [← Fintype.sum_prod_type' fun d j => f (expert d j)]
  refine (Fintype.sum_equiv (finProdFinEquiv (m := 4) (n := 4)) _ _ fun p => ?_).symm
  exact congrArg f (Fin.ext (by show 4 * p.1.val + p.2.val = p.2.val + 4 * p.1.val; omega))

theorem sum_stacked (f : Fin 2048 → EReal) : ∑ K, f K = ∑ j, ∑ k, f (stacked j k) := by
  rw [← Fintype.sum_prod_type' fun j k => f (stacked j k)]
  refine (Fintype.sum_equiv (finProdFinEquiv (m := 4) (n := 512)) _ _ fun p => ?_).symm
  exact congrArg f (Fin.ext (by show 512 * p.1.val + p.2.val = p.2.val + 512 * p.1.val; omega))

end Cert.Moe
-- ==== Proof.Entries.lean ====
/-
  The entries of the arrays the kernel computes: gates, gated tokens, and the products with a device's own experts.
-/
module

public import proofs.«01_k».proof.Proof.Values
public import proofs.«01_k».proof.Proof.Mixture

@[expose] public section

set_option maxRecDepth 16384

noncomputable section

namespace Cert.KernelIdeal.Moe

open Idealize.ShloMosaic Cert.KernelIdeal Cert.KernelIdeal.Gen Cert.Moe

/-- A row of a matrix. -/
abbrev row {n p : ℕ} {α : Type} (v : (⟨2, ![n, p]⟩ : Shape).Idx → α) (t : Fin n) : Fin p → α := fun k => v (ix2 t k)

/-- Where a rectangle of a matrix puts an entry. -/
theorem unit_emb {n p h w a b : ℕ} (inb) (i : Fin h) (j : Fin w) (hi : a + i.val < n) (hj : b + j.val < p) :
    (Rect.unit (s := ⟨2, ![n, p]⟩) ![a, b] ![h, w] inb).emb (ix2 i j) = ix2 ⟨a + i.val, hi⟩ ⟨b + j.val, hj⟩ := by
  funext d; refine Fin.ext ?_
  match d with
  | ⟨0, _⟩ => show a + 1 * i.val = a + i.val; omega
  | ⟨1, _⟩ => show b + 1 * j.val = b + j.val; omega

/-! ## The gates -/

theorem pay2_at (x : Vec Ideal S1024x512 .bf16) (w : Vec Ideal S512x16 .bf16) (t : Fin 1024) (e : Fin 16) :
    k0_pay2 x w (ix2 t e) = prob (row x t) (row w) e := by
  pointwise [k0_pay2, k0_pay1]
  rfl

/-- The comparison of an expert's number with a choice. -/
theorem hit (e e0 : Fin 16) : IntOp.cmpi .eq (BitVec.ofNat 32 e.val) (BitVec.ofNat 32 e0.val) = if e = e0 then 1#1 else 0#1 := by
  revert e e0; decide

theorem pay3_at (v : Vec Ideal S1024x1 .i32) (t : Fin 1024) (e e0 : Fin 16) (h : v (ix2 t 0) = BitVec.ofNat 32 e0.val) :
    k0_pay3 (F := Ideal) v (ix2 t e) = if e = e0 then 1#1 else 0#1 := by
  pointwise [k0_pay3]
  rw [h]; exact hit e e0

theorem pay4_at (v : Vec Ideal S1024x1 .i32) (t : Fin 1024) (e e0 : Fin 16) (h : v (ix2 t 0) = BitVec.ofNat 32 e0.val) :
    k0_pay4 (F := Ideal) v (ix2 t e) = if e = e0 then 1#1 else 0#1 := by
  pointwise [k0_pay4]
  rw [h]; exact hit e e0

theorem select_hit (p : Prop) [Decidable p] (a b : EReal) : Scalar.select (if p then 1#1 else 0#1) a b = if p then a else b := by
  split <;> rfl

theorem sum_hit (e0 : Fin 16) (f : Fin 16 → EReal) : ∑ e, Scalar.select (if e = e0 then 1#1 else 0#1) (f e) 0 = f e0 := by
  simp only [select_hit, Finset.sum_ite_eq', Finset.mem_univ, if_true]

theorem pay5_at (x : Vec Ideal S1024x512 .bf16) (w : Vec Ideal S512x16 .bf16) (v : Vec Ideal S1024x1 .i32) (t : Fin 1024)
    (e0 : Fin 16) (h : v (ix2 t 0) = BitVec.ofNat 32 e0.val) : k0_pay5 x w v (ix2 t 0) = prob (row x t) (row w) e0 := by
  pointwise [k0_pay5]
  simp only [pay3_at v t _ e0 h, pay2_at]
  exact sum_hit e0 _

theorem pay6_at (x : Vec Ideal S1024x512 .bf16) (w : Vec Ideal S512x16 .bf16) (v : Vec Ideal S1024x1 .i32) (t : Fin 1024)
    (e0 : Fin 16) (h : v (ix2 t 0) = BitVec.ofNat 32 e0.val) : k0_pay6 x w v (ix2 t 0) = prob (row x t) (row w) e0 := by
  pointwise [k0_pay6]
  simp only [pay4_at v t _ e0 h, pay2_at]
  exact sum_hit e0 _

variable (I : Inputs Ideal)

theorem col0_at (c : Dev nD) (t : Fin 1024) : col0 I c (ix2 t 0) = I.ri c (ix2 t 0) := by
  refine (congrArg (I.ri c) (unit_emb (n := 1024) (p := 2) _ t (0 : Fin 1) (by omega) (by decide))).trans ?_
  exact congrArg (fun u => I.ri c (ix2 u 0)) (Fin.ext (Nat.zero_add _))
theorem col1_at (c : Dev nD) (t : Fin 1024) : col1 I c (ix2 t 0) = I.ri c (ix2 t 1) := by
  refine (congrArg (I.ri c) (unit_emb (n := 1024) (p := 2) _ t (0 : Fin 1) (by omega) (by decide))).trans ?_
  exact congrArg (fun u => I.ri c (ix2 u 1)) (Fin.ext (Nat.zero_add _))

/-- The choices of a device's tokens, as experts. -/
def Chosen (E : Dev nD → Fin 1024 → Fin 2 → Fin 16) : Prop :=
  ∀ c t j, I.ri c (ix2 t j) = BitVec.ofNat 32 (E c t j).val

variable {I} {E : Dev nD → Fin 1024 → Fin 2 → Fin 16} (hE : Chosen I E)
include hE

theorem gate_at (c : Dev nD) (t : Fin 1024) (e : Fin 16) :
    gate I c (ix2 t e) = tgate (row (I.x c) t) (row (I.rw c)) (E c t 0) (E c t 1) e := by
  have h0 := (col0_at I c t).trans (hE c t 0)
  have h1 := (col1_at I c t).trans (hE c t 1)
  unfold gate
  pointwise [k0_pay10, k0_pay9, k0_pay8, k0_pay7]
  simp only [pay3_at _ t _ _ h0, pay4_at _ t _ _ h1, pay5_at _ _ _ t _ h0, pay6_at _ _ _ t _ h1, select_hit]
  rfl

omit hE in
theorem gsrc_cw (c : Dev nD) (t : Fin 512) (e : Fin 16) :
    gsrc I .cw c (ix2 t e) = gate I c (ix2 ⟨t.val, by omega⟩ e) := by
  unfold gate gsrc
  pointwise [k0_pay11]
omit hE in
theorem gsrc_ccw (c : Dev nD) (t : Fin 512) (e : Fin 16) :
    gsrc I .ccw c (ix2 t e) = gate I c (ix2 ⟨512 + t.val, by omega⟩ e) := by
  unfold gate gsrc
  pointwise [k0_pay12]

/-! ## The gated tokens -/

omit hE in
/-- The device's number, as the kernel computes it, times four plus `j` is the number of its expert `j`. -/
theorem pick_word (c : Dev nD) (e : Fin 16) (j : Fin 4) :
    FloatOps.sitofp (F := Ideal) FTy.f32 (BitVec.setWidth 32 (IntOp.cmpi .eq (BitVec.ofNat 32 e.val)
      (IntOp.addi (Scalar.muli (wd c) 4#32) (BitVec.ofNat 32 j.val)))) = if e = expert c j then (1 : EReal) else 0 := by
  have h : IntOp.cmpi .eq (BitVec.ofNat 32 e.val) (IntOp.addi (Scalar.muli (wd c) 4#32) (BitVec.ofNat 32 j.val))
      = if e = expert c j then 1#1 else 0#1 := by revert c e j; decide
  rw [h]
  split
  · show (((1 : ℤ) : ℝ) : EReal) = 1
    simp
  · show (((0 : ℤ) : ℝ) : EReal) = 0
    simp

omit hE in
theorem pay13_at (c : Dev nD) (v : FVec Ideal S1024x16 .f32) (t : Fin 1024) (j : Fin 4) :
    k0_pay13 (wd c) v (ix2 t j) = v (ix2 t (expert c j)) := by
  pointwise [k0_pay13]
  simp only [pick_word c, mul_ite, mul_one, mul_zero, Finset.sum_ite_eq', Finset.mem_univ, if_true]

omit hE in
theorem pay20_at (c : Dev nD) (v : Vec Ideal S512x16 .bf16) (t : Fin 512) (j : Fin 4) :
    k0_pay20 (wd c) (unsq v) (ix2 t j) = v (ix2 t (expert c j)) := by
  pointwise [k0_pay20, unsq]
  simp only [pick_word c, mul_ite, mul_one, mul_zero, Finset.sum_ite_eq', Finset.mem_univ, if_true]

omit hE in
/-- Four matrices side by side, read at column `k` of matrix `j`. -/
theorem cat4_at {n : ℕ} {α : Type} {w0 w1 w2 w3 : (⟨2, ![n, 512]⟩ : Shape).Idx → α} {t : Fin n} {k : Fin 512} (f : Fin 4 → α)
    (h0 : w0 (ix2 t k) = f 0) (h1 : w1 (ix2 t k) = f 1) (h2 : w2 (ix2 t k) = f 2) (h3 : w3 (ix2 t k) = f 3) (j : Fin 4) :
    cat4 w0 w1 w2 w3 (ix2 t (stacked j k)) = f j := by
  have hi : (Shape.pair (d := ![n, 512]) t ⟨(stacked j k).val % 512, Nat.mod_lt _ (by decide)⟩
      : (⟨2, ![n, 512]⟩ : Shape).Idx) = ix2 t k := by
    funext d; refine Fin.ext ?_
    match d with
    | ⟨0, _⟩ => rfl
    | ⟨1, _⟩ => show (512 * j.val + k.val) % 512 = k.val; omega
  show (if 512 * j.val + k.val < 512 then w0 (Shape.pair (d := ![n, 512]) t ⟨(stacked j k).val % 512, _⟩)
    else if 512 * j.val + k.val < 1024 then w1 (Shape.pair (d := ![n, 512]) t ⟨(stacked j k).val % 512, _⟩)
    else if 512 * j.val + k.val < 1536 then w2 (Shape.pair (d := ![n, 512]) t ⟨(stacked j k).val % 512, _⟩)
    else w3 (Shape.pair (d := ![n, 512]) t ⟨(stacked j k).val % 512, _⟩)) = _
  rw [hi]
  have hk := k.isLt
  match j with
  | ⟨0, _⟩ => rw [if_pos (show 512 * 0 + k.val < 512 by omega)]; exact h0
  | ⟨1, _⟩ => rw [if_neg (show ¬ 512 * 1 + k.val < 512 by omega), if_pos (show 512 * 1 + k.val < 1024 by omega)]; exact h1
  | ⟨2, _⟩ =>
    rw [if_neg (show ¬ 512 * 2 + k.val < 512 by omega), if_neg (show ¬ 512 * 2 + k.val < 1024 by omega),
      if_pos (show 512 * 2 + k.val < 1536 by omega)]; exact h2
  | ⟨3, _⟩ =>
    rw [if_neg (show ¬ 512 * 3 + k.val < 512 by omega), if_neg (show ¬ 512 * 3 + k.val < 1024 by omega),
      if_neg (show ¬ 512 * 3 + k.val < 1536 by omega)]; exact h3

omit hE in
theorem xgl_at (c : Dev nD) (t : Fin 1024) (j : Fin 4) (k : Fin 512) :
    xgl I c (ix2 t (stacked j k)) = I.x c (ix2 t k) * gate I c (ix2 t (expert c j)) := by
  refine cat4_at (fun j => I.x c (ix2 t k) * gate I c (ix2 t (expert c j))) ?_ ?_ ?_ ?_ j <;>
    generalize gate I c = g <;> beta_reduce <;> rw [← pay13_at c g t]
  · pointwise [k0_pay14, k0_pay1]
  · pointwise [k0_pay15, k0_pay1]
  · pointwise [k0_pay16, k0_pay1]
  · pointwise [k0_pay17, k0_pay1]

omit hE in
theorem xgc_at (d : Dir) (h : Hop) (c : Dev nD) (t : Fin 512) (j : Fin 4) (k : Fin 512) :
    xgc I d h c (ix2 t (stacked j k)) = xv I d h c (ix2 t k) * gv I d h c (ix2 t (expert c j)) := by
  refine cat4_at (fun j => xv I d h c (ix2 t k) * gv I d h c (ix2 t (expert c j))) ?_ ?_ ?_ ?_ j <;>
    generalize gv I d h c = g, xv I d h c = x <;> beta_reduce <;> rw [← pay20_at c g t]
  · pointwise [k0_pay21, k0_pay19, unsq]
  · pointwise [k0_pay22, k0_pay19, unsq]
  · pointwise [k0_pay23, k0_pay19, unsq]
  · pointwise [k0_pay25, k0_pay24, k0_pay19, unsq]

end Cert.KernelIdeal.Moe
-- ==== Proof.Shares.lean ====
/-
  The result of the kernel, entry by entry: the sum over the four devices of what each device's experts give a token.
-/
module

public import proofs.«01_k».proof.Proof.Entries

@[expose] public section

set_option maxRecDepth 16384

noncomputable section

namespace Cert.KernelIdeal.Moe

open Idealize.ShloMosaic Cert.KernelIdeal Cert.KernelIdeal.Gen Cert.Moe

/-- What device `d`'s four experts give a token, in one column of the result. -/
def share (x : Fin 512 → EReal) (g : Fin 16 → EReal) (W : Fin 2048 → EReal) (d : Dev nD) : EReal :=
  ∑ j, ∑ k, (x k * g (expert d j)) * W (stacked j k)

/-- A column of a matrix. -/
abbrev column {n p : ℕ} {α : Type} (v : (⟨2, ![n, p]⟩ : Shape).Idx → α) (h : Fin p) : Fin n → α := fun k => v (ix2 k h)

variable (I : Inputs Ideal)

theorem loc_at (c : Dev nD) (t h : Fin 1024) :
    loc I c (ix2 t h) = share (row (I.x c) t) (row (gate I c) t) (column (I.ew c) h) c := by
  unfold loc share
  generalize hX : xgl I c = X
  pointwise [k0_pay18]
  rw [sum_stacked]
  simp only [← hX, xgl_at]

theorem pc_at (d : Dir) (h : Hop) (c : Dev nD) (t : Fin 512) (k : Fin 1024) :
    pc I d h c (ix2 t k) = share (row (xv I d h c) t) (row (gv I d h c) t) (column (I.ew c) k) c := by
  unfold pc share
  generalize hX : xgc I d h c = X
  pointwise [k0_pay26]
  rw [sum_stacked]
  simp only [← hX, xgc_at]

/-- A column of a half, as a column of the whole. -/
def hcol : Half → Fin 512 → Fin 1024
  | .q0, k => ⟨0 + k.val, by omega⟩
  | .q1, k => ⟨512 + k.val, by omega⟩
/-- A row of a direction's tokens, as a row of the device's. -/
def hrow : Dir → Fin 512 → Fin 1024
  | .cw, t => ⟨0 + t.val, by omega⟩
  | .ccw, t => ⟨512 + t.val, by omega⟩

theorem pch_at (d : Dir) (h : Hop) (q : Half) (c : Dev nD) (t k : Fin 512) :
    pch I d h q c (ix2 t k) = share (row (xv I d h c) t) (row (gv I d h c) t) (column (I.ew c) (hcol q k)) c := by
  rw [← pc_at]
  cases q
  · refine (congrArg (pc I d h c) (unit_emb (n := 512) (p := 1024) _ t k (by omega) (by omega))).trans ?_
    exact congrArg (fun u => pc I d h c (ix2 u _)) (Fin.ext (Nat.zero_add _))
  · refine (congrArg (pc I d h c) (unit_emb (n := 512) (p := 1024) _ t k (by omega) (by omega))).trans ?_
    exact congrArg (fun u => pc I d h c (ix2 u _)) (Fin.ext (Nat.zero_add _))

/-! ## The journey home -/

theorem r0_at (d : Dir) (q : Half) (c : Dev nD) (i : S512x512.Idx) : r0 I d q c i = pch I d .h0 q c i := by
  unfold r0
  generalize pch I d .h0 q c = p
  pointwise [k0_pay27]

theorem r1_at (d : Dir) (q : Half) (c : Dev nD) (t k : Fin 512) :
    r1 I d q c (ix2 t k) = r0 I d q (d.flip.step c) (ix2 t k) + pch I d .h1 q c (ix2 t k) := by
  unfold r1
  generalize pch I d .h1 q c = p, r0 I d q (d.flip.step c) = r
  pointwise [k0_pay57, sqz, unsq]

theorem r2_at (d : Dir) (q : Half) (c : Dev nD) (t k : Fin 512) :
    r2 I d q c (ix2 t k) = r1 I d q (d.flip.step c) (ix2 t k) + pch I d .h2 q c (ix2 t k) := by
  unfold r2
  generalize pch I d .h2 q c = p, r1 I d q (d.flip.step c) = r
  pointwise [k0_pay57, sqz, unsq]

/-- Four steps around the ring come back. -/
theorem step4 (d : Dir) (c : Dev nD) : d.step (d.step (d.step (d.step c))) = c := by revert d c; decide
theorem flip_flip (d : Dir) : d.flip.flip = d := by cases d <;> rfl

theorem x_h0 (d : Dir) (c : Dev nD) : xv I d .h0 (d.flip.step (d.flip.step (d.flip.step c))) = xh I d c :=
  congrArg (xh I d) (step4 d.flip c)
theorem x_h1 (d : Dir) (c : Dev nD) : xv I d .h1 (d.flip.step (d.flip.step c)) = xh I d c :=
  congrArg (xh I d) (step4 d.flip c)
theorem x_h2 (d : Dir) (c : Dev nD) : xv I d .h2 (d.flip.step c) = xh I d c :=
  congrArg (xh I d) (flip_step d.flip c)
theorem g_h0 (d : Dir) (c : Dev nD) : gv I d .h0 (d.flip.step (d.flip.step (d.flip.step c))) = gsrc I d c :=
  congrArg (gsrc I d) (step4 d.flip c)
theorem g_h1 (d : Dir) (c : Dev nD) : gv I d .h1 (d.flip.step (d.flip.step c)) = gsrc I d c :=
  congrArg (gsrc I d) (step4 d.flip c)
theorem g_h2 (d : Dir) (c : Dev nD) : gv I d .h2 (d.flip.step c) = gsrc I d c :=
  congrArg (gsrc I d) (flip_step d.flip c)

/-- Any sum over the devices, from a device around the ring. -/
theorem sum_ring (f : Dev nD → EReal) (d : Dir) (c : Dev nD) :
    f c + (f (d.step (d.step (d.step c))) + f (d.step (d.step c)) + f (d.step c)) = ∑ e, f e := by
  have h : ∑ e, f e = f 0 + f 1 + f 2 + f 3 := Fin.sum_univ_four f
  rw [h]
  have hc : c = 0 ∨ c = 1 ∨ c = 2 ∨ c = 3 := by revert c; decide
  rcases hc with rfl | rfl | rfl | rfl <;> cases d
  · show f 0 + (f 3 + f 2 + f 1) = _; ac_rfl
  · show f 0 + (f 1 + f 2 + f 3) = _; ac_rfl
  · show f 1 + (f 0 + f 3 + f 2) = _; ac_rfl
  · show f 1 + (f 2 + f 3 + f 0) = _; ac_rfl
  · show f 2 + (f 1 + f 0 + f 3) = _; ac_rfl
  · show f 2 + (f 3 + f 0 + f 1) = _; ac_rfl
  · show f 3 + (f 2 + f 1 + f 0) = _; ac_rfl
  · show f 3 + (f 0 + f 1 + f 2) = _; ac_rfl

/-- The partial sum that comes home: what the other three devices give the token. -/
theorem rv_at (d : Dir) (q : Half) (c : Dev nD) (t k : Fin 512) :
    rv I d .h2 q c (ix2 t k)
      = share (row (xh I d c) t) (row (gsrc I d c) t) (column (I.ew (d.flip.step (d.flip.step (d.flip.step c)))) (hcol q k))
          (d.flip.step (d.flip.step (d.flip.step c)))
        + share (row (xh I d c) t) (row (gsrc I d c) t) (column (I.ew (d.flip.step (d.flip.step c))) (hcol q k))
          (d.flip.step (d.flip.step c))
        + share (row (xh I d c) t) (row (gsrc I d c) t) (column (I.ew (d.flip.step c)) (hcol q k)) (d.flip.step c) := by
  show r2 I d q (d.flip.step c) (ix2 t k) = _
  rw [r2_at, r1_at, r0_at, pch_at, pch_at, pch_at, x_h0, x_h1, x_h2, g_h0, g_h1, g_h2]

/-! ## The result -/

/-- The halves the host cuts of a device's tokens are its rows. -/
def Halved : Prop := ∀ d c t k, xh I d c (ix2 t k) = I.x c (ix2 (hrow d t) k)

theorem gsrc_at (d : Dir) (c : Dev nD) (t : Fin 512) (e : Fin 16) : gsrc I d c (ix2 t e) = gate I c (ix2 (hrow d t) e) := by
  cases d
  · exact (gsrc_cw c t e).trans (congrArg (fun u => gate I c (ix2 u e)) (Fin.ext (Nat.zero_add _).symm))
  · exact gsrc_ccw c t e

/-- A final addition, at an entry. -/
theorem pay77_at (a : Vec Ideal S512x512 .f32) (r : Vec Ideal S512x512 .bf16) (i : S512x512.Idx) :
    k0_pay77 a (unsq r) i = a i + r i := by
  rw [eq_ix2 i]
  pointwise [k0_pay77, unsq]

/-- Where each quarter of the result lies. -/
theorem quarter (d : Dir) (q : Half) (a b : ℕ) (inb) (ha : ∀ t : Fin 512, (hrow d t).val = a + t.val)
    (hb : ∀ k : Fin 512, (hcol q k).val = b + k.val) (t k : Fin 512) :
    (Rect.unit (s := S1024x1024) ![a, b] S512x512.size inb).emb (ix2 t k) = ix2 (hrow d t) (hcol q k) := by
  have h1 := ha t
  have h2 := hb k
  have := (hrow d t).isLt
  have := (hcol q k).isLt
  refine (unit_emb (n := 1024) (p := 1024) inb t k (by omega) (by omega)).trans ?_
  congr 1
  exacts [Fin.ext h1.symm, Fin.ext h2.symm]

/-- Another quarter's entries are not in it. -/
theorem off_quarter (d : Dir) (q : Half) (a b : ℕ) (inb) (ha : ∀ t : Fin 512, (hrow d t).val = a + t.val)
    (hb : ∀ k : Fin 512, (hcol q k).val = b + k.val) (d' : Dir) (q' : Half) (h : d' ≠ d ∨ q' ≠ q) (t k : Fin 512) :
    ix2 (hrow d' t) (hcol q' k) ∉ (Rect.unit (s := S1024x1024) ![a, b] S512x512.size inb).set := by
  intro hm
  rw [← Rect.map_emb_univ, Finset.mem_map] at hm
  obtain ⟨i, -, hi⟩ := hm
  obtain ⟨u, v, rfl⟩ : ∃ (u v : Fin 512), i = (ix2 u v : S512x512.Idx) := ⟨i 0, i 1, eq_ix2 (n0 := 512) (n1 := 512) i⟩
  rw [quarter d q a b inb ha hb u v] at hi
  have h0 : (hrow d u).val = (hrow d' t).val := congrArg (fun z : S1024x1024.Idx => (z 0).val) hi
  have h1 : (hcol q v).val = (hcol q' k).val := congrArg (fun z : S1024x1024.Idx => (z 1).val) hi
  have := u.isLt; have := v.isLt; have := t.isLt; have := k.isLt
  rcases h with h | h
  · cases d <;> cases d' <;> first | exact h rfl | (simp only [hrow] at h0; omega)
  · cases q <;> cases q' <;> first | exact h rfl | (simp only [hcol] at h1; omega)

/-- A final addition leaves the other quarters. -/
theorem put_other (d : Dir) (q : Half) (a b : ℕ) (inb) (ha : ∀ t : Fin 512, (hrow d t).val = a + t.val)
    (hb : ∀ k : Fin 512, (hcol q k).val = b + k.val) (d' : Dir) (q' : Half) (h : d' ≠ d ∨ q' ≠ q) (t k : Fin 512)
    (v : Vec Ideal S1024x1024 .f32) (w : Vec Ideal S512x512 .f32) :
    put (Rect.unit (s := S1024x1024) ![a, b] S512x512.size inb) v w (ix2 (hrow d' t) (hcol q' k))
      = v (ix2 (hrow d' t) (hcol q' k)) :=
  put_miss _ v w _ (off_quarter d q a b inb ha hb d' q' h t k)

/-- A final addition adds what came home to its own quarter. -/
theorem put_own (d : Dir) (q : Half) (a b : ℕ) (inb) (ha : ∀ t : Fin 512, (hrow d t).val = a + t.val)
    (hb : ∀ k : Fin 512, (hcol q k).val = b + k.val) (t k : Fin 512)
    (v : Vec Ideal S1024x1024 .f32) (r : Vec Ideal S512x512 .bf16) :
    put (Rect.unit (s := S1024x1024) ![a, b] S512x512.size inb) v
        (k0_pay77 (sub (Rect.unit (s := S1024x1024) ![a, b] S512x512.size inb) v) (unsq r)) (ix2 (hrow d t) (hcol q k))
      = v (ix2 (hrow d t) (hcol q k)) + r (ix2 t k) := by
  have he := quarter d q a b inb ha hb t k
  have hv : sub (Rect.unit (s := S1024x1024) ![a, b] S512x512.size inb) v (ix2 t k) = v (ix2 (hrow d t) (hcol q k)) :=
    congrArg v he
  rw [← hv, ← pay77_at (sub (Rect.unit (s := S1024x1024) ![a, b] S512x512.size inb) v) r (ix2 t k), ← he]
  exact put_emb _ _ _ _

theorem hrow_cw (t : Fin 512) : (hrow .cw t).val = 0 + t.val := rfl
theorem hrow_ccw (t : Fin 512) : (hrow .ccw t).val = 512 + t.val := rfl
theorem hcol_q0 (k : Fin 512) : (hcol .q0 k).val = 0 + k.val := rfl
theorem hcol_q1 (k : Fin 512) : (hcol .q1 k).val = 512 + k.val := rfl

/-- The result at an entry of a quarter: the device's own share and what came home. -/
theorem out_quarter (d : Dir) (q : Half) (c : Dev nD) (t k : Fin 512) :
    out I c (ix2 (hrow d t) (hcol q k)) = loc I c (ix2 (hrow d t) (hcol q k)) + rv I d .h2 q c (ix2 t k) := by
  have o4 := fun d' q' h => put_other .ccw .q1 512 512 inb_S1024x1024_S512x512_512_512 hrow_ccw hcol_q1 d' q' h t k
  have o3 := fun d' q' h => put_other .cw .q1 0 512 inb_S1024x1024_S512x512_0_512 hrow_cw hcol_q1 d' q' h t k
  have o2 := fun d' q' h => put_other .ccw .q0 512 0 inb_S1024x1024_S512x512_512_0 hrow_ccw hcol_q0 d' q' h t k
  have o1 := fun d' q' h => put_other .cw .q0 0 0 inb_S1024x1024_S512x512_0_0 hrow_cw hcol_q0 d' q' h t k
  have w4 := put_own .ccw .q1 512 512 inb_S1024x1024_S512x512_512_512 hrow_ccw hcol_q1 t k (out3 I c) (rv I .ccw .h2 .q1 c)
  have w3 := put_own .cw .q1 0 512 inb_S1024x1024_S512x512_0_512 hrow_cw hcol_q1 t k (out2 I c) (rv I .cw .h2 .q1 c)
  have w2 := put_own .ccw .q0 512 0 inb_S1024x1024_S512x512_512_0 hrow_ccw hcol_q0 t k (out1 I c) (rv I .ccw .h2 .q0 c)
  have w1 := put_own .cw .q0 0 0 inb_S1024x1024_S512x512_0_0 hrow_cw hcol_q0 t k (loc I c) (rv I .cw .h2 .q0 c)
  cases d <;> cases q
  · exact (o4 .cw .q0 (by decide) _ _).trans ((o3 .cw .q0 (by decide) _ _).trans ((o2 .cw .q0 (by decide) _ _).trans w1))
  · refine (o4 .cw .q1 (by decide) _ _).trans (w3.trans (congrArg (· + _) ?_))
    exact (o2 .cw .q1 (by decide) _ _).trans (o1 .cw .q1 (by decide) _ _)
  · refine (o4 .ccw .q0 (by decide) _ _).trans ((o3 .ccw .q0 (by decide) _ _).trans (w2.trans (congrArg (· + _) ?_)))
    exact o1 .ccw .q0 (by decide) _ _
  · refine w4.trans (congrArg (· + _) ?_)
    exact (o3 .ccw .q1 (by decide) _ _).trans ((o2 .ccw .q1 (by decide) _ _).trans (o1 .ccw .q1 (by decide) _ _))

variable {I} (hH : Halved I)
include hH

/-- THE RESULT AT AN ENTRY: the sum over the devices of what each one's experts give the token. -/
theorem out_at (c : Dev nD) (t h : Fin 1024) :
    out I c (ix2 t h) = ∑ d, share (row (I.x c) t) (row (gate I c) t) (column (I.ew d) h) d := by
  obtain ⟨r, t', rfl⟩ : ∃ r t', t = hrow r t' := by
    rcases Nat.lt_or_ge t.val 512 with hl | hl
    · exact ⟨.cw, ⟨t.val, hl⟩, Fin.ext (Nat.zero_add _).symm⟩
    · exact ⟨.ccw, ⟨t.val - 512, by omega⟩, Fin.ext (by show t.val = 512 + (t.val - 512); omega)⟩
  obtain ⟨q, k, rfl⟩ : ∃ q k, h = hcol q k := by
    rcases Nat.lt_or_ge h.val 512 with hl | hl
    · exact ⟨.q0, ⟨h.val, hl⟩, Fin.ext (Nat.zero_add _).symm⟩
    · exact ⟨.q1, ⟨h.val - 512, by omega⟩, Fin.ext (by show h.val = 512 + (h.val - 512); omega)⟩
  have hx : row (xh I r c) t' = row (I.x c) (hrow r t') := funext fun k => hH r c t' k
  have hg : row (gsrc I r c) t' = row (gate I c) (hrow r t') := funext fun e => gsrc_at I r c t' e
  rw [out_quarter, loc_at, rv_at, hx, hg]
  exact sum_ring (fun d => share (row (I.x c) (hrow r t')) (row (gate I c) (hrow r t')) (column (I.ew d) (hcol q k)) d) r.flip c

end Cert.KernelIdeal.Moe
-- ==== Proof.Host.lean ====
/-
  What the host's reshape and slices hand to the kernel, and how a device's arguments lie in the whole arrays.
-/
module

public import proofs.«01_k».proof.Proof.Run
public import proofs.«01_k».proof.Proof.Shares

@[expose] public section

set_option maxRecDepth 16384

noncomputable section

namespace Cert.KernelIdeal.Moe

open Idealize.ShloMosaic Idealize.ShloMosaic.TcCoe Cert.KernelIdeal Cert.KernelIdeal.Gen Cert.Moe

variable (m : (ℓ : Loc nD τ sig) → Buf (Elt Ideal) ℓ) (c : Dev nD)

theorem V_v1 : V m c main_v1 = shapeCast S2048x1024 (m ((c : Thread nD τ).loc main_arg3)) shapeCasts_S4x512x1024_S2048x1024 := by
  unfold V hostOps0
  after_results_simp
  rfl

theorem V_v2 : V m c main_v2 = extractStridedSlice S512x512 ![0, 0] (m ((c : Thread nD τ).loc main_arg0)) slices_S1024x512_S512x512_0_0 := by
  unfold V hostOps0
  after_results_simp
theorem V_v3 : V m c main_v3 = extractStridedSlice S512x512 ![512, 0] (m ((c : Thread nD τ).loc main_arg0)) slices_S1024x512_S512x512_512_0 := by
  unfold V hostOps0
  after_results_simp

/-- The two halves are the first and the last 512 rows of the tokens. -/
theorem halved : Halved (ins m) := by
  intro d c t k
  have h0 : (ins m).x c = m ((c : Thread nD τ).loc main_arg0) := V_main_arg0 m c
  rw [h0]
  generalize hX : (m ((c : Thread nD τ).loc main_arg0) : Vec Ideal S1024x512 .bf16) = X
  cases d
  · show V m c main_v2 (ix2 t k) = _
    rw [V_v2, hX]
    pointwise
    exact congrArg (fun u => X (ix2 u k)) (Fin.ext (Nat.zero_add _).symm)
  · show V m c main_v3 (ix2 t k) = _
    rw [V_v3, hX]
    pointwise
    rfl

/-- A stack of matrices read as one tall matrix, at row `k` of matrix `j`. -/
theorem stack_at (X : Vec Ideal S4x512x1024 .bf16) (j : Fin 4) (k : Fin 512) (h : Fin 1024) (K : Fin 2048) (hK : K.val = 512 * j.val + k.val) :
    (shapeCast S2048x1024 X shapeCasts_S4x512x1024_S2048x1024 : Vec Ideal S2048x1024 .bf16) (ix2 K h) = X (ix3 j k h) := by
  pointwise
  have hk := k.isLt
  exact congrArg₂ (fun a b => X (ix3 a b h)) (Fin.ext (by show K.val / 512 = j.val; omega))
    (Fin.ext (by show K.val % 512 = k.val; omega))

/-- The stacked weights' rows are the experts' rows. -/
theorem ew_at (j : Fin 4) (k : Fin 512) (h : Fin 1024) :
    (ins m).ew c (ix2 (stacked j k) h) = (m ((c : Thread nD τ).loc main_arg3) : Vec Ideal S4x512x1024 .bf16) (ix3 j k h) :=
  (congrFun (V_v1 m c) _).trans (stack_at _ j k h _ rfl)

/-! ## Blocks -/

/-- Token `t` of device `c` among all the tokens. -/
def token (c : Fin 4) (t : Fin 1024) : Fin 4096 := ⟨c.val * 1024 + t.val, by omega⟩

theorem block_rows {p : ℕ} {α : Type} (c : Fin 4) (v : (⟨2, ![4096, p]⟩ : Shape).Idx → α) (h) (t : Fin 1024) (k : Fin p) :
    Layout.block ⟨2, ![1024, p]⟩ ⟨2, ![4096, p]⟩ 0 4 c v h (ix2 t k) = v (ix2 (token c t) k) := by
  refine congrArg v (funext fun a => Fin.ext ?_)
  match a with
  | ⟨0, _⟩ => rfl
  | ⟨1, _⟩ => rfl

theorem block_experts {α : Type} (c : Fin 4) (v : (⟨3, ![16, 512, 1024]⟩ : Shape).Idx → α) (h) (j : Fin 4) (k : Fin 512) (p : Fin 1024) :
    Layout.block ⟨3, ![4, 512, 1024]⟩ ⟨3, ![16, 512, 1024]⟩ 0 4 c v h (ix3 j k p) = v (ix3 (expert c j) k p) := by
  refine congrArg v (funext fun a => Fin.ext ?_)
  match a with
  | ⟨0, _⟩ => show c.val * 4 + j.val = 4 * c.val + j.val; omega
  | ⟨1, _⟩ => rfl
  | ⟨2, _⟩ => rfl

end Cert.KernelIdeal.Moe
-- ==== Proof.Gathers.lean ====
/-
  The reference's two gathers read at an index: token `t`, choice `j` of a table with one row per token takes the
  entry of the expert that the start indices name.
-/
module

public import proofs.«01_k».proof.Proof.Gen.ReferenceIdeal
public import Idealize.ShloMosaic.Lib.Pointwise

@[expose] public section

set_option maxRecDepth 16384

noncomputable section

namespace Cert.ReferenceIdeal.Moe

open Idealize.ShloMosaic Cert.ReferenceIdeal Cert.ReferenceIdeal.Gen

variable {α : Type}

/-- The gather from the table of probabilities: row `t`, the column named by the start index. -/
theorem gather_prob (x : S4096x16.Idx → α) (idx : IVec S4096x2x1 32) (t : Fin 4096) (j : Fin 2) (e : Fin 16)
    (h : (idx (ix3 t j 0)).toInt.toNat = e.val) :
    Host.gather gather_S4096x16_S4096x2x1_S4096x2_n_1_0_0_1_2_11 x idx (ix2 t j) = x (ix2 t e) := by
  unfold Host.gather
  congr 1
  funext a
  refine Fin.ext ?_
  generalize hD : gather_S4096x16_S4096x2x1_S4096x2_n_1_0_0_1_2_11 = D
  show D.start (ix2 t j) idx a + D.batchCoord (ix2 t j) a + D.offCoord (ix2 t j) a = _
  have h01 : a = 0 ∨ a = 1 := by
    match a with
    | ⟨0, _⟩ => exact Or.inl rfl
    | ⟨1, _⟩ => exact Or.inr rfl
  rcases h01 with rfl | rfl
  · rw [GatherDims.start_batching _ _ _ _ (by subst hD; exact List.mem_singleton.mpr rfl),
      GatherDims.offCoord_eq_zero _ _ _ (fun h => ((GatherDims.mem_sKept _ _).mp h).2
        (by subst hD; exact List.mem_singleton.mpr rfl))]
    unfold GatherDims.batchCoord
    rw [dif_pos (by subst hD; exact List.mem_singleton.mpr rfl)]
    subst hD
    simp only [Nat.zero_add, Nat.add_zero]
    rfl
  · rw [GatherDims.batchCoord_eq_zero _ _ _ (by subst hD; decide),
      GatherDims.offCoord_eq_zero _ _ _ (fun h => ((GatherDims.mem_sKept _ _).mp h).1
        (by subst hD; exact List.mem_singleton.mpr rfl))]
    simp only [Nat.add_zero]
    unfold GatherDims.start
    rw [dif_pos (show (1 : Fin 2) ∈ D.startIndexMap by subst hD; exact List.mem_singleton.mpr rfl)]
    subst hD
    rw [show GatherDims.siIdx _ _ _ = (ix3 t j 0 : S4096x2x1.Idx) from by
      funext b; refine Fin.ext ?_
      match b with
      | ⟨0, _⟩ => rfl
      | ⟨1, _⟩ => rfl
      | ⟨2, _⟩ => rfl, h]
    show min e.val 15 = e.val
    omega

/-- The gather from the table of every expert's output: row `t`, the expert named by the start index, column `k`. -/
theorem gather_every (x : S4096x16x1024.Idx → α) (idx : IVec S4096x2x1 32) (t : Fin 4096) (j : Fin 2) (k : Fin 1024)
    (e : Fin 16) (h : (idx (ix3 t j 0)).toInt.toNat = e.val) :
    Host.gather gather_S4096x16x1024_S4096x2x1_S4096x2x1024_2_1_0_0_1_2_111024 x idx (ix3 t j k)
      = x (ix3 t e k) := by
  unfold Host.gather
  congr 1
  funext a
  refine Fin.ext ?_
  generalize hD : gather_S4096x16x1024_S4096x2x1_S4096x2x1024_2_1_0_0_1_2_111024 = D
  show D.start (ix3 t j k) idx a + D.batchCoord (ix3 t j k) a + D.offCoord (ix3 t j k) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (by subst hD; exact List.mem_singleton.mpr rfl),
      GatherDims.offCoord_eq_zero _ _ _ (fun h => ((GatherDims.mem_sKept _ _).mp h).2
        (by subst hD; exact List.mem_singleton.mpr rfl))]
    unfold GatherDims.batchCoord
    rw [dif_pos (by subst hD; exact List.mem_singleton.mpr rfl)]
    subst hD
    simp only [Nat.zero_add, Nat.add_zero]
    rfl
  · rw [GatherDims.batchCoord_eq_zero _ _ _ (by subst hD; decide),
      GatherDims.offCoord_eq_zero _ _ _ (fun h => ((GatherDims.mem_sKept _ _).mp h).1
        (by subst hD; exact List.mem_singleton.mpr rfl))]
    simp only [Nat.add_zero]
    unfold GatherDims.start
    rw [dif_pos (show (1 : Fin 3) ∈ D.startIndexMap by subst hD; exact List.mem_singleton.mpr rfl)]
    subst hD
    rw [show GatherDims.siIdx _ _ _ = (ix3 t j 0 : S4096x2x1.Idx) from by
      funext b; refine Fin.ext ?_
      match b with
      | ⟨0, _⟩ => rfl
      | ⟨1, _⟩ => rfl
      | ⟨2, _⟩ => rfl, h]
    show min e.val 15 = e.val
    omega
  · rw [GatherDims.batchCoord_eq_zero _ _ _ (by subst hD; decide)]
    unfold GatherDims.start GatherDims.offCoord
    subst hD
    rw [dif_neg (by decide), dif_pos (by decide)]
    simp only [Nat.zero_add]
    rfl

end Cert.ReferenceIdeal.Moe
-- ==== Proof.Answer.lean ====
/-
  The reference's result, entry by entry: the two chosen experts' outputs by their shares.
-/
module

public import proofs.«01_k».proof.Proof.Gathers
public import proofs.«01_k».proof.Proof.Mixture
public import proofs.«01_k».proof.Proof.Gen.ReferenceIdeal.Run

@[expose] public section

set_option maxRecDepth 16384

noncomputable section

namespace Cert.ReferenceIdeal.Moe

open Idealize.ShloMosaic Cert.ReferenceIdeal Cert.ReferenceIdeal.Gen Cert.Moe

variable (m : (ℓ : Loc nD τ sig) → Buf (Elt Ideal) ℓ) (c : Dev nD)

/-- The four arguments as arrays. -/
abbrev tokens : FVec Ideal S4096x512 .bf16 := m ((c.tc : Thread nD τ).loc main_arg0)
abbrev router : FVec Ideal S512x16 .bf16 := m ((c.tc : Thread nD τ).loc main_arg1)
abbrev choices : IVec S4096x2 32 := m ((c.tc : Thread nD τ).loc main_arg2)
abbrev experts : FVec Ideal S16x512x1024 .bf16 := m ((c.tc : Thread nD τ).loc main_arg3)

/-- An expert's number is read as itself: it is neither wrapped nor clamped. -/
theorem unwrapped (e : Fin 16) :
    (Scalar.select (IntOp.cmpi .slt (BitVec.ofNat 32 e.val) 0#32) (IntOp.addi (BitVec.ofNat 32 e.val) 16#32)
      (BitVec.ofNat 32 e.val)).toInt.toNat = e.val := by revert e; decide

variable {m c} {E : Fin 4096 → Fin 2 → Fin 16} (hE : ∀ t j, choices m c (ix2 t j) = BitVec.ofNat 32 (E t j).val)
include hE

theorem result_at (t : Fin 4096) (h : Fin 1024) :
    Value.res_main_v24 m c (ix2 t h)
      = part (fun k => tokens m c (ix2 t k)) (fun k e => router m c (ix2 k e)) (E t 0) (E t 0) (E t 1)
            * (∑ k, tokens m c (ix2 t k) * experts m c (ix3 (E t 0) k h))
        + part (fun k => tokens m c (ix2 t k)) (fun k e => router m c (ix2 k e)) (E t 1) (E t 0) (E t 1)
            * (∑ k, tokens m c (ix2 t k) * experts m c (ix3 (E t 1) k h)) := by
  pointwise [Value.res_main_v24]
  have i1 : ∀ j, ((shapeCast S4096x2x1 (select (cmpi .slt (choices m c) (broadcastInDim S4096x2 ![] bcast_S_S4096x2 (constantI S_ 32 0#32)))
        (addi (choices m c) (broadcastInDim S4096x2 ![] bcast_S_S4096x2 (constantI S_ 32 16#32))) (choices m c))
        shapeCasts_S4096x2_S4096x2x1 : IVec S4096x2x1 32) (ix3 t j 0)).toInt.toNat = (E t j).val := fun j => by
    generalize hr : choices m c = r at hE
    pointwise
    rw [hE]; exact unwrapped _
  have i2 : ∀ j, ((select (cmpi .slt (broadcastInDim S4096x2x1 ![0, 1] bcast_S4096x2_S4096x2x1_0_1 (choices m c))
          (broadcastInDim S4096x2x1 ![] bcast_S_S4096x2x1 (constantI S_ 32 0#32)))
        (addi (broadcastInDim S4096x2x1 ![0, 1] bcast_S4096x2_S4096x2x1_0_1 (choices m c))
          (broadcastInDim S4096x2x1 ![] bcast_S_S4096x2x1 (constantI S_ 32 16#32)))
        (broadcastInDim S4096x2x1 ![0, 1] bcast_S4096x2_S4096x2x1_0_1 (choices m c)) : IVec S4096x2x1 32) (ix3 t j 0)).toInt.toNat
      = (E t j).val := fun j => by
    generalize hr : choices m c = r at hE
    pointwise
    rw [hE]; exact unwrapped _
  simp only [fun y j => gather_prob (α := EReal) y _ t j (E t j) (i1 j), fun y j => gather_every (α := EReal) y _ t j h (E t j) (i2 j)]
  pointwise
  rw [Fin.sum_univ_two, Fin.sum_univ_two]
  rfl

end Cert.ReferenceIdeal.Moe
-- ==== Proof.Equation.lean ====
/-
  The kernel's results are the reference's: on every device, entry by entry, for finite tokens and router weights and
  choices that name experts.
-/
module

public import proofs.«01_k».proof.Proof.Host
public import proofs.«01_k».proof.Proof.Answer
public import proofs.«01_k».proof.Proof.Gen.Pre_finite_and_named_KernelIdeal
public import Idealize.ShloMosaic.Lib.ReduceAll
public import Idealize.ShloMosaic.Lib.StableHlo.Predicate
public import Idealize.ShloMosaic.Lib.Tactic.WordOmega

@[expose] public section

set_option maxRecDepth 16384

noncomputable section

namespace Cert.Moe

open Idealize.ShloMosaic

/-! ## What the precondition says -/

theorem real_of_between {v : EReal}
    (h : IntOp.andi (FloatOps.cmpf (F := Ideal) (φ := .bf16) .ogt v (Ideal.ofBits .bf16 0xFF80#16))
      (FloatOps.cmpf (F := Ideal) (φ := .bf16) .olt v (Ideal.ofBits .bf16 0x7F80#16)) = 1#1) : IsReal v := by
  have hb : Ideal.ofBits .bf16 0xFF80#16 = ⊥ := by simp [Ideal.ofBits, Ideal.ieee]
  have ht : Ideal.ofBits .bf16 0x7F80#16 = ⊤ := by simp [Ideal.ofBits, Ideal.ieee]
  rw [hb, ht] at h
  obtain ⟨h1, h2⟩ := IntOp.andi_eq_one.1 h
  refine isReal_of_ne ?_ ?_
  · exact of_decide_eq_true ((StableHlo.Predicate.ofBool_eq_one_iff _).1 h1)
  · exact of_decide_eq_true ((StableHlo.Predicate.ofBool_eq_one_iff _).1 h2)

theorem named_of_between {r : BitVec 32} (h : IntOp.andi (IntOp.cmpi .sge r 0#32) (IntOp.cmpi .slt r 16#32) = 1#1) :
    ∃ e : Fin 16, r = BitVec.ofNat 32 e.val := by
  obtain ⟨h1, h2⟩ := IntOp.andi_eq_one.1 h
  have hlt : r.toNat < 16 := by word_omega
  exact ⟨⟨r.toNat, hlt⟩, by simp⟩

open Cert.Pre_finite_and_named_KernelIdeal in
theorem pre_reads (x : FVec Ideal S1024x512 .bf16) (w : FVec Ideal S512x16 .bf16) (r : IVec S1024x2 32)
    (e : FVec Ideal S4x512x1024 .bf16) (h : fn x w r e = fun _ => 1#1) :
    (∀ i, IsReal (x i)) ∧ (∀ i, IsReal (w i)) ∧ ∀ i, ∃ k : Fin 16, r i = BitVec.ofNat 32 k.val := by
  have h0 := congrFun h ix0
  unfold fn fn_part1 at h0
  obtain ⟨h1, hr⟩ := IntOp.andi_eq_one.1 h0
  obtain ⟨hx, hw⟩ := IntOp.andi_eq_one.1 h1
  haveI : Subsingleton S_.Idx := ⟨fun a b => funext fun i => i.elim0⟩
  exact ⟨fun i => real_of_between (Host.reduce_andi_all _ _ _ _ _ hx i),
    fun i => real_of_between (Host.reduce_andi_all _ _ _ _ _ hw i),
    fun i => named_of_between (Host.reduce_andi_all _ _ _ _ _ hr i)⟩

end Cert.Moe

namespace Cert.KernelIdeal.Moe

open Idealize.ShloMosaic Idealize.ShloMosaic.TcCoe Cert.KernelIdeal Cert.KernelIdeal.Gen Cert.Moe
open Cert.ReferenceIdeal.Moe (tokens router choices experts result_at)

/-- The kernel's result at an entry, as the sum over all the experts. -/
theorem out_experts (I : Inputs Ideal) (hH : Halved I) (E : Dev nD → Fin 1024 → Fin 2 → Fin 16) (hE : Chosen I E)
    (X : Dev nD → Fin 1024 → Fin 512 → EReal) (hX : ∀ c t k, I.x c (ix2 t k) = X c t k)
    (W : Fin 16 → Fin 512 → Fin 1024 → EReal) (hW : ∀ d j k h, I.ew d (ix2 (stacked j k) h) = W (expert d j) k h)
    (c : Dev nD) (t h : Fin 1024) :
    out I c (ix2 t h) = ∑ e, ∑ k, (X c t k * tgate (X c t) (row (I.rw c)) (E c t 0) (E c t 1) e) * W e k h := by
  have hx : row (I.x c) t = X c t := funext fun k => hX c t k
  have hg : row (gate I c) t = tgate (X c t) (row (I.rw c)) (E c t 0) (E c t 1) := funext fun e => by
    rw [← hx]; exact gate_at hE c t e
  rw [out_at hH, sum_experts, hx, hg]
  refine Finset.sum_congr rfl fun d _ => Finset.sum_congr rfl fun j _ => Finset.sum_congr rfl fun k _ => ?_
  exact congrArg _ (hW d j k h)

/-- THE EQUATION: device `c`'s result is block `c` of the reference's. -/
theorem value_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : ∀ c : Dev nD, Cert.Pre_finite_and_named_KernelIdeal.fn (F := Ideal) (m ((c : Thread nD τ).loc main_arg0))
      (m ((c : Thread nD τ).loc main_arg1)) (m ((c : Thread nD τ).loc main_arg2)) (m ((c : Thread nD τ).loc main_arg3))
        = fun _ => 1#1)
    (h0 : ∀ c : Dev nD, m ((c : Thread nD τ).loc main_arg0)
      = Layout.block ⟨2, ![1024, 512]⟩ ⟨2, ![4096, 512]⟩ 0 4 c (tokens m' 0))
    (h1 : ∀ c : Dev nD, m ((c : Thread nD τ).loc main_arg1) = router m' 0)
    (h2 : ∀ c : Dev nD, m ((c : Thread nD τ).loc main_arg2)
      = Layout.block ⟨2, ![1024, 2]⟩ ⟨2, ![4096, 2]⟩ 0 4 c (choices m' 0))
    (h3 : ∀ c : Dev nD, m ((c : Thread nD τ).loc main_arg3)
      = Layout.block ⟨3, ![4, 512, 1024]⟩ ⟨3, ![16, 512, 1024]⟩ 0 4 c (experts m' 0)) (c : Dev nD) :
    out (ins m) c
      = Layout.block ⟨2, ![1024, 1024]⟩ ⟨2, ![4096, 1024]⟩ 0 4 c (Cert.ReferenceIdeal.Value.res_main_v24 m' 0) := by
  have hr := fun c => pre_reads _ _ _ _ (hpre c)
  have hx : ∀ c t k, IsReal (tokens m' 0 (ix2 (token c t) k)) := fun c t k => by
    have := (hr c).1 (ix2 t k)
    rw [h0 c] at this
    rwa [block_rows] at this
  have hw : ∀ k e, IsReal (router m' 0 (ix2 k e)) := fun k e => by
    have := (hr c).2.1 (ix2 k e)
    rwa [h1 c] at this
  have hsplit : ∀ T : Fin 4096, ∃ c t, T = token c t := fun T =>
    ⟨⟨T.val / 1024, by omega⟩, ⟨T.val % 1024, by omega⟩, Fin.ext (by show T.val = T.val / 1024 * 1024 + T.val % 1024; omega)⟩
  have hn : ∀ T j, ∃ e : Fin 16, choices m' 0 (ix2 T j) = BitVec.ofNat 32 e.val := fun T j => by
    obtain ⟨c, t, rfl⟩ := hsplit T
    have := (hr c).2.2 (ix2 t j)
    rw [h2 c] at this
    rwa [block_rows] at this
  choose E hE using hn
  have hch : Chosen (ins m) fun c t j => E (token c t) j := fun c t j => by
    show V m c main_arg2 (ix2 t j) = _
    rw [V_main_arg2, h2 c, block_rows]
    exact hE _ _
  have hX : ∀ c t k, (ins m).x c (ix2 t k) = tokens m' 0 (ix2 (token c t) k) := fun c t k => by
    show V m c main_arg0 (ix2 t k) = _
    rw [V_main_arg0, h0 c, block_rows]
  have hW : ∀ d j k h, (ins m).ew d (ix2 (stacked j k) h) = experts m' 0 (ix3 (expert d j) k h) := fun d j k h => by
    rw [ew_at, h3 d]
    exact block_experts d _ _ j k h
  have hR : (ins m).rw c = router m' 0 := (V_main_arg1 m c).trans (h1 c)
  funext i
  obtain ⟨t, h, rfl⟩ : ∃ (t h : Fin 1024), i = (ix2 t h : S1024x1024.Idx) := ⟨i 0, i 1, eq_ix2 (n0 := 1024) (n1 := 1024) i⟩
  rw [block_rows, result_at hE,
    out_experts (ins m) (halved m) _ hch (fun c t k => tokens m' 0 (ix2 (token c t) k)) hX
      (fun e k h => experts m' 0 (ix3 e k h)) hW c t h, hR]
  exact mixture (hx c t) hw (E (token c t) 0) (E (token c t) 1) fun e k => experts m' 0 (ix3 e k h)

end Cert.KernelIdeal.Moe
-- ==== Proof.lean ====
/-
  The proof of the claims.
-/
module

public import proofs.«01_k».proof.Defs
public import proofs.«01_k».proof.Proof.Gen.Kernel
public import proofs.«01_k».proof.Proof.Gen.ReferenceIdeal.Run
public import proofs.«01_k».proof.Proof.Run
public import proofs.«01_k».proof.Proof.Equation
public import proofs.«01_k».proof.Proof.Gen.Pre_finite_and_named_KernelIdeal
public import proofs.«01_k».proof.Proof.Gen.Pre_finite_and_named_ReferenceIdeal

@[expose] public section

noncomputable section

namespace Cert.Proof

open Idealize.ShloMosaic Idealize.SL.Sem

/-! ## The two printings of the kernel are one program -/

attribute [local instance] Cert.Kernel.Gen.facts Cert.KernelIdeal.Gen.facts

theorem same_body : Cert.Kernel.cc0_body (F := Bits) = Cert.KernelIdeal.cc0_body (F := Bits) := rfl

theorem same_defs₀ : Cert.Kernel.defs₀ (F := Bits) = Cert.KernelIdeal.defs₀ (F := Bits) := by
  unfold Cert.Kernel.defs₀ Cert.KernelIdeal.defs₀
  refine congrArg Defs.onTc ?_
  funext f a
  match f, a with
  | ⟨0, _⟩, (t, s) =>
    change Cert.Kernel.cc0_body (F := Bits) .. = Cert.KernelIdeal.cc0_body (F := Bits) ..
    rw [same_body]

theorem same_defs : Cert.Kernel.defs (F := Bits) = Cert.KernelIdeal.defs (F := Bits) := by
  unfold Cert.Kernel.defs Cert.KernelIdeal.defs
  rw [same_defs₀]; rfl

/-! ## The frames -/

/-- The kernel at machine floats ends, its arguments unchanged and every semaphore back at zero. -/
theorem frame_kernel : Cert.quiescent_Kernel := fun m ρ _ => by
  rw [same_defs]
  exact (θ_run Cert.KernelIdeal.defs _ _).mono (fun r h => ⟨fun c => (h.1 c).2, h.2⟩) (Cert.KernelIdeal.Moe.run_main (F := Bits) m ρ)

/-- The same at ideal floats. -/
theorem frame_ideal : Cert.quiescent_KernelIdeal := fun m ρ _ =>
  (θ_run Cert.KernelIdeal.defs _ _).mono (fun r h => ⟨fun c => (h.1 c).2, h.2⟩) (Cert.KernelIdeal.Moe.run_main (F := Ideal) m ρ)

/-- The reference ends, its arguments unchanged; it has no semaphores. -/
theorem frame_reference : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The values -/

/-- On finite tokens and router weights, every choice naming an expert, each device ends with its block of the
    reference's result. -/
theorem values : @Cert.algebraic_KernelIdeal_ReferenceIdeal_pre_finite_and_named_KernelIdeal Cert.KernelIdeal.Gen.facts
    Cert.ReferenceIdeal.Gen.facts Cert.Pre_finite_and_named_KernelIdeal.Gen.facts := fun m g m' g' hpre hargs =>
  ⟨Cert.ReferenceIdeal.Value.res_main_v24 m' 0,
    (θ_run Cert.KernelIdeal.defs _ _).mono
      (fun r h c => ⟨(h.1 c).1.trans (Cert.KernelIdeal.Moe.value_eq m m' hpre (fun c => (hargs c).1) (fun c => (hargs c).2.1)
        (fun c => (hargs c).2.2.1) (fun c => (hargs c).2.2.2) c), (h.1 c).2⟩)
      (Cert.KernelIdeal.Moe.run_main (F := Ideal) m g),
    (θ_run Cert.ReferenceIdeal.defs _ _).mono (fun r h => h 0) (Cert.ReferenceIdeal.Value.run (F := Ideal) m' g')⟩

theorem claim : Cert.Claim :=
  ⟨Cert.Kernel.Gen.facts, Cert.KernelIdeal.Gen.facts, Cert.ReferenceIdeal.Gen.facts,
    Cert.Pre_finite_and_named_KernelIdeal.Gen.facts, Cert.Pre_finite_and_named_ReferenceIdeal.Gen.facts,
    frame_kernel, frame_ideal, fun m g _ => frame_ideal m g trivial,
    frame_reference, fun m g _ => frame_reference m g trivial, trivial, values⟩

end Cert.Proof

end
